-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "uniform_width" .f32 0x40000000#32 ((33554431 / 16777216 : ℝ) : EReal)
  ∧ IdealRules.named_const.Statement Cert.KernelIdeal.κ "uniform_shift" .f32 0x40400000#32 ((25165823 / 8388608 : ℝ) : EReal)
  ∧ IdealRules.named_const.Statement Cert.KernelIdeal.κ "sqrt_half" .f32 0x3F3504F3#32 ((Real.sqrt (1 / 2) : ℝ) : EReal)
  ∧ IdealRules.named_const.Statement Cert.KernelIdeal.κ "sqrt_two" .f32 0x3FB504F3#32 ((Real.sqrt 2 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x128 : Shape := ⟨3, ![1, 4096, 128]⟩
abbrev S4096x4096 : Shape := ⟨2, ![4096, 4096]⟩
abbrev S128x128 : Shape := ⟨2, ![128, 128]⟩
abbrev S4096x128 : Shape := ⟨2, ![4096, 128]⟩
abbrev S512x256 : Shape := ⟨2, ![512, 256]⟩
abbrev S256x128 : Shape := ⟨2, ![256, 128]⟩
abbrev S512x128 : Shape := ⟨2, ![512, 128]⟩
abbrev S_ : Shape := ⟨0, ![]⟩
abbrev S1 : Shape := ⟨1, ![1]⟩
abbrev S1x1x1 : Shape := ⟨3, ![1, 1, 1]⟩

abbrev nBuf : Space → Nat
  | .hbm => 14
  | .vmem => 24
  | .smem => 0
  | _ => 0

abbrev bufTy : (tb : Table) → Fin (tcTables nBuf tb) → BufTy
  | .hbm, ⟨0, _⟩ => ⟨S1x4096x128, .f32⟩
  | .hbm, ⟨1, _⟩ => ⟨S4096x4096, .f32⟩
  | .hbm, ⟨2, _⟩ => ⟨S128x128, .f32⟩
  | .hbm, ⟨3, _⟩ => ⟨S128x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S1x4096x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S256x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S4096x128, .f32⟩
  | .local _ .vmem, ⟨8, _⟩ => ⟨S128x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S512x256, .f32⟩
  | .local _ .vmem, ⟨13, _⟩ => ⟨S512x256, .f32⟩
  | .local _ .vmem, ⟨14, _⟩ => ⟨S256x128, .f32⟩
  | .local _ .vmem, ⟨15, _⟩ => ⟨S256x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S4096x128, .f32⟩
  | .local _ .vmem, ⟨20, _⟩ => ⟨S128x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | _, _ => ⟨S1x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32_129 : BitVec 32 := 15#32
  let v458 : BitVec 1 := Scalar.cmpi .eq arg1 c15_i32_129
  let v459 : BitVec 32 := Scalar.extui v458
  let c0_i32_130 : BitVec 32 := 0#32
  let v460 : BitVec 1 := Scalar.cmpi .ne v459 c0_i32_130
  v460

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := .none

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S4096x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev grid2 : Pipeline.Grid := ⟨2, ![8, 16], ![false, false]⟩

def k2_cond3 (i : grid2.Coords) : BitVec 1 :=
  let arg1 : BitVec 32 := BitVec.ofNat 32 (i 1).val
  let c15_i32_129 : BitVec 32 := 15#32
  let v458 : BitVec 1 := Scalar.cmpi .eq arg1 c15_i32_129
  let v459 : BitVec 32 := Scalar.extui v458
  let c0_i32_130 : BitVec 32 := 0#32
  let v460 : BitVec 1 := Scalar.cmpi .ne v459 c0_i32_130
  v460

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := .none

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4096x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S4096x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S4096x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
-- ==== KernelIdeal.lean ====
variable {F : FTy → Type} [FloatOps F] [Named F]
def κ : String → Option EReal := fun
  | "sqrt_half" => some ((Real.sqrt (1 / 2) : ℝ) : EReal)
  | "sqrt_two" => some ((Real.sqrt 2 : ℝ) : EReal)
  | "uniform_shift" => some ((25165823 / 8388608 : ℝ) : EReal)
  | "uniform_width" => some ((33554431 / 16777216 : ℝ) : EReal)
  | _ => none
-- ==== ReferenceIdeal.lean ====
abbrev S1x4096x128 : Shape := ⟨3, ![1, 4096, 128]⟩
abbrev S4096x4096 : Shape := ⟨2, ![4096, 4096]⟩
abbrev S128x128 : Shape := ⟨2, ![128, 128]⟩
abbrev S8 : Shape := ⟨1, ![8]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S1x1 : Shape := ⟨2, ![1, 1]⟩
abbrev S4096x1x128 : Shape := ⟨3, ![4096, 1, 128]⟩
abbrev S4096x128 : Shape := ⟨2, ![4096, 128]⟩

abbrev nBuf : Space → Nat
  | .hbm => 3165
  | .vmem => 0
  | .smem => 0
  | _ => 0

abbrev hbmTy0_0 (i : Nat) : BufTy := match i % 128 with
  | 0 => ⟨S1x4096x128, .f32⟩
  | 1 => ⟨S4096x4096, .f32⟩
  | 2 => ⟨S128x128, .f32⟩
  | 3 => ⟨S128x128, .f32⟩
  | 4 => ⟨S8, .f32⟩
  | 5 => ⟨S8, .f32⟩
  | 6 => ⟨S8, .f32⟩
  | 7 => ⟨S8, .f32⟩
  | 8 => ⟨S8, .f32⟩
  | 9 => ⟨S8, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S1, .i32⟩
  | 21 => ⟨S_, .i32⟩
  | 22 => ⟨S1, .i32⟩
  | 23 => ⟨S_, .i32⟩
  | 24 => ⟨S2, .i64⟩
  | 25 => ⟨S_, .i64⟩
  | 26 => ⟨S2, .i64⟩
  | 27 => ⟨S2, .i64⟩
  | 28 => ⟨S_, .i64⟩
  | 29 => ⟨S2, .i64⟩
  | 30 => ⟨S2, .i64⟩
  | 31 => ⟨S2, .i32⟩
  | 32 => ⟨S2, .i32⟩
  | 33 => ⟨S_, .i32⟩
  | 34 => ⟨S_, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S_, .i32⟩
  | _ => ⟨S1x4096x128, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S_, .i32⟩
  | 113 => ⟨S2, .i32⟩
  | 114 => ⟨S2, .i32⟩
  | 115 => ⟨S_, .i32⟩
  | 116 => ⟨S2, .i32⟩
  | 117 => ⟨S2, .i32⟩
  | 118 => ⟨S2, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S2x1, .i32⟩
  | _ => ⟨S1x4096x128, .f32⟩

abbrev hbmTy0_2 (i : Nat) : BufTy := match i % 128 with
  | 0 => ⟨S2x1, .i32⟩
  | 1 => ⟨S2x2, .i32⟩
  | 2 => ⟨S1x2, .i32⟩
  | 3 => ⟨S2, .i32⟩
  | 4 => ⟨S1, .i32⟩
  | 5 => ⟨S_, .i32⟩
  | 6 => ⟨S1, .i32⟩
  | 7 => ⟨S_, .i32⟩
  | 8 => ⟨S2, .i64⟩
  | 9 => ⟨S_, .i64⟩
  | 10 => ⟨S2, .i64⟩
  | 11 => ⟨S2, .i64⟩
  | 12 => ⟨S_, .i64⟩
  | 13 => ⟨S2, .i64⟩
  | 14 => ⟨S2, .i64⟩
  | 15 => ⟨S2, .i32⟩
  | 16 => ⟨S2, .i32⟩
  | 17 => ⟨S_, .i32⟩
  | 18 => ⟨S_, .i32⟩
  | 19 => ⟨S_, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S2, .i32⟩
  | 33 => ⟨S2, .i32⟩
  | 34 => ⟨S_, .i32⟩
  | 35 => ⟨S2, .i32⟩
  | 36 => ⟨S2, .i32⟩
  | 37 => ⟨S_, .i32⟩
  | 38 => ⟨S2, .i32⟩
  | 39 => ⟨S2, .i32⟩
  | 40 => ⟨S2, .i32⟩
  | 41 => ⟨S2, .i32⟩
  | 42 => ⟨S2, .i32⟩
  | 43 => ⟨S_, .i32⟩
  | 44 => ⟨S2, .i32⟩
  | 45 => ⟨S2, .i32⟩
  | 46 => ⟨S_, .i32⟩
  | 47 => ⟨S2, .i32⟩
  | 48 => ⟨S2, .i32⟩
  | 49 => ⟨S2, .i32⟩
  | 50 => ⟨S2, .i32⟩
  | 51 => ⟨S2, .i32⟩
  | 52 => ⟨S_, .i32⟩
  | 53 => ⟨S2, .i32⟩
  | 54 => ⟨S2, .i32⟩
  | 55 => ⟨S_, .i32⟩
  | 56 => ⟨S2, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S_, .i32⟩
  | 81 => ⟨S2, .i32⟩
  | 82 => ⟨S2, .i32⟩
  | 83 => ⟨S2, .i32⟩
  | 84 => ⟨S2, .i32⟩
  | 85 => ⟨S2, .i32⟩
  | 86 => ⟨S_, .i32⟩
  | 87 => ⟨S2, .i32⟩
  | 88 => ⟨S2, .i32⟩
  | 89 => ⟨S_, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S_, .i32⟩
  | 99 => ⟨S2, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S_, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S1x4096x128, .f32⟩

abbrev hbmTy0_3 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S_, .i32⟩
  | 39 => ⟨S2, .i32⟩
  | 40 => ⟨S2, .i32⟩
  | 41 => ⟨S2, .i32⟩
  | 42 => ⟨S2, .i32⟩
  | 43 => ⟨S2, .i32⟩
  | 44 => ⟨S_, .i32⟩
  | 45 => ⟨S2, .i32⟩
  | 46 => ⟨S2, .i32⟩
  | 47 => ⟨S_, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S_, .i32⟩
  | 57 => ⟨S2, .i32⟩
  | 58 => ⟨S2, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S2, .i32⟩
  | 69 => ⟨S_, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S_, .i32⟩
  | 82 => ⟨S2, .i32⟩
  | 83 => ⟨S2, .i32⟩
  | 84 => ⟨S2, .i32⟩
  | 85 => ⟨S2, .i32⟩
  | 86 => ⟨S2, .i32⟩
  | 87 => ⟨S_, .i32⟩
  | 88 => ⟨S2, .i32⟩
  | 89 => ⟨S2, .i32⟩
  | 90 => ⟨S_, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S_, .i32⟩
  | 100 => ⟨S2, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S2x1, .i32⟩
  | 112 => ⟨S2x1, .i32⟩
  | 113 => ⟨S2x2, .i32⟩
  | 114 => ⟨S1x2, .i32⟩
  | 115 => ⟨S2, .i32⟩
  | 116 => ⟨S1x2, .i32⟩
  | 117 => ⟨S2, .i32⟩
  | 118 => ⟨S1, .i32⟩
  | 119 => ⟨S_, .i32⟩
  | 120 => ⟨S1, .i32⟩
  | 121 => ⟨S_, .i32⟩
  | 122 => ⟨S2, .i64⟩
  | 123 => ⟨S_, .i64⟩
  | 124 => ⟨S2, .i64⟩
  | 125 => ⟨S2, .i64⟩
  | 126 => ⟨S_, .i64⟩
  | 127 => ⟨S2, .i64⟩
  | _ => ⟨S1x4096x128, .f32⟩

abbrev hbmTy0_4 (i : Nat) : BufTy := match i % 128 with
  | 0 => ⟨S2, .i64⟩
  | 1 => ⟨S2, .i32⟩
  | 2 => ⟨S2, .i32⟩
  | 3 => ⟨S_, .i32⟩
  | 4 => ⟨S_, .i32⟩
  | 5 => ⟨S_, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S_, .i32⟩
  | 15 => ⟨S2, .i32⟩
  | 16 => ⟨S2, .i32⟩
  | 17 => ⟨S2, .i32⟩
  | 18 => ⟨S2, .i32⟩
  | 19 => ⟨S2, .i32⟩
  | 20 => ⟨S_, .i32⟩
  | 21 => ⟨S2, .i32⟩
  | 22 => ⟨S2, .i32⟩
  | 23 => ⟨S_, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S_, .i32⟩
  | 55 => ⟨S2, .i32⟩
  | 56 => ⟨S2, .i32⟩
  | 57 => ⟨S_, .i32⟩
  | 58 => ⟨S2, .i32⟩
  | 59 => ⟨S2, .i32⟩
  | 60 => ⟨S2, .i32⟩
  | 61 => ⟨S2, .i32⟩
  | 62 => ⟨S2, .i32⟩
  | 63 => ⟨S_, .i32⟩
  | 64 => ⟨S2, .i32⟩
  | 65 => ⟨S2, .i32⟩
  | 66 => ⟨S_, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S_, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S1x4096x128, .f32⟩

abbrev hbmTy0_5 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S_, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S2, .i32⟩
  | 73 => ⟨S_, .i32⟩
  | 74 => ⟨S2, .i32⟩
  | 75 => ⟨S2, .i32⟩
  | 76 => ⟨S_, .i32⟩
  | 77 => ⟨S2, .i32⟩
  | 78 => ⟨S2, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S2x1, .i32⟩
  | 98 => ⟨S2x1, .i32⟩
  | 99 => ⟨S2x2, .i32⟩
  | 100 => ⟨S1x2, .i32⟩
  | 101 => ⟨S2, .i32⟩
  | 102 => ⟨S1x2, .i32⟩
  | 103 => ⟨S2, .i32⟩
  | 104 => ⟨S_, .f32⟩
  | 105 => ⟨S_, .f32⟩
  | 106 => ⟨S1x1, .f32⟩
  | 107 => ⟨S1x1, .f32⟩
  | 108 => ⟨S1, .i32⟩
  | 109 => ⟨S_, .i32⟩
  | 110 => ⟨S1, .i32⟩
  | 111 => ⟨S_, .i32⟩
  | 112 => ⟨S4096x4096, .i64⟩
  | 113 => ⟨S4096x4096, .i64⟩
  | 114 => ⟨S_, .i64⟩
  | 115 => ⟨S4096x4096, .i64⟩
  | 116 => ⟨S4096x4096, .i64⟩
  | 117 => ⟨S_, .i64⟩
  | 118 => ⟨S4096x4096, .i64⟩
  | 119 => ⟨S4096x4096, .i64⟩
  | 120 => ⟨S4096x4096, .i64⟩
  | 121 => ⟨S_, .i64⟩
  | 122 => ⟨S4096x4096, .i64⟩
  | 123 => ⟨S4096x4096, .i64⟩
  | 124 => ⟨S4096x4096, .i32⟩
  | 125 => ⟨S4096x4096, .i32⟩
  | 126 => ⟨S_, .i32⟩
  | 127 => ⟨S_, .i32⟩
  | _ => ⟨S1x4096x128, .f32⟩

abbrev hbmTy0_6 (i : Nat) : BufTy := match i % 128 with
  | 0 => ⟨S_, .i32⟩
  | 1 => ⟨S4096x4096, .i32⟩
  | 2 => ⟨S4096x4096, .i32⟩
  | 3 => ⟨S4096x4096, .i32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i32⟩
  | 18 => ⟨S_, .i32⟩
  | 19 => ⟨S4096x4096, .i32⟩
  | 20 => ⟨S4096x4096, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S4096x4096, .i32⟩
  | 49 => ⟨S_, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S4096x4096, .i32⟩
  | 56 => ⟨S4096x4096, .i32⟩
  | 57 => ⟨S4096x4096, .i32⟩
  | 58 => ⟨S_, .i32⟩
  | 59 => ⟨S4096x4096, .i32⟩
  | 60 => ⟨S4096x4096, .i32⟩
  | 61 => ⟨S_, .i32⟩
  | 62 => ⟨S4096x4096, .i32⟩
  | 63 => ⟨S4096x4096, .i32⟩
  | 64 => ⟨S4096x4096, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i32⟩
  | 73 => ⟨S4096x4096, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S4096x4096, .i32⟩
  | 99 => ⟨S4096x4096, .i32⟩
  | 100 => ⟨S4096x4096, .i32⟩
  | 101 => ⟨S_, .i32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S1x4096x128, .f32⟩

abbrev hbmTy0_7 (i : Nat) : BufTy := match i % 128 with
  | 0 => ⟨S4096x4096, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S4096x4096, .i32⟩
  | 14 => ⟨S4096x4096, .i32⟩
  | 15 => ⟨S4096x4096, .i32⟩
  | 16 => ⟨S_, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S4096x4096, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S4096x4096, .i32⟩
  | 50 => ⟨S_, .i32⟩
  | 51 => ⟨S4096x4096, .i32⟩
  | 52 => ⟨S4096x4096, .i32⟩
  | 53 => ⟨S_, .i32⟩
  | 54 => ⟨S4096x4096, .i32⟩
  | 55 => ⟨S4096x4096, .i32⟩
  | 56 => ⟨S4096x4096, .i32⟩
  | 57 => ⟨S4096x4096, .i32⟩
  | 58 => ⟨S4096x4096, .i32⟩
  | 59 => ⟨S_, .i32⟩
  | 60 => ⟨S4096x4096, .i32⟩
  | 61 => ⟨S4096x4096, .i32⟩
  | 62 => ⟨S_, .i32⟩
  | 63 => ⟨S4096x4096, .i32⟩
  | 64 => ⟨S4096x4096, .i32⟩
  | 65 => ⟨S4096x4096, .i32⟩
  | 66 => ⟨S4096x4096, .i32⟩
  | 67 => ⟨S4096x4096, .i32⟩
  | 68 => ⟨S_, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S4096x4096, .i32⟩
  | 75 => ⟨S4096x4096, .i32⟩
  | 76 => ⟨S4096x4096, .i32⟩
  | 77 => ⟨S_, .i32⟩
  | 78 => ⟨S4096x4096, .i32⟩
  | 79 => ⟨S4096x4096, .i32⟩
  | 80 => ⟨S_, .i32⟩
  | 81 => ⟨S4096x4096, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S4096x4096, .i32⟩
  | 88 => ⟨S4096x4096, .i32⟩
  | 89 => ⟨S_, .i32⟩
  | 90 => ⟨S4096x4096, .i32⟩
  | 91 => ⟨S4096x4096, .i32⟩
  | 92 => ⟨S4096x4096, .i32⟩
  | 93 => ⟨S_, .i32⟩
  | 94 => ⟨S4096x4096, .i32⟩
  | 95 => ⟨S4096x4096, .i32⟩
  | 96 => ⟨S_, .i32⟩
  | 97 => ⟨S4096x4096, .i32⟩
  | 98 => ⟨S4096x4096, .i32⟩
  | 99 => ⟨S4096x4096, .f32⟩
  | 100 => ⟨S_, .f32⟩
  | 101 => ⟨S4096x4096, .f32⟩
  | 102 => ⟨S4096x4096, .f32⟩
  | 103 => ⟨S1x1, .f32⟩
  | 104 => ⟨S4096x4096, .f32⟩
  | 105 => ⟨S4096x4096, .f32⟩
  | 106 => ⟨S4096x4096, .f32⟩
  | 107 => ⟨S4096x4096, .f32⟩
  | 108 => ⟨S4096x4096, .f32⟩
  | 109 => ⟨S4096x4096, .f32⟩
  | 110 => ⟨S_, .f32⟩
  | 111 => ⟨S_, .f32⟩
  | 112 => ⟨S4096x4096, .f32⟩
  | 113 => ⟨S4096x4096, .f32⟩
  | 114 => ⟨S4096x4096, .f32⟩
  | 115 => ⟨S4096x4096, .f32⟩
  | 116 => ⟨S4096x4096, .f32⟩
  | 117 => ⟨S1, .f32⟩
  | 118 => ⟨S_, .f32⟩
  | 119 => ⟨S1, .f32⟩
  | 120 => ⟨S_, .f32⟩
  | 121 => ⟨S1, .f32⟩
  | 122 => ⟨S_, .f32⟩
  | 123 => ⟨S1, .f32⟩
  | 124 => ⟨S_, .f32⟩
  | 125 => ⟨S1, .f32⟩
  | 126 => ⟨S_, .f32⟩
  | 127 => ⟨S1, .f32⟩
  | _ => ⟨S1x4096x128, .f32⟩

abbrev hbmTy0_8 (i : Nat) : BufTy := match i % 128 with
  | 0 => ⟨S_, .f32⟩
  | 1 => ⟨S1, .f32⟩
  | 2 => ⟨S_, .f32⟩
  | 3 => ⟨S1, .f32⟩
  | 4 => ⟨S_, .f32⟩
  | 5 => ⟨S4096x4096, .f32⟩
  | 6 => ⟨S4096x4096, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S4096x4096, .f32⟩
  | 28 => ⟨S4096x4096, .f32⟩
  | 29 => ⟨S4096x4096, .f32⟩
  | 30 => ⟨S_, .f32⟩
  | 31 => ⟨S_, .f32⟩
  | 32 => ⟨S4096x4096, .f32⟩
  | 33 => ⟨S4096x4096, .f32⟩
  | 34 => ⟨S_, .f32⟩
  | 35 => ⟨S_, .f32⟩
  | 36 => ⟨S1x1, .f32⟩
  | 37 => ⟨S1x1, .f32⟩
  | 38 => ⟨S1, .i32⟩
  | 39 => ⟨S_, .i32⟩
  | 40 => ⟨S1, .i32⟩
  | 41 => ⟨S_, .i32⟩
  | 42 => ⟨S4096x4096, .i64⟩
  | 43 => ⟨S4096x4096, .i64⟩
  | 44 => ⟨S_, .i64⟩
  | 45 => ⟨S4096x4096, .i64⟩
  | 46 => ⟨S4096x4096, .i64⟩
  | 47 => ⟨S_, .i64⟩
  | 48 => ⟨S4096x4096, .i64⟩
  | 49 => ⟨S4096x4096, .i64⟩
  | 50 => ⟨S4096x4096, .i64⟩
  | 51 => ⟨S_, .i64⟩
  | 52 => ⟨S4096x4096, .i64⟩
  | 53 => ⟨S4096x4096, .i64⟩
  | 54 => ⟨S4096x4096, .i32⟩
  | 55 => ⟨S4096x4096, .i32⟩
  | 56 => ⟨S_, .i32⟩
  | 57 => ⟨S_, .i32⟩
  | 58 => ⟨S_, .i32⟩
  | 59 => ⟨S4096x4096, .i32⟩
  | 60 => ⟨S4096x4096, .i32⟩
  | 61 => ⟨S4096x4096, .i32⟩
  | 62 => ⟨S4096x4096, .i32⟩
  | 63 => ⟨S4096x4096, .i32⟩
  | 64 => ⟨S_, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S4096x4096, .i32⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S4096x4096, .i32⟩
  | 80 => ⟨S4096x4096, .i32⟩
  | 81 => ⟨S4096x4096, .i32⟩
  | 82 => ⟨S_, .i32⟩
  | 83 => ⟨S4096x4096, .i32⟩
  | 84 => ⟨S4096x4096, .i32⟩
  | 85 => ⟨S_, .i32⟩
  | 86 => ⟨S4096x4096, .i32⟩
  | 87 => ⟨S4096x4096, .i32⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i32⟩
  | 94 => ⟨S_, .i32⟩
  | 95 => ⟨S4096x4096, .i32⟩
  | 96 => ⟨S4096x4096, .i32⟩
  | 97 => ⟨S4096x4096, .i32⟩
  | 98 => ⟨S4096x4096, .i32⟩
  | 99 => ⟨S4096x4096, .i32⟩
  | 100 => ⟨S4096x4096, .i32⟩
  | 101 => ⟨S4096x4096, .i32⟩
  | 102 => ⟨S4096x4096, .i32⟩
  | 103 => ⟨S_, .i32⟩
  | 104 => ⟨S4096x4096, .i32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S4096x4096, .i32⟩
  | 114 => ⟨S4096x4096, .i32⟩
  | 115 => ⟨S4096x4096, .i32⟩
  | 116 => ⟨S_, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S4096x4096, .i32⟩
  | 123 => ⟨S4096x4096, .i32⟩
  | 124 => ⟨S4096x4096, .i32⟩
  | 125 => ⟨S_, .i32⟩
  | 126 => ⟨S4096x4096, .i32⟩
  | 127 => ⟨S4096x4096, .i32⟩
  | _ => ⟨S1x4096x128, .f32⟩

abbrev hbmTy0_9 (i : Nat) : BufTy := match i % 128 with
  | 0 => ⟨S_, .i32⟩
  | 1 => ⟨S4096x4096, .i32⟩
  | 2 => ⟨S4096x4096, .i32⟩
  | 3 => ⟨S4096x4096, .i32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S4096x4096, .i32⟩
  | 13 => ⟨S4096x4096, .i32⟩
  | 14 => ⟨S4096x4096, .i32⟩
  | 15 => ⟨S4096x4096, .i32⟩
  | 16 => ⟨S4096x4096, .i32⟩
  | 17 => ⟨S4096x4096, .i32⟩
  | 18 => ⟨S_, .i32⟩
  | 19 => ⟨S4096x4096, .i32⟩
  | 20 => ⟨S4096x4096, .i32⟩
  | 21 => ⟨S4096x4096, .i32⟩
  | 22 => ⟨S_, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S4096x4096, .i32⟩
  | 29 => ⟨S4096x4096, .i32⟩
  | 30 => ⟨S4096x4096, .i32⟩
  | 31 => ⟨S_, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S4096x4096, .i32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S_, .i32⟩
  | 44 => ⟨S4096x4096, .i32⟩
  | 45 => ⟨S4096x4096, .i32⟩
  | 46 => ⟨S4096x4096, .i32⟩
  | 47 => ⟨S4096x4096, .i32⟩
  | 48 => ⟨S4096x4096, .i32⟩
  | 49 => ⟨S_, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S4096x4096, .i32⟩
  | 56 => ⟨S4096x4096, .i32⟩
  | 57 => ⟨S4096x4096, .i32⟩
  | 58 => ⟨S4096x4096, .i32⟩
  | 59 => ⟨S4096x4096, .i32⟩
  | 60 => ⟨S4096x4096, .i32⟩
  | 61 => ⟨S_, .i32⟩
  | 62 => ⟨S4096x4096, .i32⟩
  | 63 => ⟨S4096x4096, .i32⟩
  | 64 => ⟨S4096x4096, .i32⟩
  | 65 => ⟨S_, .i32⟩
  | 66 => ⟨S4096x4096, .i32⟩
  | 67 => ⟨S4096x4096, .i32⟩
  | 68 => ⟨S_, .i32⟩
  | 69 => ⟨S4096x4096, .i32⟩
  | 70 => ⟨S4096x4096, .i32⟩
  | 71 => ⟨S4096x4096, .i32⟩
  | 72 => ⟨S4096x4096, .i32⟩
  | 73 => ⟨S4096x4096, .i32⟩
  | 74 => ⟨S_, .i32⟩
  | 75 => ⟨S4096x4096, .i32⟩
  | 76 => ⟨S4096x4096, .i32⟩
  | 77 => ⟨S_, .i32⟩
  | 78 => ⟨S4096x4096, .i32⟩
  | 79 => ⟨S4096x4096, .i32⟩
  | 80 => ⟨S4096x4096, .i32⟩
  | 81 => ⟨S4096x4096, .i32⟩
  | 82 => ⟨S4096x4096, .i32⟩
  | 83 => ⟨S_, .i32⟩
  | 84 => ⟨S4096x4096, .i32⟩
  | 85 => ⟨S4096x4096, .i32⟩
  | 86 => ⟨S_, .i32⟩
  | 87 => ⟨S4096x4096, .i32⟩
  | 88 => ⟨S4096x4096, .i32⟩
  | 89 => ⟨S4096x4096, .i32⟩
  | 90 => ⟨S4096x4096, .i32⟩
  | 91 => ⟨S4096x4096, .i32⟩
  | 92 => ⟨S_, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S4096x4096, .i32⟩
  | 99 => ⟨S4096x4096, .i32⟩
  | 100 => ⟨S4096x4096, .i32⟩
  | 101 => ⟨S4096x4096, .i32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S4096x4096, .i32⟩
  | 108 => ⟨S_, .i32⟩
  | 109 => ⟨S4096x4096, .i32⟩
  | 110 => ⟨S4096x4096, .i32⟩
  | 111 => ⟨S_, .i32⟩
  | 112 => ⟨S4096x4096, .i32⟩
  | 113 => ⟨S4096x4096, .i32⟩
  | 114 => ⟨S4096x4096, .i32⟩
  | 115 => ⟨S4096x4096, .i32⟩
  | 116 => ⟨S4096x4096, .i32⟩
  | 117 => ⟨S_, .i32⟩
  | 118 => ⟨S4096x4096, .i32⟩
  | 119 => ⟨S4096x4096, .i32⟩
  | 120 => ⟨S_, .i32⟩
  | 121 => ⟨S4096x4096, .i32⟩
  | 122 => ⟨S4096x4096, .i32⟩
  | 123 => ⟨S4096x4096, .i32⟩
  | 124 => ⟨S4096x4096, .i32⟩
  | 125 => ⟨S4096x4096, .i32⟩
  | 126 => ⟨S_, .i32⟩
  | 127 => ⟨S4096x4096, .i32⟩
  | _ => ⟨S1x4096x128, .f32⟩

abbrev hbmTy0_10 (i : Nat) : BufTy := match i % 128 with
  | 0 => ⟨S4096x4096, .i32⟩
  | 1 => ⟨S_, .i32⟩
  | 2 => ⟨S4096x4096, .i32⟩
  | 3 => ⟨S4096x4096, .i32⟩
  | 4 => ⟨S4096x4096, .i32⟩
  | 5 => ⟨S4096x4096, .i32⟩
  | 6 => ⟨S4096x4096, .i32⟩
  | 7 => ⟨S_, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S4096x4096, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S_, .i32⟩
  | 20 => ⟨S4096x4096, .i32⟩
  | 21 => ⟨S4096x4096, .i32⟩
  | 22 => ⟨S4096x4096, .i32⟩
  | 23 => ⟨S_, .i32⟩
  | 24 => ⟨S4096x4096, .i32⟩
  | 25 => ⟨S4096x4096, .i32⟩
  | 26 => ⟨S_, .i32⟩
  | 27 => ⟨S4096x4096, .i32⟩
  | 28 => ⟨S4096x4096, .i32⟩
  | 29 => ⟨S4096x4096, .f32⟩
  | 30 => ⟨S_, .f32⟩
  | 31 => ⟨S4096x4096, .f32⟩
  | 32 => ⟨S4096x4096, .f32⟩
  | 33 => ⟨S1x1, .f32⟩
  | 34 => ⟨S4096x4096, .f32⟩
  | 35 => ⟨S4096x4096, .f32⟩
  | 36 => ⟨S4096x4096, .f32⟩
  | 37 => ⟨S4096x4096, .f32⟩
  | 38 => ⟨S4096x4096, .f32⟩
  | 39 => ⟨S4096x4096, .f32⟩
  | 40 => ⟨S_, .f32⟩
  | 41 => ⟨S_, .f32⟩
  | 42 => ⟨S4096x4096, .f32⟩
  | 43 => ⟨S4096x4096, .f32⟩
  | 44 => ⟨S4096x4096, .f32⟩
  | 45 => ⟨S4096x4096, .f32⟩
  | 46 => ⟨S4096x4096, .f32⟩
  | 47 => ⟨S1, .f32⟩
  | 48 => ⟨S_, .f32⟩
  | 49 => ⟨S1, .f32⟩
  | 50 => ⟨S_, .f32⟩
  | 51 => ⟨S1, .f32⟩
  | 52 => ⟨S_, .f32⟩
  | 53 => ⟨S1, .f32⟩
  | 54 => ⟨S_, .f32⟩
  | 55 => ⟨S1, .f32⟩
  | 56 => ⟨S_, .f32⟩
  | 57 => ⟨S1, .f32⟩
  | 58 => ⟨S_, .f32⟩
  | 59 => ⟨S1, .f32⟩
  | 60 => ⟨S_, .f32⟩
  | 61 => ⟨S1, .f32⟩
  | 62 => ⟨S_, .f32⟩
  | 63 => ⟨S4096x4096, .f32⟩
  | 64 => ⟨S4096x4096, .f32⟩
  | 65 => ⟨S4096x4096, .f32⟩
  | 66 => ⟨S4096x4096, .f32⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S4096x4096, .f32⟩
  | 82 => ⟨S4096x4096, .f32⟩
  | 83 => ⟨S4096x4096, .f32⟩
  | 84 => ⟨S4096x4096, .f32⟩
  | 85 => ⟨S4096x4096, .f32⟩
  | 86 => ⟨S4096x4096, .f32⟩
  | 87 => ⟨S4096x4096, .f32⟩
  | 88 => ⟨S_, .f32⟩
  | 89 => ⟨S_, .f32⟩
  | 90 => ⟨S4096x4096, .f32⟩
  | 91 => ⟨S4096x4096, .f32⟩
  | 92 => ⟨S4096x4096, .f32⟩
  | 93 => ⟨S4096x4096, .f32⟩
  | 94 => ⟨S4096x4096, .f32⟩
  | 95 => ⟨S4096x4096, .f32⟩
  | 96 => ⟨S_, .f32⟩
  | 97 => ⟨S_, .f32⟩
  | 98 => ⟨S4096x4096, .f32⟩
  | 99 => ⟨S4096x4096, .f32⟩
  | 100 => ⟨S4096x4096, .f32⟩
  | 101 => ⟨S4096x1x128, .f32⟩
  | 102 => ⟨S4096x128, .f32⟩
  | 103 => ⟨S4096x128, .f32⟩
  | 104 => ⟨S4096x1x128, .f32⟩
  | 105 => ⟨S1x4096x128, .f32⟩
  | 106 => ⟨S4096x128, .f32⟩
  | 107 => ⟨S4096x128, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S1x1, .f32⟩
  | 118 => ⟨S1x1, .f32⟩
  | 119 => ⟨S1, .i32⟩
  | 120 => ⟨S_, .i32⟩
  | 121 => ⟨S1, .i32⟩
  | 122 => ⟨S_, .i32⟩
  | 123 => ⟨S4096x128, .i64⟩
  | 124 => ⟨S4096x128, .i64⟩
  | 125 => ⟨S_, .i64⟩
  | 126 => ⟨S4096x128, .i64⟩
  | 127 => ⟨S4096x128, .i64⟩
  | _ => ⟨S1x4096x128, .f32⟩

abbrev hbmTy0_11 (i : Nat) : BufTy := match i % 128 with
  | 0 => ⟨S_, .i64⟩
  | 1 => ⟨S4096x128, .i64⟩
  | 2 => ⟨S4096x128, .i64⟩
  | 3 => ⟨S4096x128, .i64⟩
  | 4 => ⟨S_, .i64⟩
  | 5 => ⟨S4096x128, .i64⟩
  | 6 => ⟨S4096x128, .i64⟩
  | 7 => ⟨S4096x128, .i32⟩
  | 8 => ⟨S4096x128, .i32⟩
  | 9 => ⟨S_, .i32⟩
  | 10 => ⟨S_, .i32⟩
  | 11 => ⟨S_, .i32⟩
  | 12 => ⟨S4096x128, .i32⟩
  | 13 => ⟨S4096x128, .i32⟩
  | 14 => ⟨S4096x128, .i32⟩
  | 15 => ⟨S4096x128, .i32⟩
  | 16 => ⟨S4096x128, .i32⟩
  | 17 => ⟨S_, .i32⟩
  | 18 => ⟨S4096x128, .i32⟩
  | 19 => ⟨S4096x128, .i32⟩
  | 20 => ⟨S_, .i32⟩
  | 21 => ⟨S4096x128, .i32⟩
  | 22 => ⟨S4096x128, .i32⟩
  | 23 => ⟨S4096x128, .i32⟩
  | 24 => ⟨S4096x128, .i32⟩
  | 25 => ⟨S4096x128, .i32⟩
  | 26 => ⟨S_, .i32⟩
  | 27 => ⟨S4096x128, .i32⟩
  | 28 => ⟨S4096x128, .i32⟩
  | 29 => ⟨S_, .i32⟩
  | 30 => ⟨S4096x128, .i32⟩
  | 31 => ⟨S4096x128, .i32⟩
  | 32 => ⟨S4096x128, .i32⟩
  | 33 => ⟨S4096x128, .i32⟩
  | 34 => ⟨S4096x128, .i32⟩
  | 35 => ⟨S_, .i32⟩
  | 36 => ⟨S4096x128, .i32⟩
  | 37 => ⟨S4096x128, .i32⟩
  | 38 => ⟨S_, .i32⟩
  | 39 => ⟨S4096x128, .i32⟩
  | 40 => ⟨S4096x128, .i32⟩
  | 41 => ⟨S4096x128, .i32⟩
  | 42 => ⟨S4096x128, .i32⟩
  | 43 => ⟨S4096x128, .i32⟩
  | 44 => ⟨S_, .i32⟩
  | 45 => ⟨S4096x128, .i32⟩
  | 46 => ⟨S4096x128, .i32⟩
  | 47 => ⟨S_, .i32⟩
  | 48 => ⟨S4096x128, .i32⟩
  | 49 => ⟨S4096x128, .i32⟩
  | 50 => ⟨S4096x128, .i32⟩
  | 51 => ⟨S4096x128, .i32⟩
  | 52 => ⟨S4096x128, .i32⟩
  | 53 => ⟨S4096x128, .i32⟩
  | 54 => ⟨S4096x128, .i32⟩
  | 55 => ⟨S4096x128, .i32⟩
  | 56 => ⟨S_, .i32⟩
  | 57 => ⟨S4096x128, .i32⟩
  | 58 => ⟨S4096x128, .i32⟩
  | 59 => ⟨S4096x128, .i32⟩
  | 60 => ⟨S_, .i32⟩
  | 61 => ⟨S4096x128, .i32⟩
  | 62 => ⟨S4096x128, .i32⟩
  | 63 => ⟨S_, .i32⟩
  | 64 => ⟨S4096x128, .i32⟩
  | 65 => ⟨S4096x128, .i32⟩
  | 66 => ⟨S4096x128, .i32⟩
  | 67 => ⟨S4096x128, .i32⟩
  | 68 => ⟨S4096x128, .i32⟩
  | 69 => ⟨S_, .i32⟩
  | 70 => ⟨S4096x128, .i32⟩
  | 71 => ⟨S4096x128, .i32⟩
  | 72 => ⟨S_, .i32⟩
  | 73 => ⟨S4096x128, .i32⟩
  | 74 => ⟨S4096x128, .i32⟩
  | 75 => ⟨S4096x128, .i32⟩
  | 76 => ⟨S4096x128, .i32⟩
  | 77 => ⟨S4096x128, .i32⟩
  | 78 => ⟨S_, .i32⟩
  | 79 => ⟨S4096x128, .i32⟩
  | 80 => ⟨S4096x128, .i32⟩
  | 81 => ⟨S_, .i32⟩
  | 82 => ⟨S4096x128, .i32⟩
  | 83 => ⟨S4096x128, .i32⟩
  | 84 => ⟨S4096x128, .i32⟩
  | 85 => ⟨S4096x128, .i32⟩
  | 86 => ⟨S4096x128, .i32⟩
  | 87 => ⟨S_, .i32⟩
  | 88 => ⟨S4096x128, .i32⟩
  | 89 => ⟨S4096x128, .i32⟩
  | 90 => ⟨S_, .i32⟩
  | 91 => ⟨S4096x128, .i32⟩
  | 92 => ⟨S4096x128, .i32⟩
  | 93 => ⟨S4096x128, .i32⟩
  | 94 => ⟨S4096x128, .i32⟩
  | 95 => ⟨S4096x128, .i32⟩
  | 96 => ⟨S4096x128, .i32⟩
  | 97 => ⟨S4096x128, .i32⟩
  | 98 => ⟨S4096x128, .i32⟩
  | 99 => ⟨S_, .i32⟩
  | 100 => ⟨S4096x128, .i32⟩
  | 101 => ⟨S4096x128, .i32⟩
  | 102 => ⟨S4096x128, .i32⟩
  | 103 => ⟨S_, .i32⟩
  | 104 => ⟨S4096x128, .i32⟩
  | 105 => ⟨S4096x128, .i32⟩
  | 106 => ⟨S_, .i32⟩
  | 107 => ⟨S4096x128, .i32⟩
  | 108 => ⟨S4096x128, .i32⟩
  | 109 => ⟨S4096x128, .i32⟩
  | 110 => ⟨S4096x128, .i32⟩
  | 111 => ⟨S4096x128, .i32⟩
  | 112 => ⟨S_, .i32⟩
  | 113 => ⟨S4096x128, .i32⟩
  | 114 => ⟨S4096x128, .i32⟩
  | 115 => ⟨S_, .i32⟩
  | 116 => ⟨S4096x128, .i32⟩
  | 117 => ⟨S4096x128, .i32⟩
  | 118 => ⟨S4096x128, .i32⟩
  | 119 => ⟨S4096x128, .i32⟩
  | 120 => ⟨S4096x128, .i32⟩
  | 121 => ⟨S_, .i32⟩
  | 122 => ⟨S4096x128, .i32⟩
  | 123 => ⟨S4096x128, .i32⟩
  | 124 => ⟨S_, .i32⟩
  | 125 => ⟨S4096x128, .i32⟩
  | 126 => ⟨S4096x128, .i32⟩
  | 127 => ⟨S4096x128, .i32⟩
  | _ => ⟨S1x4096x128, .f32⟩

abbrev hbmTy0_12 (i : Nat) : BufTy := match i % 128 with
  | 0 => ⟨S4096x128, .i32⟩
  | 1 => ⟨S4096x128, .i32⟩
  | 2 => ⟨S_, .i32⟩
  | 3 => ⟨S4096x128, .i32⟩
  | 4 => ⟨S4096x128, .i32⟩
  | 5 => ⟨S_, .i32⟩
  | 6 => ⟨S4096x128, .i32⟩
  | 7 => ⟨S4096x128, .i32⟩
  | 8 => ⟨S4096x128, .i32⟩
  | 9 => ⟨S4096x128, .i32⟩
  | 10 => ⟨S4096x128, .i32⟩
  | 11 => ⟨S4096x128, .i32⟩
  | 12 => ⟨S4096x128, .i32⟩
  | 13 => ⟨S4096x128, .i32⟩
  | 14 => ⟨S_, .i32⟩
  | 15 => ⟨S4096x128, .i32⟩
  | 16 => ⟨S4096x128, .i32⟩
  | 17 => ⟨S4096x128, .i32⟩
  | 18 => ⟨S_, .i32⟩
  | 19 => ⟨S4096x128, .i32⟩
  | 20 => ⟨S4096x128, .i32⟩
  | 21 => ⟨S_, .i32⟩
  | 22 => ⟨S4096x128, .i32⟩
  | 23 => ⟨S4096x128, .i32⟩
  | 24 => ⟨S4096x128, .i32⟩
  | 25 => ⟨S4096x128, .i32⟩
  | 26 => ⟨S4096x128, .i32⟩
  | 27 => ⟨S_, .i32⟩
  | 28 => ⟨S4096x128, .i32⟩
  | 29 => ⟨S4096x128, .i32⟩
  | 30 => ⟨S_, .i32⟩
  | 31 => ⟨S4096x128, .i32⟩
  | 32 => ⟨S4096x128, .i32⟩
  | 33 => ⟨S4096x128, .i32⟩
  | 34 => ⟨S4096x128, .i32⟩
  | 35 => ⟨S4096x128, .i32⟩
  | 36 => ⟨S_, .i32⟩
  | 37 => ⟨S4096x128, .i32⟩
  | 38 => ⟨S4096x128, .i32⟩
  | 39 => ⟨S_, .i32⟩
  | 40 => ⟨S4096x128, .i32⟩
  | 41 => ⟨S4096x128, .i32⟩
  | 42 => ⟨S4096x128, .i32⟩
  | 43 => ⟨S4096x128, .i32⟩
  | 44 => ⟨S4096x128, .i32⟩
  | 45 => ⟨S_, .i32⟩
  | 46 => ⟨S4096x128, .i32⟩
  | 47 => ⟨S4096x128, .i32⟩
  | 48 => ⟨S_, .i32⟩
  | 49 => ⟨S4096x128, .i32⟩
  | 50 => ⟨S4096x128, .i32⟩
  | 51 => ⟨S4096x128, .i32⟩
  | 52 => ⟨S4096x128, .i32⟩
  | 53 => ⟨S4096x128, .i32⟩
  | 54 => ⟨S4096x128, .i32⟩
  | 55 => ⟨S4096x128, .i32⟩
  | 56 => ⟨S4096x128, .i32⟩
  | 57 => ⟨S_, .i32⟩
  | 58 => ⟨S4096x128, .i32⟩
  | 59 => ⟨S4096x128, .i32⟩
  | 60 => ⟨S4096x128, .i32⟩
  | 61 => ⟨S_, .i32⟩
  | 62 => ⟨S4096x128, .i32⟩
  | 63 => ⟨S4096x128, .i32⟩
  | 64 => ⟨S_, .i32⟩
  | 65 => ⟨S4096x128, .i32⟩
  | 66 => ⟨S4096x128, .i32⟩
  | 67 => ⟨S4096x128, .i32⟩
  | 68 => ⟨S4096x128, .i32⟩
  | 69 => ⟨S4096x128, .i32⟩
  | 70 => ⟨S_, .i32⟩
  | 71 => ⟨S4096x128, .i32⟩
  | 72 => ⟨S4096x128, .i32⟩
  | 73 => ⟨S_, .i32⟩
  | 74 => ⟨S4096x128, .i32⟩
  | 75 => ⟨S4096x128, .i32⟩
  | 76 => ⟨S4096x128, .i32⟩
  | 77 => ⟨S4096x128, .i32⟩
  | 78 => ⟨S4096x128, .i32⟩
  | 79 => ⟨S_, .i32⟩
  | 80 => ⟨S4096x128, .i32⟩
  | 81 => ⟨S4096x128, .i32⟩
  | 82 => ⟨S_, .i32⟩
  | 83 => ⟨S4096x128, .i32⟩
  | 84 => ⟨S4096x128, .i32⟩
  | 85 => ⟨S4096x128, .i32⟩
  | 86 => ⟨S4096x128, .i32⟩
  | 87 => ⟨S4096x128, .i32⟩
  | 88 => ⟨S_, .i32⟩
  | 89 => ⟨S4096x128, .i32⟩
  | 90 => ⟨S4096x128, .i32⟩
  | 91 => ⟨S_, .i32⟩
  | 92 => ⟨S4096x128, .i32⟩
  | 93 => ⟨S4096x128, .i32⟩
  | 94 => ⟨S4096x128, .i32⟩
  | 95 => ⟨S4096x128, .i32⟩
  | 96 => ⟨S4096x128, .i32⟩
  | 97 => ⟨S4096x128, .i32⟩
  | 98 => ⟨S4096x128, .i32⟩
  | 99 => ⟨S4096x128, .i32⟩
  | 100 => ⟨S_, .i32⟩
  | 101 => ⟨S4096x128, .i32⟩
  | 102 => ⟨S4096x128, .i32⟩
  | 103 => ⟨S4096x128, .i32⟩
  | 104 => ⟨S_, .i32⟩
  | 105 => ⟨S4096x128, .i32⟩
  | 106 => ⟨S4096x128, .i32⟩
  | 107 => ⟨S_, .i32⟩
  | 108 => ⟨S4096x128, .i32⟩
  | 109 => ⟨S4096x128, .i32⟩
  | 110 => ⟨S4096x128, .f32⟩
  | 111 => ⟨S_, .f32⟩
  | 112 => ⟨S4096x128, .f32⟩
  | 113 => ⟨S4096x128, .f32⟩
  | 114 => ⟨S1x1, .f32⟩
  | 115 => ⟨S4096x128, .f32⟩
  | 116 => ⟨S4096x128, .f32⟩
  | 117 => ⟨S4096x128, .f32⟩
  | 118 => ⟨S4096x128, .f32⟩
  | 119 => ⟨S4096x128, .f32⟩
  | 120 => ⟨S4096x128, .f32⟩
  | 121 => ⟨S_, .f32⟩
  | 122 => ⟨S_, .f32⟩
  | 123 => ⟨S4096x128, .f32⟩
  | 124 => ⟨S4096x128, .f32⟩
  | 125 => ⟨S4096x128, .f32⟩
  | 126 => ⟨S4096x128, .f32⟩
  | 127 => ⟨S4096x128, .f32⟩
  | _ => ⟨S1x4096x128, .f32⟩

abbrev hbmTy0_13 (i : Nat) : BufTy := match i % 128 with
  | 0 => ⟨S1, .f32⟩
  | 1 => ⟨S_, .f32⟩
  | 2 => ⟨S1, .f32⟩
  | 3 => ⟨S_, .f32⟩
  | 4 => ⟨S1, .f32⟩
  | 5 => ⟨S_, .f32⟩
  | 6 => ⟨S1, .f32⟩
  | 7 => ⟨S_, .f32⟩
  | 8 => ⟨S1, .f32⟩
  | 9 => ⟨S_, .f32⟩
  | 10 => ⟨S1, .f32⟩
  | 11 => ⟨S_, .f32⟩
  | 12 => ⟨S1, .f32⟩
  | 13 => ⟨S_, .f32⟩
  | 14 => ⟨S1, .f32⟩
  | 15 => ⟨S_, .f32⟩
  | 16 => ⟨S4096x128, .f32⟩
  | 17 => ⟨S4096x128, .f32⟩
  | 18 => ⟨S4096x128, .f32⟩
  | 19 => ⟨S4096x128, .f32⟩
  | 20 => ⟨S4096x128, .f32⟩
  | 21 => ⟨S4096x128, .f32⟩
  | 22 => ⟨S4096x128, .f32⟩
  | 23 => ⟨S4096x128, .f32⟩
  | 24 => ⟨S4096x128, .f32⟩
  | 25 => ⟨S4096x128, .f32⟩
  | 26 => ⟨S4096x128, .f32⟩
  | 27 => ⟨S4096x128, .f32⟩
  | 28 => ⟨S4096x128, .f32⟩
  | 29 => ⟨S4096x128, .f32⟩
  | 30 => ⟨S4096x128, .f32⟩
  | 31 => ⟨S4096x128, .f32⟩
  | 32 => ⟨S4096x128, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S4096x128, .f32⟩
  | 39 => ⟨S4096x128, .f32⟩
  | 40 => ⟨S4096x128, .f32⟩
  | 41 => ⟨S4096x128, .f32⟩
  | 42 => ⟨S4096x128, .f32⟩
  | 43 => ⟨S1x4096x128, .f32⟩
  | 44 => ⟨S1x4096x128, .f32⟩
  | 45 => ⟨S128x128, .f32⟩
  | 46 => ⟨S1x4096x128, .f32⟩
  | 47 => ⟨S1x2, .i32⟩
  | 48 => ⟨S2, .i32⟩
  | 49 => ⟨S1, .i32⟩
  | 50 => ⟨S_, .i32⟩
  | 51 => ⟨S1, .i32⟩
  | 52 => ⟨S_, .i32⟩
  | 53 => ⟨S2, .i64⟩
  | 54 => ⟨S_, .i64⟩
  | 55 => ⟨S2, .i64⟩
  | 56 => ⟨S2, .i64⟩
  | 57 => ⟨S_, .i64⟩
  | 58 => ⟨S2, .i64⟩
  | 59 => ⟨S2, .i64⟩
  | 60 => ⟨S2, .i32⟩
  | 61 => ⟨S2, .i32⟩
  | 62 => ⟨S_, .i32⟩
  | 63 => ⟨S_, .i32⟩
  | 64 => ⟨S_, .i32⟩
  | 65 => ⟨S2, .i32⟩
  | 66 => ⟨S2, .i32⟩
  | 67 => ⟨S2, .i32⟩
  | 68 => ⟨S2, .i32⟩
  | 69 => ⟨S2, .i32⟩
  | 70 => ⟨S_, .i32⟩
  | 71 => ⟨S2, .i32⟩
  | 72 => ⟨S2, .i32⟩
  | 73 => ⟨S_, .i32⟩
  | 74 => ⟨S2, .i32⟩
  | 75 => ⟨S2, .i32⟩
  | 76 => ⟨S2, .i32⟩
  | 77 => ⟨S2, .i32⟩
  | 78 => ⟨S2, .i32⟩
  | 79 => ⟨S_, .i32⟩
  | 80 => ⟨S2, .i32⟩
  | 81 => ⟨S2, .i32⟩
  | 82 => ⟨S_, .i32⟩
  | 83 => ⟨S2, .i32⟩
  | 84 => ⟨S2, .i32⟩
  | 85 => ⟨S2, .i32⟩
  | 86 => ⟨S2, .i32⟩
  | 87 => ⟨S2, .i32⟩
  | 88 => ⟨S_, .i32⟩
  | 89 => ⟨S2, .i32⟩
  | 90 => ⟨S2, .i32⟩
  | 91 => ⟨S_, .i32⟩
  | 92 => ⟨S2, .i32⟩
  | 93 => ⟨S2, .i32⟩
  | 94 => ⟨S2, .i32⟩
  | 95 => ⟨S2, .i32⟩
  | 96 => ⟨S2, .i32⟩
  | 97 => ⟨S_, .i32⟩
  | 98 => ⟨S2, .i32⟩
  | 99 => ⟨S2, .i32⟩
  | 100 => ⟨S_, .i32⟩
  | 101 => ⟨S2, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S2, .i32⟩
  | 121 => ⟨S2, .i32⟩
  | 122 => ⟨S_, .i32⟩
  | 123 => ⟨S2, .i32⟩
  | 124 => ⟨S2, .i32⟩
  | 125 => ⟨S_, .i32⟩
  | 126 => ⟨S2, .i32⟩
  | 127 => ⟨S2, .i32⟩
  | _ => ⟨S1x4096x128, .f32⟩

abbrev hbmTy0_14 (i : Nat) : BufTy := match i % 128 with
  | 0 => ⟨S2, .i32⟩
  | 1 => ⟨S2, .i32⟩
  | 2 => ⟨S2, .i32⟩
  | 3 => ⟨S_, .i32⟩
  | 4 => ⟨S2, .i32⟩
  | 5 => ⟨S2, .i32⟩
  | 6 => ⟨S_, .i32⟩
  | 7 => ⟨S2, .i32⟩
  | 8 => ⟨S2, .i32⟩
  | 9 => ⟨S2, .i32⟩
  | 10 => ⟨S2, .i32⟩
  | 11 => ⟨S2, .i32⟩
  | 12 => ⟨S_, .i32⟩
  | 13 => ⟨S2, .i32⟩
  | 14 => ⟨S2, .i32⟩
  | 15 => ⟨S_, .i32⟩
  | 16 => ⟨S2, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S_, .i32⟩
  | 25 => ⟨S2, .i32⟩
  | 26 => ⟨S2, .i32⟩
  | 27 => ⟨S2, .i32⟩
  | 28 => ⟨S_, .i32⟩
  | 29 => ⟨S2, .i32⟩
  | 30 => ⟨S2, .i32⟩
  | 31 => ⟨S_, .i32⟩
  | 32 => ⟨S2, .i32⟩
  | 33 => ⟨S2, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S1x4096x128, .f32⟩

abbrev hbmTy0_15 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2x1, .i32⟩
  | 29 => ⟨S2x1, .i32⟩
  | 30 => ⟨S2x2, .i32⟩
  | 31 => ⟨S1x2, .i32⟩
  | 32 => ⟨S2, .i32⟩
  | 33 => ⟨S1x2, .i32⟩
  | 34 => ⟨S2, .i32⟩
  | 35 => ⟨S1, .i32⟩
  | 36 => ⟨S_, .i32⟩
  | 37 => ⟨S1, .i32⟩
  | 38 => ⟨S_, .i32⟩
  | 39 => ⟨S2, .i64⟩
  | 40 => ⟨S_, .i64⟩
  | 41 => ⟨S2, .i64⟩
  | 42 => ⟨S2, .i64⟩
  | 43 => ⟨S_, .i64⟩
  | 44 => ⟨S2, .i64⟩
  | 45 => ⟨S2, .i64⟩
  | 46 => ⟨S2, .i32⟩
  | 47 => ⟨S2, .i32⟩
  | 48 => ⟨S_, .i32⟩
  | 49 => ⟨S_, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S_, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S2, .i32⟩
  | 82 => ⟨S2, .i32⟩
  | 83 => ⟨S_, .i32⟩
  | 84 => ⟨S2, .i32⟩
  | 85 => ⟨S2, .i32⟩
  | 86 => ⟨S_, .i32⟩
  | 87 => ⟨S2, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S_, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S_, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S2, .i32⟩
  | 125 => ⟨S2, .i32⟩
  | 126 => ⟨S_, .i32⟩
  | 127 => ⟨S2, .i32⟩
  | _ => ⟨S1x4096x128, .f32⟩

abbrev hbmTy0_16 (i : Nat) : BufTy := match i % 128 with
  | 0 => ⟨S2, .i32⟩
  | 1 => ⟨S_, .i32⟩
  | 2 => ⟨S2, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S2, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S2, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S1x4096x128, .f32⟩

abbrev hbmTy0_17 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S2, .i32⟩
  | 9 => ⟨S2, .i32⟩
  | 10 => ⟨S2, .i32⟩
  | 11 => ⟨S_, .i32⟩
  | 12 => ⟨S2, .i32⟩
  | 13 => ⟨S2, .i32⟩
  | 14 => ⟨S2x1, .i32⟩
  | 15 => ⟨S2x1, .i32⟩
  | 16 => ⟨S2x2, .i32⟩
  | 17 => ⟨S1x2, .i32⟩
  | 18 => ⟨S2, .i32⟩
  | 19 => ⟨S1x2, .i32⟩
  | 20 => ⟨S2, .i32⟩
  | 21 => ⟨S_, .f32⟩
  | 22 => ⟨S_, .f32⟩
  | 23 => ⟨S1x1, .f32⟩
  | 24 => ⟨S1x1, .f32⟩
  | 25 => ⟨S1, .i32⟩
  | 26 => ⟨S_, .i32⟩
  | 27 => ⟨S1, .i32⟩
  | 28 => ⟨S_, .i32⟩
  | 29 => ⟨S4096x4096, .i64⟩
  | 30 => ⟨S4096x4096, .i64⟩
  | 31 => ⟨S_, .i64⟩
  | 32 => ⟨S4096x4096, .i64⟩
  | 33 => ⟨S4096x4096, .i64⟩
  | 34 => ⟨S_, .i64⟩
  | 35 => ⟨S4096x4096, .i64⟩
  | 36 => ⟨S4096x4096, .i64⟩
  | 37 => ⟨S4096x4096, .i64⟩
  | 38 => ⟨S_, .i64⟩
  | 39 => ⟨S4096x4096, .i64⟩
  | 40 => ⟨S4096x4096, .i64⟩
  | 41 => ⟨S4096x4096, .i32⟩
  | 42 => ⟨S4096x4096, .i32⟩
  | 43 => ⟨S_, .i32⟩
  | 44 => ⟨S_, .i32⟩
  | 45 => ⟨S_, .i32⟩
  | 46 => ⟨S4096x4096, .i32⟩
  | 47 => ⟨S4096x4096, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S4096x4096, .i32⟩
  | 58 => ⟨S4096x4096, .i32⟩
  | 59 => ⟨S4096x4096, .i32⟩
  | 60 => ⟨S_, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S4096x4096, .i32⟩
  | 67 => ⟨S4096x4096, .i32⟩
  | 68 => ⟨S4096x4096, .i32⟩
  | 69 => ⟨S_, .i32⟩
  | 70 => ⟨S4096x4096, .i32⟩
  | 71 => ⟨S4096x4096, .i32⟩
  | 72 => ⟨S_, .i32⟩
  | 73 => ⟨S4096x4096, .i32⟩
  | 74 => ⟨S4096x4096, .i32⟩
  | 75 => ⟨S4096x4096, .i32⟩
  | 76 => ⟨S4096x4096, .i32⟩
  | 77 => ⟨S4096x4096, .i32⟩
  | 78 => ⟨S_, .i32⟩
  | 79 => ⟨S4096x4096, .i32⟩
  | 80 => ⟨S4096x4096, .i32⟩
  | 81 => ⟨S_, .i32⟩
  | 82 => ⟨S4096x4096, .i32⟩
  | 83 => ⟨S4096x4096, .i32⟩
  | 84 => ⟨S4096x4096, .i32⟩
  | 85 => ⟨S4096x4096, .i32⟩
  | 86 => ⟨S4096x4096, .i32⟩
  | 87 => ⟨S4096x4096, .i32⟩
  | 88 => ⟨S4096x4096, .i32⟩
  | 89 => ⟨S4096x4096, .i32⟩
  | 90 => ⟨S_, .i32⟩
  | 91 => ⟨S4096x4096, .i32⟩
  | 92 => ⟨S4096x4096, .i32⟩
  | 93 => ⟨S4096x4096, .i32⟩
  | 94 => ⟨S_, .i32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S4096x4096, .i32⟩
  | 101 => ⟨S4096x4096, .i32⟩
  | 102 => ⟨S4096x4096, .i32⟩
  | 103 => ⟨S_, .i32⟩
  | 104 => ⟨S4096x4096, .i32⟩
  | 105 => ⟨S4096x4096, .i32⟩
  | 106 => ⟨S_, .i32⟩
  | 107 => ⟨S4096x4096, .i32⟩
  | 108 => ⟨S4096x4096, .i32⟩
  | 109 => ⟨S4096x4096, .i32⟩
  | 110 => ⟨S4096x4096, .i32⟩
  | 111 => ⟨S4096x4096, .i32⟩
  | 112 => ⟨S_, .i32⟩
  | 113 => ⟨S4096x4096, .i32⟩
  | 114 => ⟨S4096x4096, .i32⟩
  | 115 => ⟨S_, .i32⟩
  | 116 => ⟨S4096x4096, .i32⟩
  | 117 => ⟨S4096x4096, .i32⟩
  | 118 => ⟨S4096x4096, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S_, .i32⟩
  | 125 => ⟨S4096x4096, .i32⟩
  | 126 => ⟨S4096x4096, .i32⟩
  | 127 => ⟨S4096x4096, .i32⟩
  | _ => ⟨S1x4096x128, .f32⟩

abbrev hbmTy0_18 (i : Nat) : BufTy := match i % 128 with
  | 0 => ⟨S4096x4096, .i32⟩
  | 1 => ⟨S4096x4096, .i32⟩
  | 2 => ⟨S4096x4096, .i32⟩
  | 3 => ⟨S4096x4096, .i32⟩
  | 4 => ⟨S4096x4096, .i32⟩
  | 5 => ⟨S_, .i32⟩
  | 6 => ⟨S4096x4096, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S4096x4096, .i32⟩
  | 16 => ⟨S4096x4096, .i32⟩
  | 17 => ⟨S4096x4096, .i32⟩
  | 18 => ⟨S_, .i32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S4096x4096, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S_, .i32⟩
  | 31 => ⟨S4096x4096, .i32⟩
  | 32 => ⟨S4096x4096, .i32⟩
  | 33 => ⟨S4096x4096, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S_, .i32⟩
  | 40 => ⟨S4096x4096, .i32⟩
  | 41 => ⟨S4096x4096, .i32⟩
  | 42 => ⟨S4096x4096, .i32⟩
  | 43 => ⟨S4096x4096, .i32⟩
  | 44 => ⟨S4096x4096, .i32⟩
  | 45 => ⟨S4096x4096, .i32⟩
  | 46 => ⟨S4096x4096, .i32⟩
  | 47 => ⟨S4096x4096, .i32⟩
  | 48 => ⟨S_, .i32⟩
  | 49 => ⟨S4096x4096, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S4096x4096, .i32⟩
  | 59 => ⟨S4096x4096, .i32⟩
  | 60 => ⟨S4096x4096, .i32⟩
  | 61 => ⟨S_, .i32⟩
  | 62 => ⟨S4096x4096, .i32⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S4096x4096, .i32⟩
  | 69 => ⟨S4096x4096, .i32⟩
  | 70 => ⟨S_, .i32⟩
  | 71 => ⟨S4096x4096, .i32⟩
  | 72 => ⟨S4096x4096, .i32⟩
  | 73 => ⟨S_, .i32⟩
  | 74 => ⟨S4096x4096, .i32⟩
  | 75 => ⟨S4096x4096, .i32⟩
  | 76 => ⟨S4096x4096, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S_, .i32⟩
  | 83 => ⟨S4096x4096, .i32⟩
  | 84 => ⟨S4096x4096, .i32⟩
  | 85 => ⟨S4096x4096, .i32⟩
  | 86 => ⟨S4096x4096, .i32⟩
  | 87 => ⟨S4096x4096, .i32⟩
  | 88 => ⟨S4096x4096, .i32⟩
  | 89 => ⟨S4096x4096, .i32⟩
  | 90 => ⟨S4096x4096, .i32⟩
  | 91 => ⟨S_, .i32⟩
  | 92 => ⟨S4096x4096, .i32⟩
  | 93 => ⟨S4096x4096, .i32⟩
  | 94 => ⟨S4096x4096, .i32⟩
  | 95 => ⟨S_, .i32⟩
  | 96 => ⟨S4096x4096, .i32⟩
  | 97 => ⟨S4096x4096, .i32⟩
  | 98 => ⟨S_, .i32⟩
  | 99 => ⟨S4096x4096, .i32⟩
  | 100 => ⟨S4096x4096, .i32⟩
  | 101 => ⟨S4096x4096, .i32⟩
  | 102 => ⟨S4096x4096, .i32⟩
  | 103 => ⟨S4096x4096, .i32⟩
  | 104 => ⟨S_, .i32⟩
  | 105 => ⟨S4096x4096, .i32⟩
  | 106 => ⟨S4096x4096, .i32⟩
  | 107 => ⟨S_, .i32⟩
  | 108 => ⟨S4096x4096, .i32⟩
  | 109 => ⟨S4096x4096, .i32⟩
  | 110 => ⟨S4096x4096, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S_, .i32⟩
  | 117 => ⟨S4096x4096, .i32⟩
  | 118 => ⟨S4096x4096, .i32⟩
  | 119 => ⟨S4096x4096, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S_, .i32⟩
  | 126 => ⟨S4096x4096, .i32⟩
  | 127 => ⟨S4096x4096, .i32⟩
  | _ => ⟨S1x4096x128, .f32⟩

abbrev hbmTy0_19 (i : Nat) : BufTy := match i % 128 with
  | 0 => ⟨S4096x4096, .i32⟩
  | 1 => ⟨S4096x4096, .i32⟩
  | 2 => ⟨S4096x4096, .i32⟩
  | 3 => ⟨S4096x4096, .i32⟩
  | 4 => ⟨S4096x4096, .i32⟩
  | 5 => ⟨S4096x4096, .i32⟩
  | 6 => ⟨S_, .i32⟩
  | 7 => ⟨S4096x4096, .i32⟩
  | 8 => ⟨S4096x4096, .i32⟩
  | 9 => ⟨S4096x4096, .i32⟩
  | 10 => ⟨S_, .i32⟩
  | 11 => ⟨S4096x4096, .i32⟩
  | 12 => ⟨S4096x4096, .i32⟩
  | 13 => ⟨S_, .i32⟩
  | 14 => ⟨S4096x4096, .i32⟩
  | 15 => ⟨S4096x4096, .i32⟩
  | 16 => ⟨S4096x4096, .f32⟩
  | 17 => ⟨S_, .f32⟩
  | 18 => ⟨S4096x4096, .f32⟩
  | 19 => ⟨S4096x4096, .f32⟩
  | 20 => ⟨S1x1, .f32⟩
  | 21 => ⟨S4096x4096, .f32⟩
  | 22 => ⟨S4096x4096, .f32⟩
  | 23 => ⟨S4096x4096, .f32⟩
  | 24 => ⟨S4096x4096, .f32⟩
  | 25 => ⟨S4096x4096, .f32⟩
  | 26 => ⟨S4096x4096, .f32⟩
  | 27 => ⟨S_, .f32⟩
  | 28 => ⟨S_, .f32⟩
  | 29 => ⟨S4096x4096, .f32⟩
  | 30 => ⟨S4096x4096, .f32⟩
  | 31 => ⟨S4096x4096, .f32⟩
  | 32 => ⟨S4096x4096, .f32⟩
  | 33 => ⟨S4096x4096, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S1, .f32⟩
  | 41 => ⟨S_, .f32⟩
  | 42 => ⟨S1, .f32⟩
  | 43 => ⟨S_, .f32⟩
  | 44 => ⟨S1, .f32⟩
  | 45 => ⟨S_, .f32⟩
  | 46 => ⟨S1, .f32⟩
  | 47 => ⟨S_, .f32⟩
  | 48 => ⟨S1, .f32⟩
  | 49 => ⟨S_, .f32⟩
  | 50 => ⟨S4096x4096, .f32⟩
  | 51 => ⟨S4096x4096, .f32⟩
  | 52 => ⟨S4096x4096, .f32⟩
  | 53 => ⟨S4096x4096, .f32⟩
  | 54 => ⟨S4096x4096, .f32⟩
  | 55 => ⟨S4096x4096, .f32⟩
  | 56 => ⟨S4096x4096, .f32⟩
  | 57 => ⟨S4096x4096, .f32⟩
  | 58 => ⟨S4096x4096, .f32⟩
  | 59 => ⟨S4096x4096, .f32⟩
  | 60 => ⟨S4096x4096, .f32⟩
  | 61 => ⟨S4096x4096, .f32⟩
  | 62 => ⟨S4096x4096, .f32⟩
  | 63 => ⟨S4096x4096, .f32⟩
  | 64 => ⟨S4096x4096, .f32⟩
  | 65 => ⟨S4096x4096, .f32⟩
  | 66 => ⟨S4096x4096, .f32⟩
  | 67 => ⟨S4096x4096, .f32⟩
  | 68 => ⟨S4096x4096, .f32⟩
  | 69 => ⟨S4096x4096, .f32⟩
  | 70 => ⟨S4096x4096, .f32⟩
  | 71 => ⟨S4096x4096, .f32⟩
  | 72 => ⟨S4096x4096, .f32⟩
  | 73 => ⟨S4096x4096, .f32⟩
  | 74 => ⟨S4096x4096, .f32⟩
  | 75 => ⟨S_, .f32⟩
  | 76 => ⟨S_, .f32⟩
  | 77 => ⟨S4096x4096, .f32⟩
  | 78 => ⟨S4096x4096, .f32⟩
  | 79 => ⟨S_, .f32⟩
  | 80 => ⟨S_, .f32⟩
  | 81 => ⟨S1x1, .f32⟩
  | 82 => ⟨S1x1, .f32⟩
  | 83 => ⟨S1, .i32⟩
  | 84 => ⟨S_, .i32⟩
  | 85 => ⟨S1, .i32⟩
  | 86 => ⟨S_, .i32⟩
  | 87 => ⟨S4096x4096, .i64⟩
  | 88 => ⟨S4096x4096, .i64⟩
  | 89 => ⟨S_, .i64⟩
  | 90 => ⟨S4096x4096, .i64⟩
  | 91 => ⟨S4096x4096, .i64⟩
  | 92 => ⟨S_, .i64⟩
  | 93 => ⟨S4096x4096, .i64⟩
  | 94 => ⟨S4096x4096, .i64⟩
  | 95 => ⟨S4096x4096, .i64⟩
  | 96 => ⟨S_, .i64⟩
  | 97 => ⟨S4096x4096, .i64⟩
  | 98 => ⟨S4096x4096, .i64⟩
  | 99 => ⟨S4096x4096, .i32⟩
  | 100 => ⟨S4096x4096, .i32⟩
  | 101 => ⟨S_, .i32⟩
  | 102 => ⟨S_, .i32⟩
  | 103 => ⟨S_, .i32⟩
  | 104 => ⟨S4096x4096, .i32⟩
  | 105 => ⟨S4096x4096, .i32⟩
  | 106 => ⟨S4096x4096, .i32⟩
  | 107 => ⟨S4096x4096, .i32⟩
  | 108 => ⟨S4096x4096, .i32⟩
  | 109 => ⟨S_, .i32⟩
  | 110 => ⟨S4096x4096, .i32⟩
  | 111 => ⟨S4096x4096, .i32⟩
  | 112 => ⟨S_, .i32⟩
  | 113 => ⟨S4096x4096, .i32⟩
  | 114 => ⟨S4096x4096, .i32⟩
  | 115 => ⟨S4096x4096, .i32⟩
  | 116 => ⟨S4096x4096, .i32⟩
  | 117 => ⟨S4096x4096, .i32⟩
  | 118 => ⟨S_, .i32⟩
  | 119 => ⟨S4096x4096, .i32⟩
  | 120 => ⟨S4096x4096, .i32⟩
  | 121 => ⟨S_, .i32⟩
  | 122 => ⟨S4096x4096, .i32⟩
  | 123 => ⟨S4096x4096, .i32⟩
  | 124 => ⟨S4096x4096, .i32⟩
  | 125 => ⟨S4096x4096, .i32⟩
  | 126 => ⟨S4096x4096, .i32⟩
  | 127 => ⟨S_, .i32⟩
  | _ => ⟨S1x4096x128, .f32⟩

abbrev hbmTy0_20 (i : Nat) : BufTy := match i % 128 with
  | 0 => ⟨S4096x4096, .i32⟩
  | 1 => ⟨S4096x4096, .i32⟩
  | 2 => ⟨S_, .i32⟩
  | 3 => ⟨S4096x4096, .i32⟩
  | 4 => ⟨S4096x4096, .i32⟩
  | 5 => ⟨S4096x4096, .i32⟩
  | 6 => ⟨S4096x4096, .i32⟩
  | 7 => ⟨S4096x4096, .i32⟩
  | 8 => ⟨S_, .i32⟩
  | 9 => ⟨S4096x4096, .i32⟩
  | 10 => ⟨S4096x4096, .i32⟩
  | 11 => ⟨S_, .i32⟩
  | 12 => ⟨S4096x4096, .i32⟩
  | 13 => ⟨S4096x4096, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S_, .i32⟩
  | 21 => ⟨S4096x4096, .i32⟩
  | 22 => ⟨S4096x4096, .i32⟩
  | 23 => ⟨S4096x4096, .i32⟩
  | 24 => ⟨S_, .i32⟩
  | 25 => ⟨S4096x4096, .i32⟩
  | 26 => ⟨S4096x4096, .i32⟩
  | 27 => ⟨S_, .i32⟩
  | 28 => ⟨S4096x4096, .i32⟩
  | 29 => ⟨S4096x4096, .i32⟩
  | 30 => ⟨S4096x4096, .i32⟩
  | 31 => ⟨S4096x4096, .i32⟩
  | 32 => ⟨S4096x4096, .i32⟩
  | 33 => ⟨S_, .i32⟩
  | 34 => ⟨S4096x4096, .i32⟩
  | 35 => ⟨S4096x4096, .i32⟩
  | 36 => ⟨S_, .i32⟩
  | 37 => ⟨S4096x4096, .i32⟩
  | 38 => ⟨S4096x4096, .i32⟩
  | 39 => ⟨S4096x4096, .i32⟩
  | 40 => ⟨S4096x4096, .i32⟩
  | 41 => ⟨S4096x4096, .i32⟩
  | 42 => ⟨S_, .i32⟩
  | 43 => ⟨S4096x4096, .i32⟩
  | 44 => ⟨S4096x4096, .i32⟩
  | 45 => ⟨S_, .i32⟩
  | 46 => ⟨S4096x4096, .i32⟩
  | 47 => ⟨S4096x4096, .i32⟩
  | 48 => ⟨S4096x4096, .i32⟩
  | 49 => ⟨S4096x4096, .i32⟩
  | 50 => ⟨S4096x4096, .i32⟩
  | 51 => ⟨S_, .i32⟩
  | 52 => ⟨S4096x4096, .i32⟩
  | 53 => ⟨S4096x4096, .i32⟩
  | 54 => ⟨S_, .i32⟩
  | 55 => ⟨S4096x4096, .i32⟩
  | 56 => ⟨S4096x4096, .i32⟩
  | 57 => ⟨S4096x4096, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S4096x4096, .i32⟩
  | 67 => ⟨S_, .i32⟩
  | 68 => ⟨S4096x4096, .i32⟩
  | 69 => ⟨S4096x4096, .i32⟩
  | 70 => ⟨S_, .i32⟩
  | 71 => ⟨S4096x4096, .i32⟩
  | 72 => ⟨S4096x4096, .i32⟩
  | 73 => ⟨S4096x4096, .i32⟩
  | 74 => ⟨S4096x4096, .i32⟩
  | 75 => ⟨S4096x4096, .i32⟩
  | 76 => ⟨S_, .i32⟩
  | 77 => ⟨S4096x4096, .i32⟩
  | 78 => ⟨S4096x4096, .i32⟩
  | 79 => ⟨S_, .i32⟩
  | 80 => ⟨S4096x4096, .i32⟩
  | 81 => ⟨S4096x4096, .i32⟩
  | 82 => ⟨S4096x4096, .i32⟩
  | 83 => ⟨S4096x4096, .i32⟩
  | 84 => ⟨S4096x4096, .i32⟩
  | 85 => ⟨S_, .i32⟩
  | 86 => ⟨S4096x4096, .i32⟩
  | 87 => ⟨S4096x4096, .i32⟩
  | 88 => ⟨S_, .i32⟩
  | 89 => ⟨S4096x4096, .i32⟩
  | 90 => ⟨S4096x4096, .i32⟩
  | 91 => ⟨S4096x4096, .i32⟩
  | 92 => ⟨S4096x4096, .i32⟩
  | 93 => ⟨S4096x4096, .i32⟩
  | 94 => ⟨S_, .i32⟩
  | 95 => ⟨S4096x4096, .i32⟩
  | 96 => ⟨S4096x4096, .i32⟩
  | 97 => ⟨S_, .i32⟩
  | 98 => ⟨S4096x4096, .i32⟩
  | 99 => ⟨S4096x4096, .i32⟩
  | 100 => ⟨S4096x4096, .i32⟩
  | 101 => ⟨S4096x4096, .i32⟩
  | 102 => ⟨S4096x4096, .i32⟩
  | 103 => ⟨S4096x4096, .i32⟩
  | 104 => ⟨S4096x4096, .i32⟩
  | 105 => ⟨S4096x4096, .i32⟩
  | 106 => ⟨S_, .i32⟩
  | 107 => ⟨S4096x4096, .i32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S_, .i32⟩
  | 114 => ⟨S4096x4096, .i32⟩
  | 115 => ⟨S4096x4096, .i32⟩
  | 116 => ⟨S4096x4096, .i32⟩
  | 117 => ⟨S4096x4096, .i32⟩
  | 118 => ⟨S4096x4096, .i32⟩
  | 119 => ⟨S_, .i32⟩
  | 120 => ⟨S4096x4096, .i32⟩
  | 121 => ⟨S4096x4096, .i32⟩
  | 122 => ⟨S_, .i32⟩
  | 123 => ⟨S4096x4096, .i32⟩
  | 124 => ⟨S4096x4096, .i32⟩
  | 125 => ⟨S4096x4096, .i32⟩
  | 126 => ⟨S4096x4096, .i32⟩
  | 127 => ⟨S4096x4096, .i32⟩
  | _ => ⟨S1x4096x128, .f32⟩

abbrev hbmTy0_21 (i : Nat) : BufTy := match i % 128 with
  | 0 => ⟨S_, .i32⟩
  | 1 => ⟨S4096x4096, .i32⟩
  | 2 => ⟨S4096x4096, .i32⟩
  | 3 => ⟨S_, .i32⟩
  | 4 => ⟨S4096x4096, .i32⟩
  | 5 => ⟨S4096x4096, .i32⟩
  | 6 => ⟨S4096x4096, .i32⟩
  | 7 => ⟨S4096x4096, .i32⟩
  | 8 => ⟨S4096x4096, .i32⟩
  | 9 => ⟨S_, .i32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S4096x4096, .i32⟩
  | 16 => ⟨S4096x4096, .i32⟩
  | 17 => ⟨S4096x4096, .i32⟩
  | 18 => ⟨S4096x4096, .i32⟩
  | 19 => ⟨S4096x4096, .i32⟩
  | 20 => ⟨S4096x4096, .i32⟩
  | 21 => ⟨S_, .i32⟩
  | 22 => ⟨S4096x4096, .i32⟩
  | 23 => ⟨S4096x4096, .i32⟩
  | 24 => ⟨S4096x4096, .i32⟩
  | 25 => ⟨S_, .i32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i32⟩
  | 32 => ⟨S4096x4096, .i32⟩
  | 33 => ⟨S4096x4096, .i32⟩
  | 34 => ⟨S_, .i32⟩
  | 35 => ⟨S4096x4096, .i32⟩
  | 36 => ⟨S4096x4096, .i32⟩
  | 37 => ⟨S_, .i32⟩
  | 38 => ⟨S4096x4096, .i32⟩
  | 39 => ⟨S4096x4096, .i32⟩
  | 40 => ⟨S4096x4096, .i32⟩
  | 41 => ⟨S4096x4096, .i32⟩
  | 42 => ⟨S4096x4096, .i32⟩
  | 43 => ⟨S_, .i32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S4096x4096, .i32⟩
  | 50 => ⟨S4096x4096, .i32⟩
  | 51 => ⟨S4096x4096, .i32⟩
  | 52 => ⟨S_, .i32⟩
  | 53 => ⟨S4096x4096, .i32⟩
  | 54 => ⟨S4096x4096, .i32⟩
  | 55 => ⟨S_, .i32⟩
  | 56 => ⟨S4096x4096, .i32⟩
  | 57 => ⟨S4096x4096, .i32⟩
  | 58 => ⟨S4096x4096, .i32⟩
  | 59 => ⟨S4096x4096, .i32⟩
  | 60 => ⟨S4096x4096, .i32⟩
  | 61 => ⟨S4096x4096, .i32⟩
  | 62 => ⟨S4096x4096, .i32⟩
  | 63 => ⟨S4096x4096, .i32⟩
  | 64 => ⟨S_, .i32⟩
  | 65 => ⟨S4096x4096, .i32⟩
  | 66 => ⟨S4096x4096, .i32⟩
  | 67 => ⟨S4096x4096, .i32⟩
  | 68 => ⟨S_, .i32⟩
  | 69 => ⟨S4096x4096, .i32⟩
  | 70 => ⟨S4096x4096, .i32⟩
  | 71 => ⟨S_, .i32⟩
  | 72 => ⟨S4096x4096, .i32⟩
  | 73 => ⟨S4096x4096, .i32⟩
  | 74 => ⟨S4096x4096, .f32⟩
  | 75 => ⟨S_, .f32⟩
  | 76 => ⟨S4096x4096, .f32⟩
  | 77 => ⟨S4096x4096, .f32⟩
  | 78 => ⟨S1x1, .f32⟩
  | 79 => ⟨S4096x4096, .f32⟩
  | 80 => ⟨S4096x4096, .f32⟩
  | 81 => ⟨S4096x4096, .f32⟩
  | 82 => ⟨S4096x4096, .f32⟩
  | 83 => ⟨S4096x4096, .f32⟩
  | 84 => ⟨S4096x4096, .f32⟩
  | 85 => ⟨S_, .f32⟩
  | 86 => ⟨S_, .f32⟩
  | 87 => ⟨S4096x4096, .f32⟩
  | 88 => ⟨S4096x4096, .f32⟩
  | 89 => ⟨S4096x4096, .f32⟩
  | 90 => ⟨S4096x4096, .f32⟩
  | 91 => ⟨S4096x4096, .f32⟩
  | 92 => ⟨S1, .f32⟩
  | 93 => ⟨S_, .f32⟩
  | 94 => ⟨S1, .f32⟩
  | 95 => ⟨S_, .f32⟩
  | 96 => ⟨S1, .f32⟩
  | 97 => ⟨S_, .f32⟩
  | 98 => ⟨S1, .f32⟩
  | 99 => ⟨S_, .f32⟩
  | 100 => ⟨S1, .f32⟩
  | 101 => ⟨S_, .f32⟩
  | 102 => ⟨S1, .f32⟩
  | 103 => ⟨S_, .f32⟩
  | 104 => ⟨S1, .f32⟩
  | 105 => ⟨S_, .f32⟩
  | 106 => ⟨S1, .f32⟩
  | 107 => ⟨S_, .f32⟩
  | 108 => ⟨S4096x4096, .f32⟩
  | 109 => ⟨S4096x4096, .f32⟩
  | 110 => ⟨S4096x4096, .f32⟩
  | 111 => ⟨S4096x4096, .f32⟩
  | 112 => ⟨S4096x4096, .f32⟩
  | 113 => ⟨S4096x4096, .f32⟩
  | 114 => ⟨S4096x4096, .f32⟩
  | 115 => ⟨S4096x4096, .f32⟩
  | 116 => ⟨S4096x4096, .f32⟩
  | 117 => ⟨S4096x4096, .f32⟩
  | 118 => ⟨S4096x4096, .f32⟩
  | 119 => ⟨S4096x4096, .f32⟩
  | 120 => ⟨S4096x4096, .f32⟩
  | 121 => ⟨S4096x4096, .f32⟩
  | 122 => ⟨S4096x4096, .f32⟩
  | 123 => ⟨S4096x4096, .f32⟩
  | 124 => ⟨S4096x4096, .f32⟩
  | 125 => ⟨S4096x4096, .f32⟩
  | 126 => ⟨S4096x4096, .f32⟩
  | 127 => ⟨S4096x4096, .f32⟩
  | _ => ⟨S1x4096x128, .f32⟩

abbrev hbmTy0_22 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S_, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S_, .f32⟩
  | 14 => ⟨S_, .f32⟩
  | 15 => ⟨S4096x4096, .f32⟩
  | 16 => ⟨S4096x4096, .f32⟩
  | 17 => ⟨S4096x4096, .f32⟩
  | 18 => ⟨S4096x1x128, .f32⟩
  | 19 => ⟨S4096x128, .f32⟩
  | 20 => ⟨S4096x128, .f32⟩
  | 21 => ⟨S4096x1x128, .f32⟩
  | 22 => ⟨S1x4096x128, .f32⟩
  | 23 => ⟨S4096x128, .f32⟩
  | 24 => ⟨S4096x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S1x1, .f32⟩
  | 35 => ⟨S1x1, .f32⟩
  | 36 => ⟨S1, .i32⟩
  | 37 => ⟨S_, .i32⟩
  | 38 => ⟨S1, .i32⟩
  | 39 => ⟨S_, .i32⟩
  | 40 => ⟨S4096x128, .i64⟩
  | 41 => ⟨S4096x128, .i64⟩
  | 42 => ⟨S_, .i64⟩
  | 43 => ⟨S4096x128, .i64⟩
  | 44 => ⟨S4096x128, .i64⟩
  | 45 => ⟨S_, .i64⟩
  | 46 => ⟨S4096x128, .i64⟩
  | 47 => ⟨S4096x128, .i64⟩
  | 48 => ⟨S4096x128, .i64⟩
  | 49 => ⟨S_, .i64⟩
  | 50 => ⟨S4096x128, .i64⟩
  | 51 => ⟨S4096x128, .i64⟩
  | 52 => ⟨S4096x128, .i32⟩
  | 53 => ⟨S4096x128, .i32⟩
  | 54 => ⟨S_, .i32⟩
  | 55 => ⟨S_, .i32⟩
  | 56 => ⟨S_, .i32⟩
  | 57 => ⟨S4096x128, .i32⟩
  | 58 => ⟨S4096x128, .i32⟩
  | 59 => ⟨S4096x128, .i32⟩
  | 60 => ⟨S4096x128, .i32⟩
  | 61 => ⟨S4096x128, .i32⟩
  | 62 => ⟨S_, .i32⟩
  | 63 => ⟨S4096x128, .i32⟩
  | 64 => ⟨S4096x128, .i32⟩
  | 65 => ⟨S_, .i32⟩
  | 66 => ⟨S4096x128, .i32⟩
  | 67 => ⟨S4096x128, .i32⟩
  | 68 => ⟨S4096x128, .i32⟩
  | 69 => ⟨S4096x128, .i32⟩
  | 70 => ⟨S4096x128, .i32⟩
  | 71 => ⟨S_, .i32⟩
  | 72 => ⟨S4096x128, .i32⟩
  | 73 => ⟨S4096x128, .i32⟩
  | 74 => ⟨S_, .i32⟩
  | 75 => ⟨S4096x128, .i32⟩
  | 76 => ⟨S4096x128, .i32⟩
  | 77 => ⟨S4096x128, .i32⟩
  | 78 => ⟨S4096x128, .i32⟩
  | 79 => ⟨S4096x128, .i32⟩
  | 80 => ⟨S_, .i32⟩
  | 81 => ⟨S4096x128, .i32⟩
  | 82 => ⟨S4096x128, .i32⟩
  | 83 => ⟨S_, .i32⟩
  | 84 => ⟨S4096x128, .i32⟩
  | 85 => ⟨S4096x128, .i32⟩
  | 86 => ⟨S4096x128, .i32⟩
  | 87 => ⟨S4096x128, .i32⟩
  | 88 => ⟨S4096x128, .i32⟩
  | 89 => ⟨S_, .i32⟩
  | 90 => ⟨S4096x128, .i32⟩
  | 91 => ⟨S4096x128, .i32⟩
  | 92 => ⟨S_, .i32⟩
  | 93 => ⟨S4096x128, .i32⟩
  | 94 => ⟨S4096x128, .i32⟩
  | 95 => ⟨S4096x128, .i32⟩
  | 96 => ⟨S4096x128, .i32⟩
  | 97 => ⟨S4096x128, .i32⟩
  | 98 => ⟨S4096x128, .i32⟩
  | 99 => ⟨S4096x128, .i32⟩
  | 100 => ⟨S4096x128, .i32⟩
  | 101 => ⟨S_, .i32⟩
  | 102 => ⟨S4096x128, .i32⟩
  | 103 => ⟨S4096x128, .i32⟩
  | 104 => ⟨S4096x128, .i32⟩
  | 105 => ⟨S_, .i32⟩
  | 106 => ⟨S4096x128, .i32⟩
  | 107 => ⟨S4096x128, .i32⟩
  | 108 => ⟨S_, .i32⟩
  | 109 => ⟨S4096x128, .i32⟩
  | 110 => ⟨S4096x128, .i32⟩
  | 111 => ⟨S4096x128, .i32⟩
  | 112 => ⟨S4096x128, .i32⟩
  | 113 => ⟨S4096x128, .i32⟩
  | 114 => ⟨S_, .i32⟩
  | 115 => ⟨S4096x128, .i32⟩
  | 116 => ⟨S4096x128, .i32⟩
  | 117 => ⟨S_, .i32⟩
  | 118 => ⟨S4096x128, .i32⟩
  | 119 => ⟨S4096x128, .i32⟩
  | 120 => ⟨S4096x128, .i32⟩
  | 121 => ⟨S4096x128, .i32⟩
  | 122 => ⟨S4096x128, .i32⟩
  | 123 => ⟨S_, .i32⟩
  | 124 => ⟨S4096x128, .i32⟩
  | 125 => ⟨S4096x128, .i32⟩
  | 126 => ⟨S_, .i32⟩
  | 127 => ⟨S4096x128, .i32⟩
  | _ => ⟨S1x4096x128, .f32⟩

abbrev hbmTy0_23 (i : Nat) : BufTy := match i % 128 with
  | 0 => ⟨S4096x128, .i32⟩
  | 1 => ⟨S4096x128, .i32⟩
  | 2 => ⟨S4096x128, .i32⟩
  | 3 => ⟨S4096x128, .i32⟩
  | 4 => ⟨S_, .i32⟩
  | 5 => ⟨S4096x128, .i32⟩
  | 6 => ⟨S4096x128, .i32⟩
  | 7 => ⟨S_, .i32⟩
  | 8 => ⟨S4096x128, .i32⟩
  | 9 => ⟨S4096x128, .i32⟩
  | 10 => ⟨S4096x128, .i32⟩
  | 11 => ⟨S4096x128, .i32⟩
  | 12 => ⟨S4096x128, .i32⟩
  | 13 => ⟨S4096x128, .i32⟩
  | 14 => ⟨S4096x128, .i32⟩
  | 15 => ⟨S4096x128, .i32⟩
  | 16 => ⟨S_, .i32⟩
  | 17 => ⟨S4096x128, .i32⟩
  | 18 => ⟨S4096x128, .i32⟩
  | 19 => ⟨S4096x128, .i32⟩
  | 20 => ⟨S_, .i32⟩
  | 21 => ⟨S4096x128, .i32⟩
  | 22 => ⟨S4096x128, .i32⟩
  | 23 => ⟨S_, .i32⟩
  | 24 => ⟨S4096x128, .i32⟩
  | 25 => ⟨S4096x128, .i32⟩
  | 26 => ⟨S4096x128, .i32⟩
  | 27 => ⟨S4096x128, .i32⟩
  | 28 => ⟨S4096x128, .i32⟩
  | 29 => ⟨S_, .i32⟩
  | 30 => ⟨S4096x128, .i32⟩
  | 31 => ⟨S4096x128, .i32⟩
  | 32 => ⟨S_, .i32⟩
  | 33 => ⟨S4096x128, .i32⟩
  | 34 => ⟨S4096x128, .i32⟩
  | 35 => ⟨S4096x128, .i32⟩
  | 36 => ⟨S4096x128, .i32⟩
  | 37 => ⟨S4096x128, .i32⟩
  | 38 => ⟨S_, .i32⟩
  | 39 => ⟨S4096x128, .i32⟩
  | 40 => ⟨S4096x128, .i32⟩
  | 41 => ⟨S_, .i32⟩
  | 42 => ⟨S4096x128, .i32⟩
  | 43 => ⟨S4096x128, .i32⟩
  | 44 => ⟨S4096x128, .i32⟩
  | 45 => ⟨S4096x128, .i32⟩
  | 46 => ⟨S4096x128, .i32⟩
  | 47 => ⟨S_, .i32⟩
  | 48 => ⟨S4096x128, .i32⟩
  | 49 => ⟨S4096x128, .i32⟩
  | 50 => ⟨S_, .i32⟩
  | 51 => ⟨S4096x128, .i32⟩
  | 52 => ⟨S4096x128, .i32⟩
  | 53 => ⟨S4096x128, .i32⟩
  | 54 => ⟨S4096x128, .i32⟩
  | 55 => ⟨S4096x128, .i32⟩
  | 56 => ⟨S4096x128, .i32⟩
  | 57 => ⟨S4096x128, .i32⟩
  | 58 => ⟨S4096x128, .i32⟩
  | 59 => ⟨S_, .i32⟩
  | 60 => ⟨S4096x128, .i32⟩
  | 61 => ⟨S4096x128, .i32⟩
  | 62 => ⟨S4096x128, .i32⟩
  | 63 => ⟨S_, .i32⟩
  | 64 => ⟨S4096x128, .i32⟩
  | 65 => ⟨S4096x128, .i32⟩
  | 66 => ⟨S_, .i32⟩
  | 67 => ⟨S4096x128, .i32⟩
  | 68 => ⟨S4096x128, .i32⟩
  | 69 => ⟨S4096x128, .i32⟩
  | 70 => ⟨S4096x128, .i32⟩
  | 71 => ⟨S4096x128, .i32⟩
  | 72 => ⟨S_, .i32⟩
  | 73 => ⟨S4096x128, .i32⟩
  | 74 => ⟨S4096x128, .i32⟩
  | 75 => ⟨S_, .i32⟩
  | 76 => ⟨S4096x128, .i32⟩
  | 77 => ⟨S4096x128, .i32⟩
  | 78 => ⟨S4096x128, .i32⟩
  | 79 => ⟨S4096x128, .i32⟩
  | 80 => ⟨S4096x128, .i32⟩
  | 81 => ⟨S_, .i32⟩
  | 82 => ⟨S4096x128, .i32⟩
  | 83 => ⟨S4096x128, .i32⟩
  | 84 => ⟨S_, .i32⟩
  | 85 => ⟨S4096x128, .i32⟩
  | 86 => ⟨S4096x128, .i32⟩
  | 87 => ⟨S4096x128, .i32⟩
  | 88 => ⟨S4096x128, .i32⟩
  | 89 => ⟨S4096x128, .i32⟩
  | 90 => ⟨S_, .i32⟩
  | 91 => ⟨S4096x128, .i32⟩
  | 92 => ⟨S4096x128, .i32⟩
  | 93 => ⟨S_, .i32⟩
  | 94 => ⟨S4096x128, .i32⟩
  | 95 => ⟨S4096x128, .i32⟩
  | 96 => ⟨S4096x128, .i32⟩
  | 97 => ⟨S4096x128, .i32⟩
  | 98 => ⟨S4096x128, .i32⟩
  | 99 => ⟨S4096x128, .i32⟩
  | 100 => ⟨S4096x128, .i32⟩
  | 101 => ⟨S4096x128, .i32⟩
  | 102 => ⟨S_, .i32⟩
  | 103 => ⟨S4096x128, .i32⟩
  | 104 => ⟨S4096x128, .i32⟩
  | 105 => ⟨S4096x128, .i32⟩
  | 106 => ⟨S_, .i32⟩
  | 107 => ⟨S4096x128, .i32⟩
  | 108 => ⟨S4096x128, .i32⟩
  | 109 => ⟨S_, .i32⟩
  | 110 => ⟨S4096x128, .i32⟩
  | 111 => ⟨S4096x128, .i32⟩
  | 112 => ⟨S4096x128, .i32⟩
  | 113 => ⟨S4096x128, .i32⟩
  | 114 => ⟨S4096x128, .i32⟩
  | 115 => ⟨S_, .i32⟩
  | 116 => ⟨S4096x128, .i32⟩
  | 117 => ⟨S4096x128, .i32⟩
  | 118 => ⟨S_, .i32⟩
  | 119 => ⟨S4096x128, .i32⟩
  | 120 => ⟨S4096x128, .i32⟩
  | 121 => ⟨S4096x128, .i32⟩
  | 122 => ⟨S4096x128, .i32⟩
  | 123 => ⟨S4096x128, .i32⟩
  | 124 => ⟨S_, .i32⟩
  | 125 => ⟨S4096x128, .i32⟩
  | 126 => ⟨S4096x128, .i32⟩
  | 127 => ⟨S_, .i32⟩
  | _ => ⟨S1x4096x128, .f32⟩

abbrev hbmTy0_24 (i : Nat) : BufTy := match i % 128 with
  | 0 => ⟨S4096x128, .i32⟩
  | 1 => ⟨S4096x128, .i32⟩
  | 2 => ⟨S4096x128, .i32⟩
  | 3 => ⟨S4096x128, .i32⟩
  | 4 => ⟨S4096x128, .i32⟩
  | 5 => ⟨S_, .i32⟩
  | 6 => ⟨S4096x128, .i32⟩
  | 7 => ⟨S4096x128, .i32⟩
  | 8 => ⟨S_, .i32⟩
  | 9 => ⟨S4096x128, .i32⟩
  | 10 => ⟨S4096x128, .i32⟩
  | 11 => ⟨S4096x128, .i32⟩
  | 12 => ⟨S4096x128, .i32⟩
  | 13 => ⟨S4096x128, .i32⟩
  | 14 => ⟨S4096x128, .i32⟩
  | 15 => ⟨S4096x128, .i32⟩
  | 16 => ⟨S4096x128, .i32⟩
  | 17 => ⟨S_, .i32⟩
  | 18 => ⟨S4096x128, .i32⟩
  | 19 => ⟨S4096x128, .i32⟩
  | 20 => ⟨S4096x128, .i32⟩
  | 21 => ⟨S_, .i32⟩
  | 22 => ⟨S4096x128, .i32⟩
  | 23 => ⟨S4096x128, .i32⟩
  | 24 => ⟨S_, .i32⟩
  | 25 => ⟨S4096x128, .i32⟩
  | 26 => ⟨S4096x128, .i32⟩
  | 27 => ⟨S4096x128, .f32⟩
  | 28 => ⟨S_, .f32⟩
  | 29 => ⟨S4096x128, .f32⟩
  | 30 => ⟨S4096x128, .f32⟩
  | 31 => ⟨S1x1, .f32⟩
  | 32 => ⟨S4096x128, .f32⟩
  | 33 => ⟨S4096x128, .f32⟩
  | 34 => ⟨S4096x128, .f32⟩
  | 35 => ⟨S4096x128, .f32⟩
  | 36 => ⟨S4096x128, .f32⟩
  | 37 => ⟨S4096x128, .f32⟩
  | 38 => ⟨S_, .f32⟩
  | 39 => ⟨S_, .f32⟩
  | 40 => ⟨S4096x128, .f32⟩
  | 41 => ⟨S4096x128, .f32⟩
  | 42 => ⟨S4096x128, .f32⟩
  | 43 => ⟨S4096x128, .f32⟩
  | 44 => ⟨S4096x128, .f32⟩
  | 45 => ⟨S1, .f32⟩
  | 46 => ⟨S_, .f32⟩
  | 47 => ⟨S1, .f32⟩
  | 48 => ⟨S_, .f32⟩
  | 49 => ⟨S1, .f32⟩
  | 50 => ⟨S_, .f32⟩
  | 51 => ⟨S1, .f32⟩
  | 52 => ⟨S_, .f32⟩
  | 53 => ⟨S1, .f32⟩
  | 54 => ⟨S_, .f32⟩
  | 55 => ⟨S1, .f32⟩
  | 56 => ⟨S_, .f32⟩
  | 57 => ⟨S1, .f32⟩
  | 58 => ⟨S_, .f32⟩
  | 59 => ⟨S1, .f32⟩
  | 60 => ⟨S_, .f32⟩
  | 61 => ⟨S4096x128, .f32⟩
  | 62 => ⟨S4096x128, .f32⟩
  | 63 => ⟨S4096x128, .f32⟩
  | 64 => ⟨S4096x128, .f32⟩
  | 65 => ⟨S4096x128, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S4096x128, .f32⟩
  | 72 => ⟨S4096x128, .f32⟩
  | 73 => ⟨S4096x128, .f32⟩
  | 74 => ⟨S4096x128, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x128, .f32⟩
  | 83 => ⟨S4096x128, .f32⟩
  | 84 => ⟨S4096x128, .f32⟩
  | 85 => ⟨S4096x128, .f32⟩
  | 86 => ⟨S4096x128, .f32⟩
  | 87 => ⟨S4096x128, .f32⟩
  | 88 => ⟨S1x4096x128, .f32⟩
  | 89 => ⟨S1x4096x128, .f32⟩
  | 90 => ⟨S128x128, .f32⟩
  | 91 => ⟨S1x4096x128, .f32⟩
  | 92 => ⟨S1x4096x128, .f32⟩
  | _ => ⟨S1x4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | _ => ⟨S1x4096x128, .f32⟩

abbrev bufTy : (tb : Table) → Fin (tcTables nBuf tb) → BufTy
  | .hbm, ⟨i, _⟩ => hbmTy i
  | _, _ => ⟨S1x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_c : Ref sig .tc := ⟨.hbm, 10, rfl⟩
abbrev main_c_5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_6 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c : Ref sig .tc := ⟨.hbm, 25, rfl⟩
abbrev main_call0_v5 : Ref sig .tc := ⟨.hbm, 26, rfl⟩
abbrev main_call0_v6 : Ref sig .tc := ⟨.hbm, 27, rfl⟩
abbrev main_call0_c_0 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_call0_v0 : Ref sig .tc := ⟨.hbm, 33, rfl⟩
abbrev main_call0_call0_c : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_c_0 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_c_1 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_call0_v12 : Ref sig .tc := ⟨.hbm, 48, rfl⟩
abbrev main_call0_call0_v13 : Ref sig .tc := ⟨.hbm, 49, rfl⟩
abbrev main_call0_call0_c_2 : Ref sig .tc := ⟨.hbm, 50, rfl⟩
abbrev main_call0_call0_v14 : Ref sig .tc := ⟨.hbm, 51, rfl⟩
abbrev main_call0_call0_v15 : Ref sig .tc := ⟨.hbm, 52, rfl⟩
abbrev main_call0_call0_c_3 : Ref sig .tc := ⟨.hbm, 53, rfl⟩
abbrev main_call0_call0_v16 : Ref sig .tc := ⟨.hbm, 54, rfl⟩
abbrev main_call0_call0_v17 : Ref sig .tc := ⟨.hbm, 55, rfl⟩
abbrev main_call0_call0_v18 : Ref sig .tc := ⟨.hbm, 56, rfl⟩
abbrev main_call0_call0_v19 : Ref sig .tc := ⟨.hbm, 57, rfl⟩
abbrev main_call0_call0_v20 : Ref sig .tc := ⟨.hbm, 58, rfl⟩
abbrev main_call0_call0_c_4 : Ref sig .tc := ⟨.hbm, 59, rfl⟩
abbrev main_call0_call0_v21 : Ref sig .tc := ⟨.hbm, 60, rfl⟩
abbrev main_call0_call0_v22 : Ref sig .tc := ⟨.hbm, 61, rfl⟩
abbrev main_call0_call0_c_5 : Ref sig .tc := ⟨.hbm, 62, rfl⟩
abbrev main_call0_call0_v23 : Ref sig .tc := ⟨.hbm, 63, rfl⟩
abbrev main_call0_call0_v24 : Ref sig .tc := ⟨.hbm, 64, rfl⟩
abbrev main_call0_call0_v25 : Ref sig .tc := ⟨.hbm, 65, rfl⟩
abbrev main_call0_call0_v26 : Ref sig .tc := ⟨.hbm, 66, rfl⟩
abbrev main_call0_call0_v27 : Ref sig .tc := ⟨.hbm, 67, rfl⟩
abbrev main_call0_call0_c_6 : Ref sig .tc := ⟨.hbm, 68, rfl⟩
abbrev main_call0_call0_v28 : Ref sig .tc := ⟨.hbm, 69, rfl⟩
abbrev main_call0_call0_v29 : Ref sig .tc := ⟨.hbm, 70, rfl⟩
abbrev main_call0_call0_c_7 : Ref sig .tc := ⟨.hbm, 71, rfl⟩
abbrev main_call0_call0_v30 : Ref sig .tc := ⟨.hbm, 72, rfl⟩
abbrev main_call0_call0_v31 : Ref sig .tc := ⟨.hbm, 73, rfl⟩
abbrev main_call0_call0_v32 : Ref sig .tc := ⟨.hbm, 74, rfl⟩
abbrev main_call0_call0_v33 : Ref sig .tc := ⟨.hbm, 75, rfl⟩
abbrev main_call0_call0_v34 : Ref sig .tc := ⟨.hbm, 76, rfl⟩
abbrev main_call0_call0_v35 : Ref sig .tc := ⟨.hbm, 77, rfl⟩
abbrev main_call0_call0_v36 : Ref sig .tc := ⟨.hbm, 78, rfl⟩
abbrev main_call0_call0_v37 : Ref sig .tc := ⟨.hbm, 79, rfl⟩
abbrev main_call0_call0_c_8 : Ref sig .tc := ⟨.hbm, 80, rfl⟩
abbrev main_call0_call0_v38 : Ref sig .tc := ⟨.hbm, 81, rfl⟩
abbrev main_call0_call0_v39 : Ref sig .tc := ⟨.hbm, 82, rfl⟩
abbrev main_call0_call0_v40 : Ref sig .tc := ⟨.hbm, 83, rfl⟩
abbrev main_call0_call0_c_9 : Ref sig .tc := ⟨.hbm, 84, rfl⟩
abbrev main_call0_call0_v41 : Ref sig .tc := ⟨.hbm, 85, rfl⟩
abbrev main_call0_call0_v42 : Ref sig .tc := ⟨.hbm, 86, rfl⟩
abbrev main_call0_call0_c_10 : Ref sig .tc := ⟨.hbm, 87, rfl⟩
abbrev main_call0_call0_v43 : Ref sig .tc := ⟨.hbm, 88, rfl⟩
abbrev main_call0_call0_v44 : Ref sig .tc := ⟨.hbm, 89, rfl⟩
abbrev main_call0_call0_v45 : Ref sig .tc := ⟨.hbm, 90, rfl⟩
abbrev main_call0_call0_v46 : Ref sig .tc := ⟨.hbm, 91, rfl⟩
abbrev main_call0_call0_v47 : Ref sig .tc := ⟨.hbm, 92, rfl⟩
abbrev main_call0_call0_c_11 : Ref sig .tc := ⟨.hbm, 93, rfl⟩
abbrev main_call0_call0_v48 : Ref sig .tc := ⟨.hbm, 94, rfl⟩
abbrev main_call0_call0_v49 : Ref sig .tc := ⟨.hbm, 95, rfl⟩
abbrev main_call0_call0_c_12 : Ref sig .tc := ⟨.hbm, 96, rfl⟩
abbrev main_call0_call0_v50 : Ref sig .tc := ⟨.hbm, 97, rfl⟩
abbrev main_call0_call0_v51 : Ref sig .tc := ⟨.hbm, 98, rfl⟩
abbrev main_call0_call0_v52 : Ref sig .tc := ⟨.hbm, 99, rfl⟩
abbrev main_call0_call0_v53 : Ref sig .tc := ⟨.hbm, 100, rfl⟩
abbrev main_call0_call0_v54 : Ref sig .tc := ⟨.hbm, 101, rfl⟩
abbrev main_call0_call0_c_13 : Ref sig .tc := ⟨.hbm, 102, rfl⟩
abbrev main_call0_call0_v55 : Ref sig .tc := ⟨.hbm, 103, rfl⟩
abbrev main_call0_call0_v56 : Ref sig .tc := ⟨.hbm, 104, rfl⟩
abbrev main_call0_call0_c_14 : Ref sig .tc := ⟨.hbm, 105, rfl⟩
abbrev main_call0_call0_v57 : Ref sig .tc := ⟨.hbm, 106, rfl⟩
abbrev main_call0_call0_v58 : Ref sig .tc := ⟨.hbm, 107, rfl⟩
abbrev main_call0_call0_v59 : Ref sig .tc := ⟨.hbm, 108, rfl⟩
abbrev main_call0_call0_v60 : Ref sig .tc := ⟨.hbm, 109, rfl⟩
abbrev main_call0_call0_v61 : Ref sig .tc := ⟨.hbm, 110, rfl⟩
abbrev main_call0_call0_c_15 : Ref sig .tc := ⟨.hbm, 111, rfl⟩
abbrev main_call0_call0_v62 : Ref sig .tc := ⟨.hbm, 112, rfl⟩
abbrev main_call0_call0_v63 : Ref sig .tc := ⟨.hbm, 113, rfl⟩
abbrev main_call0_call0_c_16 : Ref sig .tc := ⟨.hbm, 114, rfl⟩
abbrev main_call0_call0_v64 : Ref sig .tc := ⟨.hbm, 115, rfl⟩
abbrev main_call0_call0_v65 : Ref sig .tc := ⟨.hbm, 116, rfl⟩
abbrev main_call0_call0_v66 : Ref sig .tc := ⟨.hbm, 117, rfl⟩
abbrev main_call0_call0_v67 : Ref sig .tc := ⟨.hbm, 118, rfl⟩
abbrev main_call0_call0_v68 : Ref sig .tc := ⟨.hbm, 119, rfl⟩
abbrev main_call0_call0_v69 : Ref sig .tc := ⟨.hbm, 120, rfl⟩
abbrev main_call0_call0_v70 : Ref sig .tc := ⟨.hbm, 121, rfl⟩
abbrev main_call0_call0_v71 : Ref sig .tc := ⟨.hbm, 122, rfl⟩
abbrev main_call0_call0_c_17 : Ref sig .tc := ⟨.hbm, 123, rfl⟩
abbrev main_call0_call0_v72 : Ref sig .tc := ⟨.hbm, 124, rfl⟩
abbrev main_call0_call0_v73 : Ref sig .tc := ⟨.hbm, 125, rfl⟩
abbrev main_call0_call0_v74 : Ref sig .tc := ⟨.hbm, 126, rfl⟩
abbrev main_call0_call0_c_18 : Ref sig .tc := ⟨.hbm, 127, rfl⟩
abbrev main_call0_call0_v75 : Ref sig .tc := ⟨.hbm, 128, rfl⟩
abbrev main_call0_call0_v76 : Ref sig .tc := ⟨.hbm, 129, rfl⟩
abbrev main_call0_call0_c_19 : Ref sig .tc := ⟨.hbm, 130, rfl⟩
abbrev main_call0_call0_v77 : Ref sig .tc := ⟨.hbm, 131, rfl⟩
abbrev main_call0_call0_v78 : Ref sig .tc := ⟨.hbm, 132, rfl⟩
abbrev main_call0_call0_v79 : Ref sig .tc := ⟨.hbm, 133, rfl⟩
abbrev main_call0_call0_v80 : Ref sig .tc := ⟨.hbm, 134, rfl⟩
abbrev main_call0_call0_v81 : Ref sig .tc := ⟨.hbm, 135, rfl⟩
abbrev main_call0_call0_c_20 : Ref sig .tc := ⟨.hbm, 136, rfl⟩
abbrev main_call0_call0_v82 : Ref sig .tc := ⟨.hbm, 137, rfl⟩
abbrev main_call0_call0_v83 : Ref sig .tc := ⟨.hbm, 138, rfl⟩
abbrev main_call0_call0_c_21 : Ref sig .tc := ⟨.hbm, 139, rfl⟩
abbrev main_call0_call0_v84 : Ref sig .tc := ⟨.hbm, 140, rfl⟩
abbrev main_call0_call0_v85 : Ref sig .tc := ⟨.hbm, 141, rfl⟩
abbrev main_call0_call0_v86 : Ref sig .tc := ⟨.hbm, 142, rfl⟩
abbrev main_call0_call0_v87 : Ref sig .tc := ⟨.hbm, 143, rfl⟩
abbrev main_call0_call0_v88 : Ref sig .tc := ⟨.hbm, 144, rfl⟩
abbrev main_call0_call0_c_22 : Ref sig .tc := ⟨.hbm, 145, rfl⟩
abbrev main_call0_call0_v89 : Ref sig .tc := ⟨.hbm, 146, rfl⟩
abbrev main_call0_call0_v90 : Ref sig .tc := ⟨.hbm, 147, rfl⟩
abbrev main_call0_call0_c_23 : Ref sig .tc := ⟨.hbm, 148, rfl⟩
abbrev main_call0_call0_v91 : Ref sig .tc := ⟨.hbm, 149, rfl⟩
abbrev main_call0_call0_v92 : Ref sig .tc := ⟨.hbm, 150, rfl⟩
abbrev main_call0_call0_v93 : Ref sig .tc := ⟨.hbm, 151, rfl⟩
abbrev main_call0_call0_v94 : Ref sig .tc := ⟨.hbm, 152, rfl⟩
abbrev main_call0_call0_v95 : Ref sig .tc := ⟨.hbm, 153, rfl⟩
abbrev main_call0_call0_c_24 : Ref sig .tc := ⟨.hbm, 154, rfl⟩
abbrev main_call0_call0_v96 : Ref sig .tc := ⟨.hbm, 155, rfl⟩
abbrev main_call0_call0_v97 : Ref sig .tc := ⟨.hbm, 156, rfl⟩
abbrev main_call0_call0_c_25 : Ref sig .tc := ⟨.hbm, 157, rfl⟩
abbrev main_call0_call0_v98 : Ref sig .tc := ⟨.hbm, 158, rfl⟩
abbrev main_call0_call0_v99 : Ref sig .tc := ⟨.hbm, 159, rfl⟩
abbrev main_call0_call0_v100 : Ref sig .tc := ⟨.hbm, 160, rfl⟩
abbrev main_call0_call0_v101 : Ref sig .tc := ⟨.hbm, 161, rfl⟩
abbrev main_call0_call0_v102 : Ref sig .tc := ⟨.hbm, 162, rfl⟩
abbrev main_call0_call0_v103 : Ref sig .tc := ⟨.hbm, 163, rfl⟩
abbrev main_call0_call0_v104 : Ref sig .tc := ⟨.hbm, 164, rfl⟩
abbrev main_call0_call0_v105 : Ref sig .tc := ⟨.hbm, 165, rfl⟩
abbrev main_call0_call0_c_26 : Ref sig .tc := ⟨.hbm, 166, rfl⟩
abbrev main_call0_call0_v106 : Ref sig .tc := ⟨.hbm, 167, rfl⟩
abbrev main_call0_call0_v107 : Ref sig .tc := ⟨.hbm, 168, rfl⟩
abbrev main_call0_call0_v108 : Ref sig .tc := ⟨.hbm, 169, rfl⟩
abbrev main_call0_call0_c_27 : Ref sig .tc := ⟨.hbm, 170, rfl⟩
abbrev main_call0_call0_v109 : Ref sig .tc := ⟨.hbm, 171, rfl⟩
abbrev main_call0_call0_v110 : Ref sig .tc := ⟨.hbm, 172, rfl⟩
abbrev main_call0_call0_c_28 : Ref sig .tc := ⟨.hbm, 173, rfl⟩
abbrev main_call0_call0_v111 : Ref sig .tc := ⟨.hbm, 174, rfl⟩
abbrev main_call0_call0_v112 : Ref sig .tc := ⟨.hbm, 175, rfl⟩
abbrev main_call0_call0_v113 : Ref sig .tc := ⟨.hbm, 176, rfl⟩
abbrev main_call0_call0_v114 : Ref sig .tc := ⟨.hbm, 177, rfl⟩
abbrev main_call0_call0_v115 : Ref sig .tc := ⟨.hbm, 178, rfl⟩
abbrev main_call0_call0_c_29 : Ref sig .tc := ⟨.hbm, 179, rfl⟩
abbrev main_call0_call0_v116 : Ref sig .tc := ⟨.hbm, 180, rfl⟩
abbrev main_call0_call0_v117 : Ref sig .tc := ⟨.hbm, 181, rfl⟩
abbrev main_call0_call0_c_30 : Ref sig .tc := ⟨.hbm, 182, rfl⟩
abbrev main_call0_call0_v118 : Ref sig .tc := ⟨.hbm, 183, rfl⟩
abbrev main_call0_call0_v119 : Ref sig .tc := ⟨.hbm, 184, rfl⟩
abbrev main_call0_call0_v120 : Ref sig .tc := ⟨.hbm, 185, rfl⟩
abbrev main_call0_call0_v121 : Ref sig .tc := ⟨.hbm, 186, rfl⟩
abbrev main_call0_call0_v122 : Ref sig .tc := ⟨.hbm, 187, rfl⟩
abbrev main_call0_call0_c_31 : Ref sig .tc := ⟨.hbm, 188, rfl⟩
abbrev main_call0_call0_v123 : Ref sig .tc := ⟨.hbm, 189, rfl⟩
abbrev main_call0_call0_v124 : Ref sig .tc := ⟨.hbm, 190, rfl⟩
abbrev main_call0_call0_c_32 : Ref sig .tc := ⟨.hbm, 191, rfl⟩
abbrev main_call0_call0_v125 : Ref sig .tc := ⟨.hbm, 192, rfl⟩
abbrev main_call0_call0_v126 : Ref sig .tc := ⟨.hbm, 193, rfl⟩
abbrev main_call0_call0_v127 : Ref sig .tc := ⟨.hbm, 194, rfl⟩
abbrev main_call0_call0_v128 : Ref sig .tc := ⟨.hbm, 195, rfl⟩
abbrev main_call0_call0_v129 : Ref sig .tc := ⟨.hbm, 196, rfl⟩
abbrev main_call0_call0_c_33 : Ref sig .tc := ⟨.hbm, 197, rfl⟩
abbrev main_call0_call0_v130 : Ref sig .tc := ⟨.hbm, 198, rfl⟩
abbrev main_call0_call0_v131 : Ref sig .tc := ⟨.hbm, 199, rfl⟩
abbrev main_call0_call0_c_34 : Ref sig .tc := ⟨.hbm, 200, rfl⟩
abbrev main_call0_call0_v132 : Ref sig .tc := ⟨.hbm, 201, rfl⟩
abbrev main_call0_call0_v133 : Ref sig .tc := ⟨.hbm, 202, rfl⟩
abbrev main_call0_call0_v134 : Ref sig .tc := ⟨.hbm, 203, rfl⟩
abbrev main_call0_call0_v135 : Ref sig .tc := ⟨.hbm, 204, rfl⟩
abbrev main_call0_call0_v136 : Ref sig .tc := ⟨.hbm, 205, rfl⟩
abbrev main_call0_call0_v137 : Ref sig .tc := ⟨.hbm, 206, rfl⟩
abbrev main_call0_call0_v138 : Ref sig .tc := ⟨.hbm, 207, rfl⟩
abbrev main_call0_call0_v139 : Ref sig .tc := ⟨.hbm, 208, rfl⟩
abbrev main_call0_call0_c_35 : Ref sig .tc := ⟨.hbm, 209, rfl⟩
abbrev main_call0_call0_v140 : Ref sig .tc := ⟨.hbm, 210, rfl⟩
abbrev main_call0_call0_v141 : Ref sig .tc := ⟨.hbm, 211, rfl⟩
abbrev main_call0_call0_v142 : Ref sig .tc := ⟨.hbm, 212, rfl⟩
abbrev main_call0_call0_c_36 : Ref sig .tc := ⟨.hbm, 213, rfl⟩
abbrev main_call0_call0_v143 : Ref sig .tc := ⟨.hbm, 214, rfl⟩
abbrev main_call0_call0_v144 : Ref sig .tc := ⟨.hbm, 215, rfl⟩
abbrev main_call0_call0_c_37 : Ref sig .tc := ⟨.hbm, 216, rfl⟩
abbrev main_call0_call0_v145 : Ref sig .tc := ⟨.hbm, 217, rfl⟩
abbrev main_call0_call0_v146 : Ref sig .tc := ⟨.hbm, 218, rfl⟩
abbrev main_call0_call0_v147 : Ref sig .tc := ⟨.hbm, 219, rfl⟩
abbrev main_call0_call0_v148 : Ref sig .tc := ⟨.hbm, 220, rfl⟩
abbrev main_call0_call0_v149 : Ref sig .tc := ⟨.hbm, 221, rfl⟩
abbrev main_call0_call0_c_38 : Ref sig .tc := ⟨.hbm, 222, rfl⟩
abbrev main_call0_call0_v150 : Ref sig .tc := ⟨.hbm, 223, rfl⟩
abbrev main_call0_call0_v151 : Ref sig .tc := ⟨.hbm, 224, rfl⟩
abbrev main_call0_call0_c_39 : Ref sig .tc := ⟨.hbm, 225, rfl⟩
abbrev main_call0_call0_v152 : Ref sig .tc := ⟨.hbm, 226, rfl⟩
abbrev main_call0_call0_v153 : Ref sig .tc := ⟨.hbm, 227, rfl⟩
abbrev main_call0_call0_v154 : Ref sig .tc := ⟨.hbm, 228, rfl⟩
abbrev main_call0_call0_v155 : Ref sig .tc := ⟨.hbm, 229, rfl⟩
abbrev main_call0_call0_v156 : Ref sig .tc := ⟨.hbm, 230, rfl⟩
abbrev main_call0_call0_c_40 : Ref sig .tc := ⟨.hbm, 231, rfl⟩
abbrev main_call0_call0_v157 : Ref sig .tc := ⟨.hbm, 232, rfl⟩
abbrev main_call0_call0_v158 : Ref sig .tc := ⟨.hbm, 233, rfl⟩
abbrev main_call0_call0_c_41 : Ref sig .tc := ⟨.hbm, 234, rfl⟩
abbrev main_call0_call0_v159 : Ref sig .tc := ⟨.hbm, 235, rfl⟩
abbrev main_call0_call0_v160 : Ref sig .tc := ⟨.hbm, 236, rfl⟩
abbrev main_call0_call0_v161 : Ref sig .tc := ⟨.hbm, 237, rfl⟩
abbrev main_call0_call0_v162 : Ref sig .tc := ⟨.hbm, 238, rfl⟩
abbrev main_call0_call0_v163 : Ref sig .tc := ⟨.hbm, 239, rfl⟩
abbrev main_call0_call0_c_42 : Ref sig .tc := ⟨.hbm, 240, rfl⟩
abbrev main_call0_call0_v164 : Ref sig .tc := ⟨.hbm, 241, rfl⟩
abbrev main_call0_call0_v165 : Ref sig .tc := ⟨.hbm, 242, rfl⟩
abbrev main_call0_call0_c_43 : Ref sig .tc := ⟨.hbm, 243, rfl⟩
abbrev main_call0_call0_v166 : Ref sig .tc := ⟨.hbm, 244, rfl⟩
abbrev main_call0_call0_v167 : Ref sig .tc := ⟨.hbm, 245, rfl⟩
abbrev main_call0_call0_v168 : Ref sig .tc := ⟨.hbm, 246, rfl⟩
abbrev main_call0_call0_v169 : Ref sig .tc := ⟨.hbm, 247, rfl⟩
abbrev main_call0_call0_v170 : Ref sig .tc := ⟨.hbm, 248, rfl⟩
abbrev main_call0_v11_0 : Ref sig .tc := ⟨.hbm, 249, rfl⟩
abbrev main_call0_call0_v172 : Ref sig .tc := ⟨.hbm, 250, rfl⟩
abbrev main_call0_call0_v173 : Ref sig .tc := ⟨.hbm, 251, rfl⟩
abbrev main_call0_call0_c_44 : Ref sig .tc := ⟨.hbm, 252, rfl⟩
abbrev main_call0_call0_v174 : Ref sig .tc := ⟨.hbm, 253, rfl⟩
abbrev main_call0_v11_1 : Ref sig .tc := ⟨.hbm, 254, rfl⟩
abbrev main_call0_v12 : Ref sig .tc := ⟨.hbm, 255, rfl⟩
abbrev main_call0_v13 : Ref sig .tc := ⟨.hbm, 256, rfl⟩
abbrev main_v7 : Ref sig .tc := ⟨.hbm, 257, rfl⟩
abbrev main_v8 : Ref sig .tc := ⟨.hbm, 258, rfl⟩
abbrev main_v9 : Ref sig .tc := ⟨.hbm, 259, rfl⟩
abbrev main_call1_v0 : Ref sig .tc := ⟨.hbm, 260, rfl⟩
abbrev main_call1_v1 : Ref sig .tc := ⟨.hbm, 261, rfl⟩
abbrev main_call1_v2 : Ref sig .tc := ⟨.hbm, 262, rfl⟩
abbrev main_call1_v3 : Ref sig .tc := ⟨.hbm, 263, rfl⟩
abbrev main_call1_v4 : Ref sig .tc := ⟨.hbm, 264, rfl⟩
abbrev main_call1_c : Ref sig .tc := ⟨.hbm, 265, rfl⟩
abbrev main_call1_v5 : Ref sig .tc := ⟨.hbm, 266, rfl⟩
abbrev main_call1_v6 : Ref sig .tc := ⟨.hbm, 267, rfl⟩
abbrev main_call1_c_0 : Ref sig .tc := ⟨.hbm, 268, rfl⟩
abbrev main_call1_v7 : Ref sig .tc := ⟨.hbm, 269, rfl⟩
abbrev main_call1_v8 : Ref sig .tc := ⟨.hbm, 270, rfl⟩
abbrev main_call1_v9 : Ref sig .tc := ⟨.hbm, 271, rfl⟩
abbrev main_call1_v10 : Ref sig .tc := ⟨.hbm, 272, rfl⟩
abbrev main_call1_call0_v0 : Ref sig .tc := ⟨.hbm, 273, rfl⟩
abbrev main_call1_call0_c : Ref sig .tc := ⟨.hbm, 274, rfl⟩
abbrev main_call1_call0_v1 : Ref sig .tc := ⟨.hbm, 275, rfl⟩
abbrev main_call1_call0_v2 : Ref sig .tc := ⟨.hbm, 276, rfl⟩
abbrev main_call1_call0_v3 : Ref sig .tc := ⟨.hbm, 277, rfl⟩
abbrev main_call1_call0_v4 : Ref sig .tc := ⟨.hbm, 278, rfl⟩
abbrev main_call1_call0_v5 : Ref sig .tc := ⟨.hbm, 279, rfl⟩
abbrev main_call1_call0_v6 : Ref sig .tc := ⟨.hbm, 280, rfl⟩
abbrev main_call1_call0_c_0 : Ref sig .tc := ⟨.hbm, 281, rfl⟩
abbrev main_call1_call0_v7 : Ref sig .tc := ⟨.hbm, 282, rfl⟩
abbrev main_call1_call0_v8 : Ref sig .tc := ⟨.hbm, 283, rfl⟩
abbrev main_call1_call0_c_1 : Ref sig .tc := ⟨.hbm, 284, rfl⟩
abbrev main_call1_call0_v9 : Ref sig .tc := ⟨.hbm, 285, rfl⟩
abbrev main_call1_call0_v10 : Ref sig .tc := ⟨.hbm, 286, rfl⟩
abbrev main_call1_call0_v11 : Ref sig .tc := ⟨.hbm, 287, rfl⟩
abbrev main_call1_call0_v12 : Ref sig .tc := ⟨.hbm, 288, rfl⟩
abbrev main_call1_call0_v13 : Ref sig .tc := ⟨.hbm, 289, rfl⟩
abbrev main_call1_call0_c_2 : Ref sig .tc := ⟨.hbm, 290, rfl⟩
abbrev main_call1_call0_v14 : Ref sig .tc := ⟨.hbm, 291, rfl⟩
abbrev main_call1_call0_v15 : Ref sig .tc := ⟨.hbm, 292, rfl⟩
abbrev main_call1_call0_c_3 : Ref sig .tc := ⟨.hbm, 293, rfl⟩
abbrev main_call1_call0_v16 : Ref sig .tc := ⟨.hbm, 294, rfl⟩
abbrev main_call1_call0_v17 : Ref sig .tc := ⟨.hbm, 295, rfl⟩
abbrev main_call1_call0_v18 : Ref sig .tc := ⟨.hbm, 296, rfl⟩
abbrev main_call1_call0_v19 : Ref sig .tc := ⟨.hbm, 297, rfl⟩
abbrev main_call1_call0_v20 : Ref sig .tc := ⟨.hbm, 298, rfl⟩
abbrev main_call1_call0_c_4 : Ref sig .tc := ⟨.hbm, 299, rfl⟩
abbrev main_call1_call0_v21 : Ref sig .tc := ⟨.hbm, 300, rfl⟩
abbrev main_call1_call0_v22 : Ref sig .tc := ⟨.hbm, 301, rfl⟩
abbrev main_call1_call0_c_5 : Ref sig .tc := ⟨.hbm, 302, rfl⟩
abbrev main_call1_call0_v23 : Ref sig .tc := ⟨.hbm, 303, rfl⟩
abbrev main_call1_call0_v24 : Ref sig .tc := ⟨.hbm, 304, rfl⟩
abbrev main_call1_call0_v25 : Ref sig .tc := ⟨.hbm, 305, rfl⟩
abbrev main_call1_call0_v26 : Ref sig .tc := ⟨.hbm, 306, rfl⟩
abbrev main_call1_call0_v27 : Ref sig .tc := ⟨.hbm, 307, rfl⟩
abbrev main_call1_call0_c_6 : Ref sig .tc := ⟨.hbm, 308, rfl⟩
abbrev main_call1_call0_v28 : Ref sig .tc := ⟨.hbm, 309, rfl⟩
abbrev main_call1_call0_v29 : Ref sig .tc := ⟨.hbm, 310, rfl⟩
abbrev main_call1_call0_c_7 : Ref sig .tc := ⟨.hbm, 311, rfl⟩
abbrev main_call1_call0_v30 : Ref sig .tc := ⟨.hbm, 312, rfl⟩
abbrev main_call1_call0_v31 : Ref sig .tc := ⟨.hbm, 313, rfl⟩
abbrev main_call1_call0_v32 : Ref sig .tc := ⟨.hbm, 314, rfl⟩
abbrev main_call1_call0_v33 : Ref sig .tc := ⟨.hbm, 315, rfl⟩
abbrev main_call1_call0_v34 : Ref sig .tc := ⟨.hbm, 316, rfl⟩
abbrev main_call1_call0_v35 : Ref sig .tc := ⟨.hbm, 317, rfl⟩
abbrev main_call1_call0_v36 : Ref sig .tc := ⟨.hbm, 318, rfl⟩
abbrev main_call1_call0_v37 : Ref sig .tc := ⟨.hbm, 319, rfl⟩
abbrev main_call1_call0_c_8 : Ref sig .tc := ⟨.hbm, 320, rfl⟩
abbrev main_call1_call0_v38 : Ref sig .tc := ⟨.hbm, 321, rfl⟩
abbrev main_call1_call0_v39 : Ref sig .tc := ⟨.hbm, 322, rfl⟩
abbrev main_call1_call0_v40 : Ref sig .tc := ⟨.hbm, 323, rfl⟩
abbrev main_call1_call0_c_9 : Ref sig .tc := ⟨.hbm, 324, rfl⟩
abbrev main_call1_call0_v41 : Ref sig .tc := ⟨.hbm, 325, rfl⟩
abbrev main_call1_call0_v42 : Ref sig .tc := ⟨.hbm, 326, rfl⟩
abbrev main_call1_call0_c_10 : Ref sig .tc := ⟨.hbm, 327, rfl⟩
abbrev main_call1_call0_v43 : Ref sig .tc := ⟨.hbm, 328, rfl⟩
abbrev main_call1_call0_v44 : Ref sig .tc := ⟨.hbm, 329, rfl⟩
abbrev main_call1_call0_v45 : Ref sig .tc := ⟨.hbm, 330, rfl⟩
abbrev main_call1_call0_v46 : Ref sig .tc := ⟨.hbm, 331, rfl⟩
abbrev main_call1_call0_v47 : Ref sig .tc := ⟨.hbm, 332, rfl⟩
abbrev main_call1_call0_c_11 : Ref sig .tc := ⟨.hbm, 333, rfl⟩
abbrev main_call1_call0_v48 : Ref sig .tc := ⟨.hbm, 334, rfl⟩
abbrev main_call1_call0_v49 : Ref sig .tc := ⟨.hbm, 335, rfl⟩
abbrev main_call1_call0_c_12 : Ref sig .tc := ⟨.hbm, 336, rfl⟩
abbrev main_call1_call0_v50 : Ref sig .tc := ⟨.hbm, 337, rfl⟩
abbrev main_call1_call0_v51 : Ref sig .tc := ⟨.hbm, 338, rfl⟩
abbrev main_call1_call0_v52 : Ref sig .tc := ⟨.hbm, 339, rfl⟩
abbrev main_call1_call0_v53 : Ref sig .tc := ⟨.hbm, 340, rfl⟩
abbrev main_call1_call0_v54 : Ref sig .tc := ⟨.hbm, 341, rfl⟩
abbrev main_call1_call0_c_13 : Ref sig .tc := ⟨.hbm, 342, rfl⟩
abbrev main_call1_call0_v55 : Ref sig .tc := ⟨.hbm, 343, rfl⟩
abbrev main_call1_call0_v56 : Ref sig .tc := ⟨.hbm, 344, rfl⟩
abbrev main_call1_call0_c_14 : Ref sig .tc := ⟨.hbm, 345, rfl⟩
abbrev main_call1_call0_v57 : Ref sig .tc := ⟨.hbm, 346, rfl⟩
abbrev main_call1_call0_v58 : Ref sig .tc := ⟨.hbm, 347, rfl⟩
abbrev main_call1_call0_v59 : Ref sig .tc := ⟨.hbm, 348, rfl⟩
abbrev main_call1_call0_v60 : Ref sig .tc := ⟨.hbm, 349, rfl⟩
abbrev main_call1_call0_v61 : Ref sig .tc := ⟨.hbm, 350, rfl⟩
abbrev main_call1_call0_c_15 : Ref sig .tc := ⟨.hbm, 351, rfl⟩
abbrev main_call1_call0_v62 : Ref sig .tc := ⟨.hbm, 352, rfl⟩
abbrev main_call1_call0_v63 : Ref sig .tc := ⟨.hbm, 353, rfl⟩
abbrev main_call1_call0_c_16 : Ref sig .tc := ⟨.hbm, 354, rfl⟩
abbrev main_call1_call0_v64 : Ref sig .tc := ⟨.hbm, 355, rfl⟩
abbrev main_call1_call0_v65 : Ref sig .tc := ⟨.hbm, 356, rfl⟩
abbrev main_call1_call0_v66 : Ref sig .tc := ⟨.hbm, 357, rfl⟩
abbrev main_call1_call0_v67 : Ref sig .tc := ⟨.hbm, 358, rfl⟩
abbrev main_call1_call0_v68 : Ref sig .tc := ⟨.hbm, 359, rfl⟩
abbrev main_call1_call0_v69 : Ref sig .tc := ⟨.hbm, 360, rfl⟩
abbrev main_call1_call0_v70 : Ref sig .tc := ⟨.hbm, 361, rfl⟩
abbrev main_call1_call0_v71 : Ref sig .tc := ⟨.hbm, 362, rfl⟩
abbrev main_call1_call0_c_17 : Ref sig .tc := ⟨.hbm, 363, rfl⟩
abbrev main_call1_call0_v72 : Ref sig .tc := ⟨.hbm, 364, rfl⟩
abbrev main_call1_call0_v73 : Ref sig .tc := ⟨.hbm, 365, rfl⟩
abbrev main_call1_call0_v74 : Ref sig .tc := ⟨.hbm, 366, rfl⟩
abbrev main_call1_call0_c_18 : Ref sig .tc := ⟨.hbm, 367, rfl⟩
abbrev main_call1_call0_v75 : Ref sig .tc := ⟨.hbm, 368, rfl⟩
abbrev main_call1_call0_v76 : Ref sig .tc := ⟨.hbm, 369, rfl⟩
abbrev main_call1_call0_c_19 : Ref sig .tc := ⟨.hbm, 370, rfl⟩
abbrev main_call1_call0_v77 : Ref sig .tc := ⟨.hbm, 371, rfl⟩
abbrev main_call1_call0_v78 : Ref sig .tc := ⟨.hbm, 372, rfl⟩
abbrev main_call1_call0_v79 : Ref sig .tc := ⟨.hbm, 373, rfl⟩
abbrev main_call1_call0_v80 : Ref sig .tc := ⟨.hbm, 374, rfl⟩
abbrev main_call1_call0_v81 : Ref sig .tc := ⟨.hbm, 375, rfl⟩
abbrev main_call1_call0_c_20 : Ref sig .tc := ⟨.hbm, 376, rfl⟩
abbrev main_call1_call0_v82 : Ref sig .tc := ⟨.hbm, 377, rfl⟩
abbrev main_call1_call0_v83 : Ref sig .tc := ⟨.hbm, 378, rfl⟩
abbrev main_call1_call0_c_21 : Ref sig .tc := ⟨.hbm, 379, rfl⟩
abbrev main_call1_call0_v84 : Ref sig .tc := ⟨.hbm, 380, rfl⟩
abbrev main_call1_call0_v85 : Ref sig .tc := ⟨.hbm, 381, rfl⟩
abbrev main_call1_call0_v86 : Ref sig .tc := ⟨.hbm, 382, rfl⟩
abbrev main_call1_call0_v87 : Ref sig .tc := ⟨.hbm, 383, rfl⟩
abbrev main_call1_call0_v88 : Ref sig .tc := ⟨.hbm, 384, rfl⟩
abbrev main_call1_call0_c_22 : Ref sig .tc := ⟨.hbm, 385, rfl⟩
abbrev main_call1_call0_v89 : Ref sig .tc := ⟨.hbm, 386, rfl⟩
abbrev main_call1_call0_v90 : Ref sig .tc := ⟨.hbm, 387, rfl⟩
abbrev main_call1_call0_c_23 : Ref sig .tc := ⟨.hbm, 388, rfl⟩
abbrev main_call1_call0_v91 : Ref sig .tc := ⟨.hbm, 389, rfl⟩
abbrev main_call1_call0_v92 : Ref sig .tc := ⟨.hbm, 390, rfl⟩
abbrev main_call1_call0_v93 : Ref sig .tc := ⟨.hbm, 391, rfl⟩
abbrev main_call1_call0_v94 : Ref sig .tc := ⟨.hbm, 392, rfl⟩
abbrev main_call1_call0_v95 : Ref sig .tc := ⟨.hbm, 393, rfl⟩
abbrev main_call1_call0_c_24 : Ref sig .tc := ⟨.hbm, 394, rfl⟩
abbrev main_call1_call0_v96 : Ref sig .tc := ⟨.hbm, 395, rfl⟩
abbrev main_call1_call0_v97 : Ref sig .tc := ⟨.hbm, 396, rfl⟩
abbrev main_call1_call0_c_25 : Ref sig .tc := ⟨.hbm, 397, rfl⟩
abbrev main_call1_call0_v98 : Ref sig .tc := ⟨.hbm, 398, rfl⟩
abbrev main_call1_call0_v99 : Ref sig .tc := ⟨.hbm, 399, rfl⟩
abbrev main_call1_call0_v100 : Ref sig .tc := ⟨.hbm, 400, rfl⟩
abbrev main_call1_call0_v101 : Ref sig .tc := ⟨.hbm, 401, rfl⟩
abbrev main_call1_call0_v102 : Ref sig .tc := ⟨.hbm, 402, rfl⟩
abbrev main_call1_call0_v103 : Ref sig .tc := ⟨.hbm, 403, rfl⟩
abbrev main_call1_call0_v104 : Ref sig .tc := ⟨.hbm, 404, rfl⟩
abbrev main_call1_call0_v105 : Ref sig .tc := ⟨.hbm, 405, rfl⟩
abbrev main_call1_call0_c_26 : Ref sig .tc := ⟨.hbm, 406, rfl⟩
abbrev main_call1_call0_v106 : Ref sig .tc := ⟨.hbm, 407, rfl⟩
abbrev main_call1_call0_v107 : Ref sig .tc := ⟨.hbm, 408, rfl⟩
abbrev main_call1_call0_v108 : Ref sig .tc := ⟨.hbm, 409, rfl⟩
abbrev main_call1_call0_c_27 : Ref sig .tc := ⟨.hbm, 410, rfl⟩
abbrev main_call1_call0_v109 : Ref sig .tc := ⟨.hbm, 411, rfl⟩
abbrev main_call1_call0_v110 : Ref sig .tc := ⟨.hbm, 412, rfl⟩
abbrev main_call1_call0_c_28 : Ref sig .tc := ⟨.hbm, 413, rfl⟩
abbrev main_call1_call0_v111 : Ref sig .tc := ⟨.hbm, 414, rfl⟩
abbrev main_call1_call0_v112 : Ref sig .tc := ⟨.hbm, 415, rfl⟩
abbrev main_call1_call0_v113 : Ref sig .tc := ⟨.hbm, 416, rfl⟩
abbrev main_call1_call0_v114 : Ref sig .tc := ⟨.hbm, 417, rfl⟩
abbrev main_call1_call0_v115 : Ref sig .tc := ⟨.hbm, 418, rfl⟩
abbrev main_call1_call0_c_29 : Ref sig .tc := ⟨.hbm, 419, rfl⟩
abbrev main_call1_call0_v116 : Ref sig .tc := ⟨.hbm, 420, rfl⟩
abbrev main_call1_call0_v117 : Ref sig .tc := ⟨.hbm, 421, rfl⟩
abbrev main_call1_call0_c_30 : Ref sig .tc := ⟨.hbm, 422, rfl⟩
abbrev main_call1_call0_v118 : Ref sig .tc := ⟨.hbm, 423, rfl⟩
abbrev main_call1_call0_v119 : Ref sig .tc := ⟨.hbm, 424, rfl⟩
abbrev main_call1_call0_v120 : Ref sig .tc := ⟨.hbm, 425, rfl⟩
abbrev main_call1_call0_v121 : Ref sig .tc := ⟨.hbm, 426, rfl⟩
abbrev main_call1_call0_v122 : Ref sig .tc := ⟨.hbm, 427, rfl⟩
abbrev main_call1_call0_c_31 : Ref sig .tc := ⟨.hbm, 428, rfl⟩
abbrev main_call1_call0_v123 : Ref sig .tc := ⟨.hbm, 429, rfl⟩
abbrev main_call1_call0_v124 : Ref sig .tc := ⟨.hbm, 430, rfl⟩
abbrev main_call1_call0_c_32 : Ref sig .tc := ⟨.hbm, 431, rfl⟩
abbrev main_call1_call0_v125 : Ref sig .tc := ⟨.hbm, 432, rfl⟩
abbrev main_call1_call0_v126 : Ref sig .tc := ⟨.hbm, 433, rfl⟩
abbrev main_call1_call0_v127 : Ref sig .tc := ⟨.hbm, 434, rfl⟩
abbrev main_call1_call0_v128 : Ref sig .tc := ⟨.hbm, 435, rfl⟩
abbrev main_call1_call0_v129 : Ref sig .tc := ⟨.hbm, 436, rfl⟩
abbrev main_call1_call0_c_33 : Ref sig .tc := ⟨.hbm, 437, rfl⟩
abbrev main_call1_call0_v130 : Ref sig .tc := ⟨.hbm, 438, rfl⟩
abbrev main_call1_call0_v131 : Ref sig .tc := ⟨.hbm, 439, rfl⟩
abbrev main_call1_call0_c_34 : Ref sig .tc := ⟨.hbm, 440, rfl⟩
abbrev main_call1_call0_v132 : Ref sig .tc := ⟨.hbm, 441, rfl⟩
abbrev main_call1_call0_v133 : Ref sig .tc := ⟨.hbm, 442, rfl⟩
abbrev main_call1_call0_v134 : Ref sig .tc := ⟨.hbm, 443, rfl⟩
abbrev main_call1_call0_v135 : Ref sig .tc := ⟨.hbm, 444, rfl⟩
abbrev main_call1_call0_v136 : Ref sig .tc := ⟨.hbm, 445, rfl⟩
abbrev main_call1_call0_v137 : Ref sig .tc := ⟨.hbm, 446, rfl⟩
abbrev main_call1_call0_v138 : Ref sig .tc := ⟨.hbm, 447, rfl⟩
abbrev main_call1_call0_v139 : Ref sig .tc := ⟨.hbm, 448, rfl⟩
abbrev main_call1_call0_c_35 : Ref sig .tc := ⟨.hbm, 449, rfl⟩
abbrev main_call1_call0_v140 : Ref sig .tc := ⟨.hbm, 450, rfl⟩
abbrev main_call1_call0_v141 : Ref sig .tc := ⟨.hbm, 451, rfl⟩
abbrev main_call1_call0_v142 : Ref sig .tc := ⟨.hbm, 452, rfl⟩
abbrev main_call1_call0_c_36 : Ref sig .tc := ⟨.hbm, 453, rfl⟩
abbrev main_call1_call0_v143 : Ref sig .tc := ⟨.hbm, 454, rfl⟩
abbrev main_call1_call0_v144 : Ref sig .tc := ⟨.hbm, 455, rfl⟩
abbrev main_call1_call0_c_37 : Ref sig .tc := ⟨.hbm, 456, rfl⟩
abbrev main_call1_call0_v145 : Ref sig .tc := ⟨.hbm, 457, rfl⟩
abbrev main_call1_call0_v146 : Ref sig .tc := ⟨.hbm, 458, rfl⟩
abbrev main_call1_call0_v147 : Ref sig .tc := ⟨.hbm, 459, rfl⟩
abbrev main_call1_call0_v148 : Ref sig .tc := ⟨.hbm, 460, rfl⟩
abbrev main_call1_call0_v149 : Ref sig .tc := ⟨.hbm, 461, rfl⟩
abbrev main_call1_call0_c_38 : Ref sig .tc := ⟨.hbm, 462, rfl⟩
abbrev main_call1_call0_v150 : Ref sig .tc := ⟨.hbm, 463, rfl⟩
abbrev main_call1_call0_v151 : Ref sig .tc := ⟨.hbm, 464, rfl⟩
abbrev main_call1_call0_c_39 : Ref sig .tc := ⟨.hbm, 465, rfl⟩
abbrev main_call1_call0_v152 : Ref sig .tc := ⟨.hbm, 466, rfl⟩
abbrev main_call1_call0_v153 : Ref sig .tc := ⟨.hbm, 467, rfl⟩
abbrev main_call1_call0_v154 : Ref sig .tc := ⟨.hbm, 468, rfl⟩
abbrev main_call1_call0_v155 : Ref sig .tc := ⟨.hbm, 469, rfl⟩
abbrev main_call1_call0_v156 : Ref sig .tc := ⟨.hbm, 470, rfl⟩
abbrev main_call1_call0_c_40 : Ref sig .tc := ⟨.hbm, 471, rfl⟩
abbrev main_call1_call0_v157 : Ref sig .tc := ⟨.hbm, 472, rfl⟩
abbrev main_call1_call0_v158 : Ref sig .tc := ⟨.hbm, 473, rfl⟩
abbrev main_call1_call0_c_41 : Ref sig .tc := ⟨.hbm, 474, rfl⟩
abbrev main_call1_call0_v159 : Ref sig .tc := ⟨.hbm, 475, rfl⟩
abbrev main_call1_call0_v160 : Ref sig .tc := ⟨.hbm, 476, rfl⟩
abbrev main_call1_call0_v161 : Ref sig .tc := ⟨.hbm, 477, rfl⟩
abbrev main_call1_call0_v162 : Ref sig .tc := ⟨.hbm, 478, rfl⟩
abbrev main_call1_call0_v163 : Ref sig .tc := ⟨.hbm, 479, rfl⟩
abbrev main_call1_call0_c_42 : Ref sig .tc := ⟨.hbm, 480, rfl⟩
abbrev main_call1_call0_v164 : Ref sig .tc := ⟨.hbm, 481, rfl⟩
abbrev main_call1_call0_v165 : Ref sig .tc := ⟨.hbm, 482, rfl⟩
abbrev main_call1_call0_c_43 : Ref sig .tc := ⟨.hbm, 483, rfl⟩
abbrev main_call1_call0_v166 : Ref sig .tc := ⟨.hbm, 484, rfl⟩
abbrev main_call1_call0_v167 : Ref sig .tc := ⟨.hbm, 485, rfl⟩
abbrev main_call1_call0_v168 : Ref sig .tc := ⟨.hbm, 486, rfl⟩
abbrev main_call1_call0_v169 : Ref sig .tc := ⟨.hbm, 487, rfl⟩
abbrev main_call1_call0_v170 : Ref sig .tc := ⟨.hbm, 488, rfl⟩
abbrev main_call1_v11_0 : Ref sig .tc := ⟨.hbm, 489, rfl⟩
abbrev main_call1_call0_v172 : Ref sig .tc := ⟨.hbm, 490, rfl⟩
abbrev main_call1_call0_v173 : Ref sig .tc := ⟨.hbm, 491, rfl⟩
abbrev main_call1_call0_c_44 : Ref sig .tc := ⟨.hbm, 492, rfl⟩
abbrev main_call1_call0_v174 : Ref sig .tc := ⟨.hbm, 493, rfl⟩
abbrev main_call1_v11_1 : Ref sig .tc := ⟨.hbm, 494, rfl⟩
abbrev main_call1_v12 : Ref sig .tc := ⟨.hbm, 495, rfl⟩
abbrev main_call1_v13 : Ref sig .tc := ⟨.hbm, 496, rfl⟩
abbrev main_v10 : Ref sig .tc := ⟨.hbm, 497, rfl⟩
abbrev main_v11 : Ref sig .tc := ⟨.hbm, 498, rfl⟩
abbrev main_v12 : Ref sig .tc := ⟨.hbm, 499, rfl⟩
abbrev main_v13 : Ref sig .tc := ⟨.hbm, 500, rfl⟩
abbrev main_v14 : Ref sig .tc := ⟨.hbm, 501, rfl⟩
abbrev main_call2_v0 : Ref sig .tc := ⟨.hbm, 502, rfl⟩
abbrev main_call2_v1 : Ref sig .tc := ⟨.hbm, 503, rfl⟩
abbrev main_call2_v2 : Ref sig .tc := ⟨.hbm, 504, rfl⟩
abbrev main_call2_v3 : Ref sig .tc := ⟨.hbm, 505, rfl⟩
abbrev main_call2_v4 : Ref sig .tc := ⟨.hbm, 506, rfl⟩
abbrev main_call2_c : Ref sig .tc := ⟨.hbm, 507, rfl⟩
abbrev main_call2_v5 : Ref sig .tc := ⟨.hbm, 508, rfl⟩
abbrev main_call2_v6 : Ref sig .tc := ⟨.hbm, 509, rfl⟩
abbrev main_call2_c_0 : Ref sig .tc := ⟨.hbm, 510, rfl⟩
abbrev main_call2_v7 : Ref sig .tc := ⟨.hbm, 511, rfl⟩
abbrev main_call2_v8 : Ref sig .tc := ⟨.hbm, 512, rfl⟩
abbrev main_call2_v9 : Ref sig .tc := ⟨.hbm, 513, rfl⟩
abbrev main_call2_v10 : Ref sig .tc := ⟨.hbm, 514, rfl⟩
abbrev main_call2_call0_v0 : Ref sig .tc := ⟨.hbm, 515, rfl⟩
abbrev main_call2_call0_c : Ref sig .tc := ⟨.hbm, 516, rfl⟩
abbrev main_call2_call0_v1 : Ref sig .tc := ⟨.hbm, 517, rfl⟩
abbrev main_call2_call0_v2 : Ref sig .tc := ⟨.hbm, 518, rfl⟩
abbrev main_call2_call0_v3 : Ref sig .tc := ⟨.hbm, 519, rfl⟩
abbrev main_call2_call0_v4 : Ref sig .tc := ⟨.hbm, 520, rfl⟩
abbrev main_call2_call0_v5 : Ref sig .tc := ⟨.hbm, 521, rfl⟩
abbrev main_call2_call0_v6 : Ref sig .tc := ⟨.hbm, 522, rfl⟩
abbrev main_call2_call0_c_0 : Ref sig .tc := ⟨.hbm, 523, rfl⟩
abbrev main_call2_call0_v7 : Ref sig .tc := ⟨.hbm, 524, rfl⟩
abbrev main_call2_call0_v8 : Ref sig .tc := ⟨.hbm, 525, rfl⟩
abbrev main_call2_call0_c_1 : Ref sig .tc := ⟨.hbm, 526, rfl⟩
abbrev main_call2_call0_v9 : Ref sig .tc := ⟨.hbm, 527, rfl⟩
abbrev main_call2_call0_v10 : Ref sig .tc := ⟨.hbm, 528, rfl⟩
abbrev main_call2_call0_v11 : Ref sig .tc := ⟨.hbm, 529, rfl⟩
abbrev main_call2_call0_v12 : Ref sig .tc := ⟨.hbm, 530, rfl⟩
abbrev main_call2_call0_v13 : Ref sig .tc := ⟨.hbm, 531, rfl⟩
abbrev main_call2_call0_c_2 : Ref sig .tc := ⟨.hbm, 532, rfl⟩
abbrev main_call2_call0_v14 : Ref sig .tc := ⟨.hbm, 533, rfl⟩
abbrev main_call2_call0_v15 : Ref sig .tc := ⟨.hbm, 534, rfl⟩
abbrev main_call2_call0_c_3 : Ref sig .tc := ⟨.hbm, 535, rfl⟩
abbrev main_call2_call0_v16 : Ref sig .tc := ⟨.hbm, 536, rfl⟩
abbrev main_call2_call0_v17 : Ref sig .tc := ⟨.hbm, 537, rfl⟩
abbrev main_call2_call0_v18 : Ref sig .tc := ⟨.hbm, 538, rfl⟩
abbrev main_call2_call0_v19 : Ref sig .tc := ⟨.hbm, 539, rfl⟩
abbrev main_call2_call0_v20 : Ref sig .tc := ⟨.hbm, 540, rfl⟩
abbrev main_call2_call0_c_4 : Ref sig .tc := ⟨.hbm, 541, rfl⟩
abbrev main_call2_call0_v21 : Ref sig .tc := ⟨.hbm, 542, rfl⟩
abbrev main_call2_call0_v22 : Ref sig .tc := ⟨.hbm, 543, rfl⟩
abbrev main_call2_call0_c_5 : Ref sig .tc := ⟨.hbm, 544, rfl⟩
abbrev main_call2_call0_v23 : Ref sig .tc := ⟨.hbm, 545, rfl⟩
abbrev main_call2_call0_v24 : Ref sig .tc := ⟨.hbm, 546, rfl⟩
abbrev main_call2_call0_v25 : Ref sig .tc := ⟨.hbm, 547, rfl⟩
abbrev main_call2_call0_v26 : Ref sig .tc := ⟨.hbm, 548, rfl⟩
abbrev main_call2_call0_v27 : Ref sig .tc := ⟨.hbm, 549, rfl⟩
abbrev main_call2_call0_c_6 : Ref sig .tc := ⟨.hbm, 550, rfl⟩
abbrev main_call2_call0_v28 : Ref sig .tc := ⟨.hbm, 551, rfl⟩
abbrev main_call2_call0_v29 : Ref sig .tc := ⟨.hbm, 552, rfl⟩
abbrev main_call2_call0_c_7 : Ref sig .tc := ⟨.hbm, 553, rfl⟩
abbrev main_call2_call0_v30 : Ref sig .tc := ⟨.hbm, 554, rfl⟩
abbrev main_call2_call0_v31 : Ref sig .tc := ⟨.hbm, 555, rfl⟩
abbrev main_call2_call0_v32 : Ref sig .tc := ⟨.hbm, 556, rfl⟩
abbrev main_call2_call0_v33 : Ref sig .tc := ⟨.hbm, 557, rfl⟩
abbrev main_call2_call0_v34 : Ref sig .tc := ⟨.hbm, 558, rfl⟩
abbrev main_call2_call0_v35 : Ref sig .tc := ⟨.hbm, 559, rfl⟩
abbrev main_call2_call0_v36 : Ref sig .tc := ⟨.hbm, 560, rfl⟩
abbrev main_call2_call0_v37 : Ref sig .tc := ⟨.hbm, 561, rfl⟩
abbrev main_call2_call0_c_8 : Ref sig .tc := ⟨.hbm, 562, rfl⟩
abbrev main_call2_call0_v38 : Ref sig .tc := ⟨.hbm, 563, rfl⟩
abbrev main_call2_call0_v39 : Ref sig .tc := ⟨.hbm, 564, rfl⟩
abbrev main_call2_call0_v40 : Ref sig .tc := ⟨.hbm, 565, rfl⟩
abbrev main_call2_call0_c_9 : Ref sig .tc := ⟨.hbm, 566, rfl⟩
abbrev main_call2_call0_v41 : Ref sig .tc := ⟨.hbm, 567, rfl⟩
abbrev main_call2_call0_v42 : Ref sig .tc := ⟨.hbm, 568, rfl⟩
abbrev main_call2_call0_c_10 : Ref sig .tc := ⟨.hbm, 569, rfl⟩
abbrev main_call2_call0_v43 : Ref sig .tc := ⟨.hbm, 570, rfl⟩
abbrev main_call2_call0_v44 : Ref sig .tc := ⟨.hbm, 571, rfl⟩
abbrev main_call2_call0_v45 : Ref sig .tc := ⟨.hbm, 572, rfl⟩
abbrev main_call2_call0_v46 : Ref sig .tc := ⟨.hbm, 573, rfl⟩
abbrev main_call2_call0_v47 : Ref sig .tc := ⟨.hbm, 574, rfl⟩
abbrev main_call2_call0_c_11 : Ref sig .tc := ⟨.hbm, 575, rfl⟩
abbrev main_call2_call0_v48 : Ref sig .tc := ⟨.hbm, 576, rfl⟩
abbrev main_call2_call0_v49 : Ref sig .tc := ⟨.hbm, 577, rfl⟩
abbrev main_call2_call0_c_12 : Ref sig .tc := ⟨.hbm, 578, rfl⟩
abbrev main_call2_call0_v50 : Ref sig .tc := ⟨.hbm, 579, rfl⟩
abbrev main_call2_call0_v51 : Ref sig .tc := ⟨.hbm, 580, rfl⟩
abbrev main_call2_call0_v52 : Ref sig .tc := ⟨.hbm, 581, rfl⟩
abbrev main_call2_call0_v53 : Ref sig .tc := ⟨.hbm, 582, rfl⟩
abbrev main_call2_call0_v54 : Ref sig .tc := ⟨.hbm, 583, rfl⟩
abbrev main_call2_call0_c_13 : Ref sig .tc := ⟨.hbm, 584, rfl⟩
abbrev main_call2_call0_v55 : Ref sig .tc := ⟨.hbm, 585, rfl⟩
abbrev main_call2_call0_v56 : Ref sig .tc := ⟨.hbm, 586, rfl⟩
abbrev main_call2_call0_c_14 : Ref sig .tc := ⟨.hbm, 587, rfl⟩
abbrev main_call2_call0_v57 : Ref sig .tc := ⟨.hbm, 588, rfl⟩
abbrev main_call2_call0_v58 : Ref sig .tc := ⟨.hbm, 589, rfl⟩
abbrev main_call2_call0_v59 : Ref sig .tc := ⟨.hbm, 590, rfl⟩
abbrev main_call2_call0_v60 : Ref sig .tc := ⟨.hbm, 591, rfl⟩
abbrev main_call2_call0_v61 : Ref sig .tc := ⟨.hbm, 592, rfl⟩
abbrev main_call2_call0_c_15 : Ref sig .tc := ⟨.hbm, 593, rfl⟩
abbrev main_call2_call0_v62 : Ref sig .tc := ⟨.hbm, 594, rfl⟩
abbrev main_call2_call0_v63 : Ref sig .tc := ⟨.hbm, 595, rfl⟩
abbrev main_call2_call0_c_16 : Ref sig .tc := ⟨.hbm, 596, rfl⟩
abbrev main_call2_call0_v64 : Ref sig .tc := ⟨.hbm, 597, rfl⟩
abbrev main_call2_call0_v65 : Ref sig .tc := ⟨.hbm, 598, rfl⟩
abbrev main_call2_call0_v66 : Ref sig .tc := ⟨.hbm, 599, rfl⟩
abbrev main_call2_call0_v67 : Ref sig .tc := ⟨.hbm, 600, rfl⟩
abbrev main_call2_call0_v68 : Ref sig .tc := ⟨.hbm, 601, rfl⟩
abbrev main_call2_call0_v69 : Ref sig .tc := ⟨.hbm, 602, rfl⟩
abbrev main_call2_call0_v70 : Ref sig .tc := ⟨.hbm, 603, rfl⟩
abbrev main_call2_call0_v71 : Ref sig .tc := ⟨.hbm, 604, rfl⟩
abbrev main_call2_call0_c_17 : Ref sig .tc := ⟨.hbm, 605, rfl⟩
abbrev main_call2_call0_v72 : Ref sig .tc := ⟨.hbm, 606, rfl⟩
abbrev main_call2_call0_v73 : Ref sig .tc := ⟨.hbm, 607, rfl⟩
abbrev main_call2_call0_v74 : Ref sig .tc := ⟨.hbm, 608, rfl⟩
abbrev main_call2_call0_c_18 : Ref sig .tc := ⟨.hbm, 609, rfl⟩
abbrev main_call2_call0_v75 : Ref sig .tc := ⟨.hbm, 610, rfl⟩
abbrev main_call2_call0_v76 : Ref sig .tc := ⟨.hbm, 611, rfl⟩
abbrev main_call2_call0_c_19 : Ref sig .tc := ⟨.hbm, 612, rfl⟩
abbrev main_call2_call0_v77 : Ref sig .tc := ⟨.hbm, 613, rfl⟩
abbrev main_call2_call0_v78 : Ref sig .tc := ⟨.hbm, 614, rfl⟩
abbrev main_call2_call0_v79 : Ref sig .tc := ⟨.hbm, 615, rfl⟩
abbrev main_call2_call0_v80 : Ref sig .tc := ⟨.hbm, 616, rfl⟩
abbrev main_call2_call0_v81 : Ref sig .tc := ⟨.hbm, 617, rfl⟩
abbrev main_call2_call0_c_20 : Ref sig .tc := ⟨.hbm, 618, rfl⟩
abbrev main_call2_call0_v82 : Ref sig .tc := ⟨.hbm, 619, rfl⟩
abbrev main_call2_call0_v83 : Ref sig .tc := ⟨.hbm, 620, rfl⟩
abbrev main_call2_call0_c_21 : Ref sig .tc := ⟨.hbm, 621, rfl⟩
abbrev main_call2_call0_v84 : Ref sig .tc := ⟨.hbm, 622, rfl⟩
abbrev main_call2_call0_v85 : Ref sig .tc := ⟨.hbm, 623, rfl⟩
abbrev main_call2_call0_v86 : Ref sig .tc := ⟨.hbm, 624, rfl⟩
abbrev main_call2_call0_v87 : Ref sig .tc := ⟨.hbm, 625, rfl⟩
abbrev main_call2_call0_v88 : Ref sig .tc := ⟨.hbm, 626, rfl⟩
abbrev main_call2_call0_c_22 : Ref sig .tc := ⟨.hbm, 627, rfl⟩
abbrev main_call2_call0_v89 : Ref sig .tc := ⟨.hbm, 628, rfl⟩
abbrev main_call2_call0_v90 : Ref sig .tc := ⟨.hbm, 629, rfl⟩
abbrev main_call2_call0_c_23 : Ref sig .tc := ⟨.hbm, 630, rfl⟩
abbrev main_call2_call0_v91 : Ref sig .tc := ⟨.hbm, 631, rfl⟩
abbrev main_call2_call0_v92 : Ref sig .tc := ⟨.hbm, 632, rfl⟩
abbrev main_call2_call0_v93 : Ref sig .tc := ⟨.hbm, 633, rfl⟩
abbrev main_call2_call0_v94 : Ref sig .tc := ⟨.hbm, 634, rfl⟩
abbrev main_call2_call0_v95 : Ref sig .tc := ⟨.hbm, 635, rfl⟩
abbrev main_call2_call0_c_24 : Ref sig .tc := ⟨.hbm, 636, rfl⟩
abbrev main_call2_call0_v96 : Ref sig .tc := ⟨.hbm, 637, rfl⟩
abbrev main_call2_call0_v97 : Ref sig .tc := ⟨.hbm, 638, rfl⟩
abbrev main_call2_call0_c_25 : Ref sig .tc := ⟨.hbm, 639, rfl⟩
abbrev main_call2_call0_v98 : Ref sig .tc := ⟨.hbm, 640, rfl⟩
abbrev main_call2_call0_v99 : Ref sig .tc := ⟨.hbm, 641, rfl⟩
abbrev main_call2_call0_v100 : Ref sig .tc := ⟨.hbm, 642, rfl⟩
abbrev main_call2_call0_v101 : Ref sig .tc := ⟨.hbm, 643, rfl⟩
abbrev main_call2_call0_v102 : Ref sig .tc := ⟨.hbm, 644, rfl⟩
abbrev main_call2_call0_v103 : Ref sig .tc := ⟨.hbm, 645, rfl⟩
abbrev main_call2_call0_v104 : Ref sig .tc := ⟨.hbm, 646, rfl⟩
abbrev main_call2_call0_v105 : Ref sig .tc := ⟨.hbm, 647, rfl⟩
abbrev main_call2_call0_c_26 : Ref sig .tc := ⟨.hbm, 648, rfl⟩
abbrev main_call2_call0_v106 : Ref sig .tc := ⟨.hbm, 649, rfl⟩
abbrev main_call2_call0_v107 : Ref sig .tc := ⟨.hbm, 650, rfl⟩
abbrev main_call2_call0_v108 : Ref sig .tc := ⟨.hbm, 651, rfl⟩
abbrev main_call2_call0_c_27 : Ref sig .tc := ⟨.hbm, 652, rfl⟩
abbrev main_call2_call0_v109 : Ref sig .tc := ⟨.hbm, 653, rfl⟩
abbrev main_call2_call0_v110 : Ref sig .tc := ⟨.hbm, 654, rfl⟩
abbrev main_call2_call0_c_28 : Ref sig .tc := ⟨.hbm, 655, rfl⟩
abbrev main_call2_call0_v111 : Ref sig .tc := ⟨.hbm, 656, rfl⟩
abbrev main_call2_call0_v112 : Ref sig .tc := ⟨.hbm, 657, rfl⟩
abbrev main_call2_call0_v113 : Ref sig .tc := ⟨.hbm, 658, rfl⟩
abbrev main_call2_call0_v114 : Ref sig .tc := ⟨.hbm, 659, rfl⟩
abbrev main_call2_call0_v115 : Ref sig .tc := ⟨.hbm, 660, rfl⟩
abbrev main_call2_call0_c_29 : Ref sig .tc := ⟨.hbm, 661, rfl⟩
abbrev main_call2_call0_v116 : Ref sig .tc := ⟨.hbm, 662, rfl⟩
abbrev main_call2_call0_v117 : Ref sig .tc := ⟨.hbm, 663, rfl⟩
abbrev main_call2_call0_c_30 : Ref sig .tc := ⟨.hbm, 664, rfl⟩
abbrev main_call2_call0_v118 : Ref sig .tc := ⟨.hbm, 665, rfl⟩
abbrev main_call2_call0_v119 : Ref sig .tc := ⟨.hbm, 666, rfl⟩
abbrev main_call2_call0_v120 : Ref sig .tc := ⟨.hbm, 667, rfl⟩
abbrev main_call2_call0_v121 : Ref sig .tc := ⟨.hbm, 668, rfl⟩
abbrev main_call2_call0_v122 : Ref sig .tc := ⟨.hbm, 669, rfl⟩
abbrev main_call2_call0_c_31 : Ref sig .tc := ⟨.hbm, 670, rfl⟩
abbrev main_call2_call0_v123 : Ref sig .tc := ⟨.hbm, 671, rfl⟩
abbrev main_call2_call0_v124 : Ref sig .tc := ⟨.hbm, 672, rfl⟩
abbrev main_call2_call0_c_32 : Ref sig .tc := ⟨.hbm, 673, rfl⟩
abbrev main_call2_call0_v125 : Ref sig .tc := ⟨.hbm, 674, rfl⟩
abbrev main_call2_call0_v126 : Ref sig .tc := ⟨.hbm, 675, rfl⟩
abbrev main_call2_call0_v127 : Ref sig .tc := ⟨.hbm, 676, rfl⟩
abbrev main_call2_call0_v128 : Ref sig .tc := ⟨.hbm, 677, rfl⟩
abbrev main_call2_call0_v129 : Ref sig .tc := ⟨.hbm, 678, rfl⟩
abbrev main_call2_call0_c_33 : Ref sig .tc := ⟨.hbm, 679, rfl⟩
abbrev main_call2_call0_v130 : Ref sig .tc := ⟨.hbm, 680, rfl⟩
abbrev main_call2_call0_v131 : Ref sig .tc := ⟨.hbm, 681, rfl⟩
abbrev main_call2_call0_c_34 : Ref sig .tc := ⟨.hbm, 682, rfl⟩
abbrev main_call2_call0_v132 : Ref sig .tc := ⟨.hbm, 683, rfl⟩
abbrev main_call2_call0_v133 : Ref sig .tc := ⟨.hbm, 684, rfl⟩
abbrev main_call2_call0_v134 : Ref sig .tc := ⟨.hbm, 685, rfl⟩
abbrev main_call2_call0_v135 : Ref sig .tc := ⟨.hbm, 686, rfl⟩
abbrev main_call2_call0_v136 : Ref sig .tc := ⟨.hbm, 687, rfl⟩
abbrev main_call2_call0_v137 : Ref sig .tc := ⟨.hbm, 688, rfl⟩
abbrev main_call2_call0_v138 : Ref sig .tc := ⟨.hbm, 689, rfl⟩
abbrev main_call2_call0_v139 : Ref sig .tc := ⟨.hbm, 690, rfl⟩
abbrev main_call2_call0_c_35 : Ref sig .tc := ⟨.hbm, 691, rfl⟩
abbrev main_call2_call0_v140 : Ref sig .tc := ⟨.hbm, 692, rfl⟩
abbrev main_call2_call0_v141 : Ref sig .tc := ⟨.hbm, 693, rfl⟩
abbrev main_call2_call0_v142 : Ref sig .tc := ⟨.hbm, 694, rfl⟩
abbrev main_call2_call0_c_36 : Ref sig .tc := ⟨.hbm, 695, rfl⟩
abbrev main_call2_call0_v143 : Ref sig .tc := ⟨.hbm, 696, rfl⟩
abbrev main_call2_call0_v144 : Ref sig .tc := ⟨.hbm, 697, rfl⟩
abbrev main_call2_call0_c_37 : Ref sig .tc := ⟨.hbm, 698, rfl⟩
abbrev main_call2_call0_v145 : Ref sig .tc := ⟨.hbm, 699, rfl⟩
abbrev main_call2_call0_v146 : Ref sig .tc := ⟨.hbm, 700, rfl⟩
abbrev main_call2_call0_v147 : Ref sig .tc := ⟨.hbm, 701, rfl⟩
abbrev main_call2_call0_v148 : Ref sig .tc := ⟨.hbm, 702, rfl⟩
abbrev main_call2_call0_v149 : Ref sig .tc := ⟨.hbm, 703, rfl⟩
abbrev main_call2_call0_c_38 : Ref sig .tc := ⟨.hbm, 704, rfl⟩
abbrev main_call2_call0_v150 : Ref sig .tc := ⟨.hbm, 705, rfl⟩
abbrev main_call2_call0_v151 : Ref sig .tc := ⟨.hbm, 706, rfl⟩
abbrev main_call2_call0_c_39 : Ref sig .tc := ⟨.hbm, 707, rfl⟩
abbrev main_call2_call0_v152 : Ref sig .tc := ⟨.hbm, 708, rfl⟩
abbrev main_call2_call0_v153 : Ref sig .tc := ⟨.hbm, 709, rfl⟩
abbrev main_call2_call0_v154 : Ref sig .tc := ⟨.hbm, 710, rfl⟩
abbrev main_call2_call0_v155 : Ref sig .tc := ⟨.hbm, 711, rfl⟩
abbrev main_call2_call0_v156 : Ref sig .tc := ⟨.hbm, 712, rfl⟩
abbrev main_call2_call0_c_40 : Ref sig .tc := ⟨.hbm, 713, rfl⟩
abbrev main_call2_call0_v157 : Ref sig .tc := ⟨.hbm, 714, rfl⟩
abbrev main_call2_call0_v158 : Ref sig .tc := ⟨.hbm, 715, rfl⟩
abbrev main_call2_call0_c_41 : Ref sig .tc := ⟨.hbm, 716, rfl⟩
abbrev main_call2_call0_v159 : Ref sig .tc := ⟨.hbm, 717, rfl⟩
abbrev main_call2_call0_v160 : Ref sig .tc := ⟨.hbm, 718, rfl⟩
abbrev main_call2_call0_v161 : Ref sig .tc := ⟨.hbm, 719, rfl⟩
abbrev main_call2_call0_v162 : Ref sig .tc := ⟨.hbm, 720, rfl⟩
abbrev main_call2_call0_v163 : Ref sig .tc := ⟨.hbm, 721, rfl⟩
abbrev main_call2_call0_c_42 : Ref sig .tc := ⟨.hbm, 722, rfl⟩
abbrev main_call2_call0_v164 : Ref sig .tc := ⟨.hbm, 723, rfl⟩
abbrev main_call2_call0_v165 : Ref sig .tc := ⟨.hbm, 724, rfl⟩
abbrev main_call2_call0_c_43 : Ref sig .tc := ⟨.hbm, 725, rfl⟩
abbrev main_call2_call0_v166 : Ref sig .tc := ⟨.hbm, 726, rfl⟩
abbrev main_call2_call0_v167 : Ref sig .tc := ⟨.hbm, 727, rfl⟩
abbrev main_call2_call0_v168 : Ref sig .tc := ⟨.hbm, 728, rfl⟩
abbrev main_call2_call0_v169 : Ref sig .tc := ⟨.hbm, 729, rfl⟩
abbrev main_call2_call0_v170 : Ref sig .tc := ⟨.hbm, 730, rfl⟩
abbrev main_call2_v11_0 : Ref sig .tc := ⟨.hbm, 731, rfl⟩
abbrev main_call2_call0_v172 : Ref sig .tc := ⟨.hbm, 732, rfl⟩
abbrev main_call2_call0_v173 : Ref sig .tc := ⟨.hbm, 733, rfl⟩
abbrev main_call2_call0_c_44 : Ref sig .tc := ⟨.hbm, 734, rfl⟩
abbrev main_call2_call0_v174 : Ref sig .tc := ⟨.hbm, 735, rfl⟩
abbrev main_call2_v11_1 : Ref sig .tc := ⟨.hbm, 736, rfl⟩
abbrev main_call2_v12 : Ref sig .tc := ⟨.hbm, 737, rfl⟩
abbrev main_call2_v13 : Ref sig .tc := ⟨.hbm, 738, rfl⟩
abbrev main_v15 : Ref sig .tc := ⟨.hbm, 739, rfl⟩
abbrev main_v16 : Ref sig .tc := ⟨.hbm, 740, rfl⟩
abbrev main_v17 : Ref sig .tc := ⟨.hbm, 741, rfl⟩
abbrev main_v18 : Ref sig .tc := ⟨.hbm, 742, rfl⟩
abbrev main_v19 : Ref sig .tc := ⟨.hbm, 743, rfl⟩
abbrev main_cst_7 : Ref sig .tc := ⟨.hbm, 744, rfl⟩
abbrev main_cst_8 : Ref sig .tc := ⟨.hbm, 745, rfl⟩
abbrev main_call3_v0 : Ref sig .tc := ⟨.hbm, 746, rfl⟩
abbrev main_call3_v1 : Ref sig .tc := ⟨.hbm, 747, rfl⟩
abbrev main_call3_v2 : Ref sig .tc := ⟨.hbm, 748, rfl⟩
abbrev main_call3_v3 : Ref sig .tc := ⟨.hbm, 749, rfl⟩
abbrev main_call3_v4 : Ref sig .tc := ⟨.hbm, 750, rfl⟩
abbrev main_call3_v5 : Ref sig .tc := ⟨.hbm, 751, rfl⟩
abbrev main_call3_v6 : Ref sig .tc := ⟨.hbm, 752, rfl⟩
abbrev main_call3_v7 : Ref sig .tc := ⟨.hbm, 753, rfl⟩
abbrev main_call3_c : Ref sig .tc := ⟨.hbm, 754, rfl⟩
abbrev main_call3_v8 : Ref sig .tc := ⟨.hbm, 755, rfl⟩
abbrev main_call3_v9 : Ref sig .tc := ⟨.hbm, 756, rfl⟩
abbrev main_call3_c_0 : Ref sig .tc := ⟨.hbm, 757, rfl⟩
abbrev main_call3_v10 : Ref sig .tc := ⟨.hbm, 758, rfl⟩
abbrev main_call3_v11 : Ref sig .tc := ⟨.hbm, 759, rfl⟩
abbrev main_call3_v12 : Ref sig .tc := ⟨.hbm, 760, rfl⟩
abbrev main_call3_c_1 : Ref sig .tc := ⟨.hbm, 761, rfl⟩
abbrev main_call3_v13 : Ref sig .tc := ⟨.hbm, 762, rfl⟩
abbrev main_call3_v14 : Ref sig .tc := ⟨.hbm, 763, rfl⟩
abbrev main_call3_v15 : Ref sig .tc := ⟨.hbm, 764, rfl⟩
abbrev main_call3_v16 : Ref sig .tc := ⟨.hbm, 765, rfl⟩
abbrev main_call3_call0_v0 : Ref sig .tc := ⟨.hbm, 766, rfl⟩
abbrev main_call3_call0_c : Ref sig .tc := ⟨.hbm, 767, rfl⟩
abbrev main_call3_call0_v1 : Ref sig .tc := ⟨.hbm, 768, rfl⟩
abbrev main_call3_call0_v2 : Ref sig .tc := ⟨.hbm, 769, rfl⟩
abbrev main_call3_call0_v3 : Ref sig .tc := ⟨.hbm, 770, rfl⟩
abbrev main_call3_call0_v4 : Ref sig .tc := ⟨.hbm, 771, rfl⟩
abbrev main_call3_call0_v5 : Ref sig .tc := ⟨.hbm, 772, rfl⟩
abbrev main_call3_call0_v6 : Ref sig .tc := ⟨.hbm, 773, rfl⟩
abbrev main_call3_call0_c_0 : Ref sig .tc := ⟨.hbm, 774, rfl⟩
abbrev main_call3_call0_v7 : Ref sig .tc := ⟨.hbm, 775, rfl⟩
abbrev main_call3_call0_v8 : Ref sig .tc := ⟨.hbm, 776, rfl⟩
abbrev main_call3_call0_c_1 : Ref sig .tc := ⟨.hbm, 777, rfl⟩
abbrev main_call3_call0_v9 : Ref sig .tc := ⟨.hbm, 778, rfl⟩
abbrev main_call3_call0_v10 : Ref sig .tc := ⟨.hbm, 779, rfl⟩
abbrev main_call3_call0_v11 : Ref sig .tc := ⟨.hbm, 780, rfl⟩
abbrev main_call3_call0_v12 : Ref sig .tc := ⟨.hbm, 781, rfl⟩
abbrev main_call3_call0_v13 : Ref sig .tc := ⟨.hbm, 782, rfl⟩
abbrev main_call3_call0_c_2 : Ref sig .tc := ⟨.hbm, 783, rfl⟩
abbrev main_call3_call0_v14 : Ref sig .tc := ⟨.hbm, 784, rfl⟩
abbrev main_call3_call0_v15 : Ref sig .tc := ⟨.hbm, 785, rfl⟩
abbrev main_call3_call0_c_3 : Ref sig .tc := ⟨.hbm, 786, rfl⟩
abbrev main_call3_call0_v16 : Ref sig .tc := ⟨.hbm, 787, rfl⟩
abbrev main_call3_call0_v17 : Ref sig .tc := ⟨.hbm, 788, rfl⟩
abbrev main_call3_call0_v18 : Ref sig .tc := ⟨.hbm, 789, rfl⟩
abbrev main_call3_call0_v19 : Ref sig .tc := ⟨.hbm, 790, rfl⟩
abbrev main_call3_call0_v20 : Ref sig .tc := ⟨.hbm, 791, rfl⟩
abbrev main_call3_call0_c_4 : Ref sig .tc := ⟨.hbm, 792, rfl⟩
abbrev main_call3_call0_v21 : Ref sig .tc := ⟨.hbm, 793, rfl⟩
abbrev main_call3_call0_v22 : Ref sig .tc := ⟨.hbm, 794, rfl⟩
abbrev main_call3_call0_c_5 : Ref sig .tc := ⟨.hbm, 795, rfl⟩
abbrev main_call3_call0_v23 : Ref sig .tc := ⟨.hbm, 796, rfl⟩
abbrev main_call3_call0_v24 : Ref sig .tc := ⟨.hbm, 797, rfl⟩
abbrev main_call3_call0_v25 : Ref sig .tc := ⟨.hbm, 798, rfl⟩
abbrev main_call3_call0_v26 : Ref sig .tc := ⟨.hbm, 799, rfl⟩
abbrev main_call3_call0_v27 : Ref sig .tc := ⟨.hbm, 800, rfl⟩
abbrev main_call3_call0_c_6 : Ref sig .tc := ⟨.hbm, 801, rfl⟩
abbrev main_call3_call0_v28 : Ref sig .tc := ⟨.hbm, 802, rfl⟩
abbrev main_call3_call0_v29 : Ref sig .tc := ⟨.hbm, 803, rfl⟩
abbrev main_call3_call0_c_7 : Ref sig .tc := ⟨.hbm, 804, rfl⟩
abbrev main_call3_call0_v30 : Ref sig .tc := ⟨.hbm, 805, rfl⟩
abbrev main_call3_call0_v31 : Ref sig .tc := ⟨.hbm, 806, rfl⟩
abbrev main_call3_call0_v32 : Ref sig .tc := ⟨.hbm, 807, rfl⟩
abbrev main_call3_call0_v33 : Ref sig .tc := ⟨.hbm, 808, rfl⟩
abbrev main_call3_call0_v34 : Ref sig .tc := ⟨.hbm, 809, rfl⟩
abbrev main_call3_call0_v35 : Ref sig .tc := ⟨.hbm, 810, rfl⟩
abbrev main_call3_call0_v36 : Ref sig .tc := ⟨.hbm, 811, rfl⟩
abbrev main_call3_call0_v37 : Ref sig .tc := ⟨.hbm, 812, rfl⟩
abbrev main_call3_call0_c_8 : Ref sig .tc := ⟨.hbm, 813, rfl⟩
abbrev main_call3_call0_v38 : Ref sig .tc := ⟨.hbm, 814, rfl⟩
abbrev main_call3_call0_v39 : Ref sig .tc := ⟨.hbm, 815, rfl⟩
abbrev main_call3_call0_v40 : Ref sig .tc := ⟨.hbm, 816, rfl⟩
abbrev main_call3_call0_c_9 : Ref sig .tc := ⟨.hbm, 817, rfl⟩
abbrev main_call3_call0_v41 : Ref sig .tc := ⟨.hbm, 818, rfl⟩
abbrev main_call3_call0_v42 : Ref sig .tc := ⟨.hbm, 819, rfl⟩
abbrev main_call3_call0_c_10 : Ref sig .tc := ⟨.hbm, 820, rfl⟩
abbrev main_call3_call0_v43 : Ref sig .tc := ⟨.hbm, 821, rfl⟩
abbrev main_call3_call0_v44 : Ref sig .tc := ⟨.hbm, 822, rfl⟩
abbrev main_call3_call0_v45 : Ref sig .tc := ⟨.hbm, 823, rfl⟩
abbrev main_call3_call0_v46 : Ref sig .tc := ⟨.hbm, 824, rfl⟩
abbrev main_call3_call0_v47 : Ref sig .tc := ⟨.hbm, 825, rfl⟩
abbrev main_call3_call0_c_11 : Ref sig .tc := ⟨.hbm, 826, rfl⟩
abbrev main_call3_call0_v48 : Ref sig .tc := ⟨.hbm, 827, rfl⟩
abbrev main_call3_call0_v49 : Ref sig .tc := ⟨.hbm, 828, rfl⟩
abbrev main_call3_call0_c_12 : Ref sig .tc := ⟨.hbm, 829, rfl⟩
abbrev main_call3_call0_v50 : Ref sig .tc := ⟨.hbm, 830, rfl⟩
abbrev main_call3_call0_v51 : Ref sig .tc := ⟨.hbm, 831, rfl⟩
abbrev main_call3_call0_v52 : Ref sig .tc := ⟨.hbm, 832, rfl⟩
abbrev main_call3_call0_v53 : Ref sig .tc := ⟨.hbm, 833, rfl⟩
abbrev main_call3_call0_v54 : Ref sig .tc := ⟨.hbm, 834, rfl⟩
abbrev main_call3_call0_c_13 : Ref sig .tc := ⟨.hbm, 835, rfl⟩
abbrev main_call3_call0_v55 : Ref sig .tc := ⟨.hbm, 836, rfl⟩
abbrev main_call3_call0_v56 : Ref sig .tc := ⟨.hbm, 837, rfl⟩
abbrev main_call3_call0_c_14 : Ref sig .tc := ⟨.hbm, 838, rfl⟩
abbrev main_call3_call0_v57 : Ref sig .tc := ⟨.hbm, 839, rfl⟩
abbrev main_call3_call0_v58 : Ref sig .tc := ⟨.hbm, 840, rfl⟩
abbrev main_call3_call0_v59 : Ref sig .tc := ⟨.hbm, 841, rfl⟩
abbrev main_call3_call0_v60 : Ref sig .tc := ⟨.hbm, 842, rfl⟩
abbrev main_call3_call0_v61 : Ref sig .tc := ⟨.hbm, 843, rfl⟩
abbrev main_call3_call0_c_15 : Ref sig .tc := ⟨.hbm, 844, rfl⟩
abbrev main_call3_call0_v62 : Ref sig .tc := ⟨.hbm, 845, rfl⟩
abbrev main_call3_call0_v63 : Ref sig .tc := ⟨.hbm, 846, rfl⟩
abbrev main_call3_call0_c_16 : Ref sig .tc := ⟨.hbm, 847, rfl⟩
abbrev main_call3_call0_v64 : Ref sig .tc := ⟨.hbm, 848, rfl⟩
abbrev main_call3_call0_v65 : Ref sig .tc := ⟨.hbm, 849, rfl⟩
abbrev main_call3_call0_v66 : Ref sig .tc := ⟨.hbm, 850, rfl⟩
abbrev main_call3_call0_v67 : Ref sig .tc := ⟨.hbm, 851, rfl⟩
abbrev main_call3_call0_v68 : Ref sig .tc := ⟨.hbm, 852, rfl⟩
abbrev main_call3_call0_v69 : Ref sig .tc := ⟨.hbm, 853, rfl⟩
abbrev main_call3_call0_v70 : Ref sig .tc := ⟨.hbm, 854, rfl⟩
abbrev main_call3_call0_v71 : Ref sig .tc := ⟨.hbm, 855, rfl⟩
abbrev main_call3_call0_c_17 : Ref sig .tc := ⟨.hbm, 856, rfl⟩
abbrev main_call3_call0_v72 : Ref sig .tc := ⟨.hbm, 857, rfl⟩
abbrev main_call3_call0_v73 : Ref sig .tc := ⟨.hbm, 858, rfl⟩
abbrev main_call3_call0_v74 : Ref sig .tc := ⟨.hbm, 859, rfl⟩
abbrev main_call3_call0_c_18 : Ref sig .tc := ⟨.hbm, 860, rfl⟩
abbrev main_call3_call0_v75 : Ref sig .tc := ⟨.hbm, 861, rfl⟩
abbrev main_call3_call0_v76 : Ref sig .tc := ⟨.hbm, 862, rfl⟩
abbrev main_call3_call0_c_19 : Ref sig .tc := ⟨.hbm, 863, rfl⟩
abbrev main_call3_call0_v77 : Ref sig .tc := ⟨.hbm, 864, rfl⟩
abbrev main_call3_call0_v78 : Ref sig .tc := ⟨.hbm, 865, rfl⟩
abbrev main_call3_call0_v79 : Ref sig .tc := ⟨.hbm, 866, rfl⟩
abbrev main_call3_call0_v80 : Ref sig .tc := ⟨.hbm, 867, rfl⟩
abbrev main_call3_call0_v81 : Ref sig .tc := ⟨.hbm, 868, rfl⟩
abbrev main_call3_call0_c_20 : Ref sig .tc := ⟨.hbm, 869, rfl⟩
abbrev main_call3_call0_v82 : Ref sig .tc := ⟨.hbm, 870, rfl⟩
abbrev main_call3_call0_v83 : Ref sig .tc := ⟨.hbm, 871, rfl⟩
abbrev main_call3_call0_c_21 : Ref sig .tc := ⟨.hbm, 872, rfl⟩
abbrev main_call3_call0_v84 : Ref sig .tc := ⟨.hbm, 873, rfl⟩
abbrev main_call3_call0_v85 : Ref sig .tc := ⟨.hbm, 874, rfl⟩
abbrev main_call3_call0_v86 : Ref sig .tc := ⟨.hbm, 875, rfl⟩
abbrev main_call3_call0_v87 : Ref sig .tc := ⟨.hbm, 876, rfl⟩
abbrev main_call3_call0_v88 : Ref sig .tc := ⟨.hbm, 877, rfl⟩
abbrev main_call3_call0_c_22 : Ref sig .tc := ⟨.hbm, 878, rfl⟩
abbrev main_call3_call0_v89 : Ref sig .tc := ⟨.hbm, 879, rfl⟩
abbrev main_call3_call0_v90 : Ref sig .tc := ⟨.hbm, 880, rfl⟩
abbrev main_call3_call0_c_23 : Ref sig .tc := ⟨.hbm, 881, rfl⟩
abbrev main_call3_call0_v91 : Ref sig .tc := ⟨.hbm, 882, rfl⟩
abbrev main_call3_call0_v92 : Ref sig .tc := ⟨.hbm, 883, rfl⟩
abbrev main_call3_call0_v93 : Ref sig .tc := ⟨.hbm, 884, rfl⟩
abbrev main_call3_call0_v94 : Ref sig .tc := ⟨.hbm, 885, rfl⟩
abbrev main_call3_call0_v95 : Ref sig .tc := ⟨.hbm, 886, rfl⟩
abbrev main_call3_call0_c_24 : Ref sig .tc := ⟨.hbm, 887, rfl⟩
abbrev main_call3_call0_v96 : Ref sig .tc := ⟨.hbm, 888, rfl⟩
abbrev main_call3_call0_v97 : Ref sig .tc := ⟨.hbm, 889, rfl⟩
abbrev main_call3_call0_c_25 : Ref sig .tc := ⟨.hbm, 890, rfl⟩
abbrev main_call3_call0_v98 : Ref sig .tc := ⟨.hbm, 891, rfl⟩
abbrev main_call3_call0_v99 : Ref sig .tc := ⟨.hbm, 892, rfl⟩
abbrev main_call3_call0_v100 : Ref sig .tc := ⟨.hbm, 893, rfl⟩
abbrev main_call3_call0_v101 : Ref sig .tc := ⟨.hbm, 894, rfl⟩
abbrev main_call3_call0_v102 : Ref sig .tc := ⟨.hbm, 895, rfl⟩
abbrev main_call3_call0_v103 : Ref sig .tc := ⟨.hbm, 896, rfl⟩
abbrev main_call3_call0_v104 : Ref sig .tc := ⟨.hbm, 897, rfl⟩
abbrev main_call3_call0_v105 : Ref sig .tc := ⟨.hbm, 898, rfl⟩
abbrev main_call3_call0_c_26 : Ref sig .tc := ⟨.hbm, 899, rfl⟩
abbrev main_call3_call0_v106 : Ref sig .tc := ⟨.hbm, 900, rfl⟩
abbrev main_call3_call0_v107 : Ref sig .tc := ⟨.hbm, 901, rfl⟩
abbrev main_call3_call0_v108 : Ref sig .tc := ⟨.hbm, 902, rfl⟩
abbrev main_call3_call0_c_27 : Ref sig .tc := ⟨.hbm, 903, rfl⟩
abbrev main_call3_call0_v109 : Ref sig .tc := ⟨.hbm, 904, rfl⟩
abbrev main_call3_call0_v110 : Ref sig .tc := ⟨.hbm, 905, rfl⟩
abbrev main_call3_call0_c_28 : Ref sig .tc := ⟨.hbm, 906, rfl⟩
abbrev main_call3_call0_v111 : Ref sig .tc := ⟨.hbm, 907, rfl⟩
abbrev main_call3_call0_v112 : Ref sig .tc := ⟨.hbm, 908, rfl⟩
abbrev main_call3_call0_v113 : Ref sig .tc := ⟨.hbm, 909, rfl⟩
abbrev main_call3_call0_v114 : Ref sig .tc := ⟨.hbm, 910, rfl⟩
abbrev main_call3_call0_v115 : Ref sig .tc := ⟨.hbm, 911, rfl⟩
abbrev main_call3_call0_c_29 : Ref sig .tc := ⟨.hbm, 912, rfl⟩
abbrev main_call3_call0_v116 : Ref sig .tc := ⟨.hbm, 913, rfl⟩
abbrev main_call3_call0_v117 : Ref sig .tc := ⟨.hbm, 914, rfl⟩
abbrev main_call3_call0_c_30 : Ref sig .tc := ⟨.hbm, 915, rfl⟩
abbrev main_call3_call0_v118 : Ref sig .tc := ⟨.hbm, 916, rfl⟩
abbrev main_call3_call0_v119 : Ref sig .tc := ⟨.hbm, 917, rfl⟩
abbrev main_call3_call0_v120 : Ref sig .tc := ⟨.hbm, 918, rfl⟩
abbrev main_call3_call0_v121 : Ref sig .tc := ⟨.hbm, 919, rfl⟩
abbrev main_call3_call0_v122 : Ref sig .tc := ⟨.hbm, 920, rfl⟩
abbrev main_call3_call0_c_31 : Ref sig .tc := ⟨.hbm, 921, rfl⟩
abbrev main_call3_call0_v123 : Ref sig .tc := ⟨.hbm, 922, rfl⟩
abbrev main_call3_call0_v124 : Ref sig .tc := ⟨.hbm, 923, rfl⟩
abbrev main_call3_call0_c_32 : Ref sig .tc := ⟨.hbm, 924, rfl⟩
abbrev main_call3_call0_v125 : Ref sig .tc := ⟨.hbm, 925, rfl⟩
abbrev main_call3_call0_v126 : Ref sig .tc := ⟨.hbm, 926, rfl⟩
abbrev main_call3_call0_v127 : Ref sig .tc := ⟨.hbm, 927, rfl⟩
abbrev main_call3_call0_v128 : Ref sig .tc := ⟨.hbm, 928, rfl⟩
abbrev main_call3_call0_v129 : Ref sig .tc := ⟨.hbm, 929, rfl⟩
abbrev main_call3_call0_c_33 : Ref sig .tc := ⟨.hbm, 930, rfl⟩
abbrev main_call3_call0_v130 : Ref sig .tc := ⟨.hbm, 931, rfl⟩
abbrev main_call3_call0_v131 : Ref sig .tc := ⟨.hbm, 932, rfl⟩
abbrev main_call3_call0_c_34 : Ref sig .tc := ⟨.hbm, 933, rfl⟩
abbrev main_call3_call0_v132 : Ref sig .tc := ⟨.hbm, 934, rfl⟩
abbrev main_call3_call0_v133 : Ref sig .tc := ⟨.hbm, 935, rfl⟩
abbrev main_call3_call0_v134 : Ref sig .tc := ⟨.hbm, 936, rfl⟩
abbrev main_call3_call0_v135 : Ref sig .tc := ⟨.hbm, 937, rfl⟩
abbrev main_call3_call0_v136 : Ref sig .tc := ⟨.hbm, 938, rfl⟩
abbrev main_call3_call0_v137 : Ref sig .tc := ⟨.hbm, 939, rfl⟩
abbrev main_call3_call0_v138 : Ref sig .tc := ⟨.hbm, 940, rfl⟩
abbrev main_call3_call0_v139 : Ref sig .tc := ⟨.hbm, 941, rfl⟩
abbrev main_call3_call0_c_35 : Ref sig .tc := ⟨.hbm, 942, rfl⟩
abbrev main_call3_call0_v140 : Ref sig .tc := ⟨.hbm, 943, rfl⟩
abbrev main_call3_call0_v141 : Ref sig .tc := ⟨.hbm, 944, rfl⟩
abbrev main_call3_call0_v142 : Ref sig .tc := ⟨.hbm, 945, rfl⟩
abbrev main_call3_call0_c_36 : Ref sig .tc := ⟨.hbm, 946, rfl⟩
abbrev main_call3_call0_v143 : Ref sig .tc := ⟨.hbm, 947, rfl⟩
abbrev main_call3_call0_v144 : Ref sig .tc := ⟨.hbm, 948, rfl⟩
abbrev main_call3_call0_c_37 : Ref sig .tc := ⟨.hbm, 949, rfl⟩
abbrev main_call3_call0_v145 : Ref sig .tc := ⟨.hbm, 950, rfl⟩
abbrev main_call3_call0_v146 : Ref sig .tc := ⟨.hbm, 951, rfl⟩
abbrev main_call3_call0_v147 : Ref sig .tc := ⟨.hbm, 952, rfl⟩
abbrev main_call3_call0_v148 : Ref sig .tc := ⟨.hbm, 953, rfl⟩
abbrev main_call3_call0_v149 : Ref sig .tc := ⟨.hbm, 954, rfl⟩
abbrev main_call3_call0_c_38 : Ref sig .tc := ⟨.hbm, 955, rfl⟩
abbrev main_call3_call0_v150 : Ref sig .tc := ⟨.hbm, 956, rfl⟩
abbrev main_call3_call0_v151 : Ref sig .tc := ⟨.hbm, 957, rfl⟩
abbrev main_call3_call0_c_39 : Ref sig .tc := ⟨.hbm, 958, rfl⟩
abbrev main_call3_call0_v152 : Ref sig .tc := ⟨.hbm, 959, rfl⟩
abbrev main_call3_call0_v153 : Ref sig .tc := ⟨.hbm, 960, rfl⟩
abbrev main_call3_call0_v154 : Ref sig .tc := ⟨.hbm, 961, rfl⟩
abbrev main_call3_call0_v155 : Ref sig .tc := ⟨.hbm, 962, rfl⟩
abbrev main_call3_call0_v156 : Ref sig .tc := ⟨.hbm, 963, rfl⟩
abbrev main_call3_call0_c_40 : Ref sig .tc := ⟨.hbm, 964, rfl⟩
abbrev main_call3_call0_v157 : Ref sig .tc := ⟨.hbm, 965, rfl⟩
abbrev main_call3_call0_v158 : Ref sig .tc := ⟨.hbm, 966, rfl⟩
abbrev main_call3_call0_c_41 : Ref sig .tc := ⟨.hbm, 967, rfl⟩
abbrev main_call3_call0_v159 : Ref sig .tc := ⟨.hbm, 968, rfl⟩
abbrev main_call3_call0_v160 : Ref sig .tc := ⟨.hbm, 969, rfl⟩
abbrev main_call3_call0_v161 : Ref sig .tc := ⟨.hbm, 970, rfl⟩
abbrev main_call3_call0_v162 : Ref sig .tc := ⟨.hbm, 971, rfl⟩
abbrev main_call3_call0_v163 : Ref sig .tc := ⟨.hbm, 972, rfl⟩
abbrev main_call3_call0_c_42 : Ref sig .tc := ⟨.hbm, 973, rfl⟩
abbrev main_call3_call0_v164 : Ref sig .tc := ⟨.hbm, 974, rfl⟩
abbrev main_call3_call0_v165 : Ref sig .tc := ⟨.hbm, 975, rfl⟩
abbrev main_call3_call0_c_43 : Ref sig .tc := ⟨.hbm, 976, rfl⟩
abbrev main_call3_call0_v166 : Ref sig .tc := ⟨.hbm, 977, rfl⟩
abbrev main_call3_call0_v167 : Ref sig .tc := ⟨.hbm, 978, rfl⟩
abbrev main_call3_call0_v168 : Ref sig .tc := ⟨.hbm, 979, rfl⟩
abbrev main_call3_call0_v169 : Ref sig .tc := ⟨.hbm, 980, rfl⟩
abbrev main_call3_call0_v170 : Ref sig .tc := ⟨.hbm, 981, rfl⟩
abbrev main_call3_v17_0 : Ref sig .tc := ⟨.hbm, 982, rfl⟩
abbrev main_call3_call0_v172 : Ref sig .tc := ⟨.hbm, 983, rfl⟩
abbrev main_call3_call0_v173 : Ref sig .tc := ⟨.hbm, 984, rfl⟩
abbrev main_call3_call0_c_44 : Ref sig .tc := ⟨.hbm, 985, rfl⟩
abbrev main_call3_call0_v174 : Ref sig .tc := ⟨.hbm, 986, rfl⟩
abbrev main_call3_v17_1 : Ref sig .tc := ⟨.hbm, 987, rfl⟩
abbrev main_call3_v18 : Ref sig .tc := ⟨.hbm, 988, rfl⟩
abbrev main_call3_c_2 : Ref sig .tc := ⟨.hbm, 989, rfl⟩
abbrev main_call3_v19 : Ref sig .tc := ⟨.hbm, 990, rfl⟩
abbrev main_call3_v20 : Ref sig .tc := ⟨.hbm, 991, rfl⟩
abbrev main_call3_c_3 : Ref sig .tc := ⟨.hbm, 992, rfl⟩
abbrev main_call3_v21 : Ref sig .tc := ⟨.hbm, 993, rfl⟩
abbrev main_call3_v22 : Ref sig .tc := ⟨.hbm, 994, rfl⟩
abbrev main_call3_v23 : Ref sig .tc := ⟨.hbm, 995, rfl⟩
abbrev main_call3_cst : Ref sig .tc := ⟨.hbm, 996, rfl⟩
abbrev main_call3_v24 : Ref sig .tc := ⟨.hbm, 997, rfl⟩
abbrev main_call3_v25 : Ref sig .tc := ⟨.hbm, 998, rfl⟩
abbrev main_call3_v26 : Ref sig .tc := ⟨.hbm, 999, rfl⟩
abbrev main_call3_v27 : Ref sig .tc := ⟨.hbm, 1000, rfl⟩
abbrev main_call3_v28 : Ref sig .tc := ⟨.hbm, 1001, rfl⟩
abbrev main_call3_v29 : Ref sig .tc := ⟨.hbm, 1002, rfl⟩
abbrev main_call3_v30 : Ref sig .tc := ⟨.hbm, 1003, rfl⟩
abbrev main_call3_v31 : Ref sig .tc := ⟨.hbm, 1004, rfl⟩
abbrev main_v20 : Ref sig .tc := ⟨.hbm, 1005, rfl⟩
abbrev main_cst_9 : Ref sig .tc := ⟨.hbm, 1006, rfl⟩
abbrev main_v21 : Ref sig .tc := ⟨.hbm, 1007, rfl⟩
abbrev main_v22 : Ref sig .tc := ⟨.hbm, 1008, rfl⟩
abbrev main_v23 : Ref sig .tc := ⟨.hbm, 1009, rfl⟩
abbrev main_v24 : Ref sig .tc := ⟨.hbm, 1010, rfl⟩
abbrev main_v25 : Ref sig .tc := ⟨.hbm, 1011, rfl⟩
abbrev main_v26 : Ref sig .tc := ⟨.hbm, 1012, rfl⟩
abbrev main_call4_v0 : Ref sig .tc := ⟨.hbm, 1013, rfl⟩
abbrev main_call4_v1 : Ref sig .tc := ⟨.hbm, 1014, rfl⟩
abbrev main_call4_v2 : Ref sig .tc := ⟨.hbm, 1015, rfl⟩
abbrev main_call4_v3 : Ref sig .tc := ⟨.hbm, 1016, rfl⟩
abbrev main_call4_v4 : Ref sig .tc := ⟨.hbm, 1017, rfl⟩
abbrev main_call4_v5 : Ref sig .tc := ⟨.hbm, 1018, rfl⟩
abbrev main_call4_v6 : Ref sig .tc := ⟨.hbm, 1019, rfl⟩
abbrev main_call4_v7 : Ref sig .tc := ⟨.hbm, 1020, rfl⟩
abbrev main_call4_v8 : Ref sig .tc := ⟨.hbm, 1021, rfl⟩
abbrev main_call4_v9 : Ref sig .tc := ⟨.hbm, 1022, rfl⟩
abbrev main_call4_v10 : Ref sig .tc := ⟨.hbm, 1023, rfl⟩
abbrev main_call4_v11 : Ref sig .tc := ⟨.hbm, 1024, rfl⟩
abbrev main_call4_v12 : Ref sig .tc := ⟨.hbm, 1025, rfl⟩
abbrev main_call4_v13 : Ref sig .tc := ⟨.hbm, 1026, rfl⟩
abbrev main_call4_v14 : Ref sig .tc := ⟨.hbm, 1027, rfl⟩
abbrev main_call4_v15 : Ref sig .tc := ⟨.hbm, 1028, rfl⟩
abbrev main_call4_v16 : Ref sig .tc := ⟨.hbm, 1029, rfl⟩
abbrev main_call4_v17 : Ref sig .tc := ⟨.hbm, 1030, rfl⟩
abbrev main_call4_v18 : Ref sig .tc := ⟨.hbm, 1031, rfl⟩
abbrev main_call4_v19 : Ref sig .tc := ⟨.hbm, 1032, rfl⟩
abbrev main_call4_v20 : Ref sig .tc := ⟨.hbm, 1033, rfl⟩
abbrev main_call4_v21 : Ref sig .tc := ⟨.hbm, 1034, rfl⟩
abbrev main_call4_v22 : Ref sig .tc := ⟨.hbm, 1035, rfl⟩
abbrev main_call4_v23 : Ref sig .tc := ⟨.hbm, 1036, rfl⟩
abbrev main_call4_v24 : Ref sig .tc := ⟨.hbm, 1037, rfl⟩
abbrev main_call4_v25 : Ref sig .tc := ⟨.hbm, 1038, rfl⟩
abbrev main_call4_v26 : Ref sig .tc := ⟨.hbm, 1039, rfl⟩
abbrev main_call4_v27 : Ref sig .tc := ⟨.hbm, 1040, rfl⟩
abbrev main_call4_v28 : Ref sig .tc := ⟨.hbm, 1041, rfl⟩
abbrev main_call4_v29 : Ref sig .tc := ⟨.hbm, 1042, rfl⟩
abbrev main_call4_v30 : Ref sig .tc := ⟨.hbm, 1043, rfl⟩
abbrev main_call4_v31 : Ref sig .tc := ⟨.hbm, 1044, rfl⟩
abbrev main_call4_v32 : Ref sig .tc := ⟨.hbm, 1045, rfl⟩
abbrev main_call4_v33 : Ref sig .tc := ⟨.hbm, 1046, rfl⟩
abbrev main_call4_v34 : Ref sig .tc := ⟨.hbm, 1047, rfl⟩
abbrev main_call4_v35 : Ref sig .tc := ⟨.hbm, 1048, rfl⟩
abbrev main_call4_v36 : Ref sig .tc := ⟨.hbm, 1049, rfl⟩
abbrev main_v27 : Ref sig .tc := ⟨.hbm, 1050, rfl⟩
abbrev main_v28 : Ref sig .tc := ⟨.hbm, 1051, rfl⟩
abbrev main_v29 : Ref sig .tc := ⟨.hbm, 1052, rfl⟩
abbrev main_v30 : Ref sig .tc := ⟨.hbm, 1053, rfl⟩
abbrev main_cst_10 : Ref sig .tc := ⟨.hbm, 1054, rfl⟩
abbrev main_v31 : Ref sig .tc := ⟨.hbm, 1055, rfl⟩
abbrev main_v32 : Ref sig .tc := ⟨.hbm, 1056, rfl⟩
abbrev main_v33 : Ref sig .tc := ⟨.hbm, 1057, rfl⟩
abbrev main_cst_11 : Ref sig .tc := ⟨.hbm, 1058, rfl⟩
abbrev main_cst_12 : Ref sig .tc := ⟨.hbm, 1059, rfl⟩
abbrev main_call5_v0 : Ref sig .tc := ⟨.hbm, 1060, rfl⟩
abbrev main_call5_v1 : Ref sig .tc := ⟨.hbm, 1061, rfl⟩
abbrev main_call5_v2 : Ref sig .tc := ⟨.hbm, 1062, rfl⟩
abbrev main_call5_v3 : Ref sig .tc := ⟨.hbm, 1063, rfl⟩
abbrev main_call5_v4 : Ref sig .tc := ⟨.hbm, 1064, rfl⟩
abbrev main_call5_v5 : Ref sig .tc := ⟨.hbm, 1065, rfl⟩
abbrev main_call5_v6 : Ref sig .tc := ⟨.hbm, 1066, rfl⟩
abbrev main_call5_v7 : Ref sig .tc := ⟨.hbm, 1067, rfl⟩
abbrev main_call5_c : Ref sig .tc := ⟨.hbm, 1068, rfl⟩
abbrev main_call5_v8 : Ref sig .tc := ⟨.hbm, 1069, rfl⟩
abbrev main_call5_v9 : Ref sig .tc := ⟨.hbm, 1070, rfl⟩
abbrev main_call5_c_0 : Ref sig .tc := ⟨.hbm, 1071, rfl⟩
abbrev main_call5_v10 : Ref sig .tc := ⟨.hbm, 1072, rfl⟩
abbrev main_call5_v11 : Ref sig .tc := ⟨.hbm, 1073, rfl⟩
abbrev main_call5_v12 : Ref sig .tc := ⟨.hbm, 1074, rfl⟩
abbrev main_call5_c_1 : Ref sig .tc := ⟨.hbm, 1075, rfl⟩
abbrev main_call5_v13 : Ref sig .tc := ⟨.hbm, 1076, rfl⟩
abbrev main_call5_v14 : Ref sig .tc := ⟨.hbm, 1077, rfl⟩
abbrev main_call5_v15 : Ref sig .tc := ⟨.hbm, 1078, rfl⟩
abbrev main_call5_v16 : Ref sig .tc := ⟨.hbm, 1079, rfl⟩
abbrev main_call5_call0_v0 : Ref sig .tc := ⟨.hbm, 1080, rfl⟩
abbrev main_call5_call0_c : Ref sig .tc := ⟨.hbm, 1081, rfl⟩
abbrev main_call5_call0_v1 : Ref sig .tc := ⟨.hbm, 1082, rfl⟩
abbrev main_call5_call0_v2 : Ref sig .tc := ⟨.hbm, 1083, rfl⟩
abbrev main_call5_call0_v3 : Ref sig .tc := ⟨.hbm, 1084, rfl⟩
abbrev main_call5_call0_v4 : Ref sig .tc := ⟨.hbm, 1085, rfl⟩
abbrev main_call5_call0_v5 : Ref sig .tc := ⟨.hbm, 1086, rfl⟩
abbrev main_call5_call0_v6 : Ref sig .tc := ⟨.hbm, 1087, rfl⟩
abbrev main_call5_call0_c_0 : Ref sig .tc := ⟨.hbm, 1088, rfl⟩
abbrev main_call5_call0_v7 : Ref sig .tc := ⟨.hbm, 1089, rfl⟩
abbrev main_call5_call0_v8 : Ref sig .tc := ⟨.hbm, 1090, rfl⟩
abbrev main_call5_call0_c_1 : Ref sig .tc := ⟨.hbm, 1091, rfl⟩
abbrev main_call5_call0_v9 : Ref sig .tc := ⟨.hbm, 1092, rfl⟩
abbrev main_call5_call0_v10 : Ref sig .tc := ⟨.hbm, 1093, rfl⟩
abbrev main_call5_call0_v11 : Ref sig .tc := ⟨.hbm, 1094, rfl⟩
abbrev main_call5_call0_v12 : Ref sig .tc := ⟨.hbm, 1095, rfl⟩
abbrev main_call5_call0_v13 : Ref sig .tc := ⟨.hbm, 1096, rfl⟩
abbrev main_call5_call0_c_2 : Ref sig .tc := ⟨.hbm, 1097, rfl⟩
abbrev main_call5_call0_v14 : Ref sig .tc := ⟨.hbm, 1098, rfl⟩
abbrev main_call5_call0_v15 : Ref sig .tc := ⟨.hbm, 1099, rfl⟩
abbrev main_call5_call0_c_3 : Ref sig .tc := ⟨.hbm, 1100, rfl⟩
abbrev main_call5_call0_v16 : Ref sig .tc := ⟨.hbm, 1101, rfl⟩
abbrev main_call5_call0_v17 : Ref sig .tc := ⟨.hbm, 1102, rfl⟩
abbrev main_call5_call0_v18 : Ref sig .tc := ⟨.hbm, 1103, rfl⟩
abbrev main_call5_call0_v19 : Ref sig .tc := ⟨.hbm, 1104, rfl⟩
abbrev main_call5_call0_v20 : Ref sig .tc := ⟨.hbm, 1105, rfl⟩
abbrev main_call5_call0_c_4 : Ref sig .tc := ⟨.hbm, 1106, rfl⟩
abbrev main_call5_call0_v21 : Ref sig .tc := ⟨.hbm, 1107, rfl⟩
abbrev main_call5_call0_v22 : Ref sig .tc := ⟨.hbm, 1108, rfl⟩
abbrev main_call5_call0_c_5 : Ref sig .tc := ⟨.hbm, 1109, rfl⟩
abbrev main_call5_call0_v23 : Ref sig .tc := ⟨.hbm, 1110, rfl⟩
abbrev main_call5_call0_v24 : Ref sig .tc := ⟨.hbm, 1111, rfl⟩
abbrev main_call5_call0_v25 : Ref sig .tc := ⟨.hbm, 1112, rfl⟩
abbrev main_call5_call0_v26 : Ref sig .tc := ⟨.hbm, 1113, rfl⟩
abbrev main_call5_call0_v27 : Ref sig .tc := ⟨.hbm, 1114, rfl⟩
abbrev main_call5_call0_c_6 : Ref sig .tc := ⟨.hbm, 1115, rfl⟩
abbrev main_call5_call0_v28 : Ref sig .tc := ⟨.hbm, 1116, rfl⟩
abbrev main_call5_call0_v29 : Ref sig .tc := ⟨.hbm, 1117, rfl⟩
abbrev main_call5_call0_c_7 : Ref sig .tc := ⟨.hbm, 1118, rfl⟩
abbrev main_call5_call0_v30 : Ref sig .tc := ⟨.hbm, 1119, rfl⟩
abbrev main_call5_call0_v31 : Ref sig .tc := ⟨.hbm, 1120, rfl⟩
abbrev main_call5_call0_v32 : Ref sig .tc := ⟨.hbm, 1121, rfl⟩
abbrev main_call5_call0_v33 : Ref sig .tc := ⟨.hbm, 1122, rfl⟩
abbrev main_call5_call0_v34 : Ref sig .tc := ⟨.hbm, 1123, rfl⟩
abbrev main_call5_call0_v35 : Ref sig .tc := ⟨.hbm, 1124, rfl⟩
abbrev main_call5_call0_v36 : Ref sig .tc := ⟨.hbm, 1125, rfl⟩
abbrev main_call5_call0_v37 : Ref sig .tc := ⟨.hbm, 1126, rfl⟩
abbrev main_call5_call0_c_8 : Ref sig .tc := ⟨.hbm, 1127, rfl⟩
abbrev main_call5_call0_v38 : Ref sig .tc := ⟨.hbm, 1128, rfl⟩
abbrev main_call5_call0_v39 : Ref sig .tc := ⟨.hbm, 1129, rfl⟩
abbrev main_call5_call0_v40 : Ref sig .tc := ⟨.hbm, 1130, rfl⟩
abbrev main_call5_call0_c_9 : Ref sig .tc := ⟨.hbm, 1131, rfl⟩
abbrev main_call5_call0_v41 : Ref sig .tc := ⟨.hbm, 1132, rfl⟩
abbrev main_call5_call0_v42 : Ref sig .tc := ⟨.hbm, 1133, rfl⟩
abbrev main_call5_call0_c_10 : Ref sig .tc := ⟨.hbm, 1134, rfl⟩
abbrev main_call5_call0_v43 : Ref sig .tc := ⟨.hbm, 1135, rfl⟩
abbrev main_call5_call0_v44 : Ref sig .tc := ⟨.hbm, 1136, rfl⟩
abbrev main_call5_call0_v45 : Ref sig .tc := ⟨.hbm, 1137, rfl⟩
abbrev main_call5_call0_v46 : Ref sig .tc := ⟨.hbm, 1138, rfl⟩
abbrev main_call5_call0_v47 : Ref sig .tc := ⟨.hbm, 1139, rfl⟩
abbrev main_call5_call0_c_11 : Ref sig .tc := ⟨.hbm, 1140, rfl⟩
abbrev main_call5_call0_v48 : Ref sig .tc := ⟨.hbm, 1141, rfl⟩
abbrev main_call5_call0_v49 : Ref sig .tc := ⟨.hbm, 1142, rfl⟩
abbrev main_call5_call0_c_12 : Ref sig .tc := ⟨.hbm, 1143, rfl⟩
abbrev main_call5_call0_v50 : Ref sig .tc := ⟨.hbm, 1144, rfl⟩
abbrev main_call5_call0_v51 : Ref sig .tc := ⟨.hbm, 1145, rfl⟩
abbrev main_call5_call0_v52 : Ref sig .tc := ⟨.hbm, 1146, rfl⟩
abbrev main_call5_call0_v53 : Ref sig .tc := ⟨.hbm, 1147, rfl⟩
abbrev main_call5_call0_v54 : Ref sig .tc := ⟨.hbm, 1148, rfl⟩
abbrev main_call5_call0_c_13 : Ref sig .tc := ⟨.hbm, 1149, rfl⟩
abbrev main_call5_call0_v55 : Ref sig .tc := ⟨.hbm, 1150, rfl⟩
abbrev main_call5_call0_v56 : Ref sig .tc := ⟨.hbm, 1151, rfl⟩
abbrev main_call5_call0_c_14 : Ref sig .tc := ⟨.hbm, 1152, rfl⟩
abbrev main_call5_call0_v57 : Ref sig .tc := ⟨.hbm, 1153, rfl⟩
abbrev main_call5_call0_v58 : Ref sig .tc := ⟨.hbm, 1154, rfl⟩
abbrev main_call5_call0_v59 : Ref sig .tc := ⟨.hbm, 1155, rfl⟩
abbrev main_call5_call0_v60 : Ref sig .tc := ⟨.hbm, 1156, rfl⟩
abbrev main_call5_call0_v61 : Ref sig .tc := ⟨.hbm, 1157, rfl⟩
abbrev main_call5_call0_c_15 : Ref sig .tc := ⟨.hbm, 1158, rfl⟩
abbrev main_call5_call0_v62 : Ref sig .tc := ⟨.hbm, 1159, rfl⟩
abbrev main_call5_call0_v63 : Ref sig .tc := ⟨.hbm, 1160, rfl⟩
abbrev main_call5_call0_c_16 : Ref sig .tc := ⟨.hbm, 1161, rfl⟩
abbrev main_call5_call0_v64 : Ref sig .tc := ⟨.hbm, 1162, rfl⟩
abbrev main_call5_call0_v65 : Ref sig .tc := ⟨.hbm, 1163, rfl⟩
abbrev main_call5_call0_v66 : Ref sig .tc := ⟨.hbm, 1164, rfl⟩
abbrev main_call5_call0_v67 : Ref sig .tc := ⟨.hbm, 1165, rfl⟩
abbrev main_call5_call0_v68 : Ref sig .tc := ⟨.hbm, 1166, rfl⟩
abbrev main_call5_call0_v69 : Ref sig .tc := ⟨.hbm, 1167, rfl⟩
abbrev main_call5_call0_v70 : Ref sig .tc := ⟨.hbm, 1168, rfl⟩
abbrev main_call5_call0_v71 : Ref sig .tc := ⟨.hbm, 1169, rfl⟩
abbrev main_call5_call0_c_17 : Ref sig .tc := ⟨.hbm, 1170, rfl⟩
abbrev main_call5_call0_v72 : Ref sig .tc := ⟨.hbm, 1171, rfl⟩
abbrev main_call5_call0_v73 : Ref sig .tc := ⟨.hbm, 1172, rfl⟩
abbrev main_call5_call0_v74 : Ref sig .tc := ⟨.hbm, 1173, rfl⟩
abbrev main_call5_call0_c_18 : Ref sig .tc := ⟨.hbm, 1174, rfl⟩
abbrev main_call5_call0_v75 : Ref sig .tc := ⟨.hbm, 1175, rfl⟩
abbrev main_call5_call0_v76 : Ref sig .tc := ⟨.hbm, 1176, rfl⟩
abbrev main_call5_call0_c_19 : Ref sig .tc := ⟨.hbm, 1177, rfl⟩
abbrev main_call5_call0_v77 : Ref sig .tc := ⟨.hbm, 1178, rfl⟩
abbrev main_call5_call0_v78 : Ref sig .tc := ⟨.hbm, 1179, rfl⟩
abbrev main_call5_call0_v79 : Ref sig .tc := ⟨.hbm, 1180, rfl⟩
abbrev main_call5_call0_v80 : Ref sig .tc := ⟨.hbm, 1181, rfl⟩
abbrev main_call5_call0_v81 : Ref sig .tc := ⟨.hbm, 1182, rfl⟩
abbrev main_call5_call0_c_20 : Ref sig .tc := ⟨.hbm, 1183, rfl⟩
abbrev main_call5_call0_v82 : Ref sig .tc := ⟨.hbm, 1184, rfl⟩
abbrev main_call5_call0_v83 : Ref sig .tc := ⟨.hbm, 1185, rfl⟩
abbrev main_call5_call0_c_21 : Ref sig .tc := ⟨.hbm, 1186, rfl⟩
abbrev main_call5_call0_v84 : Ref sig .tc := ⟨.hbm, 1187, rfl⟩
abbrev main_call5_call0_v85 : Ref sig .tc := ⟨.hbm, 1188, rfl⟩
abbrev main_call5_call0_v86 : Ref sig .tc := ⟨.hbm, 1189, rfl⟩
abbrev main_call5_call0_v87 : Ref sig .tc := ⟨.hbm, 1190, rfl⟩
abbrev main_call5_call0_v88 : Ref sig .tc := ⟨.hbm, 1191, rfl⟩
abbrev main_call5_call0_c_22 : Ref sig .tc := ⟨.hbm, 1192, rfl⟩
abbrev main_call5_call0_v89 : Ref sig .tc := ⟨.hbm, 1193, rfl⟩
abbrev main_call5_call0_v90 : Ref sig .tc := ⟨.hbm, 1194, rfl⟩
abbrev main_call5_call0_c_23 : Ref sig .tc := ⟨.hbm, 1195, rfl⟩
abbrev main_call5_call0_v91 : Ref sig .tc := ⟨.hbm, 1196, rfl⟩
abbrev main_call5_call0_v92 : Ref sig .tc := ⟨.hbm, 1197, rfl⟩
abbrev main_call5_call0_v93 : Ref sig .tc := ⟨.hbm, 1198, rfl⟩
abbrev main_call5_call0_v94 : Ref sig .tc := ⟨.hbm, 1199, rfl⟩
abbrev main_call5_call0_v95 : Ref sig .tc := ⟨.hbm, 1200, rfl⟩
abbrev main_call5_call0_c_24 : Ref sig .tc := ⟨.hbm, 1201, rfl⟩
abbrev main_call5_call0_v96 : Ref sig .tc := ⟨.hbm, 1202, rfl⟩
abbrev main_call5_call0_v97 : Ref sig .tc := ⟨.hbm, 1203, rfl⟩
abbrev main_call5_call0_c_25 : Ref sig .tc := ⟨.hbm, 1204, rfl⟩
abbrev main_call5_call0_v98 : Ref sig .tc := ⟨.hbm, 1205, rfl⟩
abbrev main_call5_call0_v99 : Ref sig .tc := ⟨.hbm, 1206, rfl⟩
abbrev main_call5_call0_v100 : Ref sig .tc := ⟨.hbm, 1207, rfl⟩
abbrev main_call5_call0_v101 : Ref sig .tc := ⟨.hbm, 1208, rfl⟩
abbrev main_call5_call0_v102 : Ref sig .tc := ⟨.hbm, 1209, rfl⟩
abbrev main_call5_call0_v103 : Ref sig .tc := ⟨.hbm, 1210, rfl⟩
abbrev main_call5_call0_v104 : Ref sig .tc := ⟨.hbm, 1211, rfl⟩
abbrev main_call5_call0_v105 : Ref sig .tc := ⟨.hbm, 1212, rfl⟩
abbrev main_call5_call0_c_26 : Ref sig .tc := ⟨.hbm, 1213, rfl⟩
abbrev main_call5_call0_v106 : Ref sig .tc := ⟨.hbm, 1214, rfl⟩
abbrev main_call5_call0_v107 : Ref sig .tc := ⟨.hbm, 1215, rfl⟩
abbrev main_call5_call0_v108 : Ref sig .tc := ⟨.hbm, 1216, rfl⟩
abbrev main_call5_call0_c_27 : Ref sig .tc := ⟨.hbm, 1217, rfl⟩
abbrev main_call5_call0_v109 : Ref sig .tc := ⟨.hbm, 1218, rfl⟩
abbrev main_call5_call0_v110 : Ref sig .tc := ⟨.hbm, 1219, rfl⟩
abbrev main_call5_call0_c_28 : Ref sig .tc := ⟨.hbm, 1220, rfl⟩
abbrev main_call5_call0_v111 : Ref sig .tc := ⟨.hbm, 1221, rfl⟩
abbrev main_call5_call0_v112 : Ref sig .tc := ⟨.hbm, 1222, rfl⟩
abbrev main_call5_call0_v113 : Ref sig .tc := ⟨.hbm, 1223, rfl⟩
abbrev main_call5_call0_v114 : Ref sig .tc := ⟨.hbm, 1224, rfl⟩
abbrev main_call5_call0_v115 : Ref sig .tc := ⟨.hbm, 1225, rfl⟩
abbrev main_call5_call0_c_29 : Ref sig .tc := ⟨.hbm, 1226, rfl⟩
abbrev main_call5_call0_v116 : Ref sig .tc := ⟨.hbm, 1227, rfl⟩
abbrev main_call5_call0_v117 : Ref sig .tc := ⟨.hbm, 1228, rfl⟩
abbrev main_call5_call0_c_30 : Ref sig .tc := ⟨.hbm, 1229, rfl⟩
abbrev main_call5_call0_v118 : Ref sig .tc := ⟨.hbm, 1230, rfl⟩
abbrev main_call5_call0_v119 : Ref sig .tc := ⟨.hbm, 1231, rfl⟩
abbrev main_call5_call0_v120 : Ref sig .tc := ⟨.hbm, 1232, rfl⟩
abbrev main_call5_call0_v121 : Ref sig .tc := ⟨.hbm, 1233, rfl⟩
abbrev main_call5_call0_v122 : Ref sig .tc := ⟨.hbm, 1234, rfl⟩
abbrev main_call5_call0_c_31 : Ref sig .tc := ⟨.hbm, 1235, rfl⟩
abbrev main_call5_call0_v123 : Ref sig .tc := ⟨.hbm, 1236, rfl⟩
abbrev main_call5_call0_v124 : Ref sig .tc := ⟨.hbm, 1237, rfl⟩
abbrev main_call5_call0_c_32 : Ref sig .tc := ⟨.hbm, 1238, rfl⟩
abbrev main_call5_call0_v125 : Ref sig .tc := ⟨.hbm, 1239, rfl⟩
abbrev main_call5_call0_v126 : Ref sig .tc := ⟨.hbm, 1240, rfl⟩
abbrev main_call5_call0_v127 : Ref sig .tc := ⟨.hbm, 1241, rfl⟩
abbrev main_call5_call0_v128 : Ref sig .tc := ⟨.hbm, 1242, rfl⟩
abbrev main_call5_call0_v129 : Ref sig .tc := ⟨.hbm, 1243, rfl⟩
abbrev main_call5_call0_c_33 : Ref sig .tc := ⟨.hbm, 1244, rfl⟩
abbrev main_call5_call0_v130 : Ref sig .tc := ⟨.hbm, 1245, rfl⟩
abbrev main_call5_call0_v131 : Ref sig .tc := ⟨.hbm, 1246, rfl⟩
abbrev main_call5_call0_c_34 : Ref sig .tc := ⟨.hbm, 1247, rfl⟩
abbrev main_call5_call0_v132 : Ref sig .tc := ⟨.hbm, 1248, rfl⟩
abbrev main_call5_call0_v133 : Ref sig .tc := ⟨.hbm, 1249, rfl⟩
abbrev main_call5_call0_v134 : Ref sig .tc := ⟨.hbm, 1250, rfl⟩
abbrev main_call5_call0_v135 : Ref sig .tc := ⟨.hbm, 1251, rfl⟩
abbrev main_call5_call0_v136 : Ref sig .tc := ⟨.hbm, 1252, rfl⟩
abbrev main_call5_call0_v137 : Ref sig .tc := ⟨.hbm, 1253, rfl⟩
abbrev main_call5_call0_v138 : Ref sig .tc := ⟨.hbm, 1254, rfl⟩
abbrev main_call5_call0_v139 : Ref sig .tc := ⟨.hbm, 1255, rfl⟩
abbrev main_call5_call0_c_35 : Ref sig .tc := ⟨.hbm, 1256, rfl⟩
abbrev main_call5_call0_v140 : Ref sig .tc := ⟨.hbm, 1257, rfl⟩
abbrev main_call5_call0_v141 : Ref sig .tc := ⟨.hbm, 1258, rfl⟩
abbrev main_call5_call0_v142 : Ref sig .tc := ⟨.hbm, 1259, rfl⟩
abbrev main_call5_call0_c_36 : Ref sig .tc := ⟨.hbm, 1260, rfl⟩
abbrev main_call5_call0_v143 : Ref sig .tc := ⟨.hbm, 1261, rfl⟩
abbrev main_call5_call0_v144 : Ref sig .tc := ⟨.hbm, 1262, rfl⟩
abbrev main_call5_call0_c_37 : Ref sig .tc := ⟨.hbm, 1263, rfl⟩
abbrev main_call5_call0_v145 : Ref sig .tc := ⟨.hbm, 1264, rfl⟩
abbrev main_call5_call0_v146 : Ref sig .tc := ⟨.hbm, 1265, rfl⟩
abbrev main_call5_call0_v147 : Ref sig .tc := ⟨.hbm, 1266, rfl⟩
abbrev main_call5_call0_v148 : Ref sig .tc := ⟨.hbm, 1267, rfl⟩
abbrev main_call5_call0_v149 : Ref sig .tc := ⟨.hbm, 1268, rfl⟩
abbrev main_call5_call0_c_38 : Ref sig .tc := ⟨.hbm, 1269, rfl⟩
abbrev main_call5_call0_v150 : Ref sig .tc := ⟨.hbm, 1270, rfl⟩
abbrev main_call5_call0_v151 : Ref sig .tc := ⟨.hbm, 1271, rfl⟩
abbrev main_call5_call0_c_39 : Ref sig .tc := ⟨.hbm, 1272, rfl⟩
abbrev main_call5_call0_v152 : Ref sig .tc := ⟨.hbm, 1273, rfl⟩
abbrev main_call5_call0_v153 : Ref sig .tc := ⟨.hbm, 1274, rfl⟩
abbrev main_call5_call0_v154 : Ref sig .tc := ⟨.hbm, 1275, rfl⟩
abbrev main_call5_call0_v155 : Ref sig .tc := ⟨.hbm, 1276, rfl⟩
abbrev main_call5_call0_v156 : Ref sig .tc := ⟨.hbm, 1277, rfl⟩
abbrev main_call5_call0_c_40 : Ref sig .tc := ⟨.hbm, 1278, rfl⟩
abbrev main_call5_call0_v157 : Ref sig .tc := ⟨.hbm, 1279, rfl⟩
abbrev main_call5_call0_v158 : Ref sig .tc := ⟨.hbm, 1280, rfl⟩
abbrev main_call5_call0_c_41 : Ref sig .tc := ⟨.hbm, 1281, rfl⟩
abbrev main_call5_call0_v159 : Ref sig .tc := ⟨.hbm, 1282, rfl⟩
abbrev main_call5_call0_v160 : Ref sig .tc := ⟨.hbm, 1283, rfl⟩
abbrev main_call5_call0_v161 : Ref sig .tc := ⟨.hbm, 1284, rfl⟩
abbrev main_call5_call0_v162 : Ref sig .tc := ⟨.hbm, 1285, rfl⟩
abbrev main_call5_call0_v163 : Ref sig .tc := ⟨.hbm, 1286, rfl⟩
abbrev main_call5_call0_c_42 : Ref sig .tc := ⟨.hbm, 1287, rfl⟩
abbrev main_call5_call0_v164 : Ref sig .tc := ⟨.hbm, 1288, rfl⟩
abbrev main_call5_call0_v165 : Ref sig .tc := ⟨.hbm, 1289, rfl⟩
abbrev main_call5_call0_c_43 : Ref sig .tc := ⟨.hbm, 1290, rfl⟩
abbrev main_call5_call0_v166 : Ref sig .tc := ⟨.hbm, 1291, rfl⟩
abbrev main_call5_call0_v167 : Ref sig .tc := ⟨.hbm, 1292, rfl⟩
abbrev main_call5_call0_v168 : Ref sig .tc := ⟨.hbm, 1293, rfl⟩
abbrev main_call5_call0_v169 : Ref sig .tc := ⟨.hbm, 1294, rfl⟩
abbrev main_call5_call0_v170 : Ref sig .tc := ⟨.hbm, 1295, rfl⟩
abbrev main_call5_v17_0 : Ref sig .tc := ⟨.hbm, 1296, rfl⟩
abbrev main_call5_call0_v172 : Ref sig .tc := ⟨.hbm, 1297, rfl⟩
abbrev main_call5_call0_v173 : Ref sig .tc := ⟨.hbm, 1298, rfl⟩
abbrev main_call5_call0_c_44 : Ref sig .tc := ⟨.hbm, 1299, rfl⟩
abbrev main_call5_call0_v174 : Ref sig .tc := ⟨.hbm, 1300, rfl⟩
abbrev main_call5_v17_1 : Ref sig .tc := ⟨.hbm, 1301, rfl⟩
abbrev main_call5_v18 : Ref sig .tc := ⟨.hbm, 1302, rfl⟩
abbrev main_call5_c_2 : Ref sig .tc := ⟨.hbm, 1303, rfl⟩
abbrev main_call5_v19 : Ref sig .tc := ⟨.hbm, 1304, rfl⟩
abbrev main_call5_v20 : Ref sig .tc := ⟨.hbm, 1305, rfl⟩
abbrev main_call5_c_3 : Ref sig .tc := ⟨.hbm, 1306, rfl⟩
abbrev main_call5_v21 : Ref sig .tc := ⟨.hbm, 1307, rfl⟩
abbrev main_call5_v22 : Ref sig .tc := ⟨.hbm, 1308, rfl⟩
abbrev main_call5_v23 : Ref sig .tc := ⟨.hbm, 1309, rfl⟩
abbrev main_call5_cst : Ref sig .tc := ⟨.hbm, 1310, rfl⟩
abbrev main_call5_v24 : Ref sig .tc := ⟨.hbm, 1311, rfl⟩
abbrev main_call5_v25 : Ref sig .tc := ⟨.hbm, 1312, rfl⟩
abbrev main_call5_v26 : Ref sig .tc := ⟨.hbm, 1313, rfl⟩
abbrev main_call5_v27 : Ref sig .tc := ⟨.hbm, 1314, rfl⟩
abbrev main_call5_v28 : Ref sig .tc := ⟨.hbm, 1315, rfl⟩
abbrev main_call5_v29 : Ref sig .tc := ⟨.hbm, 1316, rfl⟩
abbrev main_call5_v30 : Ref sig .tc := ⟨.hbm, 1317, rfl⟩
abbrev main_call5_v31 : Ref sig .tc := ⟨.hbm, 1318, rfl⟩
abbrev main_v34 : Ref sig .tc := ⟨.hbm, 1319, rfl⟩
abbrev main_cst_13 : Ref sig .tc := ⟨.hbm, 1320, rfl⟩
abbrev main_v35 : Ref sig .tc := ⟨.hbm, 1321, rfl⟩
abbrev main_v36 : Ref sig .tc := ⟨.hbm, 1322, rfl⟩
abbrev main_v37 : Ref sig .tc := ⟨.hbm, 1323, rfl⟩
abbrev main_v38 : Ref sig .tc := ⟨.hbm, 1324, rfl⟩
abbrev main_v39 : Ref sig .tc := ⟨.hbm, 1325, rfl⟩
abbrev main_v40 : Ref sig .tc := ⟨.hbm, 1326, rfl⟩
abbrev main_call6_v0 : Ref sig .tc := ⟨.hbm, 1327, rfl⟩
abbrev main_call6_v1 : Ref sig .tc := ⟨.hbm, 1328, rfl⟩
abbrev main_call6_v2 : Ref sig .tc := ⟨.hbm, 1329, rfl⟩
abbrev main_call6_v3 : Ref sig .tc := ⟨.hbm, 1330, rfl⟩
abbrev main_call6_v4 : Ref sig .tc := ⟨.hbm, 1331, rfl⟩
abbrev main_call6_v5 : Ref sig .tc := ⟨.hbm, 1332, rfl⟩
abbrev main_call6_v6 : Ref sig .tc := ⟨.hbm, 1333, rfl⟩
abbrev main_call6_v7 : Ref sig .tc := ⟨.hbm, 1334, rfl⟩
abbrev main_call6_v8 : Ref sig .tc := ⟨.hbm, 1335, rfl⟩
abbrev main_call6_v9 : Ref sig .tc := ⟨.hbm, 1336, rfl⟩
abbrev main_call6_v10 : Ref sig .tc := ⟨.hbm, 1337, rfl⟩
abbrev main_call6_v11 : Ref sig .tc := ⟨.hbm, 1338, rfl⟩
abbrev main_call6_v12 : Ref sig .tc := ⟨.hbm, 1339, rfl⟩
abbrev main_call6_v13 : Ref sig .tc := ⟨.hbm, 1340, rfl⟩
abbrev main_call6_v14 : Ref sig .tc := ⟨.hbm, 1341, rfl⟩
abbrev main_call6_v15 : Ref sig .tc := ⟨.hbm, 1342, rfl⟩
abbrev main_call6_v16 : Ref sig .tc := ⟨.hbm, 1343, rfl⟩
abbrev main_call6_v17 : Ref sig .tc := ⟨.hbm, 1344, rfl⟩
abbrev main_call6_v18 : Ref sig .tc := ⟨.hbm, 1345, rfl⟩
abbrev main_call6_v19 : Ref sig .tc := ⟨.hbm, 1346, rfl⟩
abbrev main_call6_v20 : Ref sig .tc := ⟨.hbm, 1347, rfl⟩
abbrev main_call6_v21 : Ref sig .tc := ⟨.hbm, 1348, rfl⟩
abbrev main_call6_v22 : Ref sig .tc := ⟨.hbm, 1349, rfl⟩
abbrev main_call6_v23 : Ref sig .tc := ⟨.hbm, 1350, rfl⟩
abbrev main_call6_v24 : Ref sig .tc := ⟨.hbm, 1351, rfl⟩
abbrev main_call6_v25 : Ref sig .tc := ⟨.hbm, 1352, rfl⟩
abbrev main_call6_v26 : Ref sig .tc := ⟨.hbm, 1353, rfl⟩
abbrev main_call6_v27 : Ref sig .tc := ⟨.hbm, 1354, rfl⟩
abbrev main_call6_v28 : Ref sig .tc := ⟨.hbm, 1355, rfl⟩
abbrev main_call6_v29 : Ref sig .tc := ⟨.hbm, 1356, rfl⟩
abbrev main_call6_v30 : Ref sig .tc := ⟨.hbm, 1357, rfl⟩
abbrev main_call6_v31 : Ref sig .tc := ⟨.hbm, 1358, rfl⟩
abbrev main_call6_v32 : Ref sig .tc := ⟨.hbm, 1359, rfl⟩
abbrev main_call6_v33 : Ref sig .tc := ⟨.hbm, 1360, rfl⟩
abbrev main_call6_v34 : Ref sig .tc := ⟨.hbm, 1361, rfl⟩
abbrev main_call6_v35 : Ref sig .tc := ⟨.hbm, 1362, rfl⟩
abbrev main_call6_v36 : Ref sig .tc := ⟨.hbm, 1363, rfl⟩
abbrev main_v41 : Ref sig .tc := ⟨.hbm, 1364, rfl⟩
abbrev main_v42 : Ref sig .tc := ⟨.hbm, 1365, rfl⟩
abbrev main_v43 : Ref sig .tc := ⟨.hbm, 1366, rfl⟩
abbrev main_v44 : Ref sig .tc := ⟨.hbm, 1367, rfl⟩
abbrev main_cst_14 : Ref sig .tc := ⟨.hbm, 1368, rfl⟩
abbrev main_v45 : Ref sig .tc := ⟨.hbm, 1369, rfl⟩
abbrev main_v46 : Ref sig .tc := ⟨.hbm, 1370, rfl⟩
abbrev main_v47 : Ref sig .tc := ⟨.hbm, 1371, rfl⟩
abbrev main_v48 : Ref sig .tc := ⟨.hbm, 1372, rfl⟩
abbrev main_v49 : Ref sig .tc := ⟨.hbm, 1373, rfl⟩
abbrev main_v50 : Ref sig .tc := ⟨.hbm, 1374, rfl⟩
abbrev main_v51 : Ref sig .tc := ⟨.hbm, 1375, rfl⟩
abbrev main_cst_15 : Ref sig .tc := ⟨.hbm, 1376, rfl⟩
abbrev main_v52 : Ref sig .tc := ⟨.hbm, 1377, rfl⟩
abbrev main_v53 : Ref sig .tc := ⟨.hbm, 1378, rfl⟩
abbrev main_v54 : Ref sig .tc := ⟨.hbm, 1379, rfl⟩
abbrev main_v55 : Ref sig .tc := ⟨.hbm, 1380, rfl⟩
abbrev main_v56 : Ref sig .tc := ⟨.hbm, 1381, rfl⟩
abbrev main_v57 : Ref sig .tc := ⟨.hbm, 1382, rfl⟩
abbrev main_v58 : Ref sig .tc := ⟨.hbm, 1383, rfl⟩
abbrev main_v59 : Ref sig .tc := ⟨.hbm, 1384, rfl⟩
abbrev main_v60 : Ref sig .tc := ⟨.hbm, 1385, rfl⟩
abbrev main_v61 : Ref sig .tc := ⟨.hbm, 1386, rfl⟩
abbrev main_v62 : Ref sig .tc := ⟨.hbm, 1387, rfl⟩
abbrev main_cst_16 : Ref sig .tc := ⟨.hbm, 1388, rfl⟩
abbrev main_v63 : Ref sig .tc := ⟨.hbm, 1389, rfl⟩
abbrev main_cst_17 : Ref sig .tc := ⟨.hbm, 1390, rfl⟩
abbrev main_v64 : Ref sig .tc := ⟨.hbm, 1391, rfl⟩
abbrev main_cst_18 : Ref sig .tc := ⟨.hbm, 1392, rfl⟩
abbrev main_v65 : Ref sig .tc := ⟨.hbm, 1393, rfl⟩
abbrev main_v66 : Ref sig .tc := ⟨.hbm, 1394, rfl⟩
abbrev main_cst_19 : Ref sig .tc := ⟨.hbm, 1395, rfl⟩
abbrev main_cst_20 : Ref sig .tc := ⟨.hbm, 1396, rfl⟩
abbrev main_call7_v0 : Ref sig .tc := ⟨.hbm, 1397, rfl⟩
abbrev main_call7_v1 : Ref sig .tc := ⟨.hbm, 1398, rfl⟩
abbrev main_call7_v2 : Ref sig .tc := ⟨.hbm, 1399, rfl⟩
abbrev main_call7_v3 : Ref sig .tc := ⟨.hbm, 1400, rfl⟩
abbrev main_call7_v4 : Ref sig .tc := ⟨.hbm, 1401, rfl⟩
abbrev main_call7_v5 : Ref sig .tc := ⟨.hbm, 1402, rfl⟩
abbrev main_call7_v6 : Ref sig .tc := ⟨.hbm, 1403, rfl⟩
abbrev main_call7_v7 : Ref sig .tc := ⟨.hbm, 1404, rfl⟩
abbrev main_call7_c : Ref sig .tc := ⟨.hbm, 1405, rfl⟩
abbrev main_call7_v8 : Ref sig .tc := ⟨.hbm, 1406, rfl⟩
abbrev main_call7_v9 : Ref sig .tc := ⟨.hbm, 1407, rfl⟩
abbrev main_call7_c_0 : Ref sig .tc := ⟨.hbm, 1408, rfl⟩
abbrev main_call7_v10 : Ref sig .tc := ⟨.hbm, 1409, rfl⟩
abbrev main_call7_v11 : Ref sig .tc := ⟨.hbm, 1410, rfl⟩
abbrev main_call7_v12 : Ref sig .tc := ⟨.hbm, 1411, rfl⟩
abbrev main_call7_c_1 : Ref sig .tc := ⟨.hbm, 1412, rfl⟩
abbrev main_call7_v13 : Ref sig .tc := ⟨.hbm, 1413, rfl⟩
abbrev main_call7_v14 : Ref sig .tc := ⟨.hbm, 1414, rfl⟩
abbrev main_call7_v15 : Ref sig .tc := ⟨.hbm, 1415, rfl⟩
abbrev main_call7_v16 : Ref sig .tc := ⟨.hbm, 1416, rfl⟩
abbrev main_call7_call0_v0 : Ref sig .tc := ⟨.hbm, 1417, rfl⟩
abbrev main_call7_call0_c : Ref sig .tc := ⟨.hbm, 1418, rfl⟩
abbrev main_call7_call0_v1 : Ref sig .tc := ⟨.hbm, 1419, rfl⟩
abbrev main_call7_call0_v2 : Ref sig .tc := ⟨.hbm, 1420, rfl⟩
abbrev main_call7_call0_v3 : Ref sig .tc := ⟨.hbm, 1421, rfl⟩
abbrev main_call7_call0_v4 : Ref sig .tc := ⟨.hbm, 1422, rfl⟩
abbrev main_call7_call0_v5 : Ref sig .tc := ⟨.hbm, 1423, rfl⟩
abbrev main_call7_call0_v6 : Ref sig .tc := ⟨.hbm, 1424, rfl⟩
abbrev main_call7_call0_c_0 : Ref sig .tc := ⟨.hbm, 1425, rfl⟩
abbrev main_call7_call0_v7 : Ref sig .tc := ⟨.hbm, 1426, rfl⟩
abbrev main_call7_call0_v8 : Ref sig .tc := ⟨.hbm, 1427, rfl⟩
abbrev main_call7_call0_c_1 : Ref sig .tc := ⟨.hbm, 1428, rfl⟩
abbrev main_call7_call0_v9 : Ref sig .tc := ⟨.hbm, 1429, rfl⟩
abbrev main_call7_call0_v10 : Ref sig .tc := ⟨.hbm, 1430, rfl⟩
abbrev main_call7_call0_v11 : Ref sig .tc := ⟨.hbm, 1431, rfl⟩
abbrev main_call7_call0_v12 : Ref sig .tc := ⟨.hbm, 1432, rfl⟩
abbrev main_call7_call0_v13 : Ref sig .tc := ⟨.hbm, 1433, rfl⟩
abbrev main_call7_call0_c_2 : Ref sig .tc := ⟨.hbm, 1434, rfl⟩
abbrev main_call7_call0_v14 : Ref sig .tc := ⟨.hbm, 1435, rfl⟩
abbrev main_call7_call0_v15 : Ref sig .tc := ⟨.hbm, 1436, rfl⟩
abbrev main_call7_call0_c_3 : Ref sig .tc := ⟨.hbm, 1437, rfl⟩
abbrev main_call7_call0_v16 : Ref sig .tc := ⟨.hbm, 1438, rfl⟩
abbrev main_call7_call0_v17 : Ref sig .tc := ⟨.hbm, 1439, rfl⟩
abbrev main_call7_call0_v18 : Ref sig .tc := ⟨.hbm, 1440, rfl⟩
abbrev main_call7_call0_v19 : Ref sig .tc := ⟨.hbm, 1441, rfl⟩
abbrev main_call7_call0_v20 : Ref sig .tc := ⟨.hbm, 1442, rfl⟩
abbrev main_call7_call0_c_4 : Ref sig .tc := ⟨.hbm, 1443, rfl⟩
abbrev main_call7_call0_v21 : Ref sig .tc := ⟨.hbm, 1444, rfl⟩
abbrev main_call7_call0_v22 : Ref sig .tc := ⟨.hbm, 1445, rfl⟩
abbrev main_call7_call0_c_5 : Ref sig .tc := ⟨.hbm, 1446, rfl⟩
abbrev main_call7_call0_v23 : Ref sig .tc := ⟨.hbm, 1447, rfl⟩
abbrev main_call7_call0_v24 : Ref sig .tc := ⟨.hbm, 1448, rfl⟩
abbrev main_call7_call0_v25 : Ref sig .tc := ⟨.hbm, 1449, rfl⟩
abbrev main_call7_call0_v26 : Ref sig .tc := ⟨.hbm, 1450, rfl⟩
abbrev main_call7_call0_v27 : Ref sig .tc := ⟨.hbm, 1451, rfl⟩
abbrev main_call7_call0_c_6 : Ref sig .tc := ⟨.hbm, 1452, rfl⟩
abbrev main_call7_call0_v28 : Ref sig .tc := ⟨.hbm, 1453, rfl⟩
abbrev main_call7_call0_v29 : Ref sig .tc := ⟨.hbm, 1454, rfl⟩
abbrev main_call7_call0_c_7 : Ref sig .tc := ⟨.hbm, 1455, rfl⟩
abbrev main_call7_call0_v30 : Ref sig .tc := ⟨.hbm, 1456, rfl⟩
abbrev main_call7_call0_v31 : Ref sig .tc := ⟨.hbm, 1457, rfl⟩
abbrev main_call7_call0_v32 : Ref sig .tc := ⟨.hbm, 1458, rfl⟩
abbrev main_call7_call0_v33 : Ref sig .tc := ⟨.hbm, 1459, rfl⟩
abbrev main_call7_call0_v34 : Ref sig .tc := ⟨.hbm, 1460, rfl⟩
abbrev main_call7_call0_v35 : Ref sig .tc := ⟨.hbm, 1461, rfl⟩
abbrev main_call7_call0_v36 : Ref sig .tc := ⟨.hbm, 1462, rfl⟩
abbrev main_call7_call0_v37 : Ref sig .tc := ⟨.hbm, 1463, rfl⟩
abbrev main_call7_call0_c_8 : Ref sig .tc := ⟨.hbm, 1464, rfl⟩
abbrev main_call7_call0_v38 : Ref sig .tc := ⟨.hbm, 1465, rfl⟩
abbrev main_call7_call0_v39 : Ref sig .tc := ⟨.hbm, 1466, rfl⟩
abbrev main_call7_call0_v40 : Ref sig .tc := ⟨.hbm, 1467, rfl⟩
abbrev main_call7_call0_c_9 : Ref sig .tc := ⟨.hbm, 1468, rfl⟩
abbrev main_call7_call0_v41 : Ref sig .tc := ⟨.hbm, 1469, rfl⟩
abbrev main_call7_call0_v42 : Ref sig .tc := ⟨.hbm, 1470, rfl⟩
abbrev main_call7_call0_c_10 : Ref sig .tc := ⟨.hbm, 1471, rfl⟩
abbrev main_call7_call0_v43 : Ref sig .tc := ⟨.hbm, 1472, rfl⟩
abbrev main_call7_call0_v44 : Ref sig .tc := ⟨.hbm, 1473, rfl⟩
abbrev main_call7_call0_v45 : Ref sig .tc := ⟨.hbm, 1474, rfl⟩
abbrev main_call7_call0_v46 : Ref sig .tc := ⟨.hbm, 1475, rfl⟩
abbrev main_call7_call0_v47 : Ref sig .tc := ⟨.hbm, 1476, rfl⟩
abbrev main_call7_call0_c_11 : Ref sig .tc := ⟨.hbm, 1477, rfl⟩
abbrev main_call7_call0_v48 : Ref sig .tc := ⟨.hbm, 1478, rfl⟩
abbrev main_call7_call0_v49 : Ref sig .tc := ⟨.hbm, 1479, rfl⟩
abbrev main_call7_call0_c_12 : Ref sig .tc := ⟨.hbm, 1480, rfl⟩
abbrev main_call7_call0_v50 : Ref sig .tc := ⟨.hbm, 1481, rfl⟩
abbrev main_call7_call0_v51 : Ref sig .tc := ⟨.hbm, 1482, rfl⟩
abbrev main_call7_call0_v52 : Ref sig .tc := ⟨.hbm, 1483, rfl⟩
abbrev main_call7_call0_v53 : Ref sig .tc := ⟨.hbm, 1484, rfl⟩
abbrev main_call7_call0_v54 : Ref sig .tc := ⟨.hbm, 1485, rfl⟩
abbrev main_call7_call0_c_13 : Ref sig .tc := ⟨.hbm, 1486, rfl⟩
abbrev main_call7_call0_v55 : Ref sig .tc := ⟨.hbm, 1487, rfl⟩
abbrev main_call7_call0_v56 : Ref sig .tc := ⟨.hbm, 1488, rfl⟩
abbrev main_call7_call0_c_14 : Ref sig .tc := ⟨.hbm, 1489, rfl⟩
abbrev main_call7_call0_v57 : Ref sig .tc := ⟨.hbm, 1490, rfl⟩
abbrev main_call7_call0_v58 : Ref sig .tc := ⟨.hbm, 1491, rfl⟩
abbrev main_call7_call0_v59 : Ref sig .tc := ⟨.hbm, 1492, rfl⟩
abbrev main_call7_call0_v60 : Ref sig .tc := ⟨.hbm, 1493, rfl⟩
abbrev main_call7_call0_v61 : Ref sig .tc := ⟨.hbm, 1494, rfl⟩
abbrev main_call7_call0_c_15 : Ref sig .tc := ⟨.hbm, 1495, rfl⟩
abbrev main_call7_call0_v62 : Ref sig .tc := ⟨.hbm, 1496, rfl⟩
abbrev main_call7_call0_v63 : Ref sig .tc := ⟨.hbm, 1497, rfl⟩
abbrev main_call7_call0_c_16 : Ref sig .tc := ⟨.hbm, 1498, rfl⟩
abbrev main_call7_call0_v64 : Ref sig .tc := ⟨.hbm, 1499, rfl⟩
abbrev main_call7_call0_v65 : Ref sig .tc := ⟨.hbm, 1500, rfl⟩
abbrev main_call7_call0_v66 : Ref sig .tc := ⟨.hbm, 1501, rfl⟩
abbrev main_call7_call0_v67 : Ref sig .tc := ⟨.hbm, 1502, rfl⟩
abbrev main_call7_call0_v68 : Ref sig .tc := ⟨.hbm, 1503, rfl⟩
abbrev main_call7_call0_v69 : Ref sig .tc := ⟨.hbm, 1504, rfl⟩
abbrev main_call7_call0_v70 : Ref sig .tc := ⟨.hbm, 1505, rfl⟩
abbrev main_call7_call0_v71 : Ref sig .tc := ⟨.hbm, 1506, rfl⟩
abbrev main_call7_call0_c_17 : Ref sig .tc := ⟨.hbm, 1507, rfl⟩
abbrev main_call7_call0_v72 : Ref sig .tc := ⟨.hbm, 1508, rfl⟩
abbrev main_call7_call0_v73 : Ref sig .tc := ⟨.hbm, 1509, rfl⟩
abbrev main_call7_call0_v74 : Ref sig .tc := ⟨.hbm, 1510, rfl⟩
abbrev main_call7_call0_c_18 : Ref sig .tc := ⟨.hbm, 1511, rfl⟩
abbrev main_call7_call0_v75 : Ref sig .tc := ⟨.hbm, 1512, rfl⟩
abbrev main_call7_call0_v76 : Ref sig .tc := ⟨.hbm, 1513, rfl⟩
abbrev main_call7_call0_c_19 : Ref sig .tc := ⟨.hbm, 1514, rfl⟩
abbrev main_call7_call0_v77 : Ref sig .tc := ⟨.hbm, 1515, rfl⟩
abbrev main_call7_call0_v78 : Ref sig .tc := ⟨.hbm, 1516, rfl⟩
abbrev main_call7_call0_v79 : Ref sig .tc := ⟨.hbm, 1517, rfl⟩
abbrev main_call7_call0_v80 : Ref sig .tc := ⟨.hbm, 1518, rfl⟩
abbrev main_call7_call0_v81 : Ref sig .tc := ⟨.hbm, 1519, rfl⟩
abbrev main_call7_call0_c_20 : Ref sig .tc := ⟨.hbm, 1520, rfl⟩
abbrev main_call7_call0_v82 : Ref sig .tc := ⟨.hbm, 1521, rfl⟩
abbrev main_call7_call0_v83 : Ref sig .tc := ⟨.hbm, 1522, rfl⟩
abbrev main_call7_call0_c_21 : Ref sig .tc := ⟨.hbm, 1523, rfl⟩
abbrev main_call7_call0_v84 : Ref sig .tc := ⟨.hbm, 1524, rfl⟩
abbrev main_call7_call0_v85 : Ref sig .tc := ⟨.hbm, 1525, rfl⟩
abbrev main_call7_call0_v86 : Ref sig .tc := ⟨.hbm, 1526, rfl⟩
abbrev main_call7_call0_v87 : Ref sig .tc := ⟨.hbm, 1527, rfl⟩
abbrev main_call7_call0_v88 : Ref sig .tc := ⟨.hbm, 1528, rfl⟩
abbrev main_call7_call0_c_22 : Ref sig .tc := ⟨.hbm, 1529, rfl⟩
abbrev main_call7_call0_v89 : Ref sig .tc := ⟨.hbm, 1530, rfl⟩
abbrev main_call7_call0_v90 : Ref sig .tc := ⟨.hbm, 1531, rfl⟩
abbrev main_call7_call0_c_23 : Ref sig .tc := ⟨.hbm, 1532, rfl⟩
abbrev main_call7_call0_v91 : Ref sig .tc := ⟨.hbm, 1533, rfl⟩
abbrev main_call7_call0_v92 : Ref sig .tc := ⟨.hbm, 1534, rfl⟩
abbrev main_call7_call0_v93 : Ref sig .tc := ⟨.hbm, 1535, rfl⟩
abbrev main_call7_call0_v94 : Ref sig .tc := ⟨.hbm, 1536, rfl⟩
abbrev main_call7_call0_v95 : Ref sig .tc := ⟨.hbm, 1537, rfl⟩
abbrev main_call7_call0_c_24 : Ref sig .tc := ⟨.hbm, 1538, rfl⟩
abbrev main_call7_call0_v96 : Ref sig .tc := ⟨.hbm, 1539, rfl⟩
abbrev main_call7_call0_v97 : Ref sig .tc := ⟨.hbm, 1540, rfl⟩
abbrev main_call7_call0_c_25 : Ref sig .tc := ⟨.hbm, 1541, rfl⟩
abbrev main_call7_call0_v98 : Ref sig .tc := ⟨.hbm, 1542, rfl⟩
abbrev main_call7_call0_v99 : Ref sig .tc := ⟨.hbm, 1543, rfl⟩
abbrev main_call7_call0_v100 : Ref sig .tc := ⟨.hbm, 1544, rfl⟩
abbrev main_call7_call0_v101 : Ref sig .tc := ⟨.hbm, 1545, rfl⟩
abbrev main_call7_call0_v102 : Ref sig .tc := ⟨.hbm, 1546, rfl⟩
abbrev main_call7_call0_v103 : Ref sig .tc := ⟨.hbm, 1547, rfl⟩
abbrev main_call7_call0_v104 : Ref sig .tc := ⟨.hbm, 1548, rfl⟩
abbrev main_call7_call0_v105 : Ref sig .tc := ⟨.hbm, 1549, rfl⟩
abbrev main_call7_call0_c_26 : Ref sig .tc := ⟨.hbm, 1550, rfl⟩
abbrev main_call7_call0_v106 : Ref sig .tc := ⟨.hbm, 1551, rfl⟩
abbrev main_call7_call0_v107 : Ref sig .tc := ⟨.hbm, 1552, rfl⟩
abbrev main_call7_call0_v108 : Ref sig .tc := ⟨.hbm, 1553, rfl⟩
abbrev main_call7_call0_c_27 : Ref sig .tc := ⟨.hbm, 1554, rfl⟩
abbrev main_call7_call0_v109 : Ref sig .tc := ⟨.hbm, 1555, rfl⟩
abbrev main_call7_call0_v110 : Ref sig .tc := ⟨.hbm, 1556, rfl⟩
abbrev main_call7_call0_c_28 : Ref sig .tc := ⟨.hbm, 1557, rfl⟩
abbrev main_call7_call0_v111 : Ref sig .tc := ⟨.hbm, 1558, rfl⟩
abbrev main_call7_call0_v112 : Ref sig .tc := ⟨.hbm, 1559, rfl⟩
abbrev main_call7_call0_v113 : Ref sig .tc := ⟨.hbm, 1560, rfl⟩
abbrev main_call7_call0_v114 : Ref sig .tc := ⟨.hbm, 1561, rfl⟩
abbrev main_call7_call0_v115 : Ref sig .tc := ⟨.hbm, 1562, rfl⟩
abbrev main_call7_call0_c_29 : Ref sig .tc := ⟨.hbm, 1563, rfl⟩
abbrev main_call7_call0_v116 : Ref sig .tc := ⟨.hbm, 1564, rfl⟩
abbrev main_call7_call0_v117 : Ref sig .tc := ⟨.hbm, 1565, rfl⟩
abbrev main_call7_call0_c_30 : Ref sig .tc := ⟨.hbm, 1566, rfl⟩
abbrev main_call7_call0_v118 : Ref sig .tc := ⟨.hbm, 1567, rfl⟩
abbrev main_call7_call0_v119 : Ref sig .tc := ⟨.hbm, 1568, rfl⟩
abbrev main_call7_call0_v120 : Ref sig .tc := ⟨.hbm, 1569, rfl⟩
abbrev main_call7_call0_v121 : Ref sig .tc := ⟨.hbm, 1570, rfl⟩
abbrev main_call7_call0_v122 : Ref sig .tc := ⟨.hbm, 1571, rfl⟩
abbrev main_call7_call0_c_31 : Ref sig .tc := ⟨.hbm, 1572, rfl⟩
abbrev main_call7_call0_v123 : Ref sig .tc := ⟨.hbm, 1573, rfl⟩
abbrev main_call7_call0_v124 : Ref sig .tc := ⟨.hbm, 1574, rfl⟩
abbrev main_call7_call0_c_32 : Ref sig .tc := ⟨.hbm, 1575, rfl⟩
abbrev main_call7_call0_v125 : Ref sig .tc := ⟨.hbm, 1576, rfl⟩
abbrev main_call7_call0_v126 : Ref sig .tc := ⟨.hbm, 1577, rfl⟩
abbrev main_call7_call0_v127 : Ref sig .tc := ⟨.hbm, 1578, rfl⟩
abbrev main_call7_call0_v128 : Ref sig .tc := ⟨.hbm, 1579, rfl⟩
abbrev main_call7_call0_v129 : Ref sig .tc := ⟨.hbm, 1580, rfl⟩
abbrev main_call7_call0_c_33 : Ref sig .tc := ⟨.hbm, 1581, rfl⟩
abbrev main_call7_call0_v130 : Ref sig .tc := ⟨.hbm, 1582, rfl⟩
abbrev main_call7_call0_v131 : Ref sig .tc := ⟨.hbm, 1583, rfl⟩
abbrev main_call7_call0_c_34 : Ref sig .tc := ⟨.hbm, 1584, rfl⟩
abbrev main_call7_call0_v132 : Ref sig .tc := ⟨.hbm, 1585, rfl⟩
abbrev main_call7_call0_v133 : Ref sig .tc := ⟨.hbm, 1586, rfl⟩
abbrev main_call7_call0_v134 : Ref sig .tc := ⟨.hbm, 1587, rfl⟩
abbrev main_call7_call0_v135 : Ref sig .tc := ⟨.hbm, 1588, rfl⟩
abbrev main_call7_call0_v136 : Ref sig .tc := ⟨.hbm, 1589, rfl⟩
abbrev main_call7_call0_v137 : Ref sig .tc := ⟨.hbm, 1590, rfl⟩
abbrev main_call7_call0_v138 : Ref sig .tc := ⟨.hbm, 1591, rfl⟩
abbrev main_call7_call0_v139 : Ref sig .tc := ⟨.hbm, 1592, rfl⟩
abbrev main_call7_call0_c_35 : Ref sig .tc := ⟨.hbm, 1593, rfl⟩
abbrev main_call7_call0_v140 : Ref sig .tc := ⟨.hbm, 1594, rfl⟩
abbrev main_call7_call0_v141 : Ref sig .tc := ⟨.hbm, 1595, rfl⟩
abbrev main_call7_call0_v142 : Ref sig .tc := ⟨.hbm, 1596, rfl⟩
abbrev main_call7_call0_c_36 : Ref sig .tc := ⟨.hbm, 1597, rfl⟩
abbrev main_call7_call0_v143 : Ref sig .tc := ⟨.hbm, 1598, rfl⟩
abbrev main_call7_call0_v144 : Ref sig .tc := ⟨.hbm, 1599, rfl⟩
abbrev main_call7_call0_c_37 : Ref sig .tc := ⟨.hbm, 1600, rfl⟩
abbrev main_call7_call0_v145 : Ref sig .tc := ⟨.hbm, 1601, rfl⟩
abbrev main_call7_call0_v146 : Ref sig .tc := ⟨.hbm, 1602, rfl⟩
abbrev main_call7_call0_v147 : Ref sig .tc := ⟨.hbm, 1603, rfl⟩
abbrev main_call7_call0_v148 : Ref sig .tc := ⟨.hbm, 1604, rfl⟩
abbrev main_call7_call0_v149 : Ref sig .tc := ⟨.hbm, 1605, rfl⟩
abbrev main_call7_call0_c_38 : Ref sig .tc := ⟨.hbm, 1606, rfl⟩
abbrev main_call7_call0_v150 : Ref sig .tc := ⟨.hbm, 1607, rfl⟩
abbrev main_call7_call0_v151 : Ref sig .tc := ⟨.hbm, 1608, rfl⟩
abbrev main_call7_call0_c_39 : Ref sig .tc := ⟨.hbm, 1609, rfl⟩
abbrev main_call7_call0_v152 : Ref sig .tc := ⟨.hbm, 1610, rfl⟩
abbrev main_call7_call0_v153 : Ref sig .tc := ⟨.hbm, 1611, rfl⟩
abbrev main_call7_call0_v154 : Ref sig .tc := ⟨.hbm, 1612, rfl⟩
abbrev main_call7_call0_v155 : Ref sig .tc := ⟨.hbm, 1613, rfl⟩
abbrev main_call7_call0_v156 : Ref sig .tc := ⟨.hbm, 1614, rfl⟩
abbrev main_call7_call0_c_40 : Ref sig .tc := ⟨.hbm, 1615, rfl⟩
abbrev main_call7_call0_v157 : Ref sig .tc := ⟨.hbm, 1616, rfl⟩
abbrev main_call7_call0_v158 : Ref sig .tc := ⟨.hbm, 1617, rfl⟩
abbrev main_call7_call0_c_41 : Ref sig .tc := ⟨.hbm, 1618, rfl⟩
abbrev main_call7_call0_v159 : Ref sig .tc := ⟨.hbm, 1619, rfl⟩
abbrev main_call7_call0_v160 : Ref sig .tc := ⟨.hbm, 1620, rfl⟩
abbrev main_call7_call0_v161 : Ref sig .tc := ⟨.hbm, 1621, rfl⟩
abbrev main_call7_call0_v162 : Ref sig .tc := ⟨.hbm, 1622, rfl⟩
abbrev main_call7_call0_v163 : Ref sig .tc := ⟨.hbm, 1623, rfl⟩
abbrev main_call7_call0_c_42 : Ref sig .tc := ⟨.hbm, 1624, rfl⟩
abbrev main_call7_call0_v164 : Ref sig .tc := ⟨.hbm, 1625, rfl⟩
abbrev main_call7_call0_v165 : Ref sig .tc := ⟨.hbm, 1626, rfl⟩
abbrev main_call7_call0_c_43 : Ref sig .tc := ⟨.hbm, 1627, rfl⟩
abbrev main_call7_call0_v166 : Ref sig .tc := ⟨.hbm, 1628, rfl⟩
abbrev main_call7_call0_v167 : Ref sig .tc := ⟨.hbm, 1629, rfl⟩
abbrev main_call7_call0_v168 : Ref sig .tc := ⟨.hbm, 1630, rfl⟩
abbrev main_call7_call0_v169 : Ref sig .tc := ⟨.hbm, 1631, rfl⟩
abbrev main_call7_call0_v170 : Ref sig .tc := ⟨.hbm, 1632, rfl⟩
abbrev main_call7_v17_0 : Ref sig .tc := ⟨.hbm, 1633, rfl⟩
abbrev main_call7_call0_v172 : Ref sig .tc := ⟨.hbm, 1634, rfl⟩
abbrev main_call7_call0_v173 : Ref sig .tc := ⟨.hbm, 1635, rfl⟩
abbrev main_call7_call0_c_44 : Ref sig .tc := ⟨.hbm, 1636, rfl⟩
abbrev main_call7_call0_v174 : Ref sig .tc := ⟨.hbm, 1637, rfl⟩
abbrev main_call7_v17_1 : Ref sig .tc := ⟨.hbm, 1638, rfl⟩
abbrev main_call7_v18 : Ref sig .tc := ⟨.hbm, 1639, rfl⟩
abbrev main_call7_c_2 : Ref sig .tc := ⟨.hbm, 1640, rfl⟩
abbrev main_call7_v19 : Ref sig .tc := ⟨.hbm, 1641, rfl⟩
abbrev main_call7_v20 : Ref sig .tc := ⟨.hbm, 1642, rfl⟩
abbrev main_call7_c_3 : Ref sig .tc := ⟨.hbm, 1643, rfl⟩
abbrev main_call7_v21 : Ref sig .tc := ⟨.hbm, 1644, rfl⟩
abbrev main_call7_v22 : Ref sig .tc := ⟨.hbm, 1645, rfl⟩
abbrev main_call7_v23 : Ref sig .tc := ⟨.hbm, 1646, rfl⟩
abbrev main_call7_cst : Ref sig .tc := ⟨.hbm, 1647, rfl⟩
abbrev main_call7_v24 : Ref sig .tc := ⟨.hbm, 1648, rfl⟩
abbrev main_call7_v25 : Ref sig .tc := ⟨.hbm, 1649, rfl⟩
abbrev main_call7_v26 : Ref sig .tc := ⟨.hbm, 1650, rfl⟩
abbrev main_call7_v27 : Ref sig .tc := ⟨.hbm, 1651, rfl⟩
abbrev main_call7_v28 : Ref sig .tc := ⟨.hbm, 1652, rfl⟩
abbrev main_call7_v29 : Ref sig .tc := ⟨.hbm, 1653, rfl⟩
abbrev main_call7_v30 : Ref sig .tc := ⟨.hbm, 1654, rfl⟩
abbrev main_call7_v31 : Ref sig .tc := ⟨.hbm, 1655, rfl⟩
abbrev main_v67 : Ref sig .tc := ⟨.hbm, 1656, rfl⟩
abbrev main_cst_21 : Ref sig .tc := ⟨.hbm, 1657, rfl⟩
abbrev main_v68 : Ref sig .tc := ⟨.hbm, 1658, rfl⟩
abbrev main_v69 : Ref sig .tc := ⟨.hbm, 1659, rfl⟩
abbrev main_v70 : Ref sig .tc := ⟨.hbm, 1660, rfl⟩
abbrev main_v71 : Ref sig .tc := ⟨.hbm, 1661, rfl⟩
abbrev main_v72 : Ref sig .tc := ⟨.hbm, 1662, rfl⟩
abbrev main_v73 : Ref sig .tc := ⟨.hbm, 1663, rfl⟩
abbrev main_call8_v0 : Ref sig .tc := ⟨.hbm, 1664, rfl⟩
abbrev main_call8_v1 : Ref sig .tc := ⟨.hbm, 1665, rfl⟩
abbrev main_call8_v2 : Ref sig .tc := ⟨.hbm, 1666, rfl⟩
abbrev main_call8_v3 : Ref sig .tc := ⟨.hbm, 1667, rfl⟩
abbrev main_call8_v4 : Ref sig .tc := ⟨.hbm, 1668, rfl⟩
abbrev main_call8_v5 : Ref sig .tc := ⟨.hbm, 1669, rfl⟩
abbrev main_call8_v6 : Ref sig .tc := ⟨.hbm, 1670, rfl⟩
abbrev main_call8_v7 : Ref sig .tc := ⟨.hbm, 1671, rfl⟩
abbrev main_call8_v8 : Ref sig .tc := ⟨.hbm, 1672, rfl⟩
abbrev main_call8_v9 : Ref sig .tc := ⟨.hbm, 1673, rfl⟩
abbrev main_call8_v10 : Ref sig .tc := ⟨.hbm, 1674, rfl⟩
abbrev main_call8_v11 : Ref sig .tc := ⟨.hbm, 1675, rfl⟩
abbrev main_call8_v12 : Ref sig .tc := ⟨.hbm, 1676, rfl⟩
abbrev main_call8_v13 : Ref sig .tc := ⟨.hbm, 1677, rfl⟩
abbrev main_call8_v14 : Ref sig .tc := ⟨.hbm, 1678, rfl⟩
abbrev main_call8_v15 : Ref sig .tc := ⟨.hbm, 1679, rfl⟩
abbrev main_call8_v16 : Ref sig .tc := ⟨.hbm, 1680, rfl⟩
abbrev main_call8_v17 : Ref sig .tc := ⟨.hbm, 1681, rfl⟩
abbrev main_call8_v18 : Ref sig .tc := ⟨.hbm, 1682, rfl⟩
abbrev main_call8_v19 : Ref sig .tc := ⟨.hbm, 1683, rfl⟩
abbrev main_call8_v20 : Ref sig .tc := ⟨.hbm, 1684, rfl⟩
abbrev main_call8_v21 : Ref sig .tc := ⟨.hbm, 1685, rfl⟩
abbrev main_call8_v22 : Ref sig .tc := ⟨.hbm, 1686, rfl⟩
abbrev main_call8_v23 : Ref sig .tc := ⟨.hbm, 1687, rfl⟩
abbrev main_call8_v24 : Ref sig .tc := ⟨.hbm, 1688, rfl⟩
abbrev main_call8_v25 : Ref sig .tc := ⟨.hbm, 1689, rfl⟩
abbrev main_call8_v26 : Ref sig .tc := ⟨.hbm, 1690, rfl⟩
abbrev main_call8_v27 : Ref sig .tc := ⟨.hbm, 1691, rfl⟩
abbrev main_call8_v28 : Ref sig .tc := ⟨.hbm, 1692, rfl⟩
abbrev main_call8_v29 : Ref sig .tc := ⟨.hbm, 1693, rfl⟩
abbrev main_call8_v30 : Ref sig .tc := ⟨.hbm, 1694, rfl⟩
abbrev main_call8_v31 : Ref sig .tc := ⟨.hbm, 1695, rfl⟩
abbrev main_call8_v32 : Ref sig .tc := ⟨.hbm, 1696, rfl⟩
abbrev main_call8_v33 : Ref sig .tc := ⟨.hbm, 1697, rfl⟩
abbrev main_call8_v34 : Ref sig .tc := ⟨.hbm, 1698, rfl⟩
abbrev main_call8_v35 : Ref sig .tc := ⟨.hbm, 1699, rfl⟩
abbrev main_call8_v36 : Ref sig .tc := ⟨.hbm, 1700, rfl⟩
abbrev main_v74 : Ref sig .tc := ⟨.hbm, 1701, rfl⟩
abbrev main_v75 : Ref sig .tc := ⟨.hbm, 1702, rfl⟩
abbrev main_v76 : Ref sig .tc := ⟨.hbm, 1703, rfl⟩
abbrev main_v77 : Ref sig .tc := ⟨.hbm, 1704, rfl⟩
abbrev main_v78 : Ref sig .tc := ⟨.hbm, 1705, rfl⟩
abbrev main_v79 : Ref sig .tc := ⟨.hbm, 1706, rfl⟩
abbrev main_v80 : Ref sig .tc := ⟨.hbm, 1707, rfl⟩
abbrev main_v81 : Ref sig .tc := ⟨.hbm, 1708, rfl⟩
abbrev main_v82 : Ref sig .tc := ⟨.hbm, 1709, rfl⟩
abbrev main_v83 : Ref sig .tc := ⟨.hbm, 1710, rfl⟩
abbrev main_v84 : Ref sig .tc := ⟨.hbm, 1711, rfl⟩
abbrev main_v85 : Ref sig .tc := ⟨.hbm, 1712, rfl⟩
abbrev main_call9_v0 : Ref sig .tc := ⟨.hbm, 1713, rfl⟩
abbrev main_call9_v1 : Ref sig .tc := ⟨.hbm, 1714, rfl⟩
abbrev main_call9_v2 : Ref sig .tc := ⟨.hbm, 1715, rfl⟩
abbrev main_call9_v3 : Ref sig .tc := ⟨.hbm, 1716, rfl⟩
abbrev main_call9_v4 : Ref sig .tc := ⟨.hbm, 1717, rfl⟩
abbrev main_call9_c : Ref sig .tc := ⟨.hbm, 1718, rfl⟩
abbrev main_call9_v5 : Ref sig .tc := ⟨.hbm, 1719, rfl⟩
abbrev main_call9_v6 : Ref sig .tc := ⟨.hbm, 1720, rfl⟩
abbrev main_call9_c_0 : Ref sig .tc := ⟨.hbm, 1721, rfl⟩
abbrev main_call9_v7 : Ref sig .tc := ⟨.hbm, 1722, rfl⟩
abbrev main_call9_v8 : Ref sig .tc := ⟨.hbm, 1723, rfl⟩
abbrev main_call9_v9 : Ref sig .tc := ⟨.hbm, 1724, rfl⟩
abbrev main_call9_v10 : Ref sig .tc := ⟨.hbm, 1725, rfl⟩
abbrev main_call9_call0_v0 : Ref sig .tc := ⟨.hbm, 1726, rfl⟩
abbrev main_call9_call0_c : Ref sig .tc := ⟨.hbm, 1727, rfl⟩
abbrev main_call9_call0_v1 : Ref sig .tc := ⟨.hbm, 1728, rfl⟩
abbrev main_call9_call0_v2 : Ref sig .tc := ⟨.hbm, 1729, rfl⟩
abbrev main_call9_call0_v3 : Ref sig .tc := ⟨.hbm, 1730, rfl⟩
abbrev main_call9_call0_v4 : Ref sig .tc := ⟨.hbm, 1731, rfl⟩
abbrev main_call9_call0_v5 : Ref sig .tc := ⟨.hbm, 1732, rfl⟩
abbrev main_call9_call0_v6 : Ref sig .tc := ⟨.hbm, 1733, rfl⟩
abbrev main_call9_call0_c_0 : Ref sig .tc := ⟨.hbm, 1734, rfl⟩
abbrev main_call9_call0_v7 : Ref sig .tc := ⟨.hbm, 1735, rfl⟩
abbrev main_call9_call0_v8 : Ref sig .tc := ⟨.hbm, 1736, rfl⟩
abbrev main_call9_call0_c_1 : Ref sig .tc := ⟨.hbm, 1737, rfl⟩
abbrev main_call9_call0_v9 : Ref sig .tc := ⟨.hbm, 1738, rfl⟩
abbrev main_call9_call0_v10 : Ref sig .tc := ⟨.hbm, 1739, rfl⟩
abbrev main_call9_call0_v11 : Ref sig .tc := ⟨.hbm, 1740, rfl⟩
abbrev main_call9_call0_v12 : Ref sig .tc := ⟨.hbm, 1741, rfl⟩
abbrev main_call9_call0_v13 : Ref sig .tc := ⟨.hbm, 1742, rfl⟩
abbrev main_call9_call0_c_2 : Ref sig .tc := ⟨.hbm, 1743, rfl⟩
abbrev main_call9_call0_v14 : Ref sig .tc := ⟨.hbm, 1744, rfl⟩
abbrev main_call9_call0_v15 : Ref sig .tc := ⟨.hbm, 1745, rfl⟩
abbrev main_call9_call0_c_3 : Ref sig .tc := ⟨.hbm, 1746, rfl⟩
abbrev main_call9_call0_v16 : Ref sig .tc := ⟨.hbm, 1747, rfl⟩
abbrev main_call9_call0_v17 : Ref sig .tc := ⟨.hbm, 1748, rfl⟩
abbrev main_call9_call0_v18 : Ref sig .tc := ⟨.hbm, 1749, rfl⟩
abbrev main_call9_call0_v19 : Ref sig .tc := ⟨.hbm, 1750, rfl⟩
abbrev main_call9_call0_v20 : Ref sig .tc := ⟨.hbm, 1751, rfl⟩
abbrev main_call9_call0_c_4 : Ref sig .tc := ⟨.hbm, 1752, rfl⟩
abbrev main_call9_call0_v21 : Ref sig .tc := ⟨.hbm, 1753, rfl⟩
abbrev main_call9_call0_v22 : Ref sig .tc := ⟨.hbm, 1754, rfl⟩
abbrev main_call9_call0_c_5 : Ref sig .tc := ⟨.hbm, 1755, rfl⟩
abbrev main_call9_call0_v23 : Ref sig .tc := ⟨.hbm, 1756, rfl⟩
abbrev main_call9_call0_v24 : Ref sig .tc := ⟨.hbm, 1757, rfl⟩
abbrev main_call9_call0_v25 : Ref sig .tc := ⟨.hbm, 1758, rfl⟩
abbrev main_call9_call0_v26 : Ref sig .tc := ⟨.hbm, 1759, rfl⟩
abbrev main_call9_call0_v27 : Ref sig .tc := ⟨.hbm, 1760, rfl⟩
abbrev main_call9_call0_c_6 : Ref sig .tc := ⟨.hbm, 1761, rfl⟩
abbrev main_call9_call0_v28 : Ref sig .tc := ⟨.hbm, 1762, rfl⟩
abbrev main_call9_call0_v29 : Ref sig .tc := ⟨.hbm, 1763, rfl⟩
abbrev main_call9_call0_c_7 : Ref sig .tc := ⟨.hbm, 1764, rfl⟩
abbrev main_call9_call0_v30 : Ref sig .tc := ⟨.hbm, 1765, rfl⟩
abbrev main_call9_call0_v31 : Ref sig .tc := ⟨.hbm, 1766, rfl⟩
abbrev main_call9_call0_v32 : Ref sig .tc := ⟨.hbm, 1767, rfl⟩
abbrev main_call9_call0_v33 : Ref sig .tc := ⟨.hbm, 1768, rfl⟩
abbrev main_call9_call0_v34 : Ref sig .tc := ⟨.hbm, 1769, rfl⟩
abbrev main_call9_call0_v35 : Ref sig .tc := ⟨.hbm, 1770, rfl⟩
abbrev main_call9_call0_v36 : Ref sig .tc := ⟨.hbm, 1771, rfl⟩
abbrev main_call9_call0_v37 : Ref sig .tc := ⟨.hbm, 1772, rfl⟩
abbrev main_call9_call0_c_8 : Ref sig .tc := ⟨.hbm, 1773, rfl⟩
abbrev main_call9_call0_v38 : Ref sig .tc := ⟨.hbm, 1774, rfl⟩
abbrev main_call9_call0_v39 : Ref sig .tc := ⟨.hbm, 1775, rfl⟩
abbrev main_call9_call0_v40 : Ref sig .tc := ⟨.hbm, 1776, rfl⟩
abbrev main_call9_call0_c_9 : Ref sig .tc := ⟨.hbm, 1777, rfl⟩
abbrev main_call9_call0_v41 : Ref sig .tc := ⟨.hbm, 1778, rfl⟩
abbrev main_call9_call0_v42 : Ref sig .tc := ⟨.hbm, 1779, rfl⟩
abbrev main_call9_call0_c_10 : Ref sig .tc := ⟨.hbm, 1780, rfl⟩
abbrev main_call9_call0_v43 : Ref sig .tc := ⟨.hbm, 1781, rfl⟩
abbrev main_call9_call0_v44 : Ref sig .tc := ⟨.hbm, 1782, rfl⟩
abbrev main_call9_call0_v45 : Ref sig .tc := ⟨.hbm, 1783, rfl⟩
abbrev main_call9_call0_v46 : Ref sig .tc := ⟨.hbm, 1784, rfl⟩
abbrev main_call9_call0_v47 : Ref sig .tc := ⟨.hbm, 1785, rfl⟩
abbrev main_call9_call0_c_11 : Ref sig .tc := ⟨.hbm, 1786, rfl⟩
abbrev main_call9_call0_v48 : Ref sig .tc := ⟨.hbm, 1787, rfl⟩
abbrev main_call9_call0_v49 : Ref sig .tc := ⟨.hbm, 1788, rfl⟩
abbrev main_call9_call0_c_12 : Ref sig .tc := ⟨.hbm, 1789, rfl⟩
abbrev main_call9_call0_v50 : Ref sig .tc := ⟨.hbm, 1790, rfl⟩
abbrev main_call9_call0_v51 : Ref sig .tc := ⟨.hbm, 1791, rfl⟩
abbrev main_call9_call0_v52 : Ref sig .tc := ⟨.hbm, 1792, rfl⟩
abbrev main_call9_call0_v53 : Ref sig .tc := ⟨.hbm, 1793, rfl⟩
abbrev main_call9_call0_v54 : Ref sig .tc := ⟨.hbm, 1794, rfl⟩
abbrev main_call9_call0_c_13 : Ref sig .tc := ⟨.hbm, 1795, rfl⟩
abbrev main_call9_call0_v55 : Ref sig .tc := ⟨.hbm, 1796, rfl⟩
abbrev main_call9_call0_v56 : Ref sig .tc := ⟨.hbm, 1797, rfl⟩
abbrev main_call9_call0_c_14 : Ref sig .tc := ⟨.hbm, 1798, rfl⟩
abbrev main_call9_call0_v57 : Ref sig .tc := ⟨.hbm, 1799, rfl⟩
abbrev main_call9_call0_v58 : Ref sig .tc := ⟨.hbm, 1800, rfl⟩
abbrev main_call9_call0_v59 : Ref sig .tc := ⟨.hbm, 1801, rfl⟩
abbrev main_call9_call0_v60 : Ref sig .tc := ⟨.hbm, 1802, rfl⟩
abbrev main_call9_call0_v61 : Ref sig .tc := ⟨.hbm, 1803, rfl⟩
abbrev main_call9_call0_c_15 : Ref sig .tc := ⟨.hbm, 1804, rfl⟩
abbrev main_call9_call0_v62 : Ref sig .tc := ⟨.hbm, 1805, rfl⟩
abbrev main_call9_call0_v63 : Ref sig .tc := ⟨.hbm, 1806, rfl⟩
abbrev main_call9_call0_c_16 : Ref sig .tc := ⟨.hbm, 1807, rfl⟩
abbrev main_call9_call0_v64 : Ref sig .tc := ⟨.hbm, 1808, rfl⟩
abbrev main_call9_call0_v65 : Ref sig .tc := ⟨.hbm, 1809, rfl⟩
abbrev main_call9_call0_v66 : Ref sig .tc := ⟨.hbm, 1810, rfl⟩
abbrev main_call9_call0_v67 : Ref sig .tc := ⟨.hbm, 1811, rfl⟩
abbrev main_call9_call0_v68 : Ref sig .tc := ⟨.hbm, 1812, rfl⟩
abbrev main_call9_call0_v69 : Ref sig .tc := ⟨.hbm, 1813, rfl⟩
abbrev main_call9_call0_v70 : Ref sig .tc := ⟨.hbm, 1814, rfl⟩
abbrev main_call9_call0_v71 : Ref sig .tc := ⟨.hbm, 1815, rfl⟩
abbrev main_call9_call0_c_17 : Ref sig .tc := ⟨.hbm, 1816, rfl⟩
abbrev main_call9_call0_v72 : Ref sig .tc := ⟨.hbm, 1817, rfl⟩
abbrev main_call9_call0_v73 : Ref sig .tc := ⟨.hbm, 1818, rfl⟩
abbrev main_call9_call0_v74 : Ref sig .tc := ⟨.hbm, 1819, rfl⟩
abbrev main_call9_call0_c_18 : Ref sig .tc := ⟨.hbm, 1820, rfl⟩
abbrev main_call9_call0_v75 : Ref sig .tc := ⟨.hbm, 1821, rfl⟩
abbrev main_call9_call0_v76 : Ref sig .tc := ⟨.hbm, 1822, rfl⟩
abbrev main_call9_call0_c_19 : Ref sig .tc := ⟨.hbm, 1823, rfl⟩
abbrev main_call9_call0_v77 : Ref sig .tc := ⟨.hbm, 1824, rfl⟩
abbrev main_call9_call0_v78 : Ref sig .tc := ⟨.hbm, 1825, rfl⟩
abbrev main_call9_call0_v79 : Ref sig .tc := ⟨.hbm, 1826, rfl⟩
abbrev main_call9_call0_v80 : Ref sig .tc := ⟨.hbm, 1827, rfl⟩
abbrev main_call9_call0_v81 : Ref sig .tc := ⟨.hbm, 1828, rfl⟩
abbrev main_call9_call0_c_20 : Ref sig .tc := ⟨.hbm, 1829, rfl⟩
abbrev main_call9_call0_v82 : Ref sig .tc := ⟨.hbm, 1830, rfl⟩
abbrev main_call9_call0_v83 : Ref sig .tc := ⟨.hbm, 1831, rfl⟩
abbrev main_call9_call0_c_21 : Ref sig .tc := ⟨.hbm, 1832, rfl⟩
abbrev main_call9_call0_v84 : Ref sig .tc := ⟨.hbm, 1833, rfl⟩
abbrev main_call9_call0_v85 : Ref sig .tc := ⟨.hbm, 1834, rfl⟩
abbrev main_call9_call0_v86 : Ref sig .tc := ⟨.hbm, 1835, rfl⟩
abbrev main_call9_call0_v87 : Ref sig .tc := ⟨.hbm, 1836, rfl⟩
abbrev main_call9_call0_v88 : Ref sig .tc := ⟨.hbm, 1837, rfl⟩
abbrev main_call9_call0_c_22 : Ref sig .tc := ⟨.hbm, 1838, rfl⟩
abbrev main_call9_call0_v89 : Ref sig .tc := ⟨.hbm, 1839, rfl⟩
abbrev main_call9_call0_v90 : Ref sig .tc := ⟨.hbm, 1840, rfl⟩
abbrev main_call9_call0_c_23 : Ref sig .tc := ⟨.hbm, 1841, rfl⟩
abbrev main_call9_call0_v91 : Ref sig .tc := ⟨.hbm, 1842, rfl⟩
abbrev main_call9_call0_v92 : Ref sig .tc := ⟨.hbm, 1843, rfl⟩
abbrev main_call9_call0_v93 : Ref sig .tc := ⟨.hbm, 1844, rfl⟩
abbrev main_call9_call0_v94 : Ref sig .tc := ⟨.hbm, 1845, rfl⟩
abbrev main_call9_call0_v95 : Ref sig .tc := ⟨.hbm, 1846, rfl⟩
abbrev main_call9_call0_c_24 : Ref sig .tc := ⟨.hbm, 1847, rfl⟩
abbrev main_call9_call0_v96 : Ref sig .tc := ⟨.hbm, 1848, rfl⟩
abbrev main_call9_call0_v97 : Ref sig .tc := ⟨.hbm, 1849, rfl⟩
abbrev main_call9_call0_c_25 : Ref sig .tc := ⟨.hbm, 1850, rfl⟩
abbrev main_call9_call0_v98 : Ref sig .tc := ⟨.hbm, 1851, rfl⟩
abbrev main_call9_call0_v99 : Ref sig .tc := ⟨.hbm, 1852, rfl⟩
abbrev main_call9_call0_v100 : Ref sig .tc := ⟨.hbm, 1853, rfl⟩
abbrev main_call9_call0_v101 : Ref sig .tc := ⟨.hbm, 1854, rfl⟩
abbrev main_call9_call0_v102 : Ref sig .tc := ⟨.hbm, 1855, rfl⟩
abbrev main_call9_call0_v103 : Ref sig .tc := ⟨.hbm, 1856, rfl⟩
abbrev main_call9_call0_v104 : Ref sig .tc := ⟨.hbm, 1857, rfl⟩
abbrev main_call9_call0_v105 : Ref sig .tc := ⟨.hbm, 1858, rfl⟩
abbrev main_call9_call0_c_26 : Ref sig .tc := ⟨.hbm, 1859, rfl⟩
abbrev main_call9_call0_v106 : Ref sig .tc := ⟨.hbm, 1860, rfl⟩
abbrev main_call9_call0_v107 : Ref sig .tc := ⟨.hbm, 1861, rfl⟩
abbrev main_call9_call0_v108 : Ref sig .tc := ⟨.hbm, 1862, rfl⟩
abbrev main_call9_call0_c_27 : Ref sig .tc := ⟨.hbm, 1863, rfl⟩
abbrev main_call9_call0_v109 : Ref sig .tc := ⟨.hbm, 1864, rfl⟩
abbrev main_call9_call0_v110 : Ref sig .tc := ⟨.hbm, 1865, rfl⟩
abbrev main_call9_call0_c_28 : Ref sig .tc := ⟨.hbm, 1866, rfl⟩
abbrev main_call9_call0_v111 : Ref sig .tc := ⟨.hbm, 1867, rfl⟩
abbrev main_call9_call0_v112 : Ref sig .tc := ⟨.hbm, 1868, rfl⟩
abbrev main_call9_call0_v113 : Ref sig .tc := ⟨.hbm, 1869, rfl⟩
abbrev main_call9_call0_v114 : Ref sig .tc := ⟨.hbm, 1870, rfl⟩
abbrev main_call9_call0_v115 : Ref sig .tc := ⟨.hbm, 1871, rfl⟩
abbrev main_call9_call0_c_29 : Ref sig .tc := ⟨.hbm, 1872, rfl⟩
abbrev main_call9_call0_v116 : Ref sig .tc := ⟨.hbm, 1873, rfl⟩
abbrev main_call9_call0_v117 : Ref sig .tc := ⟨.hbm, 1874, rfl⟩
abbrev main_call9_call0_c_30 : Ref sig .tc := ⟨.hbm, 1875, rfl⟩
abbrev main_call9_call0_v118 : Ref sig .tc := ⟨.hbm, 1876, rfl⟩
abbrev main_call9_call0_v119 : Ref sig .tc := ⟨.hbm, 1877, rfl⟩
abbrev main_call9_call0_v120 : Ref sig .tc := ⟨.hbm, 1878, rfl⟩
abbrev main_call9_call0_v121 : Ref sig .tc := ⟨.hbm, 1879, rfl⟩
abbrev main_call9_call0_v122 : Ref sig .tc := ⟨.hbm, 1880, rfl⟩
abbrev main_call9_call0_c_31 : Ref sig .tc := ⟨.hbm, 1881, rfl⟩
abbrev main_call9_call0_v123 : Ref sig .tc := ⟨.hbm, 1882, rfl⟩
abbrev main_call9_call0_v124 : Ref sig .tc := ⟨.hbm, 1883, rfl⟩
abbrev main_call9_call0_c_32 : Ref sig .tc := ⟨.hbm, 1884, rfl⟩
abbrev main_call9_call0_v125 : Ref sig .tc := ⟨.hbm, 1885, rfl⟩
abbrev main_call9_call0_v126 : Ref sig .tc := ⟨.hbm, 1886, rfl⟩
abbrev main_call9_call0_v127 : Ref sig .tc := ⟨.hbm, 1887, rfl⟩
abbrev main_call9_call0_v128 : Ref sig .tc := ⟨.hbm, 1888, rfl⟩
abbrev main_call9_call0_v129 : Ref sig .tc := ⟨.hbm, 1889, rfl⟩
abbrev main_call9_call0_c_33 : Ref sig .tc := ⟨.hbm, 1890, rfl⟩
abbrev main_call9_call0_v130 : Ref sig .tc := ⟨.hbm, 1891, rfl⟩
abbrev main_call9_call0_v131 : Ref sig .tc := ⟨.hbm, 1892, rfl⟩
abbrev main_call9_call0_c_34 : Ref sig .tc := ⟨.hbm, 1893, rfl⟩
abbrev main_call9_call0_v132 : Ref sig .tc := ⟨.hbm, 1894, rfl⟩
abbrev main_call9_call0_v133 : Ref sig .tc := ⟨.hbm, 1895, rfl⟩
abbrev main_call9_call0_v134 : Ref sig .tc := ⟨.hbm, 1896, rfl⟩
abbrev main_call9_call0_v135 : Ref sig .tc := ⟨.hbm, 1897, rfl⟩
abbrev main_call9_call0_v136 : Ref sig .tc := ⟨.hbm, 1898, rfl⟩
abbrev main_call9_call0_v137 : Ref sig .tc := ⟨.hbm, 1899, rfl⟩
abbrev main_call9_call0_v138 : Ref sig .tc := ⟨.hbm, 1900, rfl⟩
abbrev main_call9_call0_v139 : Ref sig .tc := ⟨.hbm, 1901, rfl⟩
abbrev main_call9_call0_c_35 : Ref sig .tc := ⟨.hbm, 1902, rfl⟩
abbrev main_call9_call0_v140 : Ref sig .tc := ⟨.hbm, 1903, rfl⟩
abbrev main_call9_call0_v141 : Ref sig .tc := ⟨.hbm, 1904, rfl⟩
abbrev main_call9_call0_v142 : Ref sig .tc := ⟨.hbm, 1905, rfl⟩
abbrev main_call9_call0_c_36 : Ref sig .tc := ⟨.hbm, 1906, rfl⟩
abbrev main_call9_call0_v143 : Ref sig .tc := ⟨.hbm, 1907, rfl⟩
abbrev main_call9_call0_v144 : Ref sig .tc := ⟨.hbm, 1908, rfl⟩
abbrev main_call9_call0_c_37 : Ref sig .tc := ⟨.hbm, 1909, rfl⟩
abbrev main_call9_call0_v145 : Ref sig .tc := ⟨.hbm, 1910, rfl⟩
abbrev main_call9_call0_v146 : Ref sig .tc := ⟨.hbm, 1911, rfl⟩
abbrev main_call9_call0_v147 : Ref sig .tc := ⟨.hbm, 1912, rfl⟩
abbrev main_call9_call0_v148 : Ref sig .tc := ⟨.hbm, 1913, rfl⟩
abbrev main_call9_call0_v149 : Ref sig .tc := ⟨.hbm, 1914, rfl⟩
abbrev main_call9_call0_c_38 : Ref sig .tc := ⟨.hbm, 1915, rfl⟩
abbrev main_call9_call0_v150 : Ref sig .tc := ⟨.hbm, 1916, rfl⟩
abbrev main_call9_call0_v151 : Ref sig .tc := ⟨.hbm, 1917, rfl⟩
abbrev main_call9_call0_c_39 : Ref sig .tc := ⟨.hbm, 1918, rfl⟩
abbrev main_call9_call0_v152 : Ref sig .tc := ⟨.hbm, 1919, rfl⟩
abbrev main_call9_call0_v153 : Ref sig .tc := ⟨.hbm, 1920, rfl⟩
abbrev main_call9_call0_v154 : Ref sig .tc := ⟨.hbm, 1921, rfl⟩
abbrev main_call9_call0_v155 : Ref sig .tc := ⟨.hbm, 1922, rfl⟩
abbrev main_call9_call0_v156 : Ref sig .tc := ⟨.hbm, 1923, rfl⟩
abbrev main_call9_call0_c_40 : Ref sig .tc := ⟨.hbm, 1924, rfl⟩
abbrev main_call9_call0_v157 : Ref sig .tc := ⟨.hbm, 1925, rfl⟩
abbrev main_call9_call0_v158 : Ref sig .tc := ⟨.hbm, 1926, rfl⟩
abbrev main_call9_call0_c_41 : Ref sig .tc := ⟨.hbm, 1927, rfl⟩
abbrev main_call9_call0_v159 : Ref sig .tc := ⟨.hbm, 1928, rfl⟩
abbrev main_call9_call0_v160 : Ref sig .tc := ⟨.hbm, 1929, rfl⟩
abbrev main_call9_call0_v161 : Ref sig .tc := ⟨.hbm, 1930, rfl⟩
abbrev main_call9_call0_v162 : Ref sig .tc := ⟨.hbm, 1931, rfl⟩
abbrev main_call9_call0_v163 : Ref sig .tc := ⟨.hbm, 1932, rfl⟩
abbrev main_call9_call0_c_42 : Ref sig .tc := ⟨.hbm, 1933, rfl⟩
abbrev main_call9_call0_v164 : Ref sig .tc := ⟨.hbm, 1934, rfl⟩
abbrev main_call9_call0_v165 : Ref sig .tc := ⟨.hbm, 1935, rfl⟩
abbrev main_call9_call0_c_43 : Ref sig .tc := ⟨.hbm, 1936, rfl⟩
abbrev main_call9_call0_v166 : Ref sig .tc := ⟨.hbm, 1937, rfl⟩
abbrev main_call9_call0_v167 : Ref sig .tc := ⟨.hbm, 1938, rfl⟩
abbrev main_call9_call0_v168 : Ref sig .tc := ⟨.hbm, 1939, rfl⟩
abbrev main_call9_call0_v169 : Ref sig .tc := ⟨.hbm, 1940, rfl⟩
abbrev main_call9_call0_v170 : Ref sig .tc := ⟨.hbm, 1941, rfl⟩
abbrev main_call9_v11_0 : Ref sig .tc := ⟨.hbm, 1942, rfl⟩
abbrev main_call9_call0_v172 : Ref sig .tc := ⟨.hbm, 1943, rfl⟩
abbrev main_call9_call0_v173 : Ref sig .tc := ⟨.hbm, 1944, rfl⟩
abbrev main_call9_call0_c_44 : Ref sig .tc := ⟨.hbm, 1945, rfl⟩
abbrev main_call9_call0_v174 : Ref sig .tc := ⟨.hbm, 1946, rfl⟩
abbrev main_call9_v11_1 : Ref sig .tc := ⟨.hbm, 1947, rfl⟩
abbrev main_call9_v12 : Ref sig .tc := ⟨.hbm, 1948, rfl⟩
abbrev main_call9_v13 : Ref sig .tc := ⟨.hbm, 1949, rfl⟩
abbrev main_v86 : Ref sig .tc := ⟨.hbm, 1950, rfl⟩
abbrev main_v87 : Ref sig .tc := ⟨.hbm, 1951, rfl⟩
abbrev main_v88 : Ref sig .tc := ⟨.hbm, 1952, rfl⟩
abbrev main_v89 : Ref sig .tc := ⟨.hbm, 1953, rfl⟩
abbrev main_v90 : Ref sig .tc := ⟨.hbm, 1954, rfl⟩
abbrev main_call10_v0 : Ref sig .tc := ⟨.hbm, 1955, rfl⟩
abbrev main_call10_v1 : Ref sig .tc := ⟨.hbm, 1956, rfl⟩
abbrev main_call10_v2 : Ref sig .tc := ⟨.hbm, 1957, rfl⟩
abbrev main_call10_v3 : Ref sig .tc := ⟨.hbm, 1958, rfl⟩
abbrev main_call10_v4 : Ref sig .tc := ⟨.hbm, 1959, rfl⟩
abbrev main_call10_c : Ref sig .tc := ⟨.hbm, 1960, rfl⟩
abbrev main_call10_v5 : Ref sig .tc := ⟨.hbm, 1961, rfl⟩
abbrev main_call10_v6 : Ref sig .tc := ⟨.hbm, 1962, rfl⟩
abbrev main_call10_c_0 : Ref sig .tc := ⟨.hbm, 1963, rfl⟩
abbrev main_call10_v7 : Ref sig .tc := ⟨.hbm, 1964, rfl⟩
abbrev main_call10_v8 : Ref sig .tc := ⟨.hbm, 1965, rfl⟩
abbrev main_call10_v9 : Ref sig .tc := ⟨.hbm, 1966, rfl⟩
abbrev main_call10_v10 : Ref sig .tc := ⟨.hbm, 1967, rfl⟩
abbrev main_call10_call0_v0 : Ref sig .tc := ⟨.hbm, 1968, rfl⟩
abbrev main_call10_call0_c : Ref sig .tc := ⟨.hbm, 1969, rfl⟩
abbrev main_call10_call0_v1 : Ref sig .tc := ⟨.hbm, 1970, rfl⟩
abbrev main_call10_call0_v2 : Ref sig .tc := ⟨.hbm, 1971, rfl⟩
abbrev main_call10_call0_v3 : Ref sig .tc := ⟨.hbm, 1972, rfl⟩
abbrev main_call10_call0_v4 : Ref sig .tc := ⟨.hbm, 1973, rfl⟩
abbrev main_call10_call0_v5 : Ref sig .tc := ⟨.hbm, 1974, rfl⟩
abbrev main_call10_call0_v6 : Ref sig .tc := ⟨.hbm, 1975, rfl⟩
abbrev main_call10_call0_c_0 : Ref sig .tc := ⟨.hbm, 1976, rfl⟩
abbrev main_call10_call0_v7 : Ref sig .tc := ⟨.hbm, 1977, rfl⟩
abbrev main_call10_call0_v8 : Ref sig .tc := ⟨.hbm, 1978, rfl⟩
abbrev main_call10_call0_c_1 : Ref sig .tc := ⟨.hbm, 1979, rfl⟩
abbrev main_call10_call0_v9 : Ref sig .tc := ⟨.hbm, 1980, rfl⟩
abbrev main_call10_call0_v10 : Ref sig .tc := ⟨.hbm, 1981, rfl⟩
abbrev main_call10_call0_v11 : Ref sig .tc := ⟨.hbm, 1982, rfl⟩
abbrev main_call10_call0_v12 : Ref sig .tc := ⟨.hbm, 1983, rfl⟩
abbrev main_call10_call0_v13 : Ref sig .tc := ⟨.hbm, 1984, rfl⟩
abbrev main_call10_call0_c_2 : Ref sig .tc := ⟨.hbm, 1985, rfl⟩
abbrev main_call10_call0_v14 : Ref sig .tc := ⟨.hbm, 1986, rfl⟩
abbrev main_call10_call0_v15 : Ref sig .tc := ⟨.hbm, 1987, rfl⟩
abbrev main_call10_call0_c_3 : Ref sig .tc := ⟨.hbm, 1988, rfl⟩
abbrev main_call10_call0_v16 : Ref sig .tc := ⟨.hbm, 1989, rfl⟩
abbrev main_call10_call0_v17 : Ref sig .tc := ⟨.hbm, 1990, rfl⟩
abbrev main_call10_call0_v18 : Ref sig .tc := ⟨.hbm, 1991, rfl⟩
abbrev main_call10_call0_v19 : Ref sig .tc := ⟨.hbm, 1992, rfl⟩
abbrev main_call10_call0_v20 : Ref sig .tc := ⟨.hbm, 1993, rfl⟩
abbrev main_call10_call0_c_4 : Ref sig .tc := ⟨.hbm, 1994, rfl⟩
abbrev main_call10_call0_v21 : Ref sig .tc := ⟨.hbm, 1995, rfl⟩
abbrev main_call10_call0_v22 : Ref sig .tc := ⟨.hbm, 1996, rfl⟩
abbrev main_call10_call0_c_5 : Ref sig .tc := ⟨.hbm, 1997, rfl⟩
abbrev main_call10_call0_v23 : Ref sig .tc := ⟨.hbm, 1998, rfl⟩
abbrev main_call10_call0_v24 : Ref sig .tc := ⟨.hbm, 1999, rfl⟩
abbrev main_call10_call0_v25 : Ref sig .tc := ⟨.hbm, 2000, rfl⟩
abbrev main_call10_call0_v26 : Ref sig .tc := ⟨.hbm, 2001, rfl⟩
abbrev main_call10_call0_v27 : Ref sig .tc := ⟨.hbm, 2002, rfl⟩
abbrev main_call10_call0_c_6 : Ref sig .tc := ⟨.hbm, 2003, rfl⟩
abbrev main_call10_call0_v28 : Ref sig .tc := ⟨.hbm, 2004, rfl⟩
abbrev main_call10_call0_v29 : Ref sig .tc := ⟨.hbm, 2005, rfl⟩
abbrev main_call10_call0_c_7 : Ref sig .tc := ⟨.hbm, 2006, rfl⟩
abbrev main_call10_call0_v30 : Ref sig .tc := ⟨.hbm, 2007, rfl⟩
abbrev main_call10_call0_v31 : Ref sig .tc := ⟨.hbm, 2008, rfl⟩
abbrev main_call10_call0_v32 : Ref sig .tc := ⟨.hbm, 2009, rfl⟩
abbrev main_call10_call0_v33 : Ref sig .tc := ⟨.hbm, 2010, rfl⟩
abbrev main_call10_call0_v34 : Ref sig .tc := ⟨.hbm, 2011, rfl⟩
abbrev main_call10_call0_v35 : Ref sig .tc := ⟨.hbm, 2012, rfl⟩
abbrev main_call10_call0_v36 : Ref sig .tc := ⟨.hbm, 2013, rfl⟩
abbrev main_call10_call0_v37 : Ref sig .tc := ⟨.hbm, 2014, rfl⟩
abbrev main_call10_call0_c_8 : Ref sig .tc := ⟨.hbm, 2015, rfl⟩
abbrev main_call10_call0_v38 : Ref sig .tc := ⟨.hbm, 2016, rfl⟩
abbrev main_call10_call0_v39 : Ref sig .tc := ⟨.hbm, 2017, rfl⟩
abbrev main_call10_call0_v40 : Ref sig .tc := ⟨.hbm, 2018, rfl⟩
abbrev main_call10_call0_c_9 : Ref sig .tc := ⟨.hbm, 2019, rfl⟩
abbrev main_call10_call0_v41 : Ref sig .tc := ⟨.hbm, 2020, rfl⟩
abbrev main_call10_call0_v42 : Ref sig .tc := ⟨.hbm, 2021, rfl⟩
abbrev main_call10_call0_c_10 : Ref sig .tc := ⟨.hbm, 2022, rfl⟩
abbrev main_call10_call0_v43 : Ref sig .tc := ⟨.hbm, 2023, rfl⟩
abbrev main_call10_call0_v44 : Ref sig .tc := ⟨.hbm, 2024, rfl⟩
abbrev main_call10_call0_v45 : Ref sig .tc := ⟨.hbm, 2025, rfl⟩
abbrev main_call10_call0_v46 : Ref sig .tc := ⟨.hbm, 2026, rfl⟩
abbrev main_call10_call0_v47 : Ref sig .tc := ⟨.hbm, 2027, rfl⟩
abbrev main_call10_call0_c_11 : Ref sig .tc := ⟨.hbm, 2028, rfl⟩
abbrev main_call10_call0_v48 : Ref sig .tc := ⟨.hbm, 2029, rfl⟩
abbrev main_call10_call0_v49 : Ref sig .tc := ⟨.hbm, 2030, rfl⟩
abbrev main_call10_call0_c_12 : Ref sig .tc := ⟨.hbm, 2031, rfl⟩
abbrev main_call10_call0_v50 : Ref sig .tc := ⟨.hbm, 2032, rfl⟩
abbrev main_call10_call0_v51 : Ref sig .tc := ⟨.hbm, 2033, rfl⟩
abbrev main_call10_call0_v52 : Ref sig .tc := ⟨.hbm, 2034, rfl⟩
abbrev main_call10_call0_v53 : Ref sig .tc := ⟨.hbm, 2035, rfl⟩
abbrev main_call10_call0_v54 : Ref sig .tc := ⟨.hbm, 2036, rfl⟩
abbrev main_call10_call0_c_13 : Ref sig .tc := ⟨.hbm, 2037, rfl⟩
abbrev main_call10_call0_v55 : Ref sig .tc := ⟨.hbm, 2038, rfl⟩
abbrev main_call10_call0_v56 : Ref sig .tc := ⟨.hbm, 2039, rfl⟩
abbrev main_call10_call0_c_14 : Ref sig .tc := ⟨.hbm, 2040, rfl⟩
abbrev main_call10_call0_v57 : Ref sig .tc := ⟨.hbm, 2041, rfl⟩
abbrev main_call10_call0_v58 : Ref sig .tc := ⟨.hbm, 2042, rfl⟩
abbrev main_call10_call0_v59 : Ref sig .tc := ⟨.hbm, 2043, rfl⟩
abbrev main_call10_call0_v60 : Ref sig .tc := ⟨.hbm, 2044, rfl⟩
abbrev main_call10_call0_v61 : Ref sig .tc := ⟨.hbm, 2045, rfl⟩
abbrev main_call10_call0_c_15 : Ref sig .tc := ⟨.hbm, 2046, rfl⟩
abbrev main_call10_call0_v62 : Ref sig .tc := ⟨.hbm, 2047, rfl⟩
abbrev main_call10_call0_v63 : Ref sig .tc := ⟨.hbm, 2048, rfl⟩
abbrev main_call10_call0_c_16 : Ref sig .tc := ⟨.hbm, 2049, rfl⟩
abbrev main_call10_call0_v64 : Ref sig .tc := ⟨.hbm, 2050, rfl⟩
abbrev main_call10_call0_v65 : Ref sig .tc := ⟨.hbm, 2051, rfl⟩
abbrev main_call10_call0_v66 : Ref sig .tc := ⟨.hbm, 2052, rfl⟩
abbrev main_call10_call0_v67 : Ref sig .tc := ⟨.hbm, 2053, rfl⟩
abbrev main_call10_call0_v68 : Ref sig .tc := ⟨.hbm, 2054, rfl⟩
abbrev main_call10_call0_v69 : Ref sig .tc := ⟨.hbm, 2055, rfl⟩
abbrev main_call10_call0_v70 : Ref sig .tc := ⟨.hbm, 2056, rfl⟩
abbrev main_call10_call0_v71 : Ref sig .tc := ⟨.hbm, 2057, rfl⟩
abbrev main_call10_call0_c_17 : Ref sig .tc := ⟨.hbm, 2058, rfl⟩
abbrev main_call10_call0_v72 : Ref sig .tc := ⟨.hbm, 2059, rfl⟩
abbrev main_call10_call0_v73 : Ref sig .tc := ⟨.hbm, 2060, rfl⟩
abbrev main_call10_call0_v74 : Ref sig .tc := ⟨.hbm, 2061, rfl⟩
abbrev main_call10_call0_c_18 : Ref sig .tc := ⟨.hbm, 2062, rfl⟩
abbrev main_call10_call0_v75 : Ref sig .tc := ⟨.hbm, 2063, rfl⟩
abbrev main_call10_call0_v76 : Ref sig .tc := ⟨.hbm, 2064, rfl⟩
abbrev main_call10_call0_c_19 : Ref sig .tc := ⟨.hbm, 2065, rfl⟩
abbrev main_call10_call0_v77 : Ref sig .tc := ⟨.hbm, 2066, rfl⟩
abbrev main_call10_call0_v78 : Ref sig .tc := ⟨.hbm, 2067, rfl⟩
abbrev main_call10_call0_v79 : Ref sig .tc := ⟨.hbm, 2068, rfl⟩
abbrev main_call10_call0_v80 : Ref sig .tc := ⟨.hbm, 2069, rfl⟩
abbrev main_call10_call0_v81 : Ref sig .tc := ⟨.hbm, 2070, rfl⟩
abbrev main_call10_call0_c_20 : Ref sig .tc := ⟨.hbm, 2071, rfl⟩
abbrev main_call10_call0_v82 : Ref sig .tc := ⟨.hbm, 2072, rfl⟩
abbrev main_call10_call0_v83 : Ref sig .tc := ⟨.hbm, 2073, rfl⟩
abbrev main_call10_call0_c_21 : Ref sig .tc := ⟨.hbm, 2074, rfl⟩
abbrev main_call10_call0_v84 : Ref sig .tc := ⟨.hbm, 2075, rfl⟩
abbrev main_call10_call0_v85 : Ref sig .tc := ⟨.hbm, 2076, rfl⟩
abbrev main_call10_call0_v86 : Ref sig .tc := ⟨.hbm, 2077, rfl⟩
abbrev main_call10_call0_v87 : Ref sig .tc := ⟨.hbm, 2078, rfl⟩
abbrev main_call10_call0_v88 : Ref sig .tc := ⟨.hbm, 2079, rfl⟩
abbrev main_call10_call0_c_22 : Ref sig .tc := ⟨.hbm, 2080, rfl⟩
abbrev main_call10_call0_v89 : Ref sig .tc := ⟨.hbm, 2081, rfl⟩
abbrev main_call10_call0_v90 : Ref sig .tc := ⟨.hbm, 2082, rfl⟩
abbrev main_call10_call0_c_23 : Ref sig .tc := ⟨.hbm, 2083, rfl⟩
abbrev main_call10_call0_v91 : Ref sig .tc := ⟨.hbm, 2084, rfl⟩
abbrev main_call10_call0_v92 : Ref sig .tc := ⟨.hbm, 2085, rfl⟩
abbrev main_call10_call0_v93 : Ref sig .tc := ⟨.hbm, 2086, rfl⟩
abbrev main_call10_call0_v94 : Ref sig .tc := ⟨.hbm, 2087, rfl⟩
abbrev main_call10_call0_v95 : Ref sig .tc := ⟨.hbm, 2088, rfl⟩
abbrev main_call10_call0_c_24 : Ref sig .tc := ⟨.hbm, 2089, rfl⟩
abbrev main_call10_call0_v96 : Ref sig .tc := ⟨.hbm, 2090, rfl⟩
abbrev main_call10_call0_v97 : Ref sig .tc := ⟨.hbm, 2091, rfl⟩
abbrev main_call10_call0_c_25 : Ref sig .tc := ⟨.hbm, 2092, rfl⟩
abbrev main_call10_call0_v98 : Ref sig .tc := ⟨.hbm, 2093, rfl⟩
abbrev main_call10_call0_v99 : Ref sig .tc := ⟨.hbm, 2094, rfl⟩
abbrev main_call10_call0_v100 : Ref sig .tc := ⟨.hbm, 2095, rfl⟩
abbrev main_call10_call0_v101 : Ref sig .tc := ⟨.hbm, 2096, rfl⟩
abbrev main_call10_call0_v102 : Ref sig .tc := ⟨.hbm, 2097, rfl⟩
abbrev main_call10_call0_v103 : Ref sig .tc := ⟨.hbm, 2098, rfl⟩
abbrev main_call10_call0_v104 : Ref sig .tc := ⟨.hbm, 2099, rfl⟩
abbrev main_call10_call0_v105 : Ref sig .tc := ⟨.hbm, 2100, rfl⟩
abbrev main_call10_call0_c_26 : Ref sig .tc := ⟨.hbm, 2101, rfl⟩
abbrev main_call10_call0_v106 : Ref sig .tc := ⟨.hbm, 2102, rfl⟩
abbrev main_call10_call0_v107 : Ref sig .tc := ⟨.hbm, 2103, rfl⟩
abbrev main_call10_call0_v108 : Ref sig .tc := ⟨.hbm, 2104, rfl⟩
abbrev main_call10_call0_c_27 : Ref sig .tc := ⟨.hbm, 2105, rfl⟩
abbrev main_call10_call0_v109 : Ref sig .tc := ⟨.hbm, 2106, rfl⟩
abbrev main_call10_call0_v110 : Ref sig .tc := ⟨.hbm, 2107, rfl⟩
abbrev main_call10_call0_c_28 : Ref sig .tc := ⟨.hbm, 2108, rfl⟩
abbrev main_call10_call0_v111 : Ref sig .tc := ⟨.hbm, 2109, rfl⟩
abbrev main_call10_call0_v112 : Ref sig .tc := ⟨.hbm, 2110, rfl⟩
abbrev main_call10_call0_v113 : Ref sig .tc := ⟨.hbm, 2111, rfl⟩
abbrev main_call10_call0_v114 : Ref sig .tc := ⟨.hbm, 2112, rfl⟩
abbrev main_call10_call0_v115 : Ref sig .tc := ⟨.hbm, 2113, rfl⟩
abbrev main_call10_call0_c_29 : Ref sig .tc := ⟨.hbm, 2114, rfl⟩
abbrev main_call10_call0_v116 : Ref sig .tc := ⟨.hbm, 2115, rfl⟩
abbrev main_call10_call0_v117 : Ref sig .tc := ⟨.hbm, 2116, rfl⟩
abbrev main_call10_call0_c_30 : Ref sig .tc := ⟨.hbm, 2117, rfl⟩
abbrev main_call10_call0_v118 : Ref sig .tc := ⟨.hbm, 2118, rfl⟩
abbrev main_call10_call0_v119 : Ref sig .tc := ⟨.hbm, 2119, rfl⟩
abbrev main_call10_call0_v120 : Ref sig .tc := ⟨.hbm, 2120, rfl⟩
abbrev main_call10_call0_v121 : Ref sig .tc := ⟨.hbm, 2121, rfl⟩
abbrev main_call10_call0_v122 : Ref sig .tc := ⟨.hbm, 2122, rfl⟩
abbrev main_call10_call0_c_31 : Ref sig .tc := ⟨.hbm, 2123, rfl⟩
abbrev main_call10_call0_v123 : Ref sig .tc := ⟨.hbm, 2124, rfl⟩
abbrev main_call10_call0_v124 : Ref sig .tc := ⟨.hbm, 2125, rfl⟩
abbrev main_call10_call0_c_32 : Ref sig .tc := ⟨.hbm, 2126, rfl⟩
abbrev main_call10_call0_v125 : Ref sig .tc := ⟨.hbm, 2127, rfl⟩
abbrev main_call10_call0_v126 : Ref sig .tc := ⟨.hbm, 2128, rfl⟩
abbrev main_call10_call0_v127 : Ref sig .tc := ⟨.hbm, 2129, rfl⟩
abbrev main_call10_call0_v128 : Ref sig .tc := ⟨.hbm, 2130, rfl⟩
abbrev main_call10_call0_v129 : Ref sig .tc := ⟨.hbm, 2131, rfl⟩
abbrev main_call10_call0_c_33 : Ref sig .tc := ⟨.hbm, 2132, rfl⟩
abbrev main_call10_call0_v130 : Ref sig .tc := ⟨.hbm, 2133, rfl⟩
abbrev main_call10_call0_v131 : Ref sig .tc := ⟨.hbm, 2134, rfl⟩
abbrev main_call10_call0_c_34 : Ref sig .tc := ⟨.hbm, 2135, rfl⟩
abbrev main_call10_call0_v132 : Ref sig .tc := ⟨.hbm, 2136, rfl⟩
abbrev main_call10_call0_v133 : Ref sig .tc := ⟨.hbm, 2137, rfl⟩
abbrev main_call10_call0_v134 : Ref sig .tc := ⟨.hbm, 2138, rfl⟩
abbrev main_call10_call0_v135 : Ref sig .tc := ⟨.hbm, 2139, rfl⟩
abbrev main_call10_call0_v136 : Ref sig .tc := ⟨.hbm, 2140, rfl⟩
abbrev main_call10_call0_v137 : Ref sig .tc := ⟨.hbm, 2141, rfl⟩
abbrev main_call10_call0_v138 : Ref sig .tc := ⟨.hbm, 2142, rfl⟩
abbrev main_call10_call0_v139 : Ref sig .tc := ⟨.hbm, 2143, rfl⟩
abbrev main_call10_call0_c_35 : Ref sig .tc := ⟨.hbm, 2144, rfl⟩
abbrev main_call10_call0_v140 : Ref sig .tc := ⟨.hbm, 2145, rfl⟩
abbrev main_call10_call0_v141 : Ref sig .tc := ⟨.hbm, 2146, rfl⟩
abbrev main_call10_call0_v142 : Ref sig .tc := ⟨.hbm, 2147, rfl⟩
abbrev main_call10_call0_c_36 : Ref sig .tc := ⟨.hbm, 2148, rfl⟩
abbrev main_call10_call0_v143 : Ref sig .tc := ⟨.hbm, 2149, rfl⟩
abbrev main_call10_call0_v144 : Ref sig .tc := ⟨.hbm, 2150, rfl⟩
abbrev main_call10_call0_c_37 : Ref sig .tc := ⟨.hbm, 2151, rfl⟩
abbrev main_call10_call0_v145 : Ref sig .tc := ⟨.hbm, 2152, rfl⟩
abbrev main_call10_call0_v146 : Ref sig .tc := ⟨.hbm, 2153, rfl⟩
abbrev main_call10_call0_v147 : Ref sig .tc := ⟨.hbm, 2154, rfl⟩
abbrev main_call10_call0_v148 : Ref sig .tc := ⟨.hbm, 2155, rfl⟩
abbrev main_call10_call0_v149 : Ref sig .tc := ⟨.hbm, 2156, rfl⟩
abbrev main_call10_call0_c_38 : Ref sig .tc := ⟨.hbm, 2157, rfl⟩
abbrev main_call10_call0_v150 : Ref sig .tc := ⟨.hbm, 2158, rfl⟩
abbrev main_call10_call0_v151 : Ref sig .tc := ⟨.hbm, 2159, rfl⟩
abbrev main_call10_call0_c_39 : Ref sig .tc := ⟨.hbm, 2160, rfl⟩
abbrev main_call10_call0_v152 : Ref sig .tc := ⟨.hbm, 2161, rfl⟩
abbrev main_call10_call0_v153 : Ref sig .tc := ⟨.hbm, 2162, rfl⟩
abbrev main_call10_call0_v154 : Ref sig .tc := ⟨.hbm, 2163, rfl⟩
abbrev main_call10_call0_v155 : Ref sig .tc := ⟨.hbm, 2164, rfl⟩
abbrev main_call10_call0_v156 : Ref sig .tc := ⟨.hbm, 2165, rfl⟩
abbrev main_call10_call0_c_40 : Ref sig .tc := ⟨.hbm, 2166, rfl⟩
abbrev main_call10_call0_v157 : Ref sig .tc := ⟨.hbm, 2167, rfl⟩
abbrev main_call10_call0_v158 : Ref sig .tc := ⟨.hbm, 2168, rfl⟩
abbrev main_call10_call0_c_41 : Ref sig .tc := ⟨.hbm, 2169, rfl⟩
abbrev main_call10_call0_v159 : Ref sig .tc := ⟨.hbm, 2170, rfl⟩
abbrev main_call10_call0_v160 : Ref sig .tc := ⟨.hbm, 2171, rfl⟩
abbrev main_call10_call0_v161 : Ref sig .tc := ⟨.hbm, 2172, rfl⟩
abbrev main_call10_call0_v162 : Ref sig .tc := ⟨.hbm, 2173, rfl⟩
abbrev main_call10_call0_v163 : Ref sig .tc := ⟨.hbm, 2174, rfl⟩
abbrev main_call10_call0_c_42 : Ref sig .tc := ⟨.hbm, 2175, rfl⟩
abbrev main_call10_call0_v164 : Ref sig .tc := ⟨.hbm, 2176, rfl⟩
abbrev main_call10_call0_v165 : Ref sig .tc := ⟨.hbm, 2177, rfl⟩
abbrev main_call10_call0_c_43 : Ref sig .tc := ⟨.hbm, 2178, rfl⟩
abbrev main_call10_call0_v166 : Ref sig .tc := ⟨.hbm, 2179, rfl⟩
abbrev main_call10_call0_v167 : Ref sig .tc := ⟨.hbm, 2180, rfl⟩
abbrev main_call10_call0_v168 : Ref sig .tc := ⟨.hbm, 2181, rfl⟩
abbrev main_call10_call0_v169 : Ref sig .tc := ⟨.hbm, 2182, rfl⟩
abbrev main_call10_call0_v170 : Ref sig .tc := ⟨.hbm, 2183, rfl⟩
abbrev main_call10_v11_0 : Ref sig .tc := ⟨.hbm, 2184, rfl⟩
abbrev main_call10_call0_v172 : Ref sig .tc := ⟨.hbm, 2185, rfl⟩
abbrev main_call10_call0_v173 : Ref sig .tc := ⟨.hbm, 2186, rfl⟩
abbrev main_call10_call0_c_44 : Ref sig .tc := ⟨.hbm, 2187, rfl⟩
abbrev main_call10_call0_v174 : Ref sig .tc := ⟨.hbm, 2188, rfl⟩
abbrev main_call10_v11_1 : Ref sig .tc := ⟨.hbm, 2189, rfl⟩
abbrev main_call10_v12 : Ref sig .tc := ⟨.hbm, 2190, rfl⟩
abbrev main_call10_v13 : Ref sig .tc := ⟨.hbm, 2191, rfl⟩
abbrev main_v91 : Ref sig .tc := ⟨.hbm, 2192, rfl⟩
abbrev main_v92 : Ref sig .tc := ⟨.hbm, 2193, rfl⟩
abbrev main_v93 : Ref sig .tc := ⟨.hbm, 2194, rfl⟩
abbrev main_v94 : Ref sig .tc := ⟨.hbm, 2195, rfl⟩
abbrev main_v95 : Ref sig .tc := ⟨.hbm, 2196, rfl⟩
abbrev main_cst_22 : Ref sig .tc := ⟨.hbm, 2197, rfl⟩
abbrev main_cst_23 : Ref sig .tc := ⟨.hbm, 2198, rfl⟩
abbrev main_call11_v0 : Ref sig .tc := ⟨.hbm, 2199, rfl⟩
abbrev main_call11_v1 : Ref sig .tc := ⟨.hbm, 2200, rfl⟩
abbrev main_call11_v2 : Ref sig .tc := ⟨.hbm, 2201, rfl⟩
abbrev main_call11_v3 : Ref sig .tc := ⟨.hbm, 2202, rfl⟩
abbrev main_call11_v4 : Ref sig .tc := ⟨.hbm, 2203, rfl⟩
abbrev main_call11_v5 : Ref sig .tc := ⟨.hbm, 2204, rfl⟩
abbrev main_call11_v6 : Ref sig .tc := ⟨.hbm, 2205, rfl⟩
abbrev main_call11_v7 : Ref sig .tc := ⟨.hbm, 2206, rfl⟩
abbrev main_call11_c : Ref sig .tc := ⟨.hbm, 2207, rfl⟩
abbrev main_call11_v8 : Ref sig .tc := ⟨.hbm, 2208, rfl⟩
abbrev main_call11_v9 : Ref sig .tc := ⟨.hbm, 2209, rfl⟩
abbrev main_call11_c_0 : Ref sig .tc := ⟨.hbm, 2210, rfl⟩
abbrev main_call11_v10 : Ref sig .tc := ⟨.hbm, 2211, rfl⟩
abbrev main_call11_v11 : Ref sig .tc := ⟨.hbm, 2212, rfl⟩
abbrev main_call11_v12 : Ref sig .tc := ⟨.hbm, 2213, rfl⟩
abbrev main_call11_c_1 : Ref sig .tc := ⟨.hbm, 2214, rfl⟩
abbrev main_call11_v13 : Ref sig .tc := ⟨.hbm, 2215, rfl⟩
abbrev main_call11_v14 : Ref sig .tc := ⟨.hbm, 2216, rfl⟩
abbrev main_call11_v15 : Ref sig .tc := ⟨.hbm, 2217, rfl⟩
abbrev main_call11_v16 : Ref sig .tc := ⟨.hbm, 2218, rfl⟩
abbrev main_call11_call0_v0 : Ref sig .tc := ⟨.hbm, 2219, rfl⟩
abbrev main_call11_call0_c : Ref sig .tc := ⟨.hbm, 2220, rfl⟩
abbrev main_call11_call0_v1 : Ref sig .tc := ⟨.hbm, 2221, rfl⟩
abbrev main_call11_call0_v2 : Ref sig .tc := ⟨.hbm, 2222, rfl⟩
abbrev main_call11_call0_v3 : Ref sig .tc := ⟨.hbm, 2223, rfl⟩
abbrev main_call11_call0_v4 : Ref sig .tc := ⟨.hbm, 2224, rfl⟩
abbrev main_call11_call0_v5 : Ref sig .tc := ⟨.hbm, 2225, rfl⟩
abbrev main_call11_call0_v6 : Ref sig .tc := ⟨.hbm, 2226, rfl⟩
abbrev main_call11_call0_c_0 : Ref sig .tc := ⟨.hbm, 2227, rfl⟩
abbrev main_call11_call0_v7 : Ref sig .tc := ⟨.hbm, 2228, rfl⟩
abbrev main_call11_call0_v8 : Ref sig .tc := ⟨.hbm, 2229, rfl⟩
abbrev main_call11_call0_c_1 : Ref sig .tc := ⟨.hbm, 2230, rfl⟩
abbrev main_call11_call0_v9 : Ref sig .tc := ⟨.hbm, 2231, rfl⟩
abbrev main_call11_call0_v10 : Ref sig .tc := ⟨.hbm, 2232, rfl⟩
abbrev main_call11_call0_v11 : Ref sig .tc := ⟨.hbm, 2233, rfl⟩
abbrev main_call11_call0_v12 : Ref sig .tc := ⟨.hbm, 2234, rfl⟩
abbrev main_call11_call0_v13 : Ref sig .tc := ⟨.hbm, 2235, rfl⟩
abbrev main_call11_call0_c_2 : Ref sig .tc := ⟨.hbm, 2236, rfl⟩
abbrev main_call11_call0_v14 : Ref sig .tc := ⟨.hbm, 2237, rfl⟩
abbrev main_call11_call0_v15 : Ref sig .tc := ⟨.hbm, 2238, rfl⟩
abbrev main_call11_call0_c_3 : Ref sig .tc := ⟨.hbm, 2239, rfl⟩
abbrev main_call11_call0_v16 : Ref sig .tc := ⟨.hbm, 2240, rfl⟩
abbrev main_call11_call0_v17 : Ref sig .tc := ⟨.hbm, 2241, rfl⟩
abbrev main_call11_call0_v18 : Ref sig .tc := ⟨.hbm, 2242, rfl⟩
abbrev main_call11_call0_v19 : Ref sig .tc := ⟨.hbm, 2243, rfl⟩
abbrev main_call11_call0_v20 : Ref sig .tc := ⟨.hbm, 2244, rfl⟩
abbrev main_call11_call0_c_4 : Ref sig .tc := ⟨.hbm, 2245, rfl⟩
abbrev main_call11_call0_v21 : Ref sig .tc := ⟨.hbm, 2246, rfl⟩
abbrev main_call11_call0_v22 : Ref sig .tc := ⟨.hbm, 2247, rfl⟩
abbrev main_call11_call0_c_5 : Ref sig .tc := ⟨.hbm, 2248, rfl⟩
abbrev main_call11_call0_v23 : Ref sig .tc := ⟨.hbm, 2249, rfl⟩
abbrev main_call11_call0_v24 : Ref sig .tc := ⟨.hbm, 2250, rfl⟩
abbrev main_call11_call0_v25 : Ref sig .tc := ⟨.hbm, 2251, rfl⟩
abbrev main_call11_call0_v26 : Ref sig .tc := ⟨.hbm, 2252, rfl⟩
abbrev main_call11_call0_v27 : Ref sig .tc := ⟨.hbm, 2253, rfl⟩
abbrev main_call11_call0_c_6 : Ref sig .tc := ⟨.hbm, 2254, rfl⟩
abbrev main_call11_call0_v28 : Ref sig .tc := ⟨.hbm, 2255, rfl⟩
abbrev main_call11_call0_v29 : Ref sig .tc := ⟨.hbm, 2256, rfl⟩
abbrev main_call11_call0_c_7 : Ref sig .tc := ⟨.hbm, 2257, rfl⟩
abbrev main_call11_call0_v30 : Ref sig .tc := ⟨.hbm, 2258, rfl⟩
abbrev main_call11_call0_v31 : Ref sig .tc := ⟨.hbm, 2259, rfl⟩
abbrev main_call11_call0_v32 : Ref sig .tc := ⟨.hbm, 2260, rfl⟩
abbrev main_call11_call0_v33 : Ref sig .tc := ⟨.hbm, 2261, rfl⟩
abbrev main_call11_call0_v34 : Ref sig .tc := ⟨.hbm, 2262, rfl⟩
abbrev main_call11_call0_v35 : Ref sig .tc := ⟨.hbm, 2263, rfl⟩
abbrev main_call11_call0_v36 : Ref sig .tc := ⟨.hbm, 2264, rfl⟩
abbrev main_call11_call0_v37 : Ref sig .tc := ⟨.hbm, 2265, rfl⟩
abbrev main_call11_call0_c_8 : Ref sig .tc := ⟨.hbm, 2266, rfl⟩
abbrev main_call11_call0_v38 : Ref sig .tc := ⟨.hbm, 2267, rfl⟩
abbrev main_call11_call0_v39 : Ref sig .tc := ⟨.hbm, 2268, rfl⟩
abbrev main_call11_call0_v40 : Ref sig .tc := ⟨.hbm, 2269, rfl⟩
abbrev main_call11_call0_c_9 : Ref sig .tc := ⟨.hbm, 2270, rfl⟩
abbrev main_call11_call0_v41 : Ref sig .tc := ⟨.hbm, 2271, rfl⟩
abbrev main_call11_call0_v42 : Ref sig .tc := ⟨.hbm, 2272, rfl⟩
abbrev main_call11_call0_c_10 : Ref sig .tc := ⟨.hbm, 2273, rfl⟩
abbrev main_call11_call0_v43 : Ref sig .tc := ⟨.hbm, 2274, rfl⟩
abbrev main_call11_call0_v44 : Ref sig .tc := ⟨.hbm, 2275, rfl⟩
abbrev main_call11_call0_v45 : Ref sig .tc := ⟨.hbm, 2276, rfl⟩
abbrev main_call11_call0_v46 : Ref sig .tc := ⟨.hbm, 2277, rfl⟩
abbrev main_call11_call0_v47 : Ref sig .tc := ⟨.hbm, 2278, rfl⟩
abbrev main_call11_call0_c_11 : Ref sig .tc := ⟨.hbm, 2279, rfl⟩
abbrev main_call11_call0_v48 : Ref sig .tc := ⟨.hbm, 2280, rfl⟩
abbrev main_call11_call0_v49 : Ref sig .tc := ⟨.hbm, 2281, rfl⟩
abbrev main_call11_call0_c_12 : Ref sig .tc := ⟨.hbm, 2282, rfl⟩
abbrev main_call11_call0_v50 : Ref sig .tc := ⟨.hbm, 2283, rfl⟩
abbrev main_call11_call0_v51 : Ref sig .tc := ⟨.hbm, 2284, rfl⟩
abbrev main_call11_call0_v52 : Ref sig .tc := ⟨.hbm, 2285, rfl⟩
abbrev main_call11_call0_v53 : Ref sig .tc := ⟨.hbm, 2286, rfl⟩
abbrev main_call11_call0_v54 : Ref sig .tc := ⟨.hbm, 2287, rfl⟩
abbrev main_call11_call0_c_13 : Ref sig .tc := ⟨.hbm, 2288, rfl⟩
abbrev main_call11_call0_v55 : Ref sig .tc := ⟨.hbm, 2289, rfl⟩
abbrev main_call11_call0_v56 : Ref sig .tc := ⟨.hbm, 2290, rfl⟩
abbrev main_call11_call0_c_14 : Ref sig .tc := ⟨.hbm, 2291, rfl⟩
abbrev main_call11_call0_v57 : Ref sig .tc := ⟨.hbm, 2292, rfl⟩
abbrev main_call11_call0_v58 : Ref sig .tc := ⟨.hbm, 2293, rfl⟩
abbrev main_call11_call0_v59 : Ref sig .tc := ⟨.hbm, 2294, rfl⟩
abbrev main_call11_call0_v60 : Ref sig .tc := ⟨.hbm, 2295, rfl⟩
abbrev main_call11_call0_v61 : Ref sig .tc := ⟨.hbm, 2296, rfl⟩
abbrev main_call11_call0_c_15 : Ref sig .tc := ⟨.hbm, 2297, rfl⟩
abbrev main_call11_call0_v62 : Ref sig .tc := ⟨.hbm, 2298, rfl⟩
abbrev main_call11_call0_v63 : Ref sig .tc := ⟨.hbm, 2299, rfl⟩
abbrev main_call11_call0_c_16 : Ref sig .tc := ⟨.hbm, 2300, rfl⟩
abbrev main_call11_call0_v64 : Ref sig .tc := ⟨.hbm, 2301, rfl⟩
abbrev main_call11_call0_v65 : Ref sig .tc := ⟨.hbm, 2302, rfl⟩
abbrev main_call11_call0_v66 : Ref sig .tc := ⟨.hbm, 2303, rfl⟩
abbrev main_call11_call0_v67 : Ref sig .tc := ⟨.hbm, 2304, rfl⟩
abbrev main_call11_call0_v68 : Ref sig .tc := ⟨.hbm, 2305, rfl⟩
abbrev main_call11_call0_v69 : Ref sig .tc := ⟨.hbm, 2306, rfl⟩
abbrev main_call11_call0_v70 : Ref sig .tc := ⟨.hbm, 2307, rfl⟩
abbrev main_call11_call0_v71 : Ref sig .tc := ⟨.hbm, 2308, rfl⟩
abbrev main_call11_call0_c_17 : Ref sig .tc := ⟨.hbm, 2309, rfl⟩
abbrev main_call11_call0_v72 : Ref sig .tc := ⟨.hbm, 2310, rfl⟩
abbrev main_call11_call0_v73 : Ref sig .tc := ⟨.hbm, 2311, rfl⟩
abbrev main_call11_call0_v74 : Ref sig .tc := ⟨.hbm, 2312, rfl⟩
abbrev main_call11_call0_c_18 : Ref sig .tc := ⟨.hbm, 2313, rfl⟩
abbrev main_call11_call0_v75 : Ref sig .tc := ⟨.hbm, 2314, rfl⟩
abbrev main_call11_call0_v76 : Ref sig .tc := ⟨.hbm, 2315, rfl⟩
abbrev main_call11_call0_c_19 : Ref sig .tc := ⟨.hbm, 2316, rfl⟩
abbrev main_call11_call0_v77 : Ref sig .tc := ⟨.hbm, 2317, rfl⟩
abbrev main_call11_call0_v78 : Ref sig .tc := ⟨.hbm, 2318, rfl⟩
abbrev main_call11_call0_v79 : Ref sig .tc := ⟨.hbm, 2319, rfl⟩
abbrev main_call11_call0_v80 : Ref sig .tc := ⟨.hbm, 2320, rfl⟩
abbrev main_call11_call0_v81 : Ref sig .tc := ⟨.hbm, 2321, rfl⟩
abbrev main_call11_call0_c_20 : Ref sig .tc := ⟨.hbm, 2322, rfl⟩
abbrev main_call11_call0_v82 : Ref sig .tc := ⟨.hbm, 2323, rfl⟩
abbrev main_call11_call0_v83 : Ref sig .tc := ⟨.hbm, 2324, rfl⟩
abbrev main_call11_call0_c_21 : Ref sig .tc := ⟨.hbm, 2325, rfl⟩
abbrev main_call11_call0_v84 : Ref sig .tc := ⟨.hbm, 2326, rfl⟩
abbrev main_call11_call0_v85 : Ref sig .tc := ⟨.hbm, 2327, rfl⟩
abbrev main_call11_call0_v86 : Ref sig .tc := ⟨.hbm, 2328, rfl⟩
abbrev main_call11_call0_v87 : Ref sig .tc := ⟨.hbm, 2329, rfl⟩
abbrev main_call11_call0_v88 : Ref sig .tc := ⟨.hbm, 2330, rfl⟩
abbrev main_call11_call0_c_22 : Ref sig .tc := ⟨.hbm, 2331, rfl⟩
abbrev main_call11_call0_v89 : Ref sig .tc := ⟨.hbm, 2332, rfl⟩
abbrev main_call11_call0_v90 : Ref sig .tc := ⟨.hbm, 2333, rfl⟩
abbrev main_call11_call0_c_23 : Ref sig .tc := ⟨.hbm, 2334, rfl⟩
abbrev main_call11_call0_v91 : Ref sig .tc := ⟨.hbm, 2335, rfl⟩
abbrev main_call11_call0_v92 : Ref sig .tc := ⟨.hbm, 2336, rfl⟩
abbrev main_call11_call0_v93 : Ref sig .tc := ⟨.hbm, 2337, rfl⟩
abbrev main_call11_call0_v94 : Ref sig .tc := ⟨.hbm, 2338, rfl⟩
abbrev main_call11_call0_v95 : Ref sig .tc := ⟨.hbm, 2339, rfl⟩
abbrev main_call11_call0_c_24 : Ref sig .tc := ⟨.hbm, 2340, rfl⟩
abbrev main_call11_call0_v96 : Ref sig .tc := ⟨.hbm, 2341, rfl⟩
abbrev main_call11_call0_v97 : Ref sig .tc := ⟨.hbm, 2342, rfl⟩
abbrev main_call11_call0_c_25 : Ref sig .tc := ⟨.hbm, 2343, rfl⟩
abbrev main_call11_call0_v98 : Ref sig .tc := ⟨.hbm, 2344, rfl⟩
abbrev main_call11_call0_v99 : Ref sig .tc := ⟨.hbm, 2345, rfl⟩
abbrev main_call11_call0_v100 : Ref sig .tc := ⟨.hbm, 2346, rfl⟩
abbrev main_call11_call0_v101 : Ref sig .tc := ⟨.hbm, 2347, rfl⟩
abbrev main_call11_call0_v102 : Ref sig .tc := ⟨.hbm, 2348, rfl⟩
abbrev main_call11_call0_v103 : Ref sig .tc := ⟨.hbm, 2349, rfl⟩
abbrev main_call11_call0_v104 : Ref sig .tc := ⟨.hbm, 2350, rfl⟩
abbrev main_call11_call0_v105 : Ref sig .tc := ⟨.hbm, 2351, rfl⟩
abbrev main_call11_call0_c_26 : Ref sig .tc := ⟨.hbm, 2352, rfl⟩
abbrev main_call11_call0_v106 : Ref sig .tc := ⟨.hbm, 2353, rfl⟩
abbrev main_call11_call0_v107 : Ref sig .tc := ⟨.hbm, 2354, rfl⟩
abbrev main_call11_call0_v108 : Ref sig .tc := ⟨.hbm, 2355, rfl⟩
abbrev main_call11_call0_c_27 : Ref sig .tc := ⟨.hbm, 2356, rfl⟩
abbrev main_call11_call0_v109 : Ref sig .tc := ⟨.hbm, 2357, rfl⟩
abbrev main_call11_call0_v110 : Ref sig .tc := ⟨.hbm, 2358, rfl⟩
abbrev main_call11_call0_c_28 : Ref sig .tc := ⟨.hbm, 2359, rfl⟩
abbrev main_call11_call0_v111 : Ref sig .tc := ⟨.hbm, 2360, rfl⟩
abbrev main_call11_call0_v112 : Ref sig .tc := ⟨.hbm, 2361, rfl⟩
abbrev main_call11_call0_v113 : Ref sig .tc := ⟨.hbm, 2362, rfl⟩
abbrev main_call11_call0_v114 : Ref sig .tc := ⟨.hbm, 2363, rfl⟩
abbrev main_call11_call0_v115 : Ref sig .tc := ⟨.hbm, 2364, rfl⟩
abbrev main_call11_call0_c_29 : Ref sig .tc := ⟨.hbm, 2365, rfl⟩
abbrev main_call11_call0_v116 : Ref sig .tc := ⟨.hbm, 2366, rfl⟩
abbrev main_call11_call0_v117 : Ref sig .tc := ⟨.hbm, 2367, rfl⟩
abbrev main_call11_call0_c_30 : Ref sig .tc := ⟨.hbm, 2368, rfl⟩
abbrev main_call11_call0_v118 : Ref sig .tc := ⟨.hbm, 2369, rfl⟩
abbrev main_call11_call0_v119 : Ref sig .tc := ⟨.hbm, 2370, rfl⟩
abbrev main_call11_call0_v120 : Ref sig .tc := ⟨.hbm, 2371, rfl⟩
abbrev main_call11_call0_v121 : Ref sig .tc := ⟨.hbm, 2372, rfl⟩
abbrev main_call11_call0_v122 : Ref sig .tc := ⟨.hbm, 2373, rfl⟩
abbrev main_call11_call0_c_31 : Ref sig .tc := ⟨.hbm, 2374, rfl⟩
abbrev main_call11_call0_v123 : Ref sig .tc := ⟨.hbm, 2375, rfl⟩
abbrev main_call11_call0_v124 : Ref sig .tc := ⟨.hbm, 2376, rfl⟩
abbrev main_call11_call0_c_32 : Ref sig .tc := ⟨.hbm, 2377, rfl⟩
abbrev main_call11_call0_v125 : Ref sig .tc := ⟨.hbm, 2378, rfl⟩
abbrev main_call11_call0_v126 : Ref sig .tc := ⟨.hbm, 2379, rfl⟩
abbrev main_call11_call0_v127 : Ref sig .tc := ⟨.hbm, 2380, rfl⟩
abbrev main_call11_call0_v128 : Ref sig .tc := ⟨.hbm, 2381, rfl⟩
abbrev main_call11_call0_v129 : Ref sig .tc := ⟨.hbm, 2382, rfl⟩
abbrev main_call11_call0_c_33 : Ref sig .tc := ⟨.hbm, 2383, rfl⟩
abbrev main_call11_call0_v130 : Ref sig .tc := ⟨.hbm, 2384, rfl⟩
abbrev main_call11_call0_v131 : Ref sig .tc := ⟨.hbm, 2385, rfl⟩
abbrev main_call11_call0_c_34 : Ref sig .tc := ⟨.hbm, 2386, rfl⟩
abbrev main_call11_call0_v132 : Ref sig .tc := ⟨.hbm, 2387, rfl⟩
abbrev main_call11_call0_v133 : Ref sig .tc := ⟨.hbm, 2388, rfl⟩
abbrev main_call11_call0_v134 : Ref sig .tc := ⟨.hbm, 2389, rfl⟩
abbrev main_call11_call0_v135 : Ref sig .tc := ⟨.hbm, 2390, rfl⟩
abbrev main_call11_call0_v136 : Ref sig .tc := ⟨.hbm, 2391, rfl⟩
abbrev main_call11_call0_v137 : Ref sig .tc := ⟨.hbm, 2392, rfl⟩
abbrev main_call11_call0_v138 : Ref sig .tc := ⟨.hbm, 2393, rfl⟩
abbrev main_call11_call0_v139 : Ref sig .tc := ⟨.hbm, 2394, rfl⟩
abbrev main_call11_call0_c_35 : Ref sig .tc := ⟨.hbm, 2395, rfl⟩
abbrev main_call11_call0_v140 : Ref sig .tc := ⟨.hbm, 2396, rfl⟩
abbrev main_call11_call0_v141 : Ref sig .tc := ⟨.hbm, 2397, rfl⟩
abbrev main_call11_call0_v142 : Ref sig .tc := ⟨.hbm, 2398, rfl⟩
abbrev main_call11_call0_c_36 : Ref sig .tc := ⟨.hbm, 2399, rfl⟩
abbrev main_call11_call0_v143 : Ref sig .tc := ⟨.hbm, 2400, rfl⟩
abbrev main_call11_call0_v144 : Ref sig .tc := ⟨.hbm, 2401, rfl⟩
abbrev main_call11_call0_c_37 : Ref sig .tc := ⟨.hbm, 2402, rfl⟩
abbrev main_call11_call0_v145 : Ref sig .tc := ⟨.hbm, 2403, rfl⟩
abbrev main_call11_call0_v146 : Ref sig .tc := ⟨.hbm, 2404, rfl⟩
abbrev main_call11_call0_v147 : Ref sig .tc := ⟨.hbm, 2405, rfl⟩
abbrev main_call11_call0_v148 : Ref sig .tc := ⟨.hbm, 2406, rfl⟩
abbrev main_call11_call0_v149 : Ref sig .tc := ⟨.hbm, 2407, rfl⟩
abbrev main_call11_call0_c_38 : Ref sig .tc := ⟨.hbm, 2408, rfl⟩
abbrev main_call11_call0_v150 : Ref sig .tc := ⟨.hbm, 2409, rfl⟩
abbrev main_call11_call0_v151 : Ref sig .tc := ⟨.hbm, 2410, rfl⟩
abbrev main_call11_call0_c_39 : Ref sig .tc := ⟨.hbm, 2411, rfl⟩
abbrev main_call11_call0_v152 : Ref sig .tc := ⟨.hbm, 2412, rfl⟩
abbrev main_call11_call0_v153 : Ref sig .tc := ⟨.hbm, 2413, rfl⟩
abbrev main_call11_call0_v154 : Ref sig .tc := ⟨.hbm, 2414, rfl⟩
abbrev main_call11_call0_v155 : Ref sig .tc := ⟨.hbm, 2415, rfl⟩
abbrev main_call11_call0_v156 : Ref sig .tc := ⟨.hbm, 2416, rfl⟩
abbrev main_call11_call0_c_40 : Ref sig .tc := ⟨.hbm, 2417, rfl⟩
abbrev main_call11_call0_v157 : Ref sig .tc := ⟨.hbm, 2418, rfl⟩
abbrev main_call11_call0_v158 : Ref sig .tc := ⟨.hbm, 2419, rfl⟩
abbrev main_call11_call0_c_41 : Ref sig .tc := ⟨.hbm, 2420, rfl⟩
abbrev main_call11_call0_v159 : Ref sig .tc := ⟨.hbm, 2421, rfl⟩
abbrev main_call11_call0_v160 : Ref sig .tc := ⟨.hbm, 2422, rfl⟩
abbrev main_call11_call0_v161 : Ref sig .tc := ⟨.hbm, 2423, rfl⟩
abbrev main_call11_call0_v162 : Ref sig .tc := ⟨.hbm, 2424, rfl⟩
abbrev main_call11_call0_v163 : Ref sig .tc := ⟨.hbm, 2425, rfl⟩
abbrev main_call11_call0_c_42 : Ref sig .tc := ⟨.hbm, 2426, rfl⟩
abbrev main_call11_call0_v164 : Ref sig .tc := ⟨.hbm, 2427, rfl⟩
abbrev main_call11_call0_v165 : Ref sig .tc := ⟨.hbm, 2428, rfl⟩
abbrev main_call11_call0_c_43 : Ref sig .tc := ⟨.hbm, 2429, rfl⟩
abbrev main_call11_call0_v166 : Ref sig .tc := ⟨.hbm, 2430, rfl⟩
abbrev main_call11_call0_v167 : Ref sig .tc := ⟨.hbm, 2431, rfl⟩
abbrev main_call11_call0_v168 : Ref sig .tc := ⟨.hbm, 2432, rfl⟩
abbrev main_call11_call0_v169 : Ref sig .tc := ⟨.hbm, 2433, rfl⟩
abbrev main_call11_call0_v170 : Ref sig .tc := ⟨.hbm, 2434, rfl⟩
abbrev main_call11_v17_0 : Ref sig .tc := ⟨.hbm, 2435, rfl⟩
abbrev main_call11_call0_v172 : Ref sig .tc := ⟨.hbm, 2436, rfl⟩
abbrev main_call11_call0_v173 : Ref sig .tc := ⟨.hbm, 2437, rfl⟩
abbrev main_call11_call0_c_44 : Ref sig .tc := ⟨.hbm, 2438, rfl⟩
abbrev main_call11_call0_v174 : Ref sig .tc := ⟨.hbm, 2439, rfl⟩
abbrev main_call11_v17_1 : Ref sig .tc := ⟨.hbm, 2440, rfl⟩
abbrev main_call11_v18 : Ref sig .tc := ⟨.hbm, 2441, rfl⟩
abbrev main_call11_c_2 : Ref sig .tc := ⟨.hbm, 2442, rfl⟩
abbrev main_call11_v19 : Ref sig .tc := ⟨.hbm, 2443, rfl⟩
abbrev main_call11_v20 : Ref sig .tc := ⟨.hbm, 2444, rfl⟩
abbrev main_call11_c_3 : Ref sig .tc := ⟨.hbm, 2445, rfl⟩
abbrev main_call11_v21 : Ref sig .tc := ⟨.hbm, 2446, rfl⟩
abbrev main_call11_v22 : Ref sig .tc := ⟨.hbm, 2447, rfl⟩
abbrev main_call11_v23 : Ref sig .tc := ⟨.hbm, 2448, rfl⟩
abbrev main_call11_cst : Ref sig .tc := ⟨.hbm, 2449, rfl⟩
abbrev main_call11_v24 : Ref sig .tc := ⟨.hbm, 2450, rfl⟩
abbrev main_call11_v25 : Ref sig .tc := ⟨.hbm, 2451, rfl⟩
abbrev main_call11_v26 : Ref sig .tc := ⟨.hbm, 2452, rfl⟩
abbrev main_call11_v27 : Ref sig .tc := ⟨.hbm, 2453, rfl⟩
abbrev main_call11_v28 : Ref sig .tc := ⟨.hbm, 2454, rfl⟩
abbrev main_call11_v29 : Ref sig .tc := ⟨.hbm, 2455, rfl⟩
abbrev main_call11_v30 : Ref sig .tc := ⟨.hbm, 2456, rfl⟩
abbrev main_call11_v31 : Ref sig .tc := ⟨.hbm, 2457, rfl⟩
abbrev main_v96 : Ref sig .tc := ⟨.hbm, 2458, rfl⟩
abbrev main_cst_24 : Ref sig .tc := ⟨.hbm, 2459, rfl⟩
abbrev main_v97 : Ref sig .tc := ⟨.hbm, 2460, rfl⟩
abbrev main_v98 : Ref sig .tc := ⟨.hbm, 2461, rfl⟩
abbrev main_v99 : Ref sig .tc := ⟨.hbm, 2462, rfl⟩
abbrev main_v100 : Ref sig .tc := ⟨.hbm, 2463, rfl⟩
abbrev main_v101 : Ref sig .tc := ⟨.hbm, 2464, rfl⟩
abbrev main_v102 : Ref sig .tc := ⟨.hbm, 2465, rfl⟩
abbrev main_call12_v0 : Ref sig .tc := ⟨.hbm, 2466, rfl⟩
abbrev main_call12_v1 : Ref sig .tc := ⟨.hbm, 2467, rfl⟩
abbrev main_call12_v2 : Ref sig .tc := ⟨.hbm, 2468, rfl⟩
abbrev main_call12_v3 : Ref sig .tc := ⟨.hbm, 2469, rfl⟩
abbrev main_call12_v4 : Ref sig .tc := ⟨.hbm, 2470, rfl⟩
abbrev main_call12_v5 : Ref sig .tc := ⟨.hbm, 2471, rfl⟩
abbrev main_call12_v6 : Ref sig .tc := ⟨.hbm, 2472, rfl⟩
abbrev main_call12_v7 : Ref sig .tc := ⟨.hbm, 2473, rfl⟩
abbrev main_call12_v8 : Ref sig .tc := ⟨.hbm, 2474, rfl⟩
abbrev main_call12_v9 : Ref sig .tc := ⟨.hbm, 2475, rfl⟩
abbrev main_call12_v10 : Ref sig .tc := ⟨.hbm, 2476, rfl⟩
abbrev main_call12_v11 : Ref sig .tc := ⟨.hbm, 2477, rfl⟩
abbrev main_call12_v12 : Ref sig .tc := ⟨.hbm, 2478, rfl⟩
abbrev main_call12_v13 : Ref sig .tc := ⟨.hbm, 2479, rfl⟩
abbrev main_call12_v14 : Ref sig .tc := ⟨.hbm, 2480, rfl⟩
abbrev main_call12_v15 : Ref sig .tc := ⟨.hbm, 2481, rfl⟩
abbrev main_call12_v16 : Ref sig .tc := ⟨.hbm, 2482, rfl⟩
abbrev main_call12_v17 : Ref sig .tc := ⟨.hbm, 2483, rfl⟩
abbrev main_call12_v18 : Ref sig .tc := ⟨.hbm, 2484, rfl⟩
abbrev main_call12_v19 : Ref sig .tc := ⟨.hbm, 2485, rfl⟩
abbrev main_call12_v20 : Ref sig .tc := ⟨.hbm, 2486, rfl⟩
abbrev main_call12_v21 : Ref sig .tc := ⟨.hbm, 2487, rfl⟩
abbrev main_call12_v22 : Ref sig .tc := ⟨.hbm, 2488, rfl⟩
abbrev main_call12_v23 : Ref sig .tc := ⟨.hbm, 2489, rfl⟩
abbrev main_call12_v24 : Ref sig .tc := ⟨.hbm, 2490, rfl⟩
abbrev main_call12_v25 : Ref sig .tc := ⟨.hbm, 2491, rfl⟩
abbrev main_call12_v26 : Ref sig .tc := ⟨.hbm, 2492, rfl⟩
abbrev main_call12_v27 : Ref sig .tc := ⟨.hbm, 2493, rfl⟩
abbrev main_call12_v28 : Ref sig .tc := ⟨.hbm, 2494, rfl⟩
abbrev main_call12_v29 : Ref sig .tc := ⟨.hbm, 2495, rfl⟩
abbrev main_call12_v30 : Ref sig .tc := ⟨.hbm, 2496, rfl⟩
abbrev main_call12_v31 : Ref sig .tc := ⟨.hbm, 2497, rfl⟩
abbrev main_call12_v32 : Ref sig .tc := ⟨.hbm, 2498, rfl⟩
abbrev main_call12_v33 : Ref sig .tc := ⟨.hbm, 2499, rfl⟩
abbrev main_call12_v34 : Ref sig .tc := ⟨.hbm, 2500, rfl⟩
abbrev main_call12_v35 : Ref sig .tc := ⟨.hbm, 2501, rfl⟩
abbrev main_call12_v36 : Ref sig .tc := ⟨.hbm, 2502, rfl⟩
abbrev main_v103 : Ref sig .tc := ⟨.hbm, 2503, rfl⟩
abbrev main_v104 : Ref sig .tc := ⟨.hbm, 2504, rfl⟩
abbrev main_v105 : Ref sig .tc := ⟨.hbm, 2505, rfl⟩
abbrev main_v106 : Ref sig .tc := ⟨.hbm, 2506, rfl⟩
abbrev main_cst_25 : Ref sig .tc := ⟨.hbm, 2507, rfl⟩
abbrev main_v107 : Ref sig .tc := ⟨.hbm, 2508, rfl⟩
abbrev main_v108 : Ref sig .tc := ⟨.hbm, 2509, rfl⟩
abbrev main_v109 : Ref sig .tc := ⟨.hbm, 2510, rfl⟩
abbrev main_cst_26 : Ref sig .tc := ⟨.hbm, 2511, rfl⟩
abbrev main_cst_27 : Ref sig .tc := ⟨.hbm, 2512, rfl⟩
abbrev main_call13_v0 : Ref sig .tc := ⟨.hbm, 2513, rfl⟩
abbrev main_call13_v1 : Ref sig .tc := ⟨.hbm, 2514, rfl⟩
abbrev main_call13_v2 : Ref sig .tc := ⟨.hbm, 2515, rfl⟩
abbrev main_call13_v3 : Ref sig .tc := ⟨.hbm, 2516, rfl⟩
abbrev main_call13_v4 : Ref sig .tc := ⟨.hbm, 2517, rfl⟩
abbrev main_call13_v5 : Ref sig .tc := ⟨.hbm, 2518, rfl⟩
abbrev main_call13_v6 : Ref sig .tc := ⟨.hbm, 2519, rfl⟩
abbrev main_call13_v7 : Ref sig .tc := ⟨.hbm, 2520, rfl⟩
abbrev main_call13_c : Ref sig .tc := ⟨.hbm, 2521, rfl⟩
abbrev main_call13_v8 : Ref sig .tc := ⟨.hbm, 2522, rfl⟩
abbrev main_call13_v9 : Ref sig .tc := ⟨.hbm, 2523, rfl⟩
abbrev main_call13_c_0 : Ref sig .tc := ⟨.hbm, 2524, rfl⟩
abbrev main_call13_v10 : Ref sig .tc := ⟨.hbm, 2525, rfl⟩
abbrev main_call13_v11 : Ref sig .tc := ⟨.hbm, 2526, rfl⟩
abbrev main_call13_v12 : Ref sig .tc := ⟨.hbm, 2527, rfl⟩
abbrev main_call13_c_1 : Ref sig .tc := ⟨.hbm, 2528, rfl⟩
abbrev main_call13_v13 : Ref sig .tc := ⟨.hbm, 2529, rfl⟩
abbrev main_call13_v14 : Ref sig .tc := ⟨.hbm, 2530, rfl⟩
abbrev main_call13_v15 : Ref sig .tc := ⟨.hbm, 2531, rfl⟩
abbrev main_call13_v16 : Ref sig .tc := ⟨.hbm, 2532, rfl⟩
abbrev main_call13_call0_v0 : Ref sig .tc := ⟨.hbm, 2533, rfl⟩
abbrev main_call13_call0_c : Ref sig .tc := ⟨.hbm, 2534, rfl⟩
abbrev main_call13_call0_v1 : Ref sig .tc := ⟨.hbm, 2535, rfl⟩
abbrev main_call13_call0_v2 : Ref sig .tc := ⟨.hbm, 2536, rfl⟩
abbrev main_call13_call0_v3 : Ref sig .tc := ⟨.hbm, 2537, rfl⟩
abbrev main_call13_call0_v4 : Ref sig .tc := ⟨.hbm, 2538, rfl⟩
abbrev main_call13_call0_v5 : Ref sig .tc := ⟨.hbm, 2539, rfl⟩
abbrev main_call13_call0_v6 : Ref sig .tc := ⟨.hbm, 2540, rfl⟩
abbrev main_call13_call0_c_0 : Ref sig .tc := ⟨.hbm, 2541, rfl⟩
abbrev main_call13_call0_v7 : Ref sig .tc := ⟨.hbm, 2542, rfl⟩
abbrev main_call13_call0_v8 : Ref sig .tc := ⟨.hbm, 2543, rfl⟩
abbrev main_call13_call0_c_1 : Ref sig .tc := ⟨.hbm, 2544, rfl⟩
abbrev main_call13_call0_v9 : Ref sig .tc := ⟨.hbm, 2545, rfl⟩
abbrev main_call13_call0_v10 : Ref sig .tc := ⟨.hbm, 2546, rfl⟩
abbrev main_call13_call0_v11 : Ref sig .tc := ⟨.hbm, 2547, rfl⟩
abbrev main_call13_call0_v12 : Ref sig .tc := ⟨.hbm, 2548, rfl⟩
abbrev main_call13_call0_v13 : Ref sig .tc := ⟨.hbm, 2549, rfl⟩
abbrev main_call13_call0_c_2 : Ref sig .tc := ⟨.hbm, 2550, rfl⟩
abbrev main_call13_call0_v14 : Ref sig .tc := ⟨.hbm, 2551, rfl⟩
abbrev main_call13_call0_v15 : Ref sig .tc := ⟨.hbm, 2552, rfl⟩
abbrev main_call13_call0_c_3 : Ref sig .tc := ⟨.hbm, 2553, rfl⟩
abbrev main_call13_call0_v16 : Ref sig .tc := ⟨.hbm, 2554, rfl⟩
abbrev main_call13_call0_v17 : Ref sig .tc := ⟨.hbm, 2555, rfl⟩
abbrev main_call13_call0_v18 : Ref sig .tc := ⟨.hbm, 2556, rfl⟩
abbrev main_call13_call0_v19 : Ref sig .tc := ⟨.hbm, 2557, rfl⟩
abbrev main_call13_call0_v20 : Ref sig .tc := ⟨.hbm, 2558, rfl⟩
abbrev main_call13_call0_c_4 : Ref sig .tc := ⟨.hbm, 2559, rfl⟩
abbrev main_call13_call0_v21 : Ref sig .tc := ⟨.hbm, 2560, rfl⟩
abbrev main_call13_call0_v22 : Ref sig .tc := ⟨.hbm, 2561, rfl⟩
abbrev main_call13_call0_c_5 : Ref sig .tc := ⟨.hbm, 2562, rfl⟩
abbrev main_call13_call0_v23 : Ref sig .tc := ⟨.hbm, 2563, rfl⟩
abbrev main_call13_call0_v24 : Ref sig .tc := ⟨.hbm, 2564, rfl⟩
abbrev main_call13_call0_v25 : Ref sig .tc := ⟨.hbm, 2565, rfl⟩
abbrev main_call13_call0_v26 : Ref sig .tc := ⟨.hbm, 2566, rfl⟩
abbrev main_call13_call0_v27 : Ref sig .tc := ⟨.hbm, 2567, rfl⟩
abbrev main_call13_call0_c_6 : Ref sig .tc := ⟨.hbm, 2568, rfl⟩
abbrev main_call13_call0_v28 : Ref sig .tc := ⟨.hbm, 2569, rfl⟩
abbrev main_call13_call0_v29 : Ref sig .tc := ⟨.hbm, 2570, rfl⟩
abbrev main_call13_call0_c_7 : Ref sig .tc := ⟨.hbm, 2571, rfl⟩
abbrev main_call13_call0_v30 : Ref sig .tc := ⟨.hbm, 2572, rfl⟩
abbrev main_call13_call0_v31 : Ref sig .tc := ⟨.hbm, 2573, rfl⟩
abbrev main_call13_call0_v32 : Ref sig .tc := ⟨.hbm, 2574, rfl⟩
abbrev main_call13_call0_v33 : Ref sig .tc := ⟨.hbm, 2575, rfl⟩
abbrev main_call13_call0_v34 : Ref sig .tc := ⟨.hbm, 2576, rfl⟩
abbrev main_call13_call0_v35 : Ref sig .tc := ⟨.hbm, 2577, rfl⟩
abbrev main_call13_call0_v36 : Ref sig .tc := ⟨.hbm, 2578, rfl⟩
abbrev main_call13_call0_v37 : Ref sig .tc := ⟨.hbm, 2579, rfl⟩
abbrev main_call13_call0_c_8 : Ref sig .tc := ⟨.hbm, 2580, rfl⟩
abbrev main_call13_call0_v38 : Ref sig .tc := ⟨.hbm, 2581, rfl⟩
abbrev main_call13_call0_v39 : Ref sig .tc := ⟨.hbm, 2582, rfl⟩
abbrev main_call13_call0_v40 : Ref sig .tc := ⟨.hbm, 2583, rfl⟩
abbrev main_call13_call0_c_9 : Ref sig .tc := ⟨.hbm, 2584, rfl⟩
abbrev main_call13_call0_v41 : Ref sig .tc := ⟨.hbm, 2585, rfl⟩
abbrev main_call13_call0_v42 : Ref sig .tc := ⟨.hbm, 2586, rfl⟩
abbrev main_call13_call0_c_10 : Ref sig .tc := ⟨.hbm, 2587, rfl⟩
abbrev main_call13_call0_v43 : Ref sig .tc := ⟨.hbm, 2588, rfl⟩
abbrev main_call13_call0_v44 : Ref sig .tc := ⟨.hbm, 2589, rfl⟩
abbrev main_call13_call0_v45 : Ref sig .tc := ⟨.hbm, 2590, rfl⟩
abbrev main_call13_call0_v46 : Ref sig .tc := ⟨.hbm, 2591, rfl⟩
abbrev main_call13_call0_v47 : Ref sig .tc := ⟨.hbm, 2592, rfl⟩
abbrev main_call13_call0_c_11 : Ref sig .tc := ⟨.hbm, 2593, rfl⟩
abbrev main_call13_call0_v48 : Ref sig .tc := ⟨.hbm, 2594, rfl⟩
abbrev main_call13_call0_v49 : Ref sig .tc := ⟨.hbm, 2595, rfl⟩
abbrev main_call13_call0_c_12 : Ref sig .tc := ⟨.hbm, 2596, rfl⟩
abbrev main_call13_call0_v50 : Ref sig .tc := ⟨.hbm, 2597, rfl⟩
abbrev main_call13_call0_v51 : Ref sig .tc := ⟨.hbm, 2598, rfl⟩
abbrev main_call13_call0_v52 : Ref sig .tc := ⟨.hbm, 2599, rfl⟩
abbrev main_call13_call0_v53 : Ref sig .tc := ⟨.hbm, 2600, rfl⟩
abbrev main_call13_call0_v54 : Ref sig .tc := ⟨.hbm, 2601, rfl⟩
abbrev main_call13_call0_c_13 : Ref sig .tc := ⟨.hbm, 2602, rfl⟩
abbrev main_call13_call0_v55 : Ref sig .tc := ⟨.hbm, 2603, rfl⟩
abbrev main_call13_call0_v56 : Ref sig .tc := ⟨.hbm, 2604, rfl⟩
abbrev main_call13_call0_c_14 : Ref sig .tc := ⟨.hbm, 2605, rfl⟩
abbrev main_call13_call0_v57 : Ref sig .tc := ⟨.hbm, 2606, rfl⟩
abbrev main_call13_call0_v58 : Ref sig .tc := ⟨.hbm, 2607, rfl⟩
abbrev main_call13_call0_v59 : Ref sig .tc := ⟨.hbm, 2608, rfl⟩
abbrev main_call13_call0_v60 : Ref sig .tc := ⟨.hbm, 2609, rfl⟩
abbrev main_call13_call0_v61 : Ref sig .tc := ⟨.hbm, 2610, rfl⟩
abbrev main_call13_call0_c_15 : Ref sig .tc := ⟨.hbm, 2611, rfl⟩
abbrev main_call13_call0_v62 : Ref sig .tc := ⟨.hbm, 2612, rfl⟩
abbrev main_call13_call0_v63 : Ref sig .tc := ⟨.hbm, 2613, rfl⟩
abbrev main_call13_call0_c_16 : Ref sig .tc := ⟨.hbm, 2614, rfl⟩
abbrev main_call13_call0_v64 : Ref sig .tc := ⟨.hbm, 2615, rfl⟩
abbrev main_call13_call0_v65 : Ref sig .tc := ⟨.hbm, 2616, rfl⟩
abbrev main_call13_call0_v66 : Ref sig .tc := ⟨.hbm, 2617, rfl⟩
abbrev main_call13_call0_v67 : Ref sig .tc := ⟨.hbm, 2618, rfl⟩
abbrev main_call13_call0_v68 : Ref sig .tc := ⟨.hbm, 2619, rfl⟩
abbrev main_call13_call0_v69 : Ref sig .tc := ⟨.hbm, 2620, rfl⟩
abbrev main_call13_call0_v70 : Ref sig .tc := ⟨.hbm, 2621, rfl⟩
abbrev main_call13_call0_v71 : Ref sig .tc := ⟨.hbm, 2622, rfl⟩
abbrev main_call13_call0_c_17 : Ref sig .tc := ⟨.hbm, 2623, rfl⟩
abbrev main_call13_call0_v72 : Ref sig .tc := ⟨.hbm, 2624, rfl⟩
abbrev main_call13_call0_v73 : Ref sig .tc := ⟨.hbm, 2625, rfl⟩
abbrev main_call13_call0_v74 : Ref sig .tc := ⟨.hbm, 2626, rfl⟩
abbrev main_call13_call0_c_18 : Ref sig .tc := ⟨.hbm, 2627, rfl⟩
abbrev main_call13_call0_v75 : Ref sig .tc := ⟨.hbm, 2628, rfl⟩
abbrev main_call13_call0_v76 : Ref sig .tc := ⟨.hbm, 2629, rfl⟩
abbrev main_call13_call0_c_19 : Ref sig .tc := ⟨.hbm, 2630, rfl⟩
abbrev main_call13_call0_v77 : Ref sig .tc := ⟨.hbm, 2631, rfl⟩
abbrev main_call13_call0_v78 : Ref sig .tc := ⟨.hbm, 2632, rfl⟩
abbrev main_call13_call0_v79 : Ref sig .tc := ⟨.hbm, 2633, rfl⟩
abbrev main_call13_call0_v80 : Ref sig .tc := ⟨.hbm, 2634, rfl⟩
abbrev main_call13_call0_v81 : Ref sig .tc := ⟨.hbm, 2635, rfl⟩
abbrev main_call13_call0_c_20 : Ref sig .tc := ⟨.hbm, 2636, rfl⟩
abbrev main_call13_call0_v82 : Ref sig .tc := ⟨.hbm, 2637, rfl⟩
abbrev main_call13_call0_v83 : Ref sig .tc := ⟨.hbm, 2638, rfl⟩
abbrev main_call13_call0_c_21 : Ref sig .tc := ⟨.hbm, 2639, rfl⟩
abbrev main_call13_call0_v84 : Ref sig .tc := ⟨.hbm, 2640, rfl⟩
abbrev main_call13_call0_v85 : Ref sig .tc := ⟨.hbm, 2641, rfl⟩
abbrev main_call13_call0_v86 : Ref sig .tc := ⟨.hbm, 2642, rfl⟩
abbrev main_call13_call0_v87 : Ref sig .tc := ⟨.hbm, 2643, rfl⟩
abbrev main_call13_call0_v88 : Ref sig .tc := ⟨.hbm, 2644, rfl⟩
abbrev main_call13_call0_c_22 : Ref sig .tc := ⟨.hbm, 2645, rfl⟩
abbrev main_call13_call0_v89 : Ref sig .tc := ⟨.hbm, 2646, rfl⟩
abbrev main_call13_call0_v90 : Ref sig .tc := ⟨.hbm, 2647, rfl⟩
abbrev main_call13_call0_c_23 : Ref sig .tc := ⟨.hbm, 2648, rfl⟩
abbrev main_call13_call0_v91 : Ref sig .tc := ⟨.hbm, 2649, rfl⟩
abbrev main_call13_call0_v92 : Ref sig .tc := ⟨.hbm, 2650, rfl⟩
abbrev main_call13_call0_v93 : Ref sig .tc := ⟨.hbm, 2651, rfl⟩
abbrev main_call13_call0_v94 : Ref sig .tc := ⟨.hbm, 2652, rfl⟩
abbrev main_call13_call0_v95 : Ref sig .tc := ⟨.hbm, 2653, rfl⟩
abbrev main_call13_call0_c_24 : Ref sig .tc := ⟨.hbm, 2654, rfl⟩
abbrev main_call13_call0_v96 : Ref sig .tc := ⟨.hbm, 2655, rfl⟩
abbrev main_call13_call0_v97 : Ref sig .tc := ⟨.hbm, 2656, rfl⟩
abbrev main_call13_call0_c_25 : Ref sig .tc := ⟨.hbm, 2657, rfl⟩
abbrev main_call13_call0_v98 : Ref sig .tc := ⟨.hbm, 2658, rfl⟩
abbrev main_call13_call0_v99 : Ref sig .tc := ⟨.hbm, 2659, rfl⟩
abbrev main_call13_call0_v100 : Ref sig .tc := ⟨.hbm, 2660, rfl⟩
abbrev main_call13_call0_v101 : Ref sig .tc := ⟨.hbm, 2661, rfl⟩
abbrev main_call13_call0_v102 : Ref sig .tc := ⟨.hbm, 2662, rfl⟩
abbrev main_call13_call0_v103 : Ref sig .tc := ⟨.hbm, 2663, rfl⟩
abbrev main_call13_call0_v104 : Ref sig .tc := ⟨.hbm, 2664, rfl⟩
abbrev main_call13_call0_v105 : Ref sig .tc := ⟨.hbm, 2665, rfl⟩
abbrev main_call13_call0_c_26 : Ref sig .tc := ⟨.hbm, 2666, rfl⟩
abbrev main_call13_call0_v106 : Ref sig .tc := ⟨.hbm, 2667, rfl⟩
abbrev main_call13_call0_v107 : Ref sig .tc := ⟨.hbm, 2668, rfl⟩
abbrev main_call13_call0_v108 : Ref sig .tc := ⟨.hbm, 2669, rfl⟩
abbrev main_call13_call0_c_27 : Ref sig .tc := ⟨.hbm, 2670, rfl⟩
abbrev main_call13_call0_v109 : Ref sig .tc := ⟨.hbm, 2671, rfl⟩
abbrev main_call13_call0_v110 : Ref sig .tc := ⟨.hbm, 2672, rfl⟩
abbrev main_call13_call0_c_28 : Ref sig .tc := ⟨.hbm, 2673, rfl⟩
abbrev main_call13_call0_v111 : Ref sig .tc := ⟨.hbm, 2674, rfl⟩
abbrev main_call13_call0_v112 : Ref sig .tc := ⟨.hbm, 2675, rfl⟩
abbrev main_call13_call0_v113 : Ref sig .tc := ⟨.hbm, 2676, rfl⟩
abbrev main_call13_call0_v114 : Ref sig .tc := ⟨.hbm, 2677, rfl⟩
abbrev main_call13_call0_v115 : Ref sig .tc := ⟨.hbm, 2678, rfl⟩
abbrev main_call13_call0_c_29 : Ref sig .tc := ⟨.hbm, 2679, rfl⟩
abbrev main_call13_call0_v116 : Ref sig .tc := ⟨.hbm, 2680, rfl⟩
abbrev main_call13_call0_v117 : Ref sig .tc := ⟨.hbm, 2681, rfl⟩
abbrev main_call13_call0_c_30 : Ref sig .tc := ⟨.hbm, 2682, rfl⟩
abbrev main_call13_call0_v118 : Ref sig .tc := ⟨.hbm, 2683, rfl⟩
abbrev main_call13_call0_v119 : Ref sig .tc := ⟨.hbm, 2684, rfl⟩
abbrev main_call13_call0_v120 : Ref sig .tc := ⟨.hbm, 2685, rfl⟩
abbrev main_call13_call0_v121 : Ref sig .tc := ⟨.hbm, 2686, rfl⟩
abbrev main_call13_call0_v122 : Ref sig .tc := ⟨.hbm, 2687, rfl⟩
abbrev main_call13_call0_c_31 : Ref sig .tc := ⟨.hbm, 2688, rfl⟩
abbrev main_call13_call0_v123 : Ref sig .tc := ⟨.hbm, 2689, rfl⟩
abbrev main_call13_call0_v124 : Ref sig .tc := ⟨.hbm, 2690, rfl⟩
abbrev main_call13_call0_c_32 : Ref sig .tc := ⟨.hbm, 2691, rfl⟩
abbrev main_call13_call0_v125 : Ref sig .tc := ⟨.hbm, 2692, rfl⟩
abbrev main_call13_call0_v126 : Ref sig .tc := ⟨.hbm, 2693, rfl⟩
abbrev main_call13_call0_v127 : Ref sig .tc := ⟨.hbm, 2694, rfl⟩
abbrev main_call13_call0_v128 : Ref sig .tc := ⟨.hbm, 2695, rfl⟩
abbrev main_call13_call0_v129 : Ref sig .tc := ⟨.hbm, 2696, rfl⟩
abbrev main_call13_call0_c_33 : Ref sig .tc := ⟨.hbm, 2697, rfl⟩
abbrev main_call13_call0_v130 : Ref sig .tc := ⟨.hbm, 2698, rfl⟩
abbrev main_call13_call0_v131 : Ref sig .tc := ⟨.hbm, 2699, rfl⟩
abbrev main_call13_call0_c_34 : Ref sig .tc := ⟨.hbm, 2700, rfl⟩
abbrev main_call13_call0_v132 : Ref sig .tc := ⟨.hbm, 2701, rfl⟩
abbrev main_call13_call0_v133 : Ref sig .tc := ⟨.hbm, 2702, rfl⟩
abbrev main_call13_call0_v134 : Ref sig .tc := ⟨.hbm, 2703, rfl⟩
abbrev main_call13_call0_v135 : Ref sig .tc := ⟨.hbm, 2704, rfl⟩
abbrev main_call13_call0_v136 : Ref sig .tc := ⟨.hbm, 2705, rfl⟩
abbrev main_call13_call0_v137 : Ref sig .tc := ⟨.hbm, 2706, rfl⟩
abbrev main_call13_call0_v138 : Ref sig .tc := ⟨.hbm, 2707, rfl⟩
abbrev main_call13_call0_v139 : Ref sig .tc := ⟨.hbm, 2708, rfl⟩
abbrev main_call13_call0_c_35 : Ref sig .tc := ⟨.hbm, 2709, rfl⟩
abbrev main_call13_call0_v140 : Ref sig .tc := ⟨.hbm, 2710, rfl⟩
abbrev main_call13_call0_v141 : Ref sig .tc := ⟨.hbm, 2711, rfl⟩
abbrev main_call13_call0_v142 : Ref sig .tc := ⟨.hbm, 2712, rfl⟩
abbrev main_call13_call0_c_36 : Ref sig .tc := ⟨.hbm, 2713, rfl⟩
abbrev main_call13_call0_v143 : Ref sig .tc := ⟨.hbm, 2714, rfl⟩
abbrev main_call13_call0_v144 : Ref sig .tc := ⟨.hbm, 2715, rfl⟩
abbrev main_call13_call0_c_37 : Ref sig .tc := ⟨.hbm, 2716, rfl⟩
abbrev main_call13_call0_v145 : Ref sig .tc := ⟨.hbm, 2717, rfl⟩
abbrev main_call13_call0_v146 : Ref sig .tc := ⟨.hbm, 2718, rfl⟩
abbrev main_call13_call0_v147 : Ref sig .tc := ⟨.hbm, 2719, rfl⟩
abbrev main_call13_call0_v148 : Ref sig .tc := ⟨.hbm, 2720, rfl⟩
abbrev main_call13_call0_v149 : Ref sig .tc := ⟨.hbm, 2721, rfl⟩
abbrev main_call13_call0_c_38 : Ref sig .tc := ⟨.hbm, 2722, rfl⟩
abbrev main_call13_call0_v150 : Ref sig .tc := ⟨.hbm, 2723, rfl⟩
abbrev main_call13_call0_v151 : Ref sig .tc := ⟨.hbm, 2724, rfl⟩
abbrev main_call13_call0_c_39 : Ref sig .tc := ⟨.hbm, 2725, rfl⟩
abbrev main_call13_call0_v152 : Ref sig .tc := ⟨.hbm, 2726, rfl⟩
abbrev main_call13_call0_v153 : Ref sig .tc := ⟨.hbm, 2727, rfl⟩
abbrev main_call13_call0_v154 : Ref sig .tc := ⟨.hbm, 2728, rfl⟩
abbrev main_call13_call0_v155 : Ref sig .tc := ⟨.hbm, 2729, rfl⟩
abbrev main_call13_call0_v156 : Ref sig .tc := ⟨.hbm, 2730, rfl⟩
abbrev main_call13_call0_c_40 : Ref sig .tc := ⟨.hbm, 2731, rfl⟩
abbrev main_call13_call0_v157 : Ref sig .tc := ⟨.hbm, 2732, rfl⟩
abbrev main_call13_call0_v158 : Ref sig .tc := ⟨.hbm, 2733, rfl⟩
abbrev main_call13_call0_c_41 : Ref sig .tc := ⟨.hbm, 2734, rfl⟩
abbrev main_call13_call0_v159 : Ref sig .tc := ⟨.hbm, 2735, rfl⟩
abbrev main_call13_call0_v160 : Ref sig .tc := ⟨.hbm, 2736, rfl⟩
abbrev main_call13_call0_v161 : Ref sig .tc := ⟨.hbm, 2737, rfl⟩
abbrev main_call13_call0_v162 : Ref sig .tc := ⟨.hbm, 2738, rfl⟩
abbrev main_call13_call0_v163 : Ref sig .tc := ⟨.hbm, 2739, rfl⟩
abbrev main_call13_call0_c_42 : Ref sig .tc := ⟨.hbm, 2740, rfl⟩
abbrev main_call13_call0_v164 : Ref sig .tc := ⟨.hbm, 2741, rfl⟩
abbrev main_call13_call0_v165 : Ref sig .tc := ⟨.hbm, 2742, rfl⟩
abbrev main_call13_call0_c_43 : Ref sig .tc := ⟨.hbm, 2743, rfl⟩
abbrev main_call13_call0_v166 : Ref sig .tc := ⟨.hbm, 2744, rfl⟩
abbrev main_call13_call0_v167 : Ref sig .tc := ⟨.hbm, 2745, rfl⟩
abbrev main_call13_call0_v168 : Ref sig .tc := ⟨.hbm, 2746, rfl⟩
abbrev main_call13_call0_v169 : Ref sig .tc := ⟨.hbm, 2747, rfl⟩
abbrev main_call13_call0_v170 : Ref sig .tc := ⟨.hbm, 2748, rfl⟩
abbrev main_call13_v17_0 : Ref sig .tc := ⟨.hbm, 2749, rfl⟩
abbrev main_call13_call0_v172 : Ref sig .tc := ⟨.hbm, 2750, rfl⟩
abbrev main_call13_call0_v173 : Ref sig .tc := ⟨.hbm, 2751, rfl⟩
abbrev main_call13_call0_c_44 : Ref sig .tc := ⟨.hbm, 2752, rfl⟩
abbrev main_call13_call0_v174 : Ref sig .tc := ⟨.hbm, 2753, rfl⟩
abbrev main_call13_v17_1 : Ref sig .tc := ⟨.hbm, 2754, rfl⟩
abbrev main_call13_v18 : Ref sig .tc := ⟨.hbm, 2755, rfl⟩
abbrev main_call13_c_2 : Ref sig .tc := ⟨.hbm, 2756, rfl⟩
abbrev main_call13_v19 : Ref sig .tc := ⟨.hbm, 2757, rfl⟩
abbrev main_call13_v20 : Ref sig .tc := ⟨.hbm, 2758, rfl⟩
abbrev main_call13_c_3 : Ref sig .tc := ⟨.hbm, 2759, rfl⟩
abbrev main_call13_v21 : Ref sig .tc := ⟨.hbm, 2760, rfl⟩
abbrev main_call13_v22 : Ref sig .tc := ⟨.hbm, 2761, rfl⟩
abbrev main_call13_v23 : Ref sig .tc := ⟨.hbm, 2762, rfl⟩
abbrev main_call13_cst : Ref sig .tc := ⟨.hbm, 2763, rfl⟩
abbrev main_call13_v24 : Ref sig .tc := ⟨.hbm, 2764, rfl⟩
abbrev main_call13_v25 : Ref sig .tc := ⟨.hbm, 2765, rfl⟩
abbrev main_call13_v26 : Ref sig .tc := ⟨.hbm, 2766, rfl⟩
abbrev main_call13_v27 : Ref sig .tc := ⟨.hbm, 2767, rfl⟩
abbrev main_call13_v28 : Ref sig .tc := ⟨.hbm, 2768, rfl⟩
abbrev main_call13_v29 : Ref sig .tc := ⟨.hbm, 2769, rfl⟩
abbrev main_call13_v30 : Ref sig .tc := ⟨.hbm, 2770, rfl⟩
abbrev main_call13_v31 : Ref sig .tc := ⟨.hbm, 2771, rfl⟩
abbrev main_v110 : Ref sig .tc := ⟨.hbm, 2772, rfl⟩
abbrev main_cst_28 : Ref sig .tc := ⟨.hbm, 2773, rfl⟩
abbrev main_v111 : Ref sig .tc := ⟨.hbm, 2774, rfl⟩
abbrev main_v112 : Ref sig .tc := ⟨.hbm, 2775, rfl⟩
abbrev main_v113 : Ref sig .tc := ⟨.hbm, 2776, rfl⟩
abbrev main_v114 : Ref sig .tc := ⟨.hbm, 2777, rfl⟩
abbrev main_v115 : Ref sig .tc := ⟨.hbm, 2778, rfl⟩
abbrev main_v116 : Ref sig .tc := ⟨.hbm, 2779, rfl⟩
abbrev main_call14_v0 : Ref sig .tc := ⟨.hbm, 2780, rfl⟩
abbrev main_call14_v1 : Ref sig .tc := ⟨.hbm, 2781, rfl⟩
abbrev main_call14_v2 : Ref sig .tc := ⟨.hbm, 2782, rfl⟩
abbrev main_call14_v3 : Ref sig .tc := ⟨.hbm, 2783, rfl⟩
abbrev main_call14_v4 : Ref sig .tc := ⟨.hbm, 2784, rfl⟩
abbrev main_call14_v5 : Ref sig .tc := ⟨.hbm, 2785, rfl⟩
abbrev main_call14_v6 : Ref sig .tc := ⟨.hbm, 2786, rfl⟩
abbrev main_call14_v7 : Ref sig .tc := ⟨.hbm, 2787, rfl⟩
abbrev main_call14_v8 : Ref sig .tc := ⟨.hbm, 2788, rfl⟩
abbrev main_call14_v9 : Ref sig .tc := ⟨.hbm, 2789, rfl⟩
abbrev main_call14_v10 : Ref sig .tc := ⟨.hbm, 2790, rfl⟩
abbrev main_call14_v11 : Ref sig .tc := ⟨.hbm, 2791, rfl⟩
abbrev main_call14_v12 : Ref sig .tc := ⟨.hbm, 2792, rfl⟩
abbrev main_call14_v13 : Ref sig .tc := ⟨.hbm, 2793, rfl⟩
abbrev main_call14_v14 : Ref sig .tc := ⟨.hbm, 2794, rfl⟩
abbrev main_call14_v15 : Ref sig .tc := ⟨.hbm, 2795, rfl⟩
abbrev main_call14_v16 : Ref sig .tc := ⟨.hbm, 2796, rfl⟩
abbrev main_call14_v17 : Ref sig .tc := ⟨.hbm, 2797, rfl⟩
abbrev main_call14_v18 : Ref sig .tc := ⟨.hbm, 2798, rfl⟩
abbrev main_call14_v19 : Ref sig .tc := ⟨.hbm, 2799, rfl⟩
abbrev main_call14_v20 : Ref sig .tc := ⟨.hbm, 2800, rfl⟩
abbrev main_call14_v21 : Ref sig .tc := ⟨.hbm, 2801, rfl⟩
abbrev main_call14_v22 : Ref sig .tc := ⟨.hbm, 2802, rfl⟩
abbrev main_call14_v23 : Ref sig .tc := ⟨.hbm, 2803, rfl⟩
abbrev main_call14_v24 : Ref sig .tc := ⟨.hbm, 2804, rfl⟩
abbrev main_call14_v25 : Ref sig .tc := ⟨.hbm, 2805, rfl⟩
abbrev main_call14_v26 : Ref sig .tc := ⟨.hbm, 2806, rfl⟩
abbrev main_call14_v27 : Ref sig .tc := ⟨.hbm, 2807, rfl⟩
abbrev main_call14_v28 : Ref sig .tc := ⟨.hbm, 2808, rfl⟩
abbrev main_call14_v29 : Ref sig .tc := ⟨.hbm, 2809, rfl⟩
abbrev main_call14_v30 : Ref sig .tc := ⟨.hbm, 2810, rfl⟩
abbrev main_call14_v31 : Ref sig .tc := ⟨.hbm, 2811, rfl⟩
abbrev main_call14_v32 : Ref sig .tc := ⟨.hbm, 2812, rfl⟩
abbrev main_call14_v33 : Ref sig .tc := ⟨.hbm, 2813, rfl⟩
abbrev main_call14_v34 : Ref sig .tc := ⟨.hbm, 2814, rfl⟩
abbrev main_call14_v35 : Ref sig .tc := ⟨.hbm, 2815, rfl⟩
abbrev main_call14_v36 : Ref sig .tc := ⟨.hbm, 2816, rfl⟩
abbrev main_v117 : Ref sig .tc := ⟨.hbm, 2817, rfl⟩
abbrev main_v118 : Ref sig .tc := ⟨.hbm, 2818, rfl⟩
abbrev main_v119 : Ref sig .tc := ⟨.hbm, 2819, rfl⟩
abbrev main_v120 : Ref sig .tc := ⟨.hbm, 2820, rfl⟩
abbrev main_cst_29 : Ref sig .tc := ⟨.hbm, 2821, rfl⟩
abbrev main_v121 : Ref sig .tc := ⟨.hbm, 2822, rfl⟩
abbrev main_v122 : Ref sig .tc := ⟨.hbm, 2823, rfl⟩
abbrev main_v123 : Ref sig .tc := ⟨.hbm, 2824, rfl⟩
abbrev main_v124 : Ref sig .tc := ⟨.hbm, 2825, rfl⟩
abbrev main_v125 : Ref sig .tc := ⟨.hbm, 2826, rfl⟩
abbrev main_v126 : Ref sig .tc := ⟨.hbm, 2827, rfl⟩
abbrev main_v127 : Ref sig .tc := ⟨.hbm, 2828, rfl⟩
abbrev main_cst_30 : Ref sig .tc := ⟨.hbm, 2829, rfl⟩
abbrev main_v128 : Ref sig .tc := ⟨.hbm, 2830, rfl⟩
abbrev main_v129 : Ref sig .tc := ⟨.hbm, 2831, rfl⟩
abbrev main_v130 : Ref sig .tc := ⟨.hbm, 2832, rfl⟩
abbrev main_v131 : Ref sig .tc := ⟨.hbm, 2833, rfl⟩
abbrev main_v132 : Ref sig .tc := ⟨.hbm, 2834, rfl⟩
abbrev main_v133 : Ref sig .tc := ⟨.hbm, 2835, rfl⟩
abbrev main_v134 : Ref sig .tc := ⟨.hbm, 2836, rfl⟩
abbrev main_v135 : Ref sig .tc := ⟨.hbm, 2837, rfl⟩
abbrev main_v136 : Ref sig .tc := ⟨.hbm, 2838, rfl⟩
abbrev main_v137 : Ref sig .tc := ⟨.hbm, 2839, rfl⟩
abbrev main_v138 : Ref sig .tc := ⟨.hbm, 2840, rfl⟩
abbrev main_cst_31 : Ref sig .tc := ⟨.hbm, 2841, rfl⟩
abbrev main_v139 : Ref sig .tc := ⟨.hbm, 2842, rfl⟩
abbrev main_cst_32 : Ref sig .tc := ⟨.hbm, 2843, rfl⟩
abbrev main_v140 : Ref sig .tc := ⟨.hbm, 2844, rfl⟩
abbrev main_cst_33 : Ref sig .tc := ⟨.hbm, 2845, rfl⟩
abbrev main_v141 : Ref sig .tc := ⟨.hbm, 2846, rfl⟩
abbrev main_v142 : Ref sig .tc := ⟨.hbm, 2847, rfl⟩
abbrev main_cst_34 : Ref sig .tc := ⟨.hbm, 2848, rfl⟩
abbrev main_cst_35 : Ref sig .tc := ⟨.hbm, 2849, rfl⟩
abbrev main_call15_v0 : Ref sig .tc := ⟨.hbm, 2850, rfl⟩
abbrev main_call15_v1 : Ref sig .tc := ⟨.hbm, 2851, rfl⟩
abbrev main_call15_v2 : Ref sig .tc := ⟨.hbm, 2852, rfl⟩
abbrev main_call15_v3 : Ref sig .tc := ⟨.hbm, 2853, rfl⟩
abbrev main_call15_v4 : Ref sig .tc := ⟨.hbm, 2854, rfl⟩
abbrev main_call15_v5 : Ref sig .tc := ⟨.hbm, 2855, rfl⟩
abbrev main_call15_v6 : Ref sig .tc := ⟨.hbm, 2856, rfl⟩
abbrev main_call15_v7 : Ref sig .tc := ⟨.hbm, 2857, rfl⟩
abbrev main_call15_c : Ref sig .tc := ⟨.hbm, 2858, rfl⟩
abbrev main_call15_v8 : Ref sig .tc := ⟨.hbm, 2859, rfl⟩
abbrev main_call15_v9 : Ref sig .tc := ⟨.hbm, 2860, rfl⟩
abbrev main_call15_c_0 : Ref sig .tc := ⟨.hbm, 2861, rfl⟩
abbrev main_call15_v10 : Ref sig .tc := ⟨.hbm, 2862, rfl⟩
abbrev main_call15_v11 : Ref sig .tc := ⟨.hbm, 2863, rfl⟩
abbrev main_call15_v12 : Ref sig .tc := ⟨.hbm, 2864, rfl⟩
abbrev main_call15_c_1 : Ref sig .tc := ⟨.hbm, 2865, rfl⟩
abbrev main_call15_v13 : Ref sig .tc := ⟨.hbm, 2866, rfl⟩
abbrev main_call15_v14 : Ref sig .tc := ⟨.hbm, 2867, rfl⟩
abbrev main_call15_v15 : Ref sig .tc := ⟨.hbm, 2868, rfl⟩
abbrev main_call15_v16 : Ref sig .tc := ⟨.hbm, 2869, rfl⟩
abbrev main_call15_call0_v0 : Ref sig .tc := ⟨.hbm, 2870, rfl⟩
abbrev main_call15_call0_c : Ref sig .tc := ⟨.hbm, 2871, rfl⟩
abbrev main_call15_call0_v1 : Ref sig .tc := ⟨.hbm, 2872, rfl⟩
abbrev main_call15_call0_v2 : Ref sig .tc := ⟨.hbm, 2873, rfl⟩
abbrev main_call15_call0_v3 : Ref sig .tc := ⟨.hbm, 2874, rfl⟩
abbrev main_call15_call0_v4 : Ref sig .tc := ⟨.hbm, 2875, rfl⟩
abbrev main_call15_call0_v5 : Ref sig .tc := ⟨.hbm, 2876, rfl⟩
abbrev main_call15_call0_v6 : Ref sig .tc := ⟨.hbm, 2877, rfl⟩
abbrev main_call15_call0_c_0 : Ref sig .tc := ⟨.hbm, 2878, rfl⟩
abbrev main_call15_call0_v7 : Ref sig .tc := ⟨.hbm, 2879, rfl⟩
abbrev main_call15_call0_v8 : Ref sig .tc := ⟨.hbm, 2880, rfl⟩
abbrev main_call15_call0_c_1 : Ref sig .tc := ⟨.hbm, 2881, rfl⟩
abbrev main_call15_call0_v9 : Ref sig .tc := ⟨.hbm, 2882, rfl⟩
abbrev main_call15_call0_v10 : Ref sig .tc := ⟨.hbm, 2883, rfl⟩
abbrev main_call15_call0_v11 : Ref sig .tc := ⟨.hbm, 2884, rfl⟩
abbrev main_call15_call0_v12 : Ref sig .tc := ⟨.hbm, 2885, rfl⟩
abbrev main_call15_call0_v13 : Ref sig .tc := ⟨.hbm, 2886, rfl⟩
abbrev main_call15_call0_c_2 : Ref sig .tc := ⟨.hbm, 2887, rfl⟩
abbrev main_call15_call0_v14 : Ref sig .tc := ⟨.hbm, 2888, rfl⟩
abbrev main_call15_call0_v15 : Ref sig .tc := ⟨.hbm, 2889, rfl⟩
abbrev main_call15_call0_c_3 : Ref sig .tc := ⟨.hbm, 2890, rfl⟩
abbrev main_call15_call0_v16 : Ref sig .tc := ⟨.hbm, 2891, rfl⟩
abbrev main_call15_call0_v17 : Ref sig .tc := ⟨.hbm, 2892, rfl⟩
abbrev main_call15_call0_v18 : Ref sig .tc := ⟨.hbm, 2893, rfl⟩
abbrev main_call15_call0_v19 : Ref sig .tc := ⟨.hbm, 2894, rfl⟩
abbrev main_call15_call0_v20 : Ref sig .tc := ⟨.hbm, 2895, rfl⟩
abbrev main_call15_call0_c_4 : Ref sig .tc := ⟨.hbm, 2896, rfl⟩
abbrev main_call15_call0_v21 : Ref sig .tc := ⟨.hbm, 2897, rfl⟩
abbrev main_call15_call0_v22 : Ref sig .tc := ⟨.hbm, 2898, rfl⟩
abbrev main_call15_call0_c_5 : Ref sig .tc := ⟨.hbm, 2899, rfl⟩
abbrev main_call15_call0_v23 : Ref sig .tc := ⟨.hbm, 2900, rfl⟩
abbrev main_call15_call0_v24 : Ref sig .tc := ⟨.hbm, 2901, rfl⟩
abbrev main_call15_call0_v25 : Ref sig .tc := ⟨.hbm, 2902, rfl⟩
abbrev main_call15_call0_v26 : Ref sig .tc := ⟨.hbm, 2903, rfl⟩
abbrev main_call15_call0_v27 : Ref sig .tc := ⟨.hbm, 2904, rfl⟩
abbrev main_call15_call0_c_6 : Ref sig .tc := ⟨.hbm, 2905, rfl⟩
abbrev main_call15_call0_v28 : Ref sig .tc := ⟨.hbm, 2906, rfl⟩
abbrev main_call15_call0_v29 : Ref sig .tc := ⟨.hbm, 2907, rfl⟩
abbrev main_call15_call0_c_7 : Ref sig .tc := ⟨.hbm, 2908, rfl⟩
abbrev main_call15_call0_v30 : Ref sig .tc := ⟨.hbm, 2909, rfl⟩
abbrev main_call15_call0_v31 : Ref sig .tc := ⟨.hbm, 2910, rfl⟩
abbrev main_call15_call0_v32 : Ref sig .tc := ⟨.hbm, 2911, rfl⟩
abbrev main_call15_call0_v33 : Ref sig .tc := ⟨.hbm, 2912, rfl⟩
abbrev main_call15_call0_v34 : Ref sig .tc := ⟨.hbm, 2913, rfl⟩
abbrev main_call15_call0_v35 : Ref sig .tc := ⟨.hbm, 2914, rfl⟩
abbrev main_call15_call0_v36 : Ref sig .tc := ⟨.hbm, 2915, rfl⟩
abbrev main_call15_call0_v37 : Ref sig .tc := ⟨.hbm, 2916, rfl⟩
abbrev main_call15_call0_c_8 : Ref sig .tc := ⟨.hbm, 2917, rfl⟩
abbrev main_call15_call0_v38 : Ref sig .tc := ⟨.hbm, 2918, rfl⟩
abbrev main_call15_call0_v39 : Ref sig .tc := ⟨.hbm, 2919, rfl⟩
abbrev main_call15_call0_v40 : Ref sig .tc := ⟨.hbm, 2920, rfl⟩
abbrev main_call15_call0_c_9 : Ref sig .tc := ⟨.hbm, 2921, rfl⟩
abbrev main_call15_call0_v41 : Ref sig .tc := ⟨.hbm, 2922, rfl⟩
abbrev main_call15_call0_v42 : Ref sig .tc := ⟨.hbm, 2923, rfl⟩
abbrev main_call15_call0_c_10 : Ref sig .tc := ⟨.hbm, 2924, rfl⟩
abbrev main_call15_call0_v43 : Ref sig .tc := ⟨.hbm, 2925, rfl⟩
abbrev main_call15_call0_v44 : Ref sig .tc := ⟨.hbm, 2926, rfl⟩
abbrev main_call15_call0_v45 : Ref sig .tc := ⟨.hbm, 2927, rfl⟩
abbrev main_call15_call0_v46 : Ref sig .tc := ⟨.hbm, 2928, rfl⟩
abbrev main_call15_call0_v47 : Ref sig .tc := ⟨.hbm, 2929, rfl⟩
abbrev main_call15_call0_c_11 : Ref sig .tc := ⟨.hbm, 2930, rfl⟩
abbrev main_call15_call0_v48 : Ref sig .tc := ⟨.hbm, 2931, rfl⟩
abbrev main_call15_call0_v49 : Ref sig .tc := ⟨.hbm, 2932, rfl⟩
abbrev main_call15_call0_c_12 : Ref sig .tc := ⟨.hbm, 2933, rfl⟩
abbrev main_call15_call0_v50 : Ref sig .tc := ⟨.hbm, 2934, rfl⟩
abbrev main_call15_call0_v51 : Ref sig .tc := ⟨.hbm, 2935, rfl⟩
abbrev main_call15_call0_v52 : Ref sig .tc := ⟨.hbm, 2936, rfl⟩
abbrev main_call15_call0_v53 : Ref sig .tc := ⟨.hbm, 2937, rfl⟩
abbrev main_call15_call0_v54 : Ref sig .tc := ⟨.hbm, 2938, rfl⟩
abbrev main_call15_call0_c_13 : Ref sig .tc := ⟨.hbm, 2939, rfl⟩
abbrev main_call15_call0_v55 : Ref sig .tc := ⟨.hbm, 2940, rfl⟩
abbrev main_call15_call0_v56 : Ref sig .tc := ⟨.hbm, 2941, rfl⟩
abbrev main_call15_call0_c_14 : Ref sig .tc := ⟨.hbm, 2942, rfl⟩
abbrev main_call15_call0_v57 : Ref sig .tc := ⟨.hbm, 2943, rfl⟩
abbrev main_call15_call0_v58 : Ref sig .tc := ⟨.hbm, 2944, rfl⟩
abbrev main_call15_call0_v59 : Ref sig .tc := ⟨.hbm, 2945, rfl⟩
abbrev main_call15_call0_v60 : Ref sig .tc := ⟨.hbm, 2946, rfl⟩
abbrev main_call15_call0_v61 : Ref sig .tc := ⟨.hbm, 2947, rfl⟩
abbrev main_call15_call0_c_15 : Ref sig .tc := ⟨.hbm, 2948, rfl⟩
abbrev main_call15_call0_v62 : Ref sig .tc := ⟨.hbm, 2949, rfl⟩
abbrev main_call15_call0_v63 : Ref sig .tc := ⟨.hbm, 2950, rfl⟩
abbrev main_call15_call0_c_16 : Ref sig .tc := ⟨.hbm, 2951, rfl⟩
abbrev main_call15_call0_v64 : Ref sig .tc := ⟨.hbm, 2952, rfl⟩
abbrev main_call15_call0_v65 : Ref sig .tc := ⟨.hbm, 2953, rfl⟩
abbrev main_call15_call0_v66 : Ref sig .tc := ⟨.hbm, 2954, rfl⟩
abbrev main_call15_call0_v67 : Ref sig .tc := ⟨.hbm, 2955, rfl⟩
abbrev main_call15_call0_v68 : Ref sig .tc := ⟨.hbm, 2956, rfl⟩
abbrev main_call15_call0_v69 : Ref sig .tc := ⟨.hbm, 2957, rfl⟩
abbrev main_call15_call0_v70 : Ref sig .tc := ⟨.hbm, 2958, rfl⟩
abbrev main_call15_call0_v71 : Ref sig .tc := ⟨.hbm, 2959, rfl⟩
abbrev main_call15_call0_c_17 : Ref sig .tc := ⟨.hbm, 2960, rfl⟩
abbrev main_call15_call0_v72 : Ref sig .tc := ⟨.hbm, 2961, rfl⟩
abbrev main_call15_call0_v73 : Ref sig .tc := ⟨.hbm, 2962, rfl⟩
abbrev main_call15_call0_v74 : Ref sig .tc := ⟨.hbm, 2963, rfl⟩
abbrev main_call15_call0_c_18 : Ref sig .tc := ⟨.hbm, 2964, rfl⟩
abbrev main_call15_call0_v75 : Ref sig .tc := ⟨.hbm, 2965, rfl⟩
abbrev main_call15_call0_v76 : Ref sig .tc := ⟨.hbm, 2966, rfl⟩
abbrev main_call15_call0_c_19 : Ref sig .tc := ⟨.hbm, 2967, rfl⟩
abbrev main_call15_call0_v77 : Ref sig .tc := ⟨.hbm, 2968, rfl⟩
abbrev main_call15_call0_v78 : Ref sig .tc := ⟨.hbm, 2969, rfl⟩
abbrev main_call15_call0_v79 : Ref sig .tc := ⟨.hbm, 2970, rfl⟩
abbrev main_call15_call0_v80 : Ref sig .tc := ⟨.hbm, 2971, rfl⟩
abbrev main_call15_call0_v81 : Ref sig .tc := ⟨.hbm, 2972, rfl⟩
abbrev main_call15_call0_c_20 : Ref sig .tc := ⟨.hbm, 2973, rfl⟩
abbrev main_call15_call0_v82 : Ref sig .tc := ⟨.hbm, 2974, rfl⟩
abbrev main_call15_call0_v83 : Ref sig .tc := ⟨.hbm, 2975, rfl⟩
abbrev main_call15_call0_c_21 : Ref sig .tc := ⟨.hbm, 2976, rfl⟩
abbrev main_call15_call0_v84 : Ref sig .tc := ⟨.hbm, 2977, rfl⟩
abbrev main_call15_call0_v85 : Ref sig .tc := ⟨.hbm, 2978, rfl⟩
abbrev main_call15_call0_v86 : Ref sig .tc := ⟨.hbm, 2979, rfl⟩
abbrev main_call15_call0_v87 : Ref sig .tc := ⟨.hbm, 2980, rfl⟩
abbrev main_call15_call0_v88 : Ref sig .tc := ⟨.hbm, 2981, rfl⟩
abbrev main_call15_call0_c_22 : Ref sig .tc := ⟨.hbm, 2982, rfl⟩
abbrev main_call15_call0_v89 : Ref sig .tc := ⟨.hbm, 2983, rfl⟩
abbrev main_call15_call0_v90 : Ref sig .tc := ⟨.hbm, 2984, rfl⟩
abbrev main_call15_call0_c_23 : Ref sig .tc := ⟨.hbm, 2985, rfl⟩
abbrev main_call15_call0_v91 : Ref sig .tc := ⟨.hbm, 2986, rfl⟩
abbrev main_call15_call0_v92 : Ref sig .tc := ⟨.hbm, 2987, rfl⟩
abbrev main_call15_call0_v93 : Ref sig .tc := ⟨.hbm, 2988, rfl⟩
abbrev main_call15_call0_v94 : Ref sig .tc := ⟨.hbm, 2989, rfl⟩
abbrev main_call15_call0_v95 : Ref sig .tc := ⟨.hbm, 2990, rfl⟩
abbrev main_call15_call0_c_24 : Ref sig .tc := ⟨.hbm, 2991, rfl⟩
abbrev main_call15_call0_v96 : Ref sig .tc := ⟨.hbm, 2992, rfl⟩
abbrev main_call15_call0_v97 : Ref sig .tc := ⟨.hbm, 2993, rfl⟩
abbrev main_call15_call0_c_25 : Ref sig .tc := ⟨.hbm, 2994, rfl⟩
abbrev main_call15_call0_v98 : Ref sig .tc := ⟨.hbm, 2995, rfl⟩
abbrev main_call15_call0_v99 : Ref sig .tc := ⟨.hbm, 2996, rfl⟩
abbrev main_call15_call0_v100 : Ref sig .tc := ⟨.hbm, 2997, rfl⟩
abbrev main_call15_call0_v101 : Ref sig .tc := ⟨.hbm, 2998, rfl⟩
abbrev main_call15_call0_v102 : Ref sig .tc := ⟨.hbm, 2999, rfl⟩
abbrev main_call15_call0_v103 : Ref sig .tc := ⟨.hbm, 3000, rfl⟩
abbrev main_call15_call0_v104 : Ref sig .tc := ⟨.hbm, 3001, rfl⟩
abbrev main_call15_call0_v105 : Ref sig .tc := ⟨.hbm, 3002, rfl⟩
abbrev main_call15_call0_c_26 : Ref sig .tc := ⟨.hbm, 3003, rfl⟩
abbrev main_call15_call0_v106 : Ref sig .tc := ⟨.hbm, 3004, rfl⟩
abbrev main_call15_call0_v107 : Ref sig .tc := ⟨.hbm, 3005, rfl⟩
abbrev main_call15_call0_v108 : Ref sig .tc := ⟨.hbm, 3006, rfl⟩
abbrev main_call15_call0_c_27 : Ref sig .tc := ⟨.hbm, 3007, rfl⟩
abbrev main_call15_call0_v109 : Ref sig .tc := ⟨.hbm, 3008, rfl⟩
abbrev main_call15_call0_v110 : Ref sig .tc := ⟨.hbm, 3009, rfl⟩
abbrev main_call15_call0_c_28 : Ref sig .tc := ⟨.hbm, 3010, rfl⟩
abbrev main_call15_call0_v111 : Ref sig .tc := ⟨.hbm, 3011, rfl⟩
abbrev main_call15_call0_v112 : Ref sig .tc := ⟨.hbm, 3012, rfl⟩
abbrev main_call15_call0_v113 : Ref sig .tc := ⟨.hbm, 3013, rfl⟩
abbrev main_call15_call0_v114 : Ref sig .tc := ⟨.hbm, 3014, rfl⟩
abbrev main_call15_call0_v115 : Ref sig .tc := ⟨.hbm, 3015, rfl⟩
abbrev main_call15_call0_c_29 : Ref sig .tc := ⟨.hbm, 3016, rfl⟩
abbrev main_call15_call0_v116 : Ref sig .tc := ⟨.hbm, 3017, rfl⟩
abbrev main_call15_call0_v117 : Ref sig .tc := ⟨.hbm, 3018, rfl⟩
abbrev main_call15_call0_c_30 : Ref sig .tc := ⟨.hbm, 3019, rfl⟩
abbrev main_call15_call0_v118 : Ref sig .tc := ⟨.hbm, 3020, rfl⟩
abbrev main_call15_call0_v119 : Ref sig .tc := ⟨.hbm, 3021, rfl⟩
abbrev main_call15_call0_v120 : Ref sig .tc := ⟨.hbm, 3022, rfl⟩
abbrev main_call15_call0_v121 : Ref sig .tc := ⟨.hbm, 3023, rfl⟩
abbrev main_call15_call0_v122 : Ref sig .tc := ⟨.hbm, 3024, rfl⟩
abbrev main_call15_call0_c_31 : Ref sig .tc := ⟨.hbm, 3025, rfl⟩
abbrev main_call15_call0_v123 : Ref sig .tc := ⟨.hbm, 3026, rfl⟩
abbrev main_call15_call0_v124 : Ref sig .tc := ⟨.hbm, 3027, rfl⟩
abbrev main_call15_call0_c_32 : Ref sig .tc := ⟨.hbm, 3028, rfl⟩
abbrev main_call15_call0_v125 : Ref sig .tc := ⟨.hbm, 3029, rfl⟩
abbrev main_call15_call0_v126 : Ref sig .tc := ⟨.hbm, 3030, rfl⟩
abbrev main_call15_call0_v127 : Ref sig .tc := ⟨.hbm, 3031, rfl⟩
abbrev main_call15_call0_v128 : Ref sig .tc := ⟨.hbm, 3032, rfl⟩
abbrev main_call15_call0_v129 : Ref sig .tc := ⟨.hbm, 3033, rfl⟩
abbrev main_call15_call0_c_33 : Ref sig .tc := ⟨.hbm, 3034, rfl⟩
abbrev main_call15_call0_v130 : Ref sig .tc := ⟨.hbm, 3035, rfl⟩
abbrev main_call15_call0_v131 : Ref sig .tc := ⟨.hbm, 3036, rfl⟩
abbrev main_call15_call0_c_34 : Ref sig .tc := ⟨.hbm, 3037, rfl⟩
abbrev main_call15_call0_v132 : Ref sig .tc := ⟨.hbm, 3038, rfl⟩
abbrev main_call15_call0_v133 : Ref sig .tc := ⟨.hbm, 3039, rfl⟩
abbrev main_call15_call0_v134 : Ref sig .tc := ⟨.hbm, 3040, rfl⟩
abbrev main_call15_call0_v135 : Ref sig .tc := ⟨.hbm, 3041, rfl⟩
abbrev main_call15_call0_v136 : Ref sig .tc := ⟨.hbm, 3042, rfl⟩
abbrev main_call15_call0_v137 : Ref sig .tc := ⟨.hbm, 3043, rfl⟩
abbrev main_call15_call0_v138 : Ref sig .tc := ⟨.hbm, 3044, rfl⟩
abbrev main_call15_call0_v139 : Ref sig .tc := ⟨.hbm, 3045, rfl⟩
abbrev main_call15_call0_c_35 : Ref sig .tc := ⟨.hbm, 3046, rfl⟩
abbrev main_call15_call0_v140 : Ref sig .tc := ⟨.hbm, 3047, rfl⟩
abbrev main_call15_call0_v141 : Ref sig .tc := ⟨.hbm, 3048, rfl⟩
abbrev main_call15_call0_v142 : Ref sig .tc := ⟨.hbm, 3049, rfl⟩
abbrev main_call15_call0_c_36 : Ref sig .tc := ⟨.hbm, 3050, rfl⟩
abbrev main_call15_call0_v143 : Ref sig .tc := ⟨.hbm, 3051, rfl⟩
abbrev main_call15_call0_v144 : Ref sig .tc := ⟨.hbm, 3052, rfl⟩
abbrev main_call15_call0_c_37 : Ref sig .tc := ⟨.hbm, 3053, rfl⟩
abbrev main_call15_call0_v145 : Ref sig .tc := ⟨.hbm, 3054, rfl⟩
abbrev main_call15_call0_v146 : Ref sig .tc := ⟨.hbm, 3055, rfl⟩
abbrev main_call15_call0_v147 : Ref sig .tc := ⟨.hbm, 3056, rfl⟩
abbrev main_call15_call0_v148 : Ref sig .tc := ⟨.hbm, 3057, rfl⟩
abbrev main_call15_call0_v149 : Ref sig .tc := ⟨.hbm, 3058, rfl⟩
abbrev main_call15_call0_c_38 : Ref sig .tc := ⟨.hbm, 3059, rfl⟩
abbrev main_call15_call0_v150 : Ref sig .tc := ⟨.hbm, 3060, rfl⟩
abbrev main_call15_call0_v151 : Ref sig .tc := ⟨.hbm, 3061, rfl⟩
abbrev main_call15_call0_c_39 : Ref sig .tc := ⟨.hbm, 3062, rfl⟩
abbrev main_call15_call0_v152 : Ref sig .tc := ⟨.hbm, 3063, rfl⟩
abbrev main_call15_call0_v153 : Ref sig .tc := ⟨.hbm, 3064, rfl⟩
abbrev main_call15_call0_v154 : Ref sig .tc := ⟨.hbm, 3065, rfl⟩
abbrev main_call15_call0_v155 : Ref sig .tc := ⟨.hbm, 3066, rfl⟩
abbrev main_call15_call0_v156 : Ref sig .tc := ⟨.hbm, 3067, rfl⟩
abbrev main_call15_call0_c_40 : Ref sig .tc := ⟨.hbm, 3068, rfl⟩
abbrev main_call15_call0_v157 : Ref sig .tc := ⟨.hbm, 3069, rfl⟩
abbrev main_call15_call0_v158 : Ref sig .tc := ⟨.hbm, 3070, rfl⟩
abbrev main_call15_call0_c_41 : Ref sig .tc := ⟨.hbm, 3071, rfl⟩
abbrev main_call15_call0_v159 : Ref sig .tc := ⟨.hbm, 3072, rfl⟩
abbrev main_call15_call0_v160 : Ref sig .tc := ⟨.hbm, 3073, rfl⟩
abbrev main_call15_call0_v161 : Ref sig .tc := ⟨.hbm, 3074, rfl⟩
abbrev main_call15_call0_v162 : Ref sig .tc := ⟨.hbm, 3075, rfl⟩
abbrev main_call15_call0_v163 : Ref sig .tc := ⟨.hbm, 3076, rfl⟩
abbrev main_call15_call0_c_42 : Ref sig .tc := ⟨.hbm, 3077, rfl⟩
abbrev main_call15_call0_v164 : Ref sig .tc := ⟨.hbm, 3078, rfl⟩
abbrev main_call15_call0_v165 : Ref sig .tc := ⟨.hbm, 3079, rfl⟩
abbrev main_call15_call0_c_43 : Ref sig .tc := ⟨.hbm, 3080, rfl⟩
abbrev main_call15_call0_v166 : Ref sig .tc := ⟨.hbm, 3081, rfl⟩
abbrev main_call15_call0_v167 : Ref sig .tc := ⟨.hbm, 3082, rfl⟩
abbrev main_call15_call0_v168 : Ref sig .tc := ⟨.hbm, 3083, rfl⟩
abbrev main_call15_call0_v169 : Ref sig .tc := ⟨.hbm, 3084, rfl⟩
abbrev main_call15_call0_v170 : Ref sig .tc := ⟨.hbm, 3085, rfl⟩
abbrev main_call15_v17_0 : Ref sig .tc := ⟨.hbm, 3086, rfl⟩
abbrev main_call15_call0_v172 : Ref sig .tc := ⟨.hbm, 3087, rfl⟩
abbrev main_call15_call0_v173 : Ref sig .tc := ⟨.hbm, 3088, rfl⟩
abbrev main_call15_call0_c_44 : Ref sig .tc := ⟨.hbm, 3089, rfl⟩
abbrev main_call15_call0_v174 : Ref sig .tc := ⟨.hbm, 3090, rfl⟩
abbrev main_call15_v17_1 : Ref sig .tc := ⟨.hbm, 3091, rfl⟩
abbrev main_call15_v18 : Ref sig .tc := ⟨.hbm, 3092, rfl⟩
abbrev main_call15_c_2 : Ref sig .tc := ⟨.hbm, 3093, rfl⟩
abbrev main_call15_v19 : Ref sig .tc := ⟨.hbm, 3094, rfl⟩
abbrev main_call15_v20 : Ref sig .tc := ⟨.hbm, 3095, rfl⟩
abbrev main_call15_c_3 : Ref sig .tc := ⟨.hbm, 3096, rfl⟩
abbrev main_call15_v21 : Ref sig .tc := ⟨.hbm, 3097, rfl⟩
abbrev main_call15_v22 : Ref sig .tc := ⟨.hbm, 3098, rfl⟩
abbrev main_call15_v23 : Ref sig .tc := ⟨.hbm, 3099, rfl⟩
abbrev main_call15_cst : Ref sig .tc := ⟨.hbm, 3100, rfl⟩
abbrev main_call15_v24 : Ref sig .tc := ⟨.hbm, 3101, rfl⟩
abbrev main_call15_v25 : Ref sig .tc := ⟨.hbm, 3102, rfl⟩
abbrev main_call15_v26 : Ref sig .tc := ⟨.hbm, 3103, rfl⟩
abbrev main_call15_v27 : Ref sig .tc := ⟨.hbm, 3104, rfl⟩
abbrev main_call15_v28 : Ref sig .tc := ⟨.hbm, 3105, rfl⟩
abbrev main_call15_v29 : Ref sig .tc := ⟨.hbm, 3106, rfl⟩
abbrev main_call15_v30 : Ref sig .tc := ⟨.hbm, 3107, rfl⟩
abbrev main_call15_v31 : Ref sig .tc := ⟨.hbm, 3108, rfl⟩
abbrev main_v143 : Ref sig .tc := ⟨.hbm, 3109, rfl⟩
abbrev main_cst_36 : Ref sig .tc := ⟨.hbm, 3110, rfl⟩
abbrev main_v144 : Ref sig .tc := ⟨.hbm, 3111, rfl⟩
abbrev main_v145 : Ref sig .tc := ⟨.hbm, 3112, rfl⟩
abbrev main_v146 : Ref sig .tc := ⟨.hbm, 3113, rfl⟩
abbrev main_v147 : Ref sig .tc := ⟨.hbm, 3114, rfl⟩
abbrev main_v148 : Ref sig .tc := ⟨.hbm, 3115, rfl⟩
abbrev main_v149 : Ref sig .tc := ⟨.hbm, 3116, rfl⟩
abbrev main_call16_v0 : Ref sig .tc := ⟨.hbm, 3117, rfl⟩
abbrev main_call16_v1 : Ref sig .tc := ⟨.hbm, 3118, rfl⟩
abbrev main_call16_v2 : Ref sig .tc := ⟨.hbm, 3119, rfl⟩
abbrev main_call16_v3 : Ref sig .tc := ⟨.hbm, 3120, rfl⟩
abbrev main_call16_v4 : Ref sig .tc := ⟨.hbm, 3121, rfl⟩
abbrev main_call16_v5 : Ref sig .tc := ⟨.hbm, 3122, rfl⟩
abbrev main_call16_v6 : Ref sig .tc := ⟨.hbm, 3123, rfl⟩
abbrev main_call16_v7 : Ref sig .tc := ⟨.hbm, 3124, rfl⟩
abbrev main_call16_v8 : Ref sig .tc := ⟨.hbm, 3125, rfl⟩
abbrev main_call16_v9 : Ref sig .tc := ⟨.hbm, 3126, rfl⟩
abbrev main_call16_v10 : Ref sig .tc := ⟨.hbm, 3127, rfl⟩
abbrev main_call16_v11 : Ref sig .tc := ⟨.hbm, 3128, rfl⟩
abbrev main_call16_v12 : Ref sig .tc := ⟨.hbm, 3129, rfl⟩
abbrev main_call16_v13 : Ref sig .tc := ⟨.hbm, 3130, rfl⟩
abbrev main_call16_v14 : Ref sig .tc := ⟨.hbm, 3131, rfl⟩
abbrev main_call16_v15 : Ref sig .tc := ⟨.hbm, 3132, rfl⟩
abbrev main_call16_v16 : Ref sig .tc := ⟨.hbm, 3133, rfl⟩
abbrev main_call16_v17 : Ref sig .tc := ⟨.hbm, 3134, rfl⟩
abbrev main_call16_v18 : Ref sig .tc := ⟨.hbm, 3135, rfl⟩
abbrev main_call16_v19 : Ref sig .tc := ⟨.hbm, 3136, rfl⟩
abbrev main_call16_v20 : Ref sig .tc := ⟨.hbm, 3137, rfl⟩
abbrev main_call16_v21 : Ref sig .tc := ⟨.hbm, 3138, rfl⟩
abbrev main_call16_v22 : Ref sig .tc := ⟨.hbm, 3139, rfl⟩
abbrev main_call16_v23 : Ref sig .tc := ⟨.hbm, 3140, rfl⟩
abbrev main_call16_v24 : Ref sig .tc := ⟨.hbm, 3141, rfl⟩
abbrev main_call16_v25 : Ref sig .tc := ⟨.hbm, 3142, rfl⟩
abbrev main_call16_v26 : Ref sig .tc := ⟨.hbm, 3143, rfl⟩
abbrev main_call16_v27 : Ref sig .tc := ⟨.hbm, 3144, rfl⟩
abbrev main_call16_v28 : Ref sig .tc := ⟨.hbm, 3145, rfl⟩
abbrev main_call16_v29 : Ref sig .tc := ⟨.hbm, 3146, rfl⟩
abbrev main_call16_v30 : Ref sig .tc := ⟨.hbm, 3147, rfl⟩
abbrev main_call16_v31 : Ref sig .tc := ⟨.hbm, 3148, rfl⟩
abbrev main_call16_v32 : Ref sig .tc := ⟨.hbm, 3149, rfl⟩
abbrev main_call16_v33 : Ref sig .tc := ⟨.hbm, 3150, rfl⟩
abbrev main_call16_v34 : Ref sig .tc := ⟨.hbm, 3151, rfl⟩
abbrev main_call16_v35 : Ref sig .tc := ⟨.hbm, 3152, rfl⟩
abbrev main_call16_v36 : Ref sig .tc := ⟨.hbm, 3153, rfl⟩
abbrev main_v150 : Ref sig .tc := ⟨.hbm, 3154, rfl⟩
abbrev main_v151 : Ref sig .tc := ⟨.hbm, 3155, rfl⟩
abbrev main_v152 : Ref sig .tc := ⟨.hbm, 3156, rfl⟩
abbrev main_v153 : Ref sig .tc := ⟨.hbm, 3157, rfl⟩
abbrev main_v154 : Ref sig .tc := ⟨.hbm, 3158, rfl⟩
abbrev main_v155 : Ref sig .tc := ⟨.hbm, 3159, rfl⟩
abbrev main_v156 : Ref sig .tc := ⟨.hbm, 3160, rfl⟩
abbrev main_v157 : Ref sig .tc := ⟨.hbm, 3161, rfl⟩
abbrev main_v158 : Ref sig .tc := ⟨.hbm, 3162, rfl⟩
abbrev main_v159 : Ref sig .tc := ⟨.hbm, 3163, rfl⟩
abbrev main_v160 : Ref sig .tc := ⟨.hbm, 3164, rfl⟩

abbrev nD : Nat := 1
abbrev τ : Topo := Topo.v7x

variable {F : FTy → Type} [FloatOps F]
-- ==== Proof.Ideal.Shift0.lean ====
/- Pallas call 0, one block of the product at a grid point: what its runs share. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the region is entered, which the run gives region by region
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 16) — by arithmetic of the point. -/
theorem hcond0_0 : ∀ t : Fin cfg0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := (Scalar.cmpi .ne (Scalar.extui (Scalar.cmpi .ne (BitVec.ofNat 32 (i 1).val) 0#32)) 0#32) = 1#1
/-- It holds at the points whose coordinates have 1 ≤ i1 — by arithmetic of the point. -/
theorem hcond0_1 : ∀ t : Fin cfg0.N, cond0_1 (grid0.coords t) ↔ 1 ≤ t.val % 16 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ 1 ≤ t.val % 16)

/-- The condition of the body's `scf.if` 2 (`k0_h3`), from the grid coordinates (the skeleton's scalar
    chain substituted). -/
abbrev cond0_2 (i : grid0.Coords) : Prop := k0_cond3 i = 1#1
/-- It holds at the points ≡ 15 (mod 16) — by arithmetic of the point. -/
theorem hcond0_2 : ∀ t : Fin cfg0.N, cond0_2 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_2, k0_cond3, e0, e1]
    word_cmp
   : ∀ t : Fin grid0.N, cond0_2 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S512x128 .f32 := (Memref.whole cc0_stg2_0 : Memref sig .tc .vmem S512x128 .f32).view
/-- Each window's current staging memref at point `t`, spelled as the pipeline passes it (`bodyAt0`), and its wholeness. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S512x128 .f32 := Memref.whole cc0_scratch0
/-- The scratch `arg5` the kernel carries between points, as a view: what it holds is stated through it. -/
abbrev VS0_0 : View sig .tc .vmem S512x128 .f32 := scM0_0.view

/-! ## What the body neither reads nor writes -/

/-- The scoped buffers of the other calls, each whole at some contents, and the generator register at some state: what
    the body of this call never touches. -/
def side0 (c : Dev nD) : sProp 𝕄 :=
  iprop(((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_scratch0), ((c : Thread nD τ).loc cc2_scratch0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)) ∗ (∃ r, prngReg c r))

/-- The launch's invariant gives the scratch at some contents beside the untouched rest, -/
theorem side_in0 (c : Dev nD) : (Pipeline.ΦA spec0 c : sProp 𝕄) ⊢ iprop((∃ d, owns (c : Thread nD τ) scM0_0 fullShare d) ∗ side0 c) := by
  unfold Pipeline.ΦA side0; rw [scopedRest0_eq]; simp only [scM0_0, owns_whole]
  iintro ⟨⟨HS, H1, H2, H3, H4, H5, H6, H7, H8, H9, H10, H11, H12, H13, H14, H15, H16, H17⟩, Hg⟩
  isplitl [HS]; · iexact HS
  isplitl [H1 H2 H3 H4 H5 H6 H7 H8 H9 H10 H11 H12 H13 H14 H15 H16 H17]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hg

/-- and takes them back. -/
theorem side_out0 (c : Dev nD) : iprop((∃ d, owns (c : Thread nD τ) scM0_0 fullShare d) ∗ side0 c) ⊢ (Pipeline.ΦA spec0 c : sProp 𝕄) := by
  unfold Pipeline.ΦA side0; rw [scopedRest0_eq]; simp only [scM0_0, owns_whole]
  iintro ⟨HS, ⟨H1, H2, H3, H4, H5, H6, H7, H8, H9, H10, H11, H12, H13, H14, H15, H16, H17⟩, Hg⟩
  isplitl [HS H1 H2 H3 H4 H5 H6 H7 H8 H9 H10 H11 H12 H13 H14 H15 H16 H17]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hg

end Cert.KernelIdeal.Layer

end
-- ==== Proof.Ideal.Shift0A.lean ====
/- Pallas call 0: the run of the body at the first step of a row block. -/
module

public import proofs.«01_k».proof.Proof.Ideal.Shift0

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 16, … 112: 8 of 128), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond0_0 i) (hc1 : ¬cond0_1 i) (hc2 : ¬cond0_2 i)
    (x0 : Vec F S512x256 .f32) (x1 : Vec F S256x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__shift_matmul_kernel i arg2 harg2 arg3 harg3 arg4 harg4 arg5 harg5) K } := by
  refine ⟨[], ?_, fun xi2 E K => ?run⟩
  case run =>
    simp only [cc0__shift_matmul_kernel_eq_skeleton]; unfold cc0__shift_matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Layer

end
-- ==== Proof.Ideal.Shift0B.lean ====
/- Pallas call 0: the run of the body at a middle step of a row block. -/
module

public import proofs.«01_k».proof.Proof.Ideal.Shift0A

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 126: 112 of 128), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : ¬cond0_2 i)
    (x0 : Vec F S512x256 .f32) (x1 : Vec F S256x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__shift_matmul_kernel i arg2 harg2 arg3 harg3 arg4 harg4 arg5 harg5) K } := by
  refine ⟨[], ?_, fun xi2 E K => ?run⟩
  case run =>
    simp only [cc0__shift_matmul_kernel_eq_skeleton]; unfold cc0__shift_matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Layer

end
-- ==== Proof.Ideal.Shift0C.lean ====
/- Pallas call 0: the run of the body at the last step of a row block. -/
module

public import proofs.«01_k».proof.Proof.Ideal.Shift0B

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15, 31, … 127: 8 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : cond0_2 i)
    (x0 : Vec F S512x256 .f32) (x1 : Vec F S256x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__shift_matmul_kernel i arg2 harg2 arg3 harg3 arg4 harg4 arg5 harg5) K } := by
  refine ⟨?_, ?_, fun E K => ?run⟩
  case run =>
    simp only [cc0__shift_matmul_kernel_eq_skeleton]; unfold cc0__shift_matmul_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Layer

end
-- ==== Proof.Ideal.Shift0Body.lean ====
/- Pallas call 0: what the accumulator and the output block hold after each grid point, and the obligation of the body. -/
module

public import proofs.«01_k».proof.Proof.Ideal.Shift0C
public import Idealize.ShloMosaic.Lib.Claim

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the region is entered, which the run gives region by region
variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond0_0 i) (hc1 : ¬cond0_1 i) (hc2 : ¬cond0_2 i)
    (x0 : Vec F S512x256 .f32) (x1 : Vec F S256x128 .f32) : Vec F S512x128 .f32 :=
  VO0_2.read (Elt F) (VO0_2.writes (Elt F) VO0_2.junk (kernelRun0_A c i arg2 harg2 arg3 harg3 arg4 harg4 arg5 harg5 hc0 hc1 hc2 x0 x1).1)

/-- Case A's pieces for scratch `arg5`, which the kernel carries between points, cover it: 1 piece of `S512x128` tiling it (Lib/Ring.lean `Piece.tiledL`). -/
theorem scover0_A_0 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond0_0 i) (hc1 : ¬cond0_1 i) (hc2 : ¬cond0_2 i)
    (x0 : Vec F S512x256 .f32) (x1 : Vec F S256x128 .f32) (y : S512x128.Idx) :
    ∃ pc ∈ (kernelRun0_A c i arg2 harg2 arg3 harg3 arg4 harg4 arg5 harg5 hc0 hc1 hc2 x0 x1).2.1, y ∈ pc.1.set :=
  View.cover_of_tiledL (kernelRun0_A c i arg2 harg2 arg3 harg3 arg4 harg4 arg5 harg5 hc0 hc1 hc2 x0 x1).2.1 S512x128.size (by sl_kernel_rfl) y

/-- What case A leaves in scratch `arg5`: its pieces read back over junk. -/
def sout0_A_0 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond0_0 i) (hc1 : ¬cond0_1 i) (hc2 : ¬cond0_2 i)
    (x0 : Vec F S512x256 .f32) (x1 : Vec F S256x128 .f32) : Vec F S512x128 .f32 :=
  VS0_0.read (Elt F) (VS0_0.writes (Elt F) VS0_0.junk (kernelRun0_A c i arg2 harg2 arg3 harg3 arg4 harg4 arg5 harg5 hc0 hc1 hc2 x0 x1).2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : ¬cond0_2 i)
    (x0 : Vec F S512x256 .f32) (x1 : Vec F S256x128 .f32) (xs0 : Vec F S512x128 .f32) : Vec F S512x128 .f32 :=
  VO0_2.read (Elt F) (VO0_2.writes (Elt F) VO0_2.junk (kernelRun0_B c i arg2 harg2 arg3 harg3 arg4 harg4 arg5 harg5 hc0 hc1 hc2 x0 x1 xs0).1)

/-- Case B's pieces for scratch `arg5`, which the kernel carries between points, cover it: 1 piece of `S512x128` tiling it (Lib/Ring.lean `Piece.tiledL`). -/
theorem scover0_B_0 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : ¬cond0_2 i)
    (x0 : Vec F S512x256 .f32) (x1 : Vec F S256x128 .f32) (xs0 : Vec F S512x128 .f32) (y : S512x128.Idx) :
    ∃ pc ∈ (kernelRun0_B c i arg2 harg2 arg3 harg3 arg4 harg4 arg5 harg5 hc0 hc1 hc2 x0 x1 xs0).2.1, y ∈ pc.1.set :=
  View.cover_of_tiledL (kernelRun0_B c i arg2 harg2 arg3 harg3 arg4 harg4 arg5 harg5 hc0 hc1 hc2 x0 x1 xs0).2.1 S512x128.size (by sl_kernel_rfl) y

/-- What case B leaves in scratch `arg5`: its pieces read back over junk. -/
def sout0_B_0 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : ¬cond0_2 i)
    (x0 : Vec F S512x256 .f32) (x1 : Vec F S256x128 .f32) (xs0 : Vec F S512x128 .f32) : Vec F S512x128 .f32 :=
  VS0_0.read (Elt F) (VS0_0.writes (Elt F) VS0_0.junk (kernelRun0_B c i arg2 harg2 arg3 harg3 arg4 harg4 arg5 harg5 hc0 hc1 hc2 x0 x1 xs0).2.1)

/-- Case C's pieces for output 2 tile its block (1 store of `S512x128`, checked by the kernel's evaluation: Lib/Ring.lean `Piece.tiledL`, linear in the pieces, through a loop's `@[irreducible]` trip theorem too), so they cover it. -/
theorem cover0_C_2 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : cond0_2 i)
    (x0 : Vec F S512x256 .f32) (x1 : Vec F S256x128 .f32) (xs0 : Vec F S512x128 .f32) (y : S512x128.Idx) :
    ∃ pc ∈ (kernelRun0_C c i arg2 harg2 arg3 harg3 arg4 harg4 arg5 harg5 hc0 hc1 hc2 x0 x1 xs0).1, y ∈ pc.1.set :=
  View.cover_of_tiledL (kernelRun0_C c i arg2 harg2 arg3 harg3 arg4 harg4 arg5 harg5 hc0 hc1 hc2 x0 x1 xs0).1 S512x128.size (by sl_kernel_rfl) y

/-- What case C leaves in output 2's staging buffer: its pieces read back over junk. -/
def out0_C_2 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : cond0_2 i)
    (x0 : Vec F S512x256 .f32) (x1 : Vec F S256x128 .f32) (xs0 : Vec F S512x128 .f32) : Vec F S512x128 .f32 :=
  VO0_2.read (Elt F) (VO0_2.writes (Elt F) VO0_2.junk (kernelRun0_C c i arg2 harg2 arg3 harg3 arg4 harg4 arg5 harg5 hc0 hc1 hc2 x0 x1 xs0).1)

/-- Case C's pieces for scratch `arg5`, which the kernel carries between points, cover it: 1 piece of `S512x128` tiling it (Lib/Ring.lean `Piece.tiledL`). -/
theorem scover0_C_0 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : cond0_2 i)
    (x0 : Vec F S512x256 .f32) (x1 : Vec F S256x128 .f32) (xs0 : Vec F S512x128 .f32) (y : S512x128.Idx) :
    ∃ pc ∈ (kernelRun0_C c i arg2 harg2 arg3 harg3 arg4 harg4 arg5 harg5 hc0 hc1 hc2 x0 x1 xs0).2.1, y ∈ pc.1.set :=
  View.cover_of_tiledL (kernelRun0_C c i arg2 harg2 arg3 harg3 arg4 harg4 arg5 harg5 hc0 hc1 hc2 x0 x1 xs0).2.1 S512x128.size (by sl_kernel_rfl) y

/-- What case C leaves in scratch `arg5`: its pieces read back over junk. -/
def sout0_C_0 (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond0_0 i) (hc1 : cond0_1 i) (hc2 : cond0_2 i)
    (x0 : Vec F S512x256 .f32) (x1 : Vec F S256x128 .f32) (xs0 : Vec F S512x128 .f32) : Vec F S512x128 .f32 :=
  VS0_0.read (Elt F) (VS0_0.writes (Elt F) VS0_0.junk (kernelRun0_C c i arg2 harg2 arg3 harg3 arg4 harg4 arg5 harg5 hc0 hc1 hc2 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x128 .f32 × Vec F S512x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk0 V c 0 ⟨0, hn⟩) (iblk0 V c 1 ⟨0, hn⟩))
  | n + 1, hn =>
    if h0 : (n + 1) % 16 = 0 then
      if h1 : 1 ≤ (n + 1) % 16 then
        False.elim (by have hN : n + 1 < 128 := lt_of_lt_of_eq hn (show cfg0.N = 128 from N_0); omega)
      else
        if h2 : (n + 1) % 16 = 15 then
          False.elim (by have hN : n + 1 < 128 := lt_of_lt_of_eq hn (show cfg0.N = 128 from N_0); omega)
        else
          (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk0 V c 0 ⟨n + 1, hn⟩) (iblk0 V c 1 ⟨n + 1, hn⟩))
    else
      if h1 : 1 ≤ (n + 1) % 16 then
        if h2 : (n + 1) % 16 = 15 then
          (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk0 V c 0 ⟨n + 1, hn⟩) (iblk0 V c 1 ⟨n + 1, hn⟩) (outsAt0 c n (Nat.lt_of_succ_lt hn)).2)
        else
          (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk0 V c 0 ⟨n + 1, hn⟩) (iblk0 V c 1 ⟨n + 1, hn⟩) (outsAt0 c n (Nat.lt_of_succ_lt hn)).2)
      else
        False.elim (by have hN : n + 1 < 128 := lt_of_lt_of_eq hn (show cfg0.N = 128 from N_0); omega)

/-- `outsAt0` at a point of case A: that case's contents. -/
theorem outsAt0_A (c : Dev nD) (t : Fin cfg0.N) (h0 : t.val % 16 = 0) (h1 : ¬1 ≤ t.val % 16) (h2 : ¬t.val % 16 = 15) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (fun h => h2 ((hcond0_2 t).mp h)) (iblk0 V c 0 t) (iblk0 V c 1 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 16 = 0) (h1 : 1 ≤ t.val % 16) (h2 : ¬t.val % 16 = 15) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (fun h => h2 ((hcond0_2 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 16 = 0) (h1 : 1 ≤ t.val % 16) (h2 : t.val % 16 = 15) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) ((hcond0_2 t).mpr h2) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => iprop((∃ d, owns (c : Thread nD τ) scM0_0 fullShare d) ∗ side0 c)
  | n + 1, hn => iprop(iprop(owns (c : Thread nD τ) scM0_0 fullShare ((outsAt0 V c n hn).2)) ∗ side0 c)

theorem PhiS0_zero (c : Dev nD) (n : ℕ) (h : n ≤ cfg0.N) (hz : n = 0) : PhiS0 V c n h = iprop((∃ d, owns (c : Thread nD τ) scM0_0 fullShare d) ∗ side0 c) := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2)) ∗ side0 c) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2)) ∗ side0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 16 = 0
  · by_cases h1 : 1 ≤ t.val % 16
    · exfalso; omega
    · by_cases h2 : t.val % 16 = 15
      · exfalso; omega
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [Dat.leavesExact_idle (dat0 V c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        by_cases hz : t.val = 0
        · rw [PhiS0_castSucc V c t, PhiS0_zero V c _ _ hz]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t) (iblk0 V c 1 t)).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _)
            iexact Hg
          isplitl [Ho]; · iexact Ho
          isplitl [H0]; · iexact H0
          isplitl [H1]; · iexact H1
          iexists _; iexact H2
        · rw [PhiS0_castSucc V c t, PhiS0_pos V c _ _ hz]
          rw [outsAt0_A V c t h0 h1 h2]
          unfold sout0_A_0; (try dsimp only)
          iintro ⟨⟨HS0, Hg⟩, Ho, ⟨%d0, H0⟩, ⟨%d1, H1⟩, ⟨%d2, H2⟩⟩
          iapply ((kernelRun0_A c (grid0.coords t) _ _ _ _ _ _ _ _ ((hcond0_0 t).mpr h0) (fun h => h1 ((hcond0_1 t).mp h)) (fun h => h2 ((hcond0_2 t).mp h)) (iblk0 V c 0 t) (iblk0 V c 1 t)).2.2 _ Set.univ _)
          isplitl [H0]; · iexact H0
          isplitl [H1]; · iexact H1
          isplitl [H2]; · iexact H2
          isplitl [HS0]; · iexists _; iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _)
            iexact Hg
          isplitl [Ho]; · iexact Ho
          isplitl [H0]; · iexact H0
          isplitl [H1]; · iexact H1
          iexists _; iexact H2
  · by_cases h1 : 1 ≤ t.val % 16
    · by_cases h2 : t.val % 16 = 15
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [show (dat0 V c).leavesExact 2 t = owns (c : Thread nD τ) (ms0_2 t) fullShare ((dat0 V c).after 2 t) from by
      unfold Dat.leavesExact; rw [liveAt0_2_C t (fun h => h0 ((hcond0_0 t).mp h)) ((hcond0_1 t).mpr h1) ((hcond0_2 t).mpr h2)], after0_2]
        by_cases hz : t.val = 0
        · exfalso; have hN : t.val < 128 := lt_of_lt_of_eq t.isLt (show cfg0.N = 128 from N_0); omega
        · rw [PhiS0_castSucc V c t, PhiS0_pos V c _ _ hz]
          rw [outsAt0_C V c t h0 h1 h2]
          unfold out0_C_2 sout0_C_0; (try dsimp only)
          iintro ⟨⟨HS0, Hg⟩, Ho, ⟨%d0, H0⟩, ⟨%d1, H1⟩, ⟨%d2, H2⟩⟩
          iapply ((kernelRun0_C c (grid0.coords t) _ _ _ _ _ _ _ _ (fun h => h0 ((hcond0_0 t).mp h)) ((hcond0_1 t).mpr h1) ((hcond0_2 t).mpr h2) (iblk0 V c 0 t) (iblk0 V c 1 t) _).2.2 Set.univ _)
          isplitl [H0]; · iexact H0
          isplitl [H1]; · iexact H1
          isplitl [H2]; · iexists _; iexact H2
          isplitl [HS0]; · iexact HS0
          iintro ⟨H0, H1, ⟨%e2, H2⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _)
            iexact Hg
          isplitl [Ho]; · iexact Ho
          isplitl [H0]; · iexact H0
          isplitl [H1]; · iexact H1
          unfold owns; iexists _; isplitr
          swap; · iexact H2
          ipureintro; exact View.read_writes_of_cover _ _ _ _ _ (cover0_C_2 c _ _ _ _ _ _ _ _ _ _ _ _ _ _ _)
      · rw [show (dat0 V c).leavesExact 0 t = owns (c : Thread nD τ) (ms0_0 t) fullShare ((dat0 V c).after 0 t) from by
      unfold Dat.leavesExact; rw [liveAt0_0 t], after0_0]
        rw [show (dat0 V c).leavesExact 1 t = owns (c : Thread nD τ) (ms0_1 t) fullShare ((dat0 V c).after 1 t) from by
      unfold Dat.leavesExact; rw [liveAt0_1 t], after0_1]
        rw [Dat.leavesExact_idle (dat0 V c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        by_cases hz : t.val = 0
        · exfalso; have hN : t.val < 128 := lt_of_lt_of_eq t.isLt (show cfg0.N = 128 from N_0); omega
        · rw [PhiS0_castSucc V c t, PhiS0_pos V c _ _ hz]
          rw [outsAt0_B V c t h0 h1 h2]
          unfold sout0_B_0; (try dsimp only)
          iintro ⟨⟨HS0, Hg⟩, Ho, ⟨%d0, H0⟩, ⟨%d1, H1⟩, ⟨%d2, H2⟩⟩
          iapply ((kernelRun0_B c (grid0.coords t) _ _ _ _ _ _ _ _ (fun h => h0 ((hcond0_0 t).mp h)) ((hcond0_1 t).mpr h1) (fun h => h2 ((hcond0_2 t).mp h)) (iblk0 V c 0 t) (iblk0 V c 1 t) _).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _)
            iexact Hg
          isplitl [Ho]; · iexact Ho
          isplitl [H0]; · iexact H0
          isplitl [H1]; · iexact H1
          iexists _; iexact H2
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The launch's invariant is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  exact side_in0 c

/-- and after the last point it is the launch's again, the contents of the scratch forgotten. -/
theorem hout0 (c : Dev nD) : (dat0 V c).Φ (Fin.last cfg0.N) ⊢ Pipeline.ΦA spec0 c := by
  have hN : cfg0.N = 128 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega)]
  refine BIBase.Entails.trans ?_ (side_out0 c)
  iintro ⟨HS, Hs⟩
  isplitl [HS]; · iexists _; iexact HS
  iexact Hs

end Cert.KernelIdeal.Layer

end
-- ==== Proof.Ideal.Combine1.lean ====
/- Pallas call 1, the combination of a shift into the result: what it leaves in its two outputs, and the obligation of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.UnfoldOut

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the region is entered, which the run gives region by region
variable (V : (c : Dev nD) → (b : Ref sig .tc) → Buf (Elt F) ((c : Thread nD τ).loc b))

/-! # REGION 1 of @main: custom_call 1, `cc1__combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4096x128 := Rect.unit (s := S4096x128) ![0, 0] S4096x128.size inb_S4096x128_S4096x128_0_0
abbrev r1_1 : Rect S128x128 := Rect.unit (s := S128x128) ![0, 0] S128x128.size inb_S128x128_S128x128_0_0

/-! ## What the body leaves in each output window's buffer -/

/-! ### Values of the body that the stores' payloads, spelt out, would write more than once

    Each is a vector the body binds (often a part call's result), stated over the input windows' blocks and
    numbered on from the skeleton's payload functions (`k1_pay53` …, after `k1_pay52`), so that
    `out1_W` and the values after it name it instead of spelling it out (`unfold_out out1_W` opens a canon
    with them, `unfold_payloads` opens them with the payloads); the comment after each is the printed function's
    name for the value (a count appended where that name is bound again). -/

def k1_pay53 (x0 : Vec F S4096x128 .f32) (x1 : Vec F S128x128 .f32) (x2 : Vec F S4096x128 .f32) : FVec F S4096x128 .f32 :=
  k1_pay3 (View.ld x0 r1_0) -- `v1`
def k1_pay54 (x0 : Vec F S4096x128 .f32) (x1 : Vec F S128x128 .f32) (x2 : Vec F S4096x128 .f32) : IVec S4096x128 32 :=
  k1_pay12 -- `v39`
def k1_pay55 (x0 : Vec F S4096x128 .f32) (x1 : Vec F S128x128 .f32) (x2 : Vec F S4096x128 .f32) : IVec S4096x128 32 :=
  k1_pay13 -- `v41`
def k1_pay56 (x0 : Vec F S4096x128 .f32) (x1 : Vec F S128x128 .f32) (x2 : Vec F S4096x128 .f32) : IVec S4096x128 32 :=
  k1_pay14 -- `v43`
def k1_pay57 (x0 : Vec F S4096x128 .f32) (x1 : Vec F S128x128 .f32) (x2 : Vec F S4096x128 .f32) : IVec S4096x128 32 :=
  k1_pay23 (k1_pay54 x0 x1 x2) (k1_pay55 x0 x1 x2) (k1_pay56 x0 x1 x2) -- `v85`
def k1_pay58 (x0 : Vec F S4096x128 .f32) (x1 : Vec F S128x128 .f32) (x2 : Vec F S4096x128 .f32) : IVec S4096x128 32 :=
  k1_pay24 (k1_pay54 x0 x1 x2) (k1_pay55 x0 x1 x2) (k1_pay56 x0 x1 x2) -- `v86`
def k1_pay59 (x0 : Vec F S4096x128 .f32) (x1 : Vec F S128x128 .f32) (x2 : Vec F S4096x128 .f32) : IVec S4096x128 32 :=
  k1_pay25 (k1_pay54 x0 x1 x2) (k1_pay55 x0 x1 x2) (k1_pay56 x0 x1 x2) -- `v88`
def k1_pay60 (x0 : Vec F S4096x128 .f32) (x1 : Vec F S128x128 .f32) (x2 : Vec F S4096x128 .f32) : IVec S4096x128 32 :=
  k1_pay36 (k1_pay57 x0 x1 x2) (k1_pay58 x0 x1 x2) (k1_pay59 x0 x1 x2) -- `v133`
def k1_pay61 (x0 : Vec F S4096x128 .f32) (x1 : Vec F S128x128 .f32) (x2 : Vec F S4096x128 .f32) : IVec S4096x128 32 :=
  k1_pay37 (k1_pay57 x0 x1 x2) (k1_pay58 x0 x1 x2) (k1_pay59 x0 x1 x2) -- `v134`
def k1_pay62 (x0 : Vec F S4096x128 .f32) (x1 : Vec F S128x128 .f32) (x2 : Vec F S4096x128 .f32) : IVec S4096x128 32 :=
  k1_pay47 (k1_pay60 x0 x1 x2) (k1_pay61 x0 x1 x2) -- `v175`
def k1_pay63 (x0 : Vec F S4096x128 .f32) (x1 : Vec F S128x128 .f32) (x2 : Vec F S4096x128 .f32) : IVec S4096x128 32 :=
  k1_pay48 (k1_pay60 x0 x1 x2) (k1_pay61 x0 x1 x2) -- `v177`
def k1_pay64 (x0 : Vec F S4096x128 .f32) (x1 : Vec F S128x128 .f32) (x2 : Vec F S4096x128 .f32) : IVec S4096x128 32 :=
  k1_pay49 (k1_pay60 x0 x1 x2) (k1_pay61 x0 x1 x2) -- `v179`
def k1_pay65 (x0 : Vec F S4096x128 .f32) (x1 : Vec F S128x128 .f32) (x2 : Vec F S4096x128 .f32) : FVec F S4096x128 .f32 :=
  k1_pay50 (F := F) (k1_pay62 x0 x1 x2) (k1_pay63 x0 x1 x2) (k1_pay64 x0 x1 x2) -- `v199`
def k1_pay66 (x0 : Vec F S4096x128 .f32) (x1 : Vec F S128x128 .f32) (x2 : Vec F S4096x128 .f32) : FVec F S4096x128 .f32 :=
  k1_pay51 (F := F) (k1_pay62 x0 x1 x2) (k1_pay63 x0 x1 x2) (k1_pay64 x0 x1 x2) -- `v206`
def k1_pay67 (x0 : Vec F S4096x128 .f32) (x1 : Vec F S128x128 .f32) (x2 : Vec F S4096x128 .f32) : FVec F S4096x128 .f32 :=
  k1_pay52 (F := F) (k1_pay62 x0 x1 x2) (k1_pay63 x0 x1 x2) (k1_pay64 x0 x1 x2) -- `v223`

/-- Window 3's staging buffer after the body, from the input windows' blocks: its 1 store as pieces, LAST
    FIRST (Lib/Pipeline/FrameBody.lean `View.canon`; the payloads are the skeleton's and the values stated above). -/
def out1_3 (x0 : Vec F S4096x128 .f32) (x1 : Vec F S128x128 .f32) (x2 : Vec F S4096x128 .f32) : Vec F S4096x128 .f32 :=
  View.canon [⟨r1_0, k1_pay1 (k1_pay53 x0 x1 x2) (k1_pay4 (View.ld x0 r1_0)) (k1_pay65 x0 x1 x2) (k1_pay66 x0 x1 x2) (k1_pay67 x0 x1 x2)⟩]

/-- Its stores tile the buffer (checked by evaluation), so they cover it. -/
theorem cover1_3 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y

/-- Window 4's staging buffer after the body, from the input windows' blocks: its 1 store as pieces, LAST
    FIRST (Lib/Pipeline/FrameBody.lean `View.canon`; the payloads are the skeleton's and the values stated above). -/
def out1_4 (x0 : Vec F S4096x128 .f32) (x1 : Vec F S128x128 .f32) (x2 : Vec F S4096x128 .f32) : Vec F S4096x128 .f32 :=
  View.canon [⟨r1_0, k1_pay2 (k1_pay53 x0 x1 x2) (k1_pay4 (View.ld x0 r1_0)) (k1_pay65 x0 x1 x2) (k1_pay66 x0 x1 x2) (k1_pay67 x0 x1 x2) (View.ld x1 r1_1) (View.ld x2 r1_0)⟩]

/-- Its stores tile the buffer (checked by evaluation), so they cover it. -/
theorem cover1_4 (p0 : Vec F S4096x128 .f32) (y : S4096x128.Idx) :
    ∃ pc ∈ ([⟨r1_0, p0⟩] : List (View.Piece (Elt F) S4096x128 .f32)), y ∈ pc.1.set :=
  View.cover_of_tiled [⟨r1_0, p0⟩] S4096x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S128x128 .f32) (x2 : Vec F S4096x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2) ∗ owns (c : Thread nD τ) arg4 fullShare (out1_4 x0 x1 x2)) -∗ K ⟨⟩))
      ⊢ wp frame (wpE (defs₀ (F := F)) Variants.none c none) E (cc1__combine_kernel arg0 harg0 arg1 harg1 arg2 harg2 arg3 harg3 arg4 harg4) K := by
  simp only [cc1__combine_kernel_eq_skeleton]; unfold cc1__combine_kernel_skel
  simp only [k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover1_3 _)).trans ?_
    rfl
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Layer

end
-- ==== Proof.Ideal.Shift2.lean ====
/- Pallas call 2, one block of the product at a grid point: what its runs share. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the region is entered, which the run gives region by region
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 1).val) 0#32)) 0#32) = 1#1
/-- It holds at the points ≡ 0 (mod 16) — by arithmetic of the point. -/
theorem hcond2_0 : ∀ t : Fin cfg2.N, cond2_0 (grid2.coords t) ↔ t.val % 16 = 0 :=
  (fun t => by
    have ht : t.val < 128 := Nat.lt_of_lt_of_eq t.isLt N_2
    have e0 : (grid2.coords t 0).val = t.val / 16 % 8 := Pipeline.Grid.coords_val t 0 (by decide) rfl
    have e1 : (grid2.coords t 1).val = t.val / 1 % 16 := Pipeline.Grid.coords_val t 1 (by decide) rfl
    simp only [cond2_0, e0, e1]
    word_cmp
   : ∀ t : Fin grid2.N, cond2_0 (grid2.coords t) ↔ t.val % 16 = 0)

/-- The condition of the body's `scf.if` 1 (`k2_h2`), from the grid coordinates (the skeleton's scalar
    chain substituted). -/
abbrev cond2_1 (i : grid2.Coords) : Prop := (Scalar.cmpi .ne (Scalar.extui (Scalar.cmpi .ne (BitVec.ofNat 32 (i 1).val) 0#32)) 0#32) = 1#1
/-- It holds at the points whose coordinates have 1 ≤ i1 — by arithmetic of the point. -/
theorem hcond2_1 : ∀ t : Fin cfg2.N, cond2_1 (grid2.coords t) ↔ 1 ≤ t.val % 16 :=
  (fun t => by
    have ht : t.val < 128 := Nat.lt_of_lt_of_eq t.isLt N_2
    have e0 : (grid2.coords t 0).val = t.val / 16 % 8 := Pipeline.Grid.coords_val t 0 (by decide) rfl
    have e1 : (grid2.coords t 1).val = t.val / 1 % 16 := Pipeline.Grid.coords_val t 1 (by decide) rfl
    simp only [cond2_1, e0, e1]
    word_cmp
   : ∀ t : Fin grid2.N, cond2_1 (grid2.coords t) ↔ 1 ≤ t.val % 16)

/-- The condition of the body's `scf.if` 2 (`k2_h3`), from the grid coordinates (the skeleton's scalar
    chain substituted). -/
abbrev cond2_2 (i : grid2.Coords) : Prop := k2_cond3 i = 1#1
/-- It holds at the points ≡ 15 (mod 16) — by arithmetic of the point. -/
theorem hcond2_2 : ∀ t : Fin cfg2.N, cond2_2 (grid2.coords t) ↔ t.val % 16 = 15 :=
  (fun t => by
    have ht : t.val < 128 := Nat.lt_of_lt_of_eq t.isLt N_2
    have e0 : (grid2.coords t 0).val = t.val / 16 % 8 := Pipeline.Grid.coords_val t 0 (by decide) rfl
    have e1 : (grid2.coords t 1).val = t.val / 1 % 16 := Pipeline.Grid.coords_val t 1 (by decide) rfl
    simp only [cond2_2, k2_cond3, e0, e1]
    word_cmp
   : ∀ t : Fin grid2.N, cond2_2 (grid2.coords t) ↔ t.val % 16 = 15)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- At the points of case A the printed configuration (`Cfg.idle`) calls output 2 idle: the case stores nothing into it. -/
theorem idleAt2_2_A : ∀ t : Fin cfg2.N, cond2_0 (grid2.coords t) → ¬cond2_1 (grid2.coords t) → ¬cond2_2 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → ¬cond2_2 (grid2.coords t) → (cfg2.win 2).flush t = false := by decide +kernel
/-- At the points of case B the printed configuration (`Cfg.idle`) calls output 2 idle: the case stores nothing into it. -/
theorem idleAt2_2_B : ∀ t : Fin cfg2.N, ¬cond2_0 (grid2.coords t) → cond2_1 (grid2.coords t) → ¬cond2_2 (grid2.coords t) → cfg2.idle 2 (grid2.coords t) = true := by decide +kernel
/-- At the points of case B the pipeline does not write output 2's block back. -/
theorem noFlush2_2_B : ∀ t : Fin cfg2.N, ¬cond2_0 (grid2.coords t) → cond2_1 (grid2.coords t) → ¬cond2_2 (grid2.coords t) → (cfg2.win 2).flush t = false := by decide +kernel
/-- At the points of case C the printed configuration (`Cfg.idle`) calls output 2 live: the case stores into it. -/
theorem liveAt2_2_C : ∀ t : Fin cfg2.N, ¬cond2_0 (grid2.coords t) → cond2_1 (grid2.coords t) → cond2_2 (grid2.coords t) → cfg2.idle 2 (grid2.coords t) = false := by decide +kernel

/-! ## The kernel body on any staging memrefs: a subtype the run finds -/

/-- One staging buffer of output window 2, through which its contents are stated (`View.read_writes_of_cover`: the
    choice does not matter). -/
abbrev VO2_2 : View sig .tc .vmem S512x128 .f32 := (Memref.whole cc2_stg2_0 : Memref sig .tc .vmem S512x128 .f32).view
/-- Each window's current staging memref at point `t`, spelled as the pipeline passes it (`bodyAt2`), and its wholeness. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
/-- The scratch operands: whole scoped buffers of the kernel's own, passed beside the windows. -/
abbrev scM2_0 : Memref sig .tc .vmem S512x128 .f32 := Memref.whole cc2_scratch0
/-- The scratch `arg5` the kernel carries between points, as a view: what it holds is stated through it. -/
abbrev VS2_0 : View sig .tc .vmem S512x128 .f32 := scM2_0.view

/-! ## What the body neither reads nor writes -/

/-- The scoped buffers of the other calls, each whole at some contents, and the generator register at some state: what
    the body of this call never touches. -/
def side2 (c : Dev nD) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc3_stg0_0), ((c : Thread nD τ).loc cc3_stg0_0) ↦{fullShare} f)
    ∗ (∃ f : Buf (Elt F) ((c : Thread nD τ).loc cc3_stg1_0), ((c : Thread nD τ).loc cc3_stg1_0) ↦{fullShare} f)
    ∗ (∃ f : Buf (Elt F) ((c : Thread nD τ).loc cc3_stg2_0), ((c : Thread nD τ).loc cc3_stg2_0) ↦{fullShare} f)
    ∗ (∃ f : Buf (Elt F) ((c : Thread nD τ).loc cc3_stg3_0), ((c : Thread nD τ).loc cc3_stg3_0) ↦{fullShare} f)
    ∗ (∃ f : Buf (Elt F) ((c : Thread nD τ).loc cc3_stg4_0), ((c : Thread nD τ).loc cc3_stg4_0) ↦{fullShare} f)) ∗ (∃ r, prngReg c r))

/-- The launch's invariant gives the scratch at some contents beside the untouched rest, -/
theorem side_in2 (c : Dev nD) : (Pipeline.ΦA spec2 c : sProp 𝕄) ⊢ iprop((∃ d, owns (c : Thread nD τ) scM2_0 fullShare d) ∗ side2 c) := by
  unfold Pipeline.ΦA side2; rw [scopedRest2_eq]; simp only [scM2_0, owns_whole]
  iintro ⟨⟨H0, H1, H2, H3, H4, H5, H6, H7, H8, H9, H10, H11, HS, H13, H14, H15, H16, H17⟩, Hg⟩
  isplitl [HS]; · iexact HS
  isplitl [H0 H1 H2 H3 H4 H5 H6 H7 H8 H9 H10 H11 H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H13]; · iexact H13
    isplitl [H14]; · iexact H14
    isplitl [H15]; · iexact H15
    isplitl [H16]; · iexact H16
    iexact H17
  iexact Hg

/-- and takes them back. -/
theorem side_out2 (c : Dev nD) : iprop((∃ d, owns (c : Thread nD τ) scM2_0 fullShare d) ∗ side2 c) ⊢ (Pipeline.ΦA spec2 c : sProp 𝕄) := by
  unfold Pipeline.ΦA side2; rw [scopedRest2_eq]; simp only [scM2_0, owns_whole]
  iintro ⟨HS, ⟨H0, H1, H2, H3, H4, H5, H6, H7, H8, H9, H10, H11, H13, H14, H15, H16, H17⟩, Hg⟩
  isplitl [H0 H1 H2 H3 H4 H5 H6 H7 H8 H9 H10 H11 HS H13 H14 H15 H16 H17]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS]; · iexact HS
    isplitl [H13]; · iexact H13
    isplitl [H14]; · iexact H14
    isplitl [H15]; · iexact H15
    isplitl [H16]; · iexact H16
    iexact H17
  iexact Hg

end Cert.KernelIdeal.Layer

end
-- ==== Proof.Ideal.Shift2A.lean ====
/- Pallas call 2: the run of the body at the first step of a row block. -/
module

public import proofs.«01_k».proof.Proof.Ideal.Shift2

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 16, … 112: 8 of 128), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond2_0 i) (hc1 : ¬cond2_1 i) (hc2 : ¬cond2_2 i)
    (x0 : Vec F S512x256 .f32) (x1 : Vec F S256x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__shift_matmul_kernel i arg2 harg2 arg3 harg3 arg4 harg4 arg5 harg5) K } := by
  refine ⟨[], ?_, fun xi2 E K => ?run⟩
  case run =>
    simp only [cc2__shift_matmul_kernel_eq_skeleton]; unfold cc2__shift_matmul_kernel_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Layer

end
-- ==== Proof.Ideal.Shift2B.lean ====
/- Pallas call 2: the run of the body at a middle step of a row block. -/
module

public import proofs.«01_k».proof.Proof.Ideal.Shift2A

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 126: 112 of 128), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : ¬cond2_2 i)
    (x0 : Vec F S512x256 .f32) (x1 : Vec F S256x128 .f32) (xs0 : Vec F S512x128 .f32) :
    Σ' (L2 : List (View.Piece (Elt F) S512x128 .f32)), { LS0 : List (View.Piece (Elt F) S512x128 .f32) //
      ∀ (xi2 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__shift_matmul_kernel i arg2 harg2 arg3 harg3 arg4 harg4 arg5 harg5) K } := by
  refine ⟨[], ?_, fun xi2 E K => ?run⟩
  case run =>
    simp only [cc2__shift_matmul_kernel_eq_skeleton]; unfold cc2__shift_matmul_kernel_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Layer

end
-- ==== Proof.Ideal.Shift2C.lean ====
/- Pallas call 2: the run of the body at the last step of a row block. -/
module

public import proofs.«01_k».proof.Proof.Ideal.Shift2B

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 15, 31, … 127: 8 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : cond2_2 i)
    (x0 : Vec F S512x256 .f32) (x1 : Vec F S256x128 .f32) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__shift_matmul_kernel i arg2 harg2 arg3 harg3 arg4 harg4 arg5 harg5) K } := by
  refine ⟨?_, ?_, fun E K => ?run⟩
  case run =>
    simp only [cc2__shift_matmul_kernel_eq_skeleton]; unfold cc2__shift_matmul_kernel_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Layer

end
-- ==== Proof.Ideal.Shift2Body.lean ====
/- Pallas call 2: what the accumulator and the output block hold after each grid point, and the obligation of the body. -/
module

public import proofs.«01_k».proof.Proof.Ideal.Shift2C
public import Idealize.ShloMosaic.Lib.Claim

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the region is entered, which the run gives region by region
variable (V : (c : Dev nD) → (b : Ref sig .tc) → Buf (Elt F) ((c : Thread nD τ).loc b))

/-- Case A stores nothing into output 2 (the window is idle at its points and not written back there):
    no pieces — a placeholder (junk read back) that nothing consults, since at these points the window is neither
    written back nor read at the next point (Lib/Pipeline.lean "Idle points"). -/
def out2_A_2 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond2_0 i) (hc1 : ¬cond2_1 i) (hc2 : ¬cond2_2 i)
    (x0 : Vec F S512x256 .f32) (x1 : Vec F S256x128 .f32) : Vec F S512x128 .f32 :=
  VO2_2.read (Elt F) (VO2_2.writes (Elt F) VO2_2.junk (kernelRun2_A c i arg2 harg2 arg3 harg3 arg4 harg4 arg5 harg5 hc0 hc1 hc2 x0 x1).1)

/-- Case A's pieces for scratch `arg5`, which the kernel carries between points, cover it: 1 piece of `S512x128` tiling it (Lib/Ring.lean `Piece.tiledL`). -/
theorem scover2_A_0 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond2_0 i) (hc1 : ¬cond2_1 i) (hc2 : ¬cond2_2 i)
    (x0 : Vec F S512x256 .f32) (x1 : Vec F S256x128 .f32) (y : S512x128.Idx) :
    ∃ pc ∈ (kernelRun2_A c i arg2 harg2 arg3 harg3 arg4 harg4 arg5 harg5 hc0 hc1 hc2 x0 x1).2.1, y ∈ pc.1.set :=
  View.cover_of_tiledL (kernelRun2_A c i arg2 harg2 arg3 harg3 arg4 harg4 arg5 harg5 hc0 hc1 hc2 x0 x1).2.1 S512x128.size (by sl_kernel_rfl) y

/-- What case A leaves in scratch `arg5`: its pieces read back over junk. -/
def sout2_A_0 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : cond2_0 i) (hc1 : ¬cond2_1 i) (hc2 : ¬cond2_2 i)
    (x0 : Vec F S512x256 .f32) (x1 : Vec F S256x128 .f32) : Vec F S512x128 .f32 :=
  VS2_0.read (Elt F) (VS2_0.writes (Elt F) VS2_0.junk (kernelRun2_A c i arg2 harg2 arg3 harg3 arg4 harg4 arg5 harg5 hc0 hc1 hc2 x0 x1).2.1)

/-- Case B stores nothing into output 2 (the window is idle at its points and not written back there):
    no pieces — a placeholder (junk read back) that nothing consults, since at these points the window is neither
    written back nor read at the next point (Lib/Pipeline.lean "Idle points"). -/
def out2_B_2 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : ¬cond2_2 i)
    (x0 : Vec F S512x256 .f32) (x1 : Vec F S256x128 .f32) (xs0 : Vec F S512x128 .f32) : Vec F S512x128 .f32 :=
  VO2_2.read (Elt F) (VO2_2.writes (Elt F) VO2_2.junk (kernelRun2_B c i arg2 harg2 arg3 harg3 arg4 harg4 arg5 harg5 hc0 hc1 hc2 x0 x1 xs0).1)

/-- Case B's pieces for scratch `arg5`, which the kernel carries between points, cover it: 1 piece of `S512x128` tiling it (Lib/Ring.lean `Piece.tiledL`). -/
theorem scover2_B_0 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : ¬cond2_2 i)
    (x0 : Vec F S512x256 .f32) (x1 : Vec F S256x128 .f32) (xs0 : Vec F S512x128 .f32) (y : S512x128.Idx) :
    ∃ pc ∈ (kernelRun2_B c i arg2 harg2 arg3 harg3 arg4 harg4 arg5 harg5 hc0 hc1 hc2 x0 x1 xs0).2.1, y ∈ pc.1.set :=
  View.cover_of_tiledL (kernelRun2_B c i arg2 harg2 arg3 harg3 arg4 harg4 arg5 harg5 hc0 hc1 hc2 x0 x1 xs0).2.1 S512x128.size (by sl_kernel_rfl) y

/-- What case B leaves in scratch `arg5`: its pieces read back over junk. -/
def sout2_B_0 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : ¬cond2_2 i)
    (x0 : Vec F S512x256 .f32) (x1 : Vec F S256x128 .f32) (xs0 : Vec F S512x128 .f32) : Vec F S512x128 .f32 :=
  VS2_0.read (Elt F) (VS2_0.writes (Elt F) VS2_0.junk (kernelRun2_B c i arg2 harg2 arg3 harg3 arg4 harg4 arg5 harg5 hc0 hc1 hc2 x0 x1 xs0).2.1)

/-- Case C's pieces for output 2 tile its block (1 store of `S512x128`, checked by the kernel's evaluation: Lib/Ring.lean `Piece.tiledL`, linear in the pieces, through a loop's `@[irreducible]` trip theorem too), so they cover it. -/
theorem cover2_C_2 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : cond2_2 i)
    (x0 : Vec F S512x256 .f32) (x1 : Vec F S256x128 .f32) (xs0 : Vec F S512x128 .f32) (y : S512x128.Idx) :
    ∃ pc ∈ (kernelRun2_C c i arg2 harg2 arg3 harg3 arg4 harg4 arg5 harg5 hc0 hc1 hc2 x0 x1 xs0).1, y ∈ pc.1.set :=
  View.cover_of_tiledL (kernelRun2_C c i arg2 harg2 arg3 harg3 arg4 harg4 arg5 harg5 hc0 hc1 hc2 x0 x1 xs0).1 S512x128.size (by sl_kernel_rfl) y

/-- What case C leaves in output 2's staging buffer: its pieces read back over junk. -/
def out2_C_2 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : cond2_2 i)
    (x0 : Vec F S512x256 .f32) (x1 : Vec F S256x128 .f32) (xs0 : Vec F S512x128 .f32) : Vec F S512x128 .f32 :=
  VO2_2.read (Elt F) (VO2_2.writes (Elt F) VO2_2.junk (kernelRun2_C c i arg2 harg2 arg3 harg3 arg4 harg4 arg5 harg5 hc0 hc1 hc2 x0 x1 xs0).1)

/-- Case C's pieces for scratch `arg5`, which the kernel carries between points, cover it: 1 piece of `S512x128` tiling it (Lib/Ring.lean `Piece.tiledL`). -/
theorem scover2_C_0 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : cond2_2 i)
    (x0 : Vec F S512x256 .f32) (x1 : Vec F S256x128 .f32) (xs0 : Vec F S512x128 .f32) (y : S512x128.Idx) :
    ∃ pc ∈ (kernelRun2_C c i arg2 harg2 arg3 harg3 arg4 harg4 arg5 harg5 hc0 hc1 hc2 x0 x1 xs0).2.1, y ∈ pc.1.set :=
  View.cover_of_tiledL (kernelRun2_C c i arg2 harg2 arg3 harg3 arg4 harg4 arg5 harg5 hc0 hc1 hc2 x0 x1 xs0).2.1 S512x128.size (by sl_kernel_rfl) y

/-- What case C leaves in scratch `arg5`: its pieces read back over junk. -/
def sout2_C_0 (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole) (arg5 : Memref sig .tc .vmem S512x128 .f32) (harg5 : arg5.IsWhole) (hc0 : ¬cond2_0 i) (hc1 : cond2_1 i) (hc2 : cond2_2 i)
    (x0 : Vec F S512x256 .f32) (x1 : Vec F S256x128 .f32) (xs0 : Vec F S512x128 .f32) : Vec F S512x128 .f32 :=
  VS2_0.read (Elt F) (VS2_0.writes (Elt F) VS2_0.junk (kernelRun2_C c i arg2 harg2 arg3 harg3 arg4 harg4 arg5 harg5 hc0 hc1 hc2 x0 x1 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S512x128 .f32 × Vec F S512x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (fun h => (fun h => by (try dsimp only at h); omega) ((hcond2_2 ⟨0, hn⟩).mp h)) (iblk2 V c 0 ⟨0, hn⟩) (iblk2 V c 1 ⟨0, hn⟩))
  | n + 1, hn =>
    if h0 : (n + 1) % 16 = 0 then
      if h1 : 1 ≤ (n + 1) % 16 then
        False.elim (by have hN : n + 1 < 128 := lt_of_lt_of_eq hn (show cfg2.N = 128 from N_2); omega)
      else
        if h2 : (n + 1) % 16 = 15 then
          False.elim (by have hN : n + 1 < 128 := lt_of_lt_of_eq hn (show cfg2.N = 128 from N_2); omega)
        else
          (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (fun h => h2 ((hcond2_2 ⟨n + 1, hn⟩).mp h)) (iblk2 V c 0 ⟨n + 1, hn⟩) (iblk2 V c 1 ⟨n + 1, hn⟩))
    else
      if h1 : 1 ≤ (n + 1) % 16 then
        if h2 : (n + 1) % 16 = 15 then
          (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) ((hcond2_2 ⟨n + 1, hn⟩).mpr h2) (iblk2 V c 0 ⟨n + 1, hn⟩) (iblk2 V c 1 ⟨n + 1, hn⟩) (outsAt2 c n (Nat.lt_of_succ_lt hn)).2)
        else
          (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (fun h => h2 ((hcond2_2 ⟨n + 1, hn⟩).mp h)) (iblk2 V c 0 ⟨n + 1, hn⟩) (iblk2 V c 1 ⟨n + 1, hn⟩) (outsAt2 c n (Nat.lt_of_succ_lt hn)).2)
      else
        False.elim (by have hN : n + 1 < 128 := lt_of_lt_of_eq hn (show cfg2.N = 128 from N_2); omega)

/-- `outsAt2` at a point of case A: that case's contents. -/
theorem outsAt2_A (c : Dev nD) (t : Fin cfg2.N) (h0 : t.val % 16 = 0) (h1 : ¬1 ≤ t.val % 16) (h2 : ¬t.val % 16 = 15) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (fun h => h2 ((hcond2_2 t).mp h)) (iblk2 V c 0 t) (iblk2 V c 1 t)) := by
  obtain ⟨n, hn⟩ := t
  cases n with
  | zero => exact rfl
  | succ n => exact (dif_pos h0).trans ((dif_neg h1).trans ((dif_neg h2).trans rfl))

/-- `outsAt2` at a point of case B: that case's contents, over what the point before left. -/
theorem outsAt2_B (c : Dev nD) (t : Fin cfg2.N) (h0 : ¬t.val % 16 = 0) (h1 : 1 ≤ t.val % 16) (h2 : ¬t.val % 16 = 15) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (fun h => h2 ((hcond2_2 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C: that case's contents, over what the point before left. -/
theorem outsAt2_C (c : Dev nD) (t : Fin cfg2.N) (h0 : ¬t.val % 16 = 0) (h1 : 1 ≤ t.val % 16) (h2 : t.val % 16 = 15) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) ((hcond2_2 t).mpr h2) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => iprop((∃ d, owns (c : Thread nD τ) scM2_0 fullShare d) ∗ side2 c)
  | n + 1, hn => iprop(iprop(owns (c : Thread nD τ) scM2_0 fullShare ((outsAt2 V c n hn).2)) ∗ side2 c)

theorem PhiS2_zero (c : Dev nD) (n : ℕ) (h : n ≤ cfg2.N) (hz : n = 0) : PhiS2 V c n h = iprop((∃ d, owns (c : Thread nD τ) scM2_0 fullShare d) ∗ side2 c) := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2)) ∗ side2 c) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ side2 c) := by
  cases n with
  | zero => exact absurd rfl hz
  | succ n => rfl

/-! ## The pipeline's proof data -/

/-- The proof data of the one pipeline on core `c`: the arrays as the region finds them (`V`); after the body at
    point `t` each input's buffer at its block and the outputs' at `outsAt2`; the invariant the class's
    (`PhiS`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 16 = 0
  · by_cases h1 : 1 ≤ t.val % 16
    · exfalso; omega
    · by_cases h2 : t.val % 16 = 15
      · exfalso; omega
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [Dat.leavesExact_idle (dat2 V c) 2 t (idleAt2_2_A t ((hcond2_0 t).mpr h0) (fun h => h1 ((hcond2_1 t).mp h)) (fun h => h2 ((hcond2_2 t).mp h))) (noFlush2_2_A t ((hcond2_0 t).mpr h0) (fun h => h1 ((hcond2_1 t).mp h)) (fun h => h2 ((hcond2_2 t).mp h)))]
        by_cases hz : t.val = 0
        · rw [PhiS2_castSucc V c t, PhiS2_zero V c _ _ hz]
          rw [outsAt2_A V c t h0 h1 h2]
          unfold sout2_A_0; (try dsimp only)
          iintro ⟨⟨HS0, Hg⟩, Ho, ⟨%d0, H0⟩, ⟨%d1, H1⟩, ⟨%d2, H2⟩⟩
          iapply ((kernelRun2_A c (grid2.coords t) _ _ _ _ _ _ _ _ ((hcond2_0 t).mpr h0) (fun h => h1 ((hcond2_1 t).mp h)) (fun h => h2 ((hcond2_2 t).mp h)) (iblk2 V c 0 t) (iblk2 V c 1 t)).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover2_A_0 c _ _ _ _ _ _ _ _ _ _ _ _ _ _)
            iexact Hg
          isplitl [Ho]; · iexact Ho
          isplitl [H0]; · iexact H0
          isplitl [H1]; · iexact H1
          iexists _; iexact H2
        · rw [PhiS2_castSucc V c t, PhiS2_pos V c _ _ hz]
          rw [outsAt2_A V c t h0 h1 h2]
          unfold sout2_A_0; (try dsimp only)
          iintro ⟨⟨HS0, Hg⟩, Ho, ⟨%d0, H0⟩, ⟨%d1, H1⟩, ⟨%d2, H2⟩⟩
          iapply ((kernelRun2_A c (grid2.coords t) _ _ _ _ _ _ _ _ ((hcond2_0 t).mpr h0) (fun h => h1 ((hcond2_1 t).mp h)) (fun h => h2 ((hcond2_2 t).mp h)) (iblk2 V c 0 t) (iblk2 V c 1 t)).2.2 _ Set.univ _)
          isplitl [H0]; · iexact H0
          isplitl [H1]; · iexact H1
          isplitl [H2]; · iexact H2
          isplitl [HS0]; · iexists _; iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover2_A_0 c _ _ _ _ _ _ _ _ _ _ _ _ _ _)
            iexact Hg
          isplitl [Ho]; · iexact Ho
          isplitl [H0]; · iexact H0
          isplitl [H1]; · iexact H1
          iexists _; iexact H2
  · by_cases h1 : 1 ≤ t.val % 16
    · by_cases h2 : t.val % 16 = 15
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [show (dat2 V c).leavesExact 2 t = owns (c : Thread nD τ) (ms2_2 t) fullShare ((dat2 V c).after 2 t) from by
      unfold Dat.leavesExact; rw [liveAt2_2_C t (fun h => h0 ((hcond2_0 t).mp h)) ((hcond2_1 t).mpr h1) ((hcond2_2 t).mpr h2)], after2_2]
        by_cases hz : t.val = 0
        · exfalso; have hN : t.val < 128 := lt_of_lt_of_eq t.isLt (show cfg2.N = 128 from N_2); omega
        · rw [PhiS2_castSucc V c t, PhiS2_pos V c _ _ hz]
          rw [outsAt2_C V c t h0 h1 h2]
          unfold out2_C_2 sout2_C_0; (try dsimp only)
          iintro ⟨⟨HS0, Hg⟩, Ho, ⟨%d0, H0⟩, ⟨%d1, H1⟩, ⟨%d2, H2⟩⟩
          iapply ((kernelRun2_C c (grid2.coords t) _ _ _ _ _ _ _ _ (fun h => h0 ((hcond2_0 t).mp h)) ((hcond2_1 t).mpr h1) ((hcond2_2 t).mpr h2) (iblk2 V c 0 t) (iblk2 V c 1 t) _).2.2 Set.univ _)
          isplitl [H0]; · iexact H0
          isplitl [H1]; · iexact H1
          isplitl [H2]; · iexists _; iexact H2
          isplitl [HS0]; · iexact HS0
          iintro ⟨H0, H1, ⟨%e2, H2⟩, ⟨%es0, HS0⟩⟩
          isplitl [HS0 Hg]
          · isplitl [HS0]
            · unfold owns; iexists _; isplitr
              swap; · iexact HS0
              ipureintro; exact View.read_writes_of_cover _ _ _ _ _ (scover2_C_0 c _ _ _ _ _ _ _ _ _ _ _ _ _ _ _)
            iexact Hg
          isplitl [Ho]; · iexact Ho
          isplitl [H0]; · iexact H0
          isplitl [H1]; · iexact H1
          unfold owns; iexists _; isplitr
          swap; · iexact H2
          ipureintro; exact View.read_writes_of_cover _ _ _ _ _ (cover2_C_2 c _ _ _ _ _ _ _ _ _ _ _ _ _ _ _)
      · rw [show (dat2 V c).leavesExact 0 t = owns (c : Thread nD τ) (ms2_0 t) fullShare ((dat2 V c).after 0 t) from by
      unfold Dat.leavesExact; rw [liveAt2_0 t], after2_0]
        rw [show (dat2 V c).leavesExact 1 t = owns (c : Thread nD τ) (ms2_1 t) fullShare ((dat2 V c).after 1 t) from by
      unfold Dat.leavesExact; rw [liveAt2_1 t], after2_1]
        rw [Dat.leavesExact_idle (dat2 V c) 2 t (idleAt2_2_B t (fun h => h0 ((hcond2_0 t).mp h)) ((hcond2_1 t).mpr h1) (fun h => h2 ((hcond2_2 t).mp h))) (noFlush2_2_B t (fun h => h0 ((hcond2_0 t).mp h)) ((hcond2_1 t).mpr h1) (fun h => h2 ((hcond2_2 t).mp h)))]
        by_cases hz : t.val = 0
        · exfalso; have hN : t.val < 128 := lt_of_lt_of_eq t.isLt (show cfg2.N = 128 from N_2); omega
        · rw [PhiS2_castSucc V c t, PhiS2_pos V c _ _ hz]
          rw [outsAt2_B V c t h0 h1 h2]
          unfold sout2_B_0; (try dsimp only)
          iintro ⟨⟨HS0, Hg⟩, Ho, ⟨%d0, H0⟩, ⟨%d1, H1⟩, ⟨%d2, H2⟩⟩
          iapply ((kernelRun2_B c (grid2.coords t) _ _ _ _ _ _ _ _ (fun h => h0 ((hcond2_0 t).mp h)) ((hcond2_1 t).mpr h1) (fun h => h2 ((hcond2_2 t).mp h)) (iblk2 V c 0 t) (iblk2 V c 1 t) _).2.2 _ Set.univ _)
          isplitl [H0]; · iexact H0
          isplitl [H1]; · iexact H1
          isplitl [H2]; · iexact H2
          isplitl [HS0]; · iexact HS0
          iintro ⟨H0, H1, H2, ⟨%es0, HS0⟩⟩
          isplitl [HS0 Hg]
          · isplitl [HS0]
            · unfold owns; iexists _; isplitr
              swap; · iexact HS0
              ipureintro; exact View.read_writes_of_cover _ _ _ _ _ (scover2_B_0 c _ _ _ _ _ _ _ _ _ _ _ _ _ _ _)
            iexact Hg
          isplitl [Ho]; · iexact Ho
          isplitl [H0]; · iexact H0
          isplitl [H1]; · iexact H1
          iexists _; iexact H2
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The launch's invariant is the invariant before the first point, -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  exact side_in2 c

/-- and after the last point it is the launch's again, the contents of the scratch forgotten. -/
theorem hout2 (c : Dev nD) : (dat2 V c).Φ (Fin.last cfg2.N) ⊢ Pipeline.ΦA spec2 c := by
  have hN : cfg2.N = 128 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega)]
  refine BIBase.Entails.trans ?_ (side_out2 c)
  iintro ⟨HS, Hs⟩
  isplitl [HS]; · iexists _; iexact HS
  iexact Hs

end Cert.KernelIdeal.Layer

end
-- ==== Proof.Ideal.Combine3.lean ====
/- Pallas call 3, the combination of a shift into the result: what it leaves in its two outputs, and the obligation of its body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.UnfoldOut

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffer contents of the TensorCore when the region is entered, which the run gives region by region
variable (V : (c : Dev nD) → (b : Ref sig .tc) → Buf (Elt F) ((c : Thread nD τ).loc b))

/-! # REGION 3 of @main: custom_call 3, `cc3__combine_kernel` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S4096x128 := Rect.unit (s := S4096x128) ![0, 0] S4096x128.size inb_S4096x128_S4096x128_0_0
abbrev r3_1 : Rect S128x128 := Rect.unit (s := S128x128) ![0, 0] S128x128.size inb_S128x128_S128x128_0_0

/-! ## What the body leaves in each output window's buffer -/

/-! ### Values of the body that the stores' payloads, spelt out, would write more than once

    Each is a vector the body binds (often a part call's result), stated over the input windows' blocks and
    numbered on from the skeleton's payload functions (`k3_pay53` …, after `k3_pay52`), so that
    `out3_W` and the values after it name it instead of spelling it out (`unfold_out out3_W` opens a canon
    with them, `unfold_payloads` opens them with the payloads); the comment after each is the printed function's
    name for the value (a count appended where that name is bound again). -/

def k3_pay53 (x0 : Vec F S4096x128 .f32) (x1 : Vec F S128x128 .f32) (x2 : Vec F S4096x128 .f32) : FVec F S4096x128 .f32 :=
  k3_pay3 (View.ld x0 r3_0) -- `v1`
def k3_pay54 (x0 : Vec F S4096x128 .f32) (x1 : Vec F S128x128 .f32) (x2 : Vec F S4096x128 .f32) : IVec S4096x128 32 :=
  k3_pay12 -- `v39`
def k3_pay55 (x0 : Vec F S4096x128 .f32) (x1 : Vec F S128x128 .f32) (x2 : Vec F S4096x128 .f32) : IVec S4096x128 32 :=
  k3_pay13 -- `v41`
def k3_pay56 (x0 : Vec F S4096x128 .f32) (x1 : Vec F S128x128 .f32) (x2 : Vec F S4096x128 .f32) : IVec S4096x128 32 :=
  k3_pay14 -- `v43`
def k3_pay57 (x0 : Vec F S4096x128 .f32) (x1 : Vec F S128x128 .f32) (x2 : Vec F S4096x128 .f32) : IVec S4096x128 32 :=
  k3_pay23 (k3_pay54 x0 x1 x2) (k3_pay55 x0 x1 x2) (k3_pay56 x0 x1 x2) -- `v85`
def k3_pay58 (x0 : Vec F S4096x128 .f32) (x1 : Vec F S128x128 .f32) (x2 : Vec F S4096x128 .f32) : IVec S4096x128 32 :=
  k3_pay24 (k3_pay54 x0 x1 x2) (k3_pay55 x0 x1 x2) (k3_pay56 x0 x1 x2) -- `v86`
def k3_pay59 (x0 : Vec F S4096x128 .f32) (x1 : Vec F S128x128 .f32) (x2 : Vec F S4096x128 .f32) : IVec S4096x128 32 :=
  k3_pay25 (k3_pay54 x0 x1 x2) (k3_pay55 x0 x1 x2) (k3_pay56 x0 x1 x2) -- `v88`
def k3_pay60 (x0 : Vec F S4096x128 .f32) (x1 : Vec F S128x128 .f32) (x2 : Vec F S4096x128 .f32) : IVec S4096x128 32 :=
  k3_pay36 (k3_pay57 x0 x1 x2) (k3_pay58 x0 x1 x2) (k3_pay59 x0 x1 x2) -- `v133`
def k3_pay61 (x0 : Vec F S4096x128 .f32) (x1 : Vec F S128x128 .f32) (x2 : Vec F S4096x128 .f32) : IVec S4096x128 32 :=
  k3_pay37 (k3_pay57 x0 x1 x2) (k3_pay58 x0 x1 x2) (k3_pay59 x0 x1 x2) -- `v134`
def k3_pay62 (x0 : Vec F S4096x128 .f32) (x1 : Vec F S128x128 .f32) (x2 : Vec F S4096x128 .f32) : IVec S4096x128 32 :=
  k3_pay47 (k3_pay60 x0 x1 x2) (k3_pay61 x0 x1 x2) -- `v175`
def k3_pay63 (x0 : Vec F S4096x128 .f32) (x1 : Vec F S128x128 .f32) (x2 : Vec F S4096x128 .f32) : IVec S4096x128 32 :=
  k3_pay48 (k3_pay60 x0 x1 x2) (k3_pay61 x0 x1 x2) -- `v177`
def k3_pay64 (x0 : Vec F S4096x128 .f32) (x1 : Vec F S128x128 .f32) (x2 : Vec F S4096x128 .f32) : IVec S4096x128 32 :=
  k3_pay49 (k3_pay60 x0 x1 x2) (k3_pay61 x0 x1 x2) -- `v179`
def k3_pay65 (x0 : Vec F S4096x128 .f32) (x1 : Vec F S128x128 .f32) (x2 : Vec F S4096x128 .f32) : FVec F S4096x128 .f32 :=
  k3_pay50 (F := F) (k3_pay62 x0 x1 x2) (k3_pay63 x0 x1 x2) (k3_pay64 x0 x1 x2) -- `v199`
def k3_pay66 (x0 : Vec F S4096x128 .f32) (x1 : Vec F S128x128 .f32) (x2 : Vec F S4096x128 .f32) : FVec F S4096x128 .f32 :=
  k3_pay51 (F := F) (k3_pay62 x0 x1 x2) (k3_pay63 x0 x1 x2) (k3_pay64 x0 x1 x2) -- `v206`
def k3_pay67 (x0 : Vec F S4096x128 .f32) (x1 : Vec F S128x128 .f32) (x2 : Vec F S4096x128 .f32) : FVec F S4096x128 .f32 :=
  k3_pay52 (F := F) (k3_pay62 x0 x1 x2) (k3_pay63 x0 x1 x2) (k3_pay64 x0 x1 x2) -- `v223`

/-- Window 3's staging buffer after the body, from the input windows' blocks: its 1 store as pieces, LAST
    FIRST (Lib/Pipeline/FrameBody.lean `View.canon`; the payloads are the skeleton's and the values stated above). -/
def out3_3 (x0 : Vec F S4096x128 .f32) (x1 : Vec F S128x128 .f32) (x2 : Vec F S4096x128 .f32) : Vec F S4096x128 .f32 :=
  View.canon [⟨r3_0, k3_pay1 (k3_pay53 x0 x1 x2) (k3_pay4 (View.ld x0 r3_0)) (k3_pay65 x0 x1 x2) (k3_pay66 x0 x1 x2) (k3_pay67 x0 x1 x2)⟩]

/-- Its stores tile the buffer (checked by evaluation), so they cover it. -/
theorem cover3_3 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-- Window 4's staging buffer after the body, from the input windows' blocks: its 1 store as pieces, LAST
    FIRST (Lib/Pipeline/FrameBody.lean `View.canon`; the payloads are the skeleton's and the values stated above). -/
def out3_4 (x0 : Vec F S4096x128 .f32) (x1 : Vec F S128x128 .f32) (x2 : Vec F S4096x128 .f32) : Vec F S4096x128 .f32 :=
  View.canon [⟨r3_0, k3_pay2 (k3_pay53 x0 x1 x2) (k3_pay4 (View.ld x0 r3_0)) (k3_pay65 x0 x1 x2) (k3_pay66 x0 x1 x2) (k3_pay67 x0 x1 x2) (View.ld x1 r3_1) (View.ld x2 r3_0)⟩]

/-- Its stores tile the buffer (checked by evaluation), so they cover it. -/
theorem cover3_4 (p0 : Vec F S4096x128 .f32) (y : S4096x128.Idx) :
    ∃ pc ∈ ([⟨r3_0, p0⟩] : List (View.Piece (Elt F) S4096x128 .f32)), y ∈ pc.1.set :=
  View.cover_of_tiled [⟨r3_0, p0⟩] S4096x128.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (arg0 : Memref sig .tc .vmem S4096x128 .f32) (harg0 : arg0.IsWhole) (arg1 : Memref sig .tc .vmem S128x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole)
    (x0 : Vec F S4096x128 .f32) (x1 : Vec F S128x128 .f32) (x2 : Vec F S4096x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out3_3 x0 x1 x2) ∗ owns (c : Thread nD τ) arg4 fullShare (out3_4 x0 x1 x2)) -∗ K ⟨⟩))
      ⊢ wp frame (wpE (defs₀ (F := F)) Variants.none c none) E (cc3__combine_kernel arg0 harg0 arg1 harg1 arg2 harg2 arg3 harg3 arg4 harg4) K := by
  simp only [cc3__combine_kernel_eq_skeleton]; unfold cc3__combine_kernel_skel
  simp only [k3_part1_eq_skeleton, k3_part2_eq_skeleton, k3_part3_eq_skeleton, k3_part4_eq_skeleton, k3_part5_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover3_3 _)).trans ?_
    rfl
  iexists _; isplitr
  swap; · iexact H4
  ipureintro
  refine (View.read_writes_eq_canon _ _ _ (cover3_4 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => out3_4 (iblk3 V c 0 t) (iblk3 V c 1 t) (iblk3 V c 2 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = out3_4 (iblk3 V c 0 t) (iblk3 V c 1 t) (iblk3 V c 2 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Layer

end
-- ==== Proof.Ideal.Bounds.lean ====
/- The buffers of the program at the boundaries of its segments. -/
module

public import proofs.«01_k».proof.Proof.Ideal.Shift0Body
public import proofs.«01_k».proof.Proof.Ideal.Combine1
public import proofs.«01_k».proof.Proof.Ideal.Shift2Body
public import proofs.«01_k».proof.Proof.Ideal.Combine3
public import Idealize.ShloMosaic.Lib.Pipeline.RegionsLoop
public import Idealize.ShloMosaic.Lib.Pipeline.FrameSuffix

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_cst, main_v2]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v6]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`) (region 3's entry). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it: an input window's
    array is never written back (`Dat.arrAt_in`, `A_eq3`); any other buffer is left as is. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- After `hostOps4`. -/
abbrev W7 : Dev nD → Valuation τ sig (Elt F) := fun c => StableHlo.after hostOps4 (W6 m ρ c)
/-- A reference `hostOps4` does not write keeps its contents across it. -/
theorem W7_of (c : Dev nD) (r : Ref sig .tc) (h : r ∉ hostOps4_W) : W7 m ρ c (Proc.devRef .tc r) = W6 m ρ c (Proc.devRef .tc r) :=
  StableHlo.after_of_writes_sub hostOps4 _ hostOps4_writes h
theorem W7_args (c : Dev nD) : ∀ a ∈ argRefs, W7 m ρ c (Proc.devRef .tc a) = m ((c : Thread nD τ).loc a) :=
  fun a ha => (W7_of m ρ c a (hostOps4_args a ha)).trans (W6_args m ρ c a ha)

/-! ### The arguments end as launched: no host stretch writes one and no region may change one (a region reads it
    through an input window or bypasses it) -/

theorem W7_main_arg0 (c : Dev nD) : W7 m ρ c (Proc.devRef .tc main_arg0) = m ((c : Thread nD τ).loc main_arg0) :=
  W7_args m ρ c main_arg0 (by decide)
theorem W7_main_arg1 (c : Dev nD) : W7 m ρ c (Proc.devRef .tc main_arg1) = m ((c : Thread nD τ).loc main_arg1) :=
  W7_args m ρ c main_arg1 (by decide)
theorem W7_main_arg2 (c : Dev nD) : W7 m ρ c (Proc.devRef .tc main_arg2) = m ((c : Thread nD τ).loc main_arg2) :=
  W7_args m ρ c main_arg2 (by decide)
theorem W7_main_arg3 (c : Dev nD) : W7 m ρ c (Proc.devRef .tc main_arg3) = m ((c : Thread nD τ).loc main_arg3) :=
  W7_args m ρ c main_arg3 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

end Cert.KernelIdeal.Layer

end
-- ==== Proof.Ideal.Run.lean ====
/- The run of the whole program from its segments. -/
module

public import proofs.«01_k».proof.Proof.Ideal.Bounds

@[expose] public section

-- membership in a rectangle of production extents recurses once per coordinate of the long axes
set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V4 m ρ) c); unfold Pipeline.ΦA
    iintro ⟨Hp, -, Hr⟩
    isplitl [Hr]; · iexact Hr
    iexact Hp
  hout c := by
    rw [Pipeline.ownSems0_none]; refine BIBase.Entails.trans (hout2 (V4 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .region (reg3 m ρ),
    .host (hseg hostOps4 hostOps4_sub hostOps4_fresh (W6 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the TensorCores
    terminates, nothing faulting, and every final state has each unscoped buffer at what the segments leave in it (`W7`) and every
    semaphore counter of the machine at zero: the kit's launch over the segments, the last thread state read against the final
    state (`pointsTo_read_all`); the kit shows every counter at zero except the TensorCores' unscoped ones, of which there are none. -/
theorem ends : θ_run defs (onTc (τ := τ) (main (F := F))) ⟨m, fun _ => 0, ρ⟩ (fun r => (∀ c : Dev nD, ∀ b ∈ Pipeline.ucRefs τ sig,
      r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- THE FRAME: `Cert.quiescent_KernelIdeal`'s statement (Defs.lean) at any `F`: the run, read at the argument arrays. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run (defs (F := F)) _ _).mono (fun r h => ⟨fun c =>
      ⟨(h.1 c _ (mem_uc main_arg0 (by decide))).trans (W7_main_arg0 m ρ c),
       (h.1 c _ (mem_uc main_arg1 (by decide))).trans (W7_main_arg1 m ρ c),
       (h.1 c _ (mem_uc main_arg2 (by decide))).trans (W7_main_arg2 m ρ c),
       (h.1 c _ (mem_uc main_arg3 (by decide))).trans (W7_main_arg3 m ρ c)⟩, h.2⟩) (ends m ρ)

end Cert.KernelIdeal.Layer

end
-- ==== Proof.Ref.Ssa.lean ====
/-
  A straight line of tensor operations in which every buffer is written once and before it is read.
  Such a line is a system of equations: at the end each written buffer holds its operation's value of
  what the operands hold at the end. `Line p` carries the operations of a program `p`; `chk` is the test
  (references numbered upwards) and `eqs_after` reads the equations off it.
-/
module

public import Idealize.ShloMosaic.Lib.StableHlo.Run

@[expose] public section

noncomputable section

namespace Cert.ReferenceIdeal.Layer

open Idealize.ShloMosaic Idealize.ShloMosaic.StableHlo Idealize.SL.Sem

variable {nD : Nat} {τ : Topo} {sig : RefSig} {Val : EltTy → Type} {Λ : Labels}

/-- A tensor value's buffer: on the device and not scoped. -/
abbrev OnDev (x : Ref sig .tc) : Prop := x.space ≠ .host ∧ (Proc.devRef (τ := τ) .tc x : DevRef τ sig).isScoped = false

/-- One operation: the buffer it writes, the ones it reads, and the value written as a function of them. -/
structure Step (τ : Topo) (sig : RefSig) (Val : EltTy → Type) where
  op : HloOp τ sig Val
  dst : Ref sig .tc
  srcs : List (Ref sig .tc)
  val : Valuation τ sig Val → dst.ty.Contents Val
  sub : op.bufs ⊆ tcRefs τ sig
  fresh : op.fresh = ∅
  writes : op.writes = {Proc.devRef .tc dst}
  result : ∀ V, op.result V (Proc.devRef .tc dst) = val V
  congr : ∀ V V' : Valuation τ sig Val, (∀ r ∈ srcs, V (Proc.devRef .tc r) = V' (Proc.devRef .tc r)) → val V = val V'

namespace Step

variable {T Ta Tb : BufTy}

/-- A constant. -/
def nullary (y : Ref sig .tc) (v : y.ty.Contents Val) (hy : OnDev (τ := τ) y) : Step τ sig Val where
  op := StableHlo.nullary y v hy
  dst := y
  srcs := []
  val _ := v
  sub := nullary_bufs_sub y v hy
  fresh := rfl
  writes := nullary_writes y v hy
  result V := nullary_result y v hy V
  congr _ _ _ := rfl

/-- One operand. -/
def unary (x y : Ref sig .tc) (f : x.ty.Contents Val → y.ty.Contents Val) (hx : OnDev (τ := τ) x) (hy : OnDev (τ := τ) y) : Step τ sig Val where
  op := StableHlo.unary x y f hx hy
  dst := y
  srcs := [x]
  val V := f (V (Proc.devRef .tc x))
  sub := unary_bufs_sub x y f hx hy
  fresh := rfl
  writes := unary_writes x y f hx hy
  result V := unary_result x y f hx hy V
  congr V V' h := congrArg f (h x List.mem_cons_self)

/-- Two operands. -/
def binary (a b y : Ref sig .tc) (f : a.ty.Contents Val → b.ty.Contents Val → y.ty.Contents Val) (ha : OnDev (τ := τ) a) (hb : OnDev (τ := τ) b)
    (hy : OnDev (τ := τ) y) :
    Step τ sig Val where
  op := StableHlo.binary a b y f ha hb hy
  dst := y
  srcs := [a, b]
  val V := f (V (Proc.devRef .tc a)) (V (Proc.devRef .tc b))
  sub := binary_bufs_sub a b y f ha hb hy
  fresh := rfl
  writes := binary_writes a b y f ha hb hy
  result V := binary_result a b y f ha hb hy V
  congr V V' h := congrArg₂ f (h a List.mem_cons_self) (h b (List.mem_cons_of_mem _ List.mem_cons_self))

/-- A change of shape. -/
def reshape (x y : Ref sig .tc) (he : x.ty.elt = y.ty.elt) (hn : x.ty.shape.ShapeCasts y.ty.shape) (hx : OnDev (τ := τ) x) (hy : OnDev (τ := τ) y) :
    Step τ sig Val where
  op := StableHlo.reshape x y he hn hx hy
  dst := y
  srcs := [x]
  val V := fun i => he ▸ shapeCast y.ty.shape (V (Proc.devRef .tc x)) hn i
  sub := reshape_bufs_sub x y he hn hx hy
  fresh := rfl
  writes := reshape_writes x y he hn hx hy
  result V := reshape_result x y he hn hx hy V
  congr V V' h := by rw [h x List.mem_cons_self]

/-- The four at typed references. -/
def tnullary (y : TRef sig T) (v : T.Contents Val) : Step τ sig Val := nullary y.ref (y.toBuf v) y.dev

def tunary (x : TRef sig Ta) (y : TRef sig T) (f : Ta.Contents Val → T.Contents Val) : Step τ sig Val :=
  unary x.ref y.ref (fun u => y.toBuf (f (x.ofBuf u))) x.dev y.dev

def tbinary (a : TRef sig Ta) (b : TRef sig Tb) (y : TRef sig T) (f : Ta.Contents Val → Tb.Contents Val → T.Contents Val) :
    Step τ sig Val :=
  binary a.ref b.ref y.ref (fun u v => y.toBuf (f (a.ofBuf u) (b.ofBuf v))) a.dev b.dev y.dev

def treshape (x : TRef sig Ta) (y : TRef sig T) (he : Ta.elt = T.elt) (hn : Ta.shape.ShapeCasts T.shape) : Step τ sig Val :=
  reshape x.ref y.ref (((congrArg BufTy.elt x.ty_eq).trans he).trans (congrArg BufTy.elt y.ty_eq).symm)
    (congrArg BufTy.shape x.ty_eq ▸ congrArg BufTy.shape y.ty_eq ▸ hn) x.dev y.dev

end Step

/-- The contents at `W` of a typed reference, at its type. -/
def get {T : BufTy} (W : Valuation τ sig Val) (x : TRef sig T) : T.Contents Val := x.ofBuf (W (Proc.devRef .tc x.ref))

/-- What every buffer written along the list holds, all read at `W`. -/
def Eqs (W : Valuation τ sig Val) : List (Step τ sig Val) → Prop
  | [] => True
  | s :: l => W (Proc.devRef .tc s.dst) = s.val W ∧ Eqs W l

section Read

variable {W : Valuation τ sig Val} {l : List (Step τ sig Val)} {T Ta Tb : BufTy}

theorem Eqs.tnullary {y : TRef sig T} {v : T.Contents Val} (h : Eqs W (.tnullary y v :: l)) : get W y = v ∧ Eqs W l :=
  ⟨(congrArg y.ofBuf h.1).trans (TRef.ofBuf_toBuf y _), h.2⟩

theorem Eqs.tunary {x : TRef sig Ta} {y : TRef sig T} {f : Ta.Contents Val → T.Contents Val} (h : Eqs W (.tunary x y f :: l)) :
    get W y = f (get W x) ∧ Eqs W l :=
  ⟨(congrArg y.ofBuf h.1).trans (TRef.ofBuf_toBuf y _), h.2⟩

theorem Eqs.tbinary {a : TRef sig Ta} {b : TRef sig Tb} {y : TRef sig T} {f : Ta.Contents Val → Tb.Contents Val → T.Contents Val}
    (h : Eqs W (.tbinary a b y f :: l)) : get W y = f (get W a) (get W b) ∧ Eqs W l :=
  ⟨(congrArg y.ofBuf h.1).trans (TRef.ofBuf_toBuf y _), h.2⟩

theorem Eqs.treshape {x : TRef sig Ta} {y : TRef sig T} {he : Ta.elt = T.elt} {hn : Ta.shape.ShapeCasts T.shape}
    (h : Eqs W (.treshape x y he hn :: l)) : (get W y = fun i => he ▸ shapeCast T.shape (get W x) hn i) ∧ Eqs W l := by
  refine ⟨?_, h.2⟩
  obtain ⟨x, rfl, hx, hx'⟩ := x
  obtain ⟨y, rfl, hy, hy'⟩ := y
  exact h.1

end Read

theorem eqs_append (W : Valuation τ sig Val) (l l' : List (Step τ sig Val)) (h : Eqs W (l ++ l')) : Eqs W l ∧ Eqs W l' := by
  induction l with
  | nil => exact ⟨trivial, h⟩
  | cons s l ih => exact ⟨⟨h.1, (ih h.2).1⟩, (ih h.2).2⟩

/-- Written buffers are numbered upwards from `n`, and each operand lies below what is written. -/
def chk : Nat → List (Step τ sig Val) → Bool
  | _, [] => true
  | n, s :: l => Nat.ble n s.dst.idx.val && (s.srcs.all fun r => Nat.blt r.idx.val s.dst.idx.val) && chk (s.dst.idx.val + 1) l

/-- A buffer numbered below everything written keeps its contents. -/
theorem after_below (l : List (Step τ sig Val)) (n : Nat) (V : Valuation τ sig Val) (h : chk n l = true) (r : Ref sig .tc)
    (hr : r.idx.val < n) : after (l.map Step.op) V (Proc.devRef .tc r) = V (Proc.devRef .tc r) := by
  induction l generalizing n V with
  | nil => rfl
  | cons s l ih =>
    simp only [chk, Bool.and_eq_true, Nat.ble_eq] at h
    rw [List.map_cons, after_cons, ih _ _ h.2 (by omega)]
    refine s.op.result_of_not_mem V ?_
    rw [s.writes, Finset.mem_singleton]
    refine devRef_ne_of_ne fun e => ?_
    subst e; omega

/-- The equations hold of what the line leaves. -/
theorem eqs_after (l : List (Step τ sig Val)) (n : Nat) (V : Valuation τ sig Val) (h : chk n l = true) :
    Eqs (after (l.map Step.op) V) l := by
  induction l generalizing n V with
  | nil => trivial
  | cons s l ih =>
    simp only [chk, Bool.and_eq_true, Nat.ble_eq, List.all_eq_true, Nat.blt_eq] at h
    refine ⟨?_, ih _ _ h.2⟩
    rw [List.map_cons, after_cons, after_below l _ _ h.2 _ (Nat.lt_succ_self _), s.result]
    refine s.congr _ _ fun r hr => ?_
    have hlt := h.1.2 r hr
    rw [after_below l _ _ h.2 r (by omega)]
    refine (s.op.result_of_not_mem V ?_).symm
    rw [s.writes, Finset.mem_singleton]
    refine devRef_ne_of_ne fun e => ?_
    subst e; omega

/-- The operations a program is, in order. -/
def Line (p : Prog (TpuEff nD τ sig Val Λ .tc) PUnit) : Type _ :=
  { l : List (Step τ sig Val) // p = seq (l.map Step.op) }

namespace Line

variable {k p q : Prog (TpuEff nD τ sig Val Λ .tc) PUnit}

/-- Nothing. -/
def nil : Line (Val := Val) (pure ⟨⟩ : Prog (TpuEff nD τ sig Val Λ .tc) PUnit) := ⟨[], rfl⟩

/-- One operation, then the rest. -/
def cons (s : Step τ sig Val) (L : Line k) : Line ((hlo rfl s.op fun _ => .ret (⟨⟩ : PUnit)) >>= fun _ => k) :=
  ⟨s :: L.1, by rw [List.map_cons, seq, ← L.2]⟩

/-- One program, then another. -/
def app (A : Line p) (B : Line q) : Line (p >>= fun _ => q) :=
  ⟨A.1 ++ B.1, by
    have hA := A.2; have hB := B.2
    rw [List.map_append, seq_append, ← hA, ← hB]⟩

def nullary (y : Ref sig .tc) (v : y.ty.Contents Val) (hy : OnDev (τ := τ) y) (L : Line k) :
    Line ((hlo rfl (StableHlo.nullary y v hy) fun _ => .ret (⟨⟩ : PUnit)) >>= fun _ => k) := cons (Step.nullary y v hy) L

def unary (x y : Ref sig .tc) (f : x.ty.Contents Val → y.ty.Contents Val) (hx : OnDev (τ := τ) x) (hy : OnDev (τ := τ) y) (L : Line k) :
    Line ((hlo rfl (StableHlo.unary x y f hx hy) fun _ => .ret (⟨⟩ : PUnit)) >>= fun _ => k) := cons (Step.unary x y f hx hy) L

def binary (a b y : Ref sig .tc) (f : a.ty.Contents Val → b.ty.Contents Val → y.ty.Contents Val) (ha : OnDev (τ := τ) a) (hb : OnDev (τ := τ) b)
    (hy : OnDev (τ := τ) y) (L : Line k) :
    Line ((hlo rfl (StableHlo.binary a b y f ha hb hy) fun _ => .ret (⟨⟩ : PUnit)) >>= fun _ => k) :=
  cons (Step.binary a b y f ha hb hy) L

def reshape (x y : Ref sig .tc) (he : x.ty.elt = y.ty.elt) (hn : x.ty.shape.ShapeCasts y.ty.shape) (hx : OnDev (τ := τ) x) (hy : OnDev (τ := τ) y) (L : Line k) :
    Line ((hlo rfl (StableHlo.reshape x y he hn hx hy) fun _ => .ret (⟨⟩ : PUnit)) >>= fun _ => k) :=
  cons (Step.reshape x y he hn hx hy) L

/-- The same at typed references, as a module-local function writes them. -/
def tnullary {T : BufTy} (y : TRef sig T) (v : T.Contents Val) (L : Line k) :
    Line ((hlo rfl (TRef.nullary y v) fun _ => .ret (⟨⟩ : PUnit)) >>= fun _ => k) := cons (Step.tnullary y v) L

def tunary {T U : BufTy} (x : TRef sig T) (y : TRef sig U) (f : T.Contents Val → U.Contents Val) (L : Line k) :
    Line ((hlo rfl (TRef.unary x y f) fun _ => .ret (⟨⟩ : PUnit)) >>= fun _ => k) := cons (Step.tunary x y f) L

def tbinary {S T U : BufTy} (a : TRef sig S) (b : TRef sig T) (y : TRef sig U)
    (f : S.Contents Val → T.Contents Val → U.Contents Val) (L : Line k) :
    Line ((hlo rfl (TRef.binary a b y f) fun _ => .ret (⟨⟩ : PUnit)) >>= fun _ => k) := cons (Step.tbinary a b y f) L

def treshape {T U : BufTy} (x : TRef sig T) (y : TRef sig U) (he : T.elt = U.elt) (hn : T.shape.ShapeCasts U.shape) (L : Line k) :
    Line ((hlo rfl (TRef.reshape x y he hn) fun _ => .ret (⟨⟩ : PUnit)) >>= fun _ => k) := cons (Step.treshape x y he hn) L

/-- A program that ends with an operation. -/
def last {op : HloOp τ sig Val} (L : Line ((hlo rfl op fun _ => .ret (⟨⟩ : PUnit)) >>= fun _ => (pure ⟨⟩ : Prog (TpuEff nD τ sig Val Λ .tc) PUnit))) :
    Line (hlo rfl op fun _ => (.ret (⟨⟩ : PUnit) : Prog (TpuEff nD τ sig Val Λ .tc) PUnit)) :=
  ⟨L.1, by have h := L.2; rw [← h]; rfl⟩

/-- The whole program is the line of its operations, each within the TensorCore's buffers and determining its result. -/
theorem bufs (L : Line p) : (L.1.map Step.op).Forall fun op => op.bufs ⊆ tcRefs τ sig :=
  List.forall_iff_forall_mem.mpr fun o ho => by obtain ⟨s, -, rfl⟩ := List.mem_map.mp ho; exact s.sub

theorem fresh (L : Line p) : ∀ op ∈ L.1.map Step.op, op.fresh = ∅ := fun o ho => by
  obtain ⟨s, -, rfl⟩ := List.mem_map.mp ho; exact s.fresh

end Line

end Cert.ReferenceIdeal.Layer

end
-- ==== Proof.Rand.lean ====
/-
  The counter generator both programs run: twenty rounds on a pair of 32-bit words, a key added
  before them and after each four, and the word of an element, the two halves' exclusive or.
-/
module

public import Idealize.ShloMosaic.PureOps
public import Idealize.ShloMosaic.PureOps.Ideal

@[expose] public section

namespace Cert.Rand

open Idealize.ShloMosaic

/-- One round: add, then rotate the second word left by `r` (right by `q`) and exclusive-or. -/
def rnd (r q : BitVec 32) (p : BitVec 32 × BitVec 32) : BitVec 32 × BitVec 32 :=
  (IntOp.addi p.1 p.2,
    IntOp.xori (IntOp.addi p.1 p.2) (IntOp.ori (IntOp.shli .vector p.2 r) (IntOp.shrui .vector p.2 q)))

/-- A key injection. -/
def inj (a b c : BitVec 32) (p : BitVec 32 × BitVec 32) : BitVec 32 × BitVec 32 :=
  (IntOp.addi p.1 a, IntOp.addi (IntOp.addi p.2 b) c)

/-- The odd groups of four rounds, -/
def four (p : BitVec 32 × BitVec 32) : BitVec 32 × BitVec 32 :=
  rnd 6#32 26#32 (rnd 26#32 6#32 (rnd 15#32 17#32 (rnd 13#32 19#32 p)))

/-- and the even ones. -/
def four' (p : BitVec 32 × BitVec 32) : BitVec 32 × BitVec 32 :=
  rnd 24#32 8#32 (rnd 16#32 16#32 (rnd 29#32 3#32 (rnd 17#32 15#32 p)))

/-- The third key word. -/
def key2 (k0 k1 : BitVec 32) : BitVec 32 := IntOp.xori (IntOp.xori k0 k1) 466688986#32

/-- The generator at a key, on a counter pair the key is already added to. -/
def run (k0 k1 : BitVec 32) (p : BitVec 32 × BitVec 32) : BitVec 32 × BitVec 32 :=
  inj (key2 k0 k1) k0 5#32 (four (inj k1 (key2 k0 k1) 4#32 (four' (inj k0 k1 3#32 (four (inj (key2 k0 k1) k0 2#32
    (four' (inj k1 (key2 k0 k1) 1#32 (four p)))))))))

/-- The generator at a key and a counter pair. -/
def tf (k0 k1 : BitVec 32) (p : BitVec 32 × BitVec 32) : BitVec 32 × BitVec 32 :=
  run k0 k1 (IntOp.addi p.1 k0, IntOp.addi p.2 k1)

/-- The word of the element at counter `n`. -/
def word (k0 k1 n : BitVec 32) : BitVec 32 := IntOp.xori (tf k0 k1 (0#32, n)).1 (tf k0 k1 (0#32, n)).2

end Cert.Rand
-- ==== Proof.Ref.Threefry.lean ====
/-
  The reference's generator, at its three shapes: what the buffers of a call hold in terms of the
  call's arguments, element by element.
-/
module

public import proofs.«01_k».proof.Proof.Ref.Ssa
public import proofs.«01_k».proof.Proof.Rand
public import proofs.«01_k».proof.ReferenceIdeal

@[expose] public section

noncomputable section

namespace Cert.ReferenceIdeal.Layer

open Idealize.ShloMosaic Idealize.ShloMosaic.StableHlo Idealize.SL.Sem Cert.ReferenceIdeal Cert.Rand
open Facts₀ Facts

/-- The only index of a scalar. -/
abbrev o_ : S_.Idx := fun a => a.elim0

theorem bc_scalar {α : Type} (S : Shape) (h : S_.BroadcastsInDim S ![]) (v : S_.Idx → α) (i : S.Idx) :
    broadcastInDim S ![] h v i = v o_ := by
  unfold broadcastInDim; exact congrArg v (funext fun a => a.elim0)

section Generic

variable {W : Valuation τ sig (Elt Ideal)} {l : List (Step τ sig (Elt Ideal))} {S : Shape}

theorem shl_host (x r : BitVec 32) (h : r.toNat < 32) : IntOp.shli .host x r = IntOp.shli .vector x r := by
  simp only [IntOp.shli, if_pos h]

theorem shr_host (x r : BitVec 32) (h : r.toNat < 32) : IntOp.shrui .host x r = IntOp.shrui .vector x r := by
  simp only [IntOp.shrui, if_pos h]

/-- The nine operations of a round. -/
theorem Eqs.round {x0 x1 y0 b1 s1 b2 s2 o y1 : TRef sig ⟨S, .i32⟩} {c1 c2 : TRef sig ⟨S_, .i32⟩} {r q : BitVec 32}
    {h1 h2 : S_.BroadcastsInDim S ![]}
    (h : Eqs W (.tbinary x0 x1 y0 addi :: .tnullary c1 (constantI S_ 32 r) :: .tunary c1 b1 (broadcastInDim S ![] h1) ::
      .tbinary x1 b1 s1 Host.shli :: .tnullary c2 (constantI S_ 32 q) :: .tunary c2 b2 (broadcastInDim S ![] h2) ::
      .tbinary x1 b2 s2 Host.shrui :: .tbinary s1 s2 o ori :: .tbinary y0 o y1 xori :: l))
    (hr : r.toNat < 32 := by decide) (hq : q.toNat < 32 := by decide) :
    (∀ i : S.Idx, (get W y0 i, get W y1 i) = rnd r q (get W x0 i, get W x1 i)) ∧ Eqs W l := by
  obtain ⟨e1, h⟩ := h.tbinary
  obtain ⟨e2, h⟩ := h.tnullary
  obtain ⟨e3, h⟩ := h.tunary
  obtain ⟨e4, h⟩ := h.tbinary
  obtain ⟨e5, h⟩ := h.tnullary
  obtain ⟨e6, h⟩ := h.tunary
  obtain ⟨e7, h⟩ := h.tbinary
  obtain ⟨e8, h⟩ := h.tbinary
  obtain ⟨e9, h⟩ := h.tbinary
  refine ⟨fun i => ?_, h⟩
  rw [e9, e8, e7, e6, e5, e4, e3, e2, e1]
  simp only [rnd, addi, xori, ori, Host.shli, Host.shrui, bc_scalar, constantI, shl_host _ _ hr, shr_host _ _ hq]

/-- The seven operations of a key injection. -/
theorem Eqs.inject {x0 x1 b0 y0 b1 z b2 y1 : TRef sig ⟨S, .i32⟩} {k0 k1 c : TRef sig ⟨S_, .i32⟩} {n : BitVec 32}
    {h0 h1 h2 : S_.BroadcastsInDim S ![]}
    (h : Eqs W (.tunary k0 b0 (broadcastInDim S ![] h0) :: .tbinary x0 b0 y0 addi :: .tunary k1 b1 (broadcastInDim S ![] h1) ::
      .tbinary x1 b1 z addi :: .tnullary c (constantI S_ 32 n) :: .tunary c b2 (broadcastInDim S ![] h2) ::
      .tbinary z b2 y1 addi :: l)) :
    (∀ i : S.Idx, (get W y0 i, get W y1 i) = inj (get W k0 o_) (get W k1 o_) n (get W x0 i, get W x1 i)) ∧ Eqs W l := by
  obtain ⟨e1, h⟩ := h.tunary
  obtain ⟨e2, h⟩ := h.tbinary
  obtain ⟨e3, h⟩ := h.tunary
  obtain ⟨e4, h⟩ := h.tbinary
  obtain ⟨e5, h⟩ := h.tnullary
  obtain ⟨e6, h⟩ := h.tunary
  obtain ⟨e7, h⟩ := h.tbinary
  refine ⟨fun i => ?_, h⟩
  rw [e7, e6, e5, e4, e3, e2, e1]
  simp only [inj, addi, bc_scalar, constantI]

/-- Four rounds of one kind, -/
theorem four_of {x y z u v : BitVec 32 × BitVec 32} (h1 : y = rnd 13#32 19#32 x) (h2 : z = rnd 15#32 17#32 y)
    (h3 : u = rnd 26#32 6#32 z) (h4 : v = rnd 6#32 26#32 u) : v = four x := by rw [h4, h3, h2, h1, four]

/-- and of the other. -/
theorem four'_of {x y z u v : BitVec 32 × BitVec 32} (h1 : y = rnd 17#32 15#32 x) (h2 : z = rnd 29#32 3#32 y)
    (h3 : u = rnd 16#32 16#32 z) (h4 : v = rnd 24#32 8#32 u) : v = four' x := by rw [h4, h3, h2, h1, four']

/-- The seven operations before the first round: the third key word, and the key added to the counter pair. -/
theorem Eqs.start {a2 a3 b0 y0 b1 y1 : TRef sig ⟨S, .i32⟩} {k0 k1 x c k2 : TRef sig ⟨S_, .i32⟩} {h0 h1 : S_.BroadcastsInDim S ![]}
    (h : Eqs W (.tbinary k0 k1 x xori :: .tnullary c (constantI S_ 32 466688986#32) :: .tbinary x c k2 xori ::
      .tunary k0 b0 (broadcastInDim S ![] h0) :: .tbinary a2 b0 y0 addi :: .tunary k1 b1 (broadcastInDim S ![] h1) ::
      .tbinary a3 b1 y1 addi :: l)) :
    get W k2 o_ = key2 (get W k0 o_) (get W k1 o_) ∧
    (∀ i : S.Idx, (get W y0 i, get W y1 i) = (IntOp.addi (get W a2 i) (get W k0 o_), IntOp.addi (get W a3 i) (get W k1 o_)))
      ∧ Eqs W l := by
  obtain ⟨e1, h⟩ := h.tbinary
  obtain ⟨e2, h⟩ := h.tnullary
  obtain ⟨e3, h⟩ := h.tbinary
  obtain ⟨e4, h⟩ := h.tunary
  obtain ⟨e5, h⟩ := h.tbinary
  obtain ⟨e6, h⟩ := h.tunary
  obtain ⟨e7, h⟩ := h.tbinary
  refine ⟨?_, fun i => ?_, h⟩
  · rw [e3, e2, e1]; rfl
  · rw [e7, e6, e5, e4]
    simp only [addi, bc_scalar]

end Generic

variable [hF : Facts]

/-- The operations of the generator at the shape of a key split, -/
def tfLine (a0 a1 : TRef sig ⟨S_, .i32⟩) (a2 a3 : TRef sig ⟨S2, .i32⟩) (φ : fn_threefry2x32.Bufs) :
    Line (fn_threefry2x32.body (F := Ideal) a0 a1 a2 a3 φ) := by
  unfold fn_threefry2x32.body
  refine Line.app ?_ (Line.app ?_ (Line.app ?_ ?_))
  on_goal 1 => unfold fn_threefry2x32.body_part0
  on_goal 2 => unfold fn_threefry2x32.body_part1
  on_goal 3 => unfold fn_threefry2x32.body_part2
  on_goal 4 => unfold fn_threefry2x32.body_part3
  all_goals repeat' first
    | with_reducible refine Line.tbinary _ _ _ _ ?_
    | with_reducible refine Line.tnullary _ _ ?_
    | with_reducible refine Line.tunary _ _ _ ?_
    | with_reducible refine Line.treshape _ _ _ _ ?_
    | with_reducible refine Line.last ?_
    | with_reducible exact Line.nil

theorem tf_spec (W : Valuation τ sig (Elt Ideal)) (a0 a1 : TRef sig ⟨S_, .i32⟩) (a2 a3 : TRef sig ⟨S2, .i32⟩)
    (φ : fn_threefry2x32.Bufs) (h : Eqs W (tfLine a0 a1 a2 a3 φ).1) (i : S2.Idx) :
    (get W φ.v171 i, get W φ.v175 i) = tf (get W a0 o_) (get W a1 o_) (get W a2 i, get W a3 i) := by
  obtain ⟨k2, s, h⟩ := h.start
  obtain ⟨r1, h⟩ := h.round
  obtain ⟨r2, h⟩ := h.round
  obtain ⟨r3, h⟩ := h.round
  obtain ⟨r4, h⟩ := h.round
  obtain ⟨j1, h⟩ := h.inject
  obtain ⟨r5, h⟩ := h.round
  obtain ⟨r6, h⟩ := h.round
  obtain ⟨r7, h⟩ := h.round
  obtain ⟨r8, h⟩ := h.round
  obtain ⟨j2, h⟩ := h.inject
  obtain ⟨r9, h⟩ := h.round
  obtain ⟨r10, h⟩ := h.round
  obtain ⟨r11, h⟩ := h.round
  obtain ⟨r12, h⟩ := h.round
  obtain ⟨j3, h⟩ := h.inject
  obtain ⟨r13, h⟩ := h.round
  obtain ⟨r14, h⟩ := h.round
  obtain ⟨r15, h⟩ := h.round
  obtain ⟨r16, h⟩ := h.round
  obtain ⟨j4, h⟩ := h.inject
  obtain ⟨r17, h⟩ := h.round
  obtain ⟨r18, h⟩ := h.round
  obtain ⟨r19, h⟩ := h.round
  obtain ⟨r20, h⟩ := h.round
  obtain ⟨j5, -⟩ := h.inject
  rw [j5 i, four_of (r17 i) (r18 i) (r19 i) (r20 i), j4 i, four'_of (r13 i) (r14 i) (r15 i) (r16 i), j3 i,
    four_of (r9 i) (r10 i) (r11 i) (r12 i), j2 i, four'_of (r5 i) (r6 i) (r7 i) (r8 i), j1 i,
    four_of (r1 i) (r2 i) (r3 i) (r4 i), s i, k2]
  rfl

/-- at the shape of the fading coefficients, -/
def tfLine1 (a0 a1 : TRef sig ⟨S_, .i32⟩) (a2 a3 : TRef sig ⟨S4096x4096, .i32⟩) (φ : fn_threefry2x32_1.Bufs) :
    Line (fn_threefry2x32_1.body (F := Ideal) a0 a1 a2 a3 φ) := by
  unfold fn_threefry2x32_1.body
  refine Line.app ?_ (Line.app ?_ (Line.app ?_ ?_))
  on_goal 1 => unfold fn_threefry2x32_1.body_part0
  on_goal 2 => unfold fn_threefry2x32_1.body_part1
  on_goal 3 => unfold fn_threefry2x32_1.body_part2
  on_goal 4 => unfold fn_threefry2x32_1.body_part3
  all_goals repeat' first
    | with_reducible refine Line.tbinary _ _ _ _ ?_
    | with_reducible refine Line.tnullary _ _ ?_
    | with_reducible refine Line.tunary _ _ _ ?_
    | with_reducible refine Line.treshape _ _ _ _ ?_
    | with_reducible refine Line.last ?_
    | with_reducible exact Line.nil

theorem tf_spec1 (W : Valuation τ sig (Elt Ideal)) (a0 a1 : TRef sig ⟨S_, .i32⟩) (a2 a3 : TRef sig ⟨S4096x4096, .i32⟩)
    (φ : fn_threefry2x32_1.Bufs) (h : Eqs W (tfLine1 a0 a1 a2 a3 φ).1) (i : S4096x4096.Idx) :
    (get W φ.v171 i, get W φ.v175 i) = tf (get W a0 o_) (get W a1 o_) (get W a2 i, get W a3 i) := by
  obtain ⟨k2, s, h⟩ := h.start
  obtain ⟨r1, h⟩ := h.round
  obtain ⟨r2, h⟩ := h.round
  obtain ⟨r3, h⟩ := h.round
  obtain ⟨r4, h⟩ := h.round
  obtain ⟨j1, h⟩ := h.inject
  obtain ⟨r5, h⟩ := h.round
  obtain ⟨r6, h⟩ := h.round
  obtain ⟨r7, h⟩ := h.round
  obtain ⟨r8, h⟩ := h.round
  obtain ⟨j2, h⟩ := h.inject
  obtain ⟨r9, h⟩ := h.round
  obtain ⟨r10, h⟩ := h.round
  obtain ⟨r11, h⟩ := h.round
  obtain ⟨r12, h⟩ := h.round
  obtain ⟨j3, h⟩ := h.inject
  obtain ⟨r13, h⟩ := h.round
  obtain ⟨r14, h⟩ := h.round
  obtain ⟨r15, h⟩ := h.round
  obtain ⟨r16, h⟩ := h.round
  obtain ⟨j4, h⟩ := h.inject
  obtain ⟨r17, h⟩ := h.round
  obtain ⟨r18, h⟩ := h.round
  obtain ⟨r19, h⟩ := h.round
  obtain ⟨r20, h⟩ := h.round
  obtain ⟨j5, -⟩ := h.inject
  rw [j5 i, four_of (r17 i) (r18 i) (r19 i) (r20 i), j4 i, four'_of (r13 i) (r14 i) (r15 i) (r16 i), j3 i,
    four_of (r9 i) (r10 i) (r11 i) (r12 i), j2 i, four'_of (r5 i) (r6 i) (r7 i) (r8 i), j1 i,
    four_of (r1 i) (r2 i) (r3 i) (r4 i), s i, k2]
  rfl

/-- and at the shape of the noise. -/
def tfLine3 (a0 a1 : TRef sig ⟨S_, .i32⟩) (a2 a3 : TRef sig ⟨S4096x128, .i32⟩) (φ : fn_threefry2x32_3.Bufs) :
    Line (fn_threefry2x32_3.body (F := Ideal) a0 a1 a2 a3 φ) := by
  unfold fn_threefry2x32_3.body
  refine Line.app ?_ (Line.app ?_ (Line.app ?_ ?_))
  on_goal 1 => unfold fn_threefry2x32_3.body_part0
  on_goal 2 => unfold fn_threefry2x32_3.body_part1
  on_goal 3 => unfold fn_threefry2x32_3.body_part2
  on_goal 4 => unfold fn_threefry2x32_3.body_part3
  all_goals repeat' first
    | with_reducible refine Line.tbinary _ _ _ _ ?_
    | with_reducible refine Line.tnullary _ _ ?_
    | with_reducible refine Line.tunary _ _ _ ?_
    | with_reducible refine Line.treshape _ _ _ _ ?_
    | with_reducible refine Line.last ?_
    | with_reducible exact Line.nil

theorem tf_spec3 (W : Valuation τ sig (Elt Ideal)) (a0 a1 : TRef sig ⟨S_, .i32⟩) (a2 a3 : TRef sig ⟨S4096x128, .i32⟩)
    (φ : fn_threefry2x32_3.Bufs) (h : Eqs W (tfLine3 a0 a1 a2 a3 φ).1) (i : S4096x128.Idx) :
    (get W φ.v171 i, get W φ.v175 i) = tf (get W a0 o_) (get W a1 o_) (get W a2 i, get W a3 i) := by
  obtain ⟨k2, s, h⟩ := h.start
  obtain ⟨r1, h⟩ := h.round
  obtain ⟨r2, h⟩ := h.round
  obtain ⟨r3, h⟩ := h.round
  obtain ⟨r4, h⟩ := h.round
  obtain ⟨j1, h⟩ := h.inject
  obtain ⟨r5, h⟩ := h.round
  obtain ⟨r6, h⟩ := h.round
  obtain ⟨r7, h⟩ := h.round
  obtain ⟨r8, h⟩ := h.round
  obtain ⟨j2, h⟩ := h.inject
  obtain ⟨r9, h⟩ := h.round
  obtain ⟨r10, h⟩ := h.round
  obtain ⟨r11, h⟩ := h.round
  obtain ⟨r12, h⟩ := h.round
  obtain ⟨j3, h⟩ := h.inject
  obtain ⟨r13, h⟩ := h.round
  obtain ⟨r14, h⟩ := h.round
  obtain ⟨r15, h⟩ := h.round
  obtain ⟨r16, h⟩ := h.round
  obtain ⟨j4, h⟩ := h.inject
  obtain ⟨r17, h⟩ := h.round
  obtain ⟨r18, h⟩ := h.round
  obtain ⟨r19, h⟩ := h.round
  obtain ⟨r20, h⟩ := h.round
  obtain ⟨j5, -⟩ := h.inject
  rw [j5 i, four_of (r17 i) (r18 i) (r19 i) (r20 i), j4 i, four'_of (r13 i) (r14 i) (r15 i) (r16 i), j3 i,
    four_of (r9 i) (r10 i) (r11 i) (r12 i), j2 i, four'_of (r5 i) (r6 i) (r7 i) (r8 i), j1 i,
    four_of (r1 i) (r2 i) (r3 i) (r4 i), s i, k2]
  rfl

end Cert.ReferenceIdeal.Layer

end
-- ==== Proof.Draw.lean ====
/-
  What both programs compute, element by element, as extended reals: a uniform number from a word, a
  normal number from a uniform one, the fading of a link, and one layer from these.
-/
module

public import proofs.«01_k».proof.Proof.Rand

@[expose] public section

noncomputable section

namespace Cert.Rand

open Idealize.ShloMosaic

/-- The least number of the uniform distribution. -/
def low : EReal := Ideal.ofBits .f32 0xBF7FFFFF#32

/-- The uniform number from `lo` to `hi` of a word: its upper 23 bits are a number from 1 to 2. -/
def between (lo hi : EReal) (w : BitVec 32) : EReal :=
  max lo ((Ideal.ofBits .f32 (IntOp.ori (IntOp.shrui .vector w 9#32) 1065353216#32) - Ideal.ofBits .f32 0x3F800000#32) * (hi - lo) + lo)

def unif (w : BitVec 32) : EReal := between low (Ideal.ofBits .f32 0x3F800000#32) w

/-- A polynomial of degree seven by Horner's rule, the leading coefficient first. -/
def horner (q : Fin 8 → EReal) (v : EReal) : EReal :=
  ((((((q 0 * v + q 1) * v + q 2) * v + q 3) * v + q 4) * v + q 5) * v + q 6) * v + q 7

/-- The coefficients of the inverse error function's polynomial. -/
def coef : Fin 8 → BitVec 32 :=
  ![0x38B67607#32, 0xBB1D849A#32, 0x3CD1B351#32, 0xBE052989#32, 0x3E95A4B1#32, 0xBD31A4C2#32, 0x3DE82330#32, 0x3F5F02EA#32]

/-- The inverse error function as both programs have it. -/
def erfInv (u : EReal) : EReal :=
  u * horner (fun k => Ideal.ofBits .f32 (coef k)) (Ideal.sqrt (-(Ideal.log1p (-(u * u)))))

/-- The inverse error function of the uniform number at counter `n`. -/
def draw (k0 k1 n : BitVec 32) : EReal := erfInv (unif (word k0 k1 n))

end Cert.Rand

end
-- ==== Proof.Ref.Pieces.lean ====
/-
  Stretches of the reference's operations, at any shape: a key's two words, an element's counter, the
  uniform number of a word, and a polynomial by Horner's rule.
-/
module

public import proofs.«01_k».proof.Proof.Ref.Threefry
public import proofs.«01_k».proof.Proof.Draw
public import Idealize.ShloMosaic.Lib.Pointwise

@[expose] public section

noncomputable section

namespace Cert.ReferenceIdeal.Layer

open Idealize.ShloMosaic Idealize.ShloMosaic.StableHlo Idealize.SL.Sem Cert.ReferenceIdeal Cert.Rand
open Facts₀ Facts

variable {W : Valuation τ sig (Elt Ideal)} {l : List (Step τ sig (Elt Ideal))} {S : Shape}

/-- The equations of two programs in sequence. -/
theorem Eqs.app {p q : Prog (TpuEff nD τ sig (Elt Ideal) (Pipeline.Sig Λ₀ (Fin 0) fun p => (pcfgs (F := Ideal) p).Adm) .tc) PUnit}
    {A : Line (Val := Elt Ideal) p} {B : Line (Val := Elt Ideal) q} (h : Eqs W (Line.app A B).1) : Eqs W A.1 ∧ Eqs W B.1 :=
  eqs_append W _ _ h

/-- An element of a vector, as a slice of one element reshaped to a scalar. -/
theorem pick {α : Type} {n : Nat} (x : (⟨1, ![n]⟩ : Shape).Idx → α) (p : Nat) (hp : p < n) (h : (⟨1, ![n]⟩ : Shape).Slices ![p] S1)
    (h' : S1.ShapeCasts S_) (o : S_.Idx) : shapeCast S_ (extractStridedSlice S1 ![p] x h) h' o = x (ix1 ⟨p, hp⟩) := by
  unfold shapeCast extractStridedSlice
  refine congrArg x (funext fun a => Fin.ext ?_)
  match a with
  | ⟨0, _⟩ =>
    have h1 : (Shape.reshapeEquiv h' o (0 : Fin 1)).val < 1 := (Shape.reshapeEquiv h' o (0 : Fin 1)).isLt
    show p + (Shape.reshapeEquiv h' o (0 : Fin 1)).val = p
    omega

/-- The two words of a key. -/
theorem Eqs.keys {a0 : TRef sig ⟨S2, .i32⟩} {v2 v4 : TRef sig ⟨S1, .i32⟩} {v3 v5 : TRef sig ⟨S_, .i32⟩}
    {h1 : S2.Slices ![0] S1} {h2 h4 : S1.ShapeCasts S_} {h3 : S2.Slices ![1] S1} {e e' : EltTy.i32 = EltTy.i32}
    (h : Eqs W (.tunary a0 v2 (extractStridedSlice S1 ![0] · h1) :: .treshape v2 v3 e h2 ::
      .tunary a0 v4 (extractStridedSlice S1 ![1] · h3) :: .treshape v4 v5 e' h4 :: l)) :
    (get W v3 o_ = get W a0 (ix1 0) ∧ get W v5 o_ = get W a0 (ix1 1)) ∧ Eqs W l := by
  obtain ⟨e1, h⟩ := h.tunary
  obtain ⟨e2, h⟩ := h.treshape
  obtain ⟨e3, h⟩ := h.tunary
  obtain ⟨e4, h⟩ := h.treshape
  refine ⟨⟨?_, ?_⟩, h⟩
  · rw [e2, e1]; exact pick (get W a0) 0 (by decide) h1 h2 o_
  · rw [e4, e3]; exact pick (get W a0) 1 (by decide) h3 h4 o_

theorem shr_host64 (x : BitVec 64) : IntOp.shrui .host x 32#64 = x >>> 32 := by
  simp [IntOp.shrui]

/-- The counter of an element of a matrix is its place in row-major order. -/
theorem Eqs.counter {m n : Nat} {v6 v7 v8 v9 v10 v11 v12 v13 v14 : TRef sig ⟨⟨2, ![m, n]⟩, .i64⟩}
    {v15 v16 : TRef sig ⟨⟨2, ![m, n]⟩, .i32⟩} {c c0 c1 : TRef sig ⟨S_, .i64⟩} {N : BitVec 64}
    {b1 b2 b3 : S_.BroadcastsInDim (⟨2, ![m, n]⟩ : Shape) ![]} {p q : 32 < 64}
    (h : Eqs W (.tnullary v6 (iotaInDim ⟨2, ![m, n]⟩ 64 0) :: .tnullary v7 (iotaInDim ⟨2, ![m, n]⟩ 64 1) ::
      .tnullary c (constantI S_ 64 N) :: .tunary c v8 (broadcastInDim ⟨2, ![m, n]⟩ ![] b1) :: .tbinary v8 v6 v9 muli ::
      .tnullary c0 (constantI S_ 64 1#64) :: .tunary c0 v10 (broadcastInDim ⟨2, ![m, n]⟩ ![] b2) :: .tbinary v10 v7 v11 muli ::
      .tbinary v9 v11 v12 addi :: .tnullary c1 (constantI S_ 64 32#64) :: .tunary c1 v13 (broadcastInDim ⟨2, ![m, n]⟩ ![] b3) ::
      .tbinary v12 v13 v14 Host.shrui :: .tunary v12 v15 (trunci 32 · p) :: .tunary v14 v16 (trunci 32 · q) :: l))
    (hN : N.toNat = n) (hm : m ≤ 4096) (hn : n ≤ 4096) :
    (∀ (r : Fin m) (k : Fin n), get W v16 (ix2 r k) = 0#32 ∧ get W v15 (ix2 r k) = BitVec.ofNat 32 (n * r.val + k.val)) ∧ Eqs W l := by
  obtain ⟨e1, h⟩ := h.tnullary
  obtain ⟨e2, h⟩ := h.tnullary
  obtain ⟨e3, h⟩ := h.tnullary
  obtain ⟨e4, h⟩ := h.tunary
  obtain ⟨e5, h⟩ := h.tbinary
  obtain ⟨e6, h⟩ := h.tnullary
  obtain ⟨e7, h⟩ := h.tunary
  obtain ⟨e8, h⟩ := h.tbinary
  obtain ⟨e9, h⟩ := h.tbinary
  obtain ⟨e10, h⟩ := h.tnullary
  obtain ⟨e11, h⟩ := h.tunary
  obtain ⟨e12, h⟩ := h.tbinary
  obtain ⟨e13, h⟩ := h.tunary
  obtain ⟨e14, h⟩ := h.tunary
  refine ⟨fun r k => ?_, h⟩
  have hr := r.isLt
  have hk := k.isLt
  have ht : n * r.val ≤ 4096 * 4095 := Nat.mul_le_mul hn (by omega)
  have h12 : (get W v12 (ix2 r k)).toNat = n * r.val + k.val := by
    rw [e9, e8, e7, e6, e5, e4, e3, e2, e1]
    show (N * BitVec.ofNat 64 r.val + 1#64 * BitVec.ofNat 64 k.val).toNat = _
    rw [BitVec.toNat_add, BitVec.toNat_mul, BitVec.toNat_mul, hN, BitVec.toNat_ofNat,
      Nat.mod_eq_of_lt (show r.val < 2 ^ 64 by omega)]
    generalize n * r.val = t at *
    simp only [BitVec.toNat_ofNat]
    omega
  constructor
  · rw [e14, e12, e11, e10]
    show (IntOp.shrui .host (get W v12 (ix2 r k)) 32#64).setWidth 32 = 0#32
    rw [shr_host64]
    apply BitVec.eq_of_toNat_eq
    rw [BitVec.toNat_setWidth, BitVec.toNat_ushiftRight, h12, Nat.shiftRight_eq_div_pow]
    generalize n * r.val = t at *
    simp only [BitVec.toNat_ofNat]
    omega
  · rw [e13]
    show (get W v12 (ix2 r k)).setWidth 32 = _
    apply BitVec.eq_of_toNat_eq
    rw [BitVec.toNat_setWidth, h12, BitVec.toNat_ofNat]

/-- The uniform numbers of the generator's words. -/
theorem Eqs.uniform {a b v18 v19 v20 v21 v22 : TRef sig ⟨S, .i32⟩} {v23 v24 v25 v27 v28 v29 v30 v31 v32 : TRef sig ⟨S, .f32⟩}
    {v0 v1 v26 : TRef sig ⟨S1x1, .f32⟩} {c2 c3 : TRef sig ⟨S_, .i32⟩} {c4 : TRef sig ⟨S_, .f32⟩}
    {b1 b2 b3 : S_.BroadcastsInDim S ![]} {d : Fin 2 → Fin S.rank} {d1 d2 d3 : S1x1.BroadcastsInDim S d}
    (h : Eqs W (.tbinary a b v18 xori :: .tnullary c2 (constantI S_ 32 9#32) :: .tunary c2 v19 (broadcastInDim S ![] b1) ::
      .tbinary v18 v19 v20 Host.shrui :: .tnullary c3 (constantI S_ 32 1065353216#32) :: .tunary c3 v21 (broadcastInDim S ![] b2) ::
      .tbinary v20 v21 v22 ori :: .tunary v22 v23 (bitcastToFloat (F := Ideal) (s := S) .f32) :: .tnullary c4 (constant (F := Ideal) S_ .f32 0x3F800000#32) ::
      .tunary c4 v24 (broadcastInDim S ![] b3) :: .tbinary v23 v24 v25 (subf (F := Ideal) (s := S) (φ := .f32)) :: .tbinary v1 v0 v26 (subf (F := Ideal) (s := S1x1) (φ := .f32)) ::
      .tunary v26 v27 (broadcastInDim S d d1) :: .tbinary v25 v27 v28 (mulf (F := Ideal) (s := S) (φ := .f32)) :: .tunary v0 v29 (broadcastInDim S d d2) ::
      .tbinary v28 v29 v30 (addf (F := Ideal) (s := S) (φ := .f32)) :: .tunary v0 v31 (broadcastInDim S d d3) :: .tbinary v31 v30 v32 (maximumf (F := Ideal) (s := S) (φ := .f32)) :: l))
    (lo hi : EReal) (h0 : ∀ j, get W v0 j = lo) (h1 : ∀ j, get W v1 j = hi) :
    (∀ i, get W v32 i = between lo hi (IntOp.xori (get W a i) (get W b i))) ∧ Eqs W l := by
  obtain ⟨e1, h⟩ := h.tbinary
  obtain ⟨e2, h⟩ := h.tnullary
  obtain ⟨e3, h⟩ := h.tunary
  obtain ⟨e4, h⟩ := h.tbinary
  obtain ⟨e5, h⟩ := h.tnullary
  obtain ⟨e6, h⟩ := h.tunary
  obtain ⟨e7, h⟩ := h.tbinary
  obtain ⟨e8, h⟩ := h.tunary
  obtain ⟨e9, h⟩ := h.tnullary
  obtain ⟨e10, h⟩ := h.tunary
  obtain ⟨e11, h⟩ := h.tbinary
  obtain ⟨e12, h⟩ := h.tbinary
  obtain ⟨e13, h⟩ := h.tunary
  obtain ⟨e14, h⟩ := h.tbinary
  obtain ⟨e15, h⟩ := h.tunary
  obtain ⟨e16, h⟩ := h.tbinary
  obtain ⟨e17, h⟩ := h.tunary
  obtain ⟨e18, h⟩ := h.tbinary
  refine ⟨fun i => ?_, h⟩
  have f0 : ∀ (dd : S1x1.BroadcastsInDim S d), broadcastInDim S d dd (get W v0) i = lo := fun dd => h0 _
  have f1 : ∀ (dd : S1x1.BroadcastsInDim S d), broadcastInDim S d dd (get W v26) i = hi - lo := fun dd => by
    rw [e12]; exact congrArg₂ (fun x y : EReal => x - y) (h1 _) (h0 _)
  have e23 : get W v23 i = Ideal.ofBits .f32 (IntOp.ori (IntOp.shrui .vector (IntOp.xori (get W a i) (get W b i)) 9#32) 1065353216#32) := by
    rw [e8, e7, e6, e5, e4, e3, e2, e1]
    show Ideal.ofBits .f32 (IntOp.ori (IntOp.shrui .host (IntOp.xori (get W a i) (get W b i)) 9#32) 1065353216#32) = _
    rw [shr_host _ _ (by decide)]
  have e25 : get W v25 i = Ideal.ofBits .f32 (IntOp.ori (IntOp.shrui .vector (IntOp.xori (get W a i) (get W b i)) 9#32) 1065353216#32)
      - Ideal.ofBits .f32 0x3F800000#32 := by
    rw [e11, e10, e9]; exact congrArg (fun x : EReal => x - Ideal.ofBits .f32 0x3F800000#32) e23
  rw [e18, e17, e16, e15, e14, e13]
  show max (broadcastInDim S d d3 (get W v0) i) (get W v25 i * broadcastInDim S d d1 (get W v26) i + broadcastInDim S d d2 (get W v0) i) = _
  exact congrArg₂ max (f0 d3) (congrArg₂ (· + ·) (congrArg₂ (· * ·) e25 (f1 d1)) (f0 d2))

/-- A polynomial with the coefficients of a vector. -/
theorem Eqs.poly {a0 : TRef sig ⟨S8, .f32⟩} {s0 s1 s2 s3 s4 s5 s6 s7 : TRef sig ⟨S1, .f32⟩}
    {t0 t1 t2 t3 t4 t5 t6 t7 : TRef sig ⟨S_, .f32⟩} {x b0 b1 b2 b3 b4 b5 b6 b7 m0 m1 m2 m3 m4 m5 m6 y1 y2 y3 y4 y5 y6 y7 : TRef sig ⟨S, .f32⟩}
    {g0 : S8.Slices ![0] S1} {g1 : S8.Slices ![1] S1} {g2 : S8.Slices ![2] S1} {g3 : S8.Slices ![3] S1} {g4 : S8.Slices ![4] S1}
    {g5 : S8.Slices ![5] S1} {g6 : S8.Slices ![6] S1} {g7 : S8.Slices ![7] S1} {q0 q1 q2 q3 q4 q5 q6 q7 : S1.ShapeCasts S_}
    {z0 z1 z2 z3 z4 z5 z6 z7 : EltTy.f32 = EltTy.f32} {w0 w1 w2 w3 w4 w5 w6 w7 : S_.BroadcastsInDim S ![]}
    (h : Eqs W (.tunary a0 s7 (extractStridedSlice S1 ![7] · g7) :: .treshape s7 t7 z7 q7 ::
      .tunary a0 s6 (extractStridedSlice S1 ![6] · g6) :: .treshape s6 t6 z6 q6 ::
      .tunary a0 s5 (extractStridedSlice S1 ![5] · g5) :: .treshape s5 t5 z5 q5 ::
      .tunary a0 s4 (extractStridedSlice S1 ![4] · g4) :: .treshape s4 t4 z4 q4 ::
      .tunary a0 s3 (extractStridedSlice S1 ![3] · g3) :: .treshape s3 t3 z3 q3 ::
      .tunary a0 s2 (extractStridedSlice S1 ![2] · g2) :: .treshape s2 t2 z2 q2 ::
      .tunary a0 s1 (extractStridedSlice S1 ![1] · g1) :: .treshape s1 t1 z1 q1 ::
      .tunary a0 s0 (extractStridedSlice S1 ![0] · g0) :: .treshape s0 t0 z0 q0 ::
      .tunary t0 b0 (broadcastInDim S ![] w0) :: .tbinary b0 x m0 (mulf (F := Ideal) (s := S) (φ := .f32)) :: .tunary t1 b1 (broadcastInDim S ![] w1) :: .tbinary m0 b1 y1 (addf (F := Ideal) (s := S) (φ := .f32)) ::
      .tbinary y1 x m1 (mulf (F := Ideal) (s := S) (φ := .f32)) :: .tunary t2 b2 (broadcastInDim S ![] w2) :: .tbinary m1 b2 y2 (addf (F := Ideal) (s := S) (φ := .f32)) ::
      .tbinary y2 x m2 (mulf (F := Ideal) (s := S) (φ := .f32)) :: .tunary t3 b3 (broadcastInDim S ![] w3) :: .tbinary m2 b3 y3 (addf (F := Ideal) (s := S) (φ := .f32)) ::
      .tbinary y3 x m3 (mulf (F := Ideal) (s := S) (φ := .f32)) :: .tunary t4 b4 (broadcastInDim S ![] w4) :: .tbinary m3 b4 y4 (addf (F := Ideal) (s := S) (φ := .f32)) ::
      .tbinary y4 x m4 (mulf (F := Ideal) (s := S) (φ := .f32)) :: .tunary t5 b5 (broadcastInDim S ![] w5) :: .tbinary m4 b5 y5 (addf (F := Ideal) (s := S) (φ := .f32)) ::
      .tbinary y5 x m5 (mulf (F := Ideal) (s := S) (φ := .f32)) :: .tunary t6 b6 (broadcastInDim S ![] w6) :: .tbinary m5 b6 y6 (addf (F := Ideal) (s := S) (φ := .f32)) ::
      .tbinary y6 x m6 (mulf (F := Ideal) (s := S) (φ := .f32)) :: .tunary t7 b7 (broadcastInDim S ![] w7) :: .tbinary m6 b7 y7 (addf (F := Ideal) (s := S) (φ := .f32)) :: l)) (i : S.Idx) :
    get W y7 i = horner (fun k => get W a0 (ix1 k)) (get W x i) := by
  obtain ⟨e1, h⟩ := h.tunary
  obtain ⟨f7, h⟩ := h.treshape
  have k7 : get W t7 o_ = get W a0 (ix1 7) := by rw [f7, e1]; exact pick (get W a0) 7 (by decide) g7 q7 o_
  obtain ⟨e2, h⟩ := h.tunary
  obtain ⟨f6, h⟩ := h.treshape
  have k6 : get W t6 o_ = get W a0 (ix1 6) := by rw [f6, e2]; exact pick (get W a0) 6 (by decide) g6 q6 o_
  obtain ⟨e3, h⟩ := h.tunary
  obtain ⟨f5, h⟩ := h.treshape
  have k5 : get W t5 o_ = get W a0 (ix1 5) := by rw [f5, e3]; exact pick (get W a0) 5 (by decide) g5 q5 o_
  obtain ⟨e4, h⟩ := h.tunary
  obtain ⟨f4, h⟩ := h.treshape
  have k4 : get W t4 o_ = get W a0 (ix1 4) := by rw [f4, e4]; exact pick (get W a0) 4 (by decide) g4 q4 o_
  obtain ⟨e5, h⟩ := h.tunary
  obtain ⟨f3, h⟩ := h.treshape
  have k3 : get W t3 o_ = get W a0 (ix1 3) := by rw [f3, e5]; exact pick (get W a0) 3 (by decide) g3 q3 o_
  obtain ⟨e6, h⟩ := h.tunary
  obtain ⟨f2, h⟩ := h.treshape
  have k2 : get W t2 o_ = get W a0 (ix1 2) := by rw [f2, e6]; exact pick (get W a0) 2 (by decide) g2 q2 o_
  obtain ⟨e7, h⟩ := h.tunary
  obtain ⟨f1, h⟩ := h.treshape
  have k1 : get W t1 o_ = get W a0 (ix1 1) := by rw [f1, e7]; exact pick (get W a0) 1 (by decide) g1 q1 o_
  obtain ⟨e8, h⟩ := h.tunary
  obtain ⟨f0, h⟩ := h.treshape
  have k0 : get W t0 o_ = get W a0 (ix1 0) := by rw [f0, e8]; exact pick (get W a0) 0 (by decide) g0 q0 o_
  obtain ⟨c0, h⟩ := h.tunary
  obtain ⟨p0, h⟩ := h.tbinary
  obtain ⟨c1, h⟩ := h.tunary
  obtain ⟨r1, h⟩ := h.tbinary
  obtain ⟨p1, h⟩ := h.tbinary
  obtain ⟨c2, h⟩ := h.tunary
  obtain ⟨r2, h⟩ := h.tbinary
  obtain ⟨p2, h⟩ := h.tbinary
  obtain ⟨c3, h⟩ := h.tunary
  obtain ⟨r3, h⟩ := h.tbinary
  obtain ⟨p3, h⟩ := h.tbinary
  obtain ⟨c4, h⟩ := h.tunary
  obtain ⟨r4, h⟩ := h.tbinary
  obtain ⟨p4, h⟩ := h.tbinary
  obtain ⟨c5, h⟩ := h.tunary
  obtain ⟨r5, h⟩ := h.tbinary
  obtain ⟨p5, h⟩ := h.tbinary
  obtain ⟨c6, h⟩ := h.tunary
  obtain ⟨r6, h⟩ := h.tbinary
  obtain ⟨p6, h⟩ := h.tbinary
  obtain ⟨c7, h⟩ := h.tunary
  obtain ⟨r7, h⟩ := h.tbinary
  rw [r7, p6, r6, p5, r5, p4, r4, p3, r3, p2, r2, p1, r1, p0, c7, c6, c5, c4, c3, c2, c1, c0]
  simp only [addf, mulf, bc_scalar, k0, k1, k2, k3, k4, k5, k6, k7, Ideal.addf_def, Ideal.mulf_def, horner]

end Cert.ReferenceIdeal.Layer

end
-- ==== Proof.Ref.Functions.lean ====
/-
  The reference's functions: the operations of a call, and what its buffers hold in terms of the
  call's arguments.
-/
module

public import proofs.«01_k».proof.Proof.Ref.Pieces

@[expose] public section

noncomputable section

namespace Cert.ReferenceIdeal.Layer

open Idealize.ShloMosaic Idealize.ShloMosaic.StableHlo Idealize.SL.Sem Cert.ReferenceIdeal Cert.Rand
open Facts₀ Facts

/-- The counters of a key split, and the table of its two keys. -/
theorem Eqs.counter2 {W : Valuation τ sig (Elt Ideal)} {l : List (Step τ sig (Elt Ideal))} {v4 v5 v6 v7 v8 : TRef sig ⟨S2, .i64⟩}
    {v9 v10 : TRef sig ⟨S2, .i32⟩} {c c0 : TRef sig ⟨S_, .i64⟩} {b1 b2 : S_.BroadcastsInDim S2 ![]} {p q : 32 < 64}
    (h : Eqs W (.tnullary v4 (iotaInDim S2 64 0) :: .tnullary c (constantI S_ 64 1#64) :: .tunary c v5 (broadcastInDim S2 ![] b1) ::
      .tbinary v5 v4 v6 muli :: .tnullary c0 (constantI S_ 64 32#64) :: .tunary c0 v7 (broadcastInDim S2 ![] b2) ::
      .tbinary v6 v7 v8 Host.shrui :: .tunary v6 v9 (trunci 32 · p) :: .tunary v8 v10 (trunci 32 · q) :: l)) :
    (∀ r : Fin 2, get W v10 (ix1 r) = 0#32 ∧ get W v9 (ix1 r) = BitVec.ofNat 32 r.val) ∧ Eqs W l := by
  obtain ⟨e1, h⟩ := h.tnullary
  obtain ⟨e2, h⟩ := h.tnullary
  obtain ⟨e3, h⟩ := h.tunary
  obtain ⟨e4, h⟩ := h.tbinary
  obtain ⟨e5, h⟩ := h.tnullary
  obtain ⟨e6, h⟩ := h.tunary
  obtain ⟨e7, h⟩ := h.tbinary
  obtain ⟨e8, h⟩ := h.tunary
  obtain ⟨e9, h⟩ := h.tunary
  refine ⟨fun r => ?_, h⟩
  have f6 : get W v6 (ix1 r) = 1#64 * BitVec.ofNat 64 r.val := by rw [e4, e3, e2, e1]; rfl
  constructor
  · rw [e9, e7, e6, e5]
    show (IntOp.shrui .host (get W v6 (ix1 r)) 32#64).setWidth 32 = 0#32
    rw [f6]
    clear f6; revert r; decide
  · rw [e8]
    show (get W v6 (ix1 r)).setWidth 32 = _
    rw [f6]
    clear f6; revert r; decide

theorem Eqs.table {W : Valuation τ sig (Elt Ideal)} {l : List (Step τ sig (Elt Ideal))} {a b : TRef sig ⟨S2, .i32⟩}
    {v12 v13 : TRef sig ⟨S2x1, .i32⟩} {v14 : TRef sig ⟨S2x2, .i32⟩} {b1 b2 : S2.BroadcastsInDim S2x1 ![0]}
    {p : Shape.Concatenates [S2x1, S2x1] S2x2 1}
    (h : Eqs W (.tunary a v12 (broadcastInDim S2x1 ![0] b1) :: .tunary b v13 (broadcastInDim S2x1 ![0] b2) ::
      .tbinary v12 v13 v14 (fun a b => concatenate S2x2 1 [⟨S2x1, a⟩, ⟨S2x1, b⟩] p) :: l)) (r : Fin 2) :
    get W v14 (ix2 r 0) = get W a (ix1 r) ∧ get W v14 (ix2 r 1) = get W b (ix1 r) := by
  obtain ⟨e1, h⟩ := h.tunary
  obtain ⟨e2, h⟩ := h.tunary
  obtain ⟨e3, h⟩ := h.tbinary
  constructor
  · rw [e3, e2, e1]; pointwise
  · rw [e3, e2, e1]; pointwise

variable [hF : Facts]

/-- A key split, -/
def splitLine (a0 : TRef sig ⟨S2, .i32⟩) (φ : fn_threefry_split.Bufs) : Line (fn_threefry_split.body (F := Ideal) a0 φ) := by
  unfold fn_threefry_split.body
  repeat' first
    | with_reducible refine Line.tbinary _ _ _ _ ?_
    | with_reducible refine Line.tnullary _ _ ?_
    | with_reducible refine Line.tunary _ _ _ ?_
    | with_reducible refine Line.treshape _ _ _ _ ?_
    | with_reducible refine Line.app (tfLine _ _ _ _ _) ?_
    | with_reducible exact Line.nil

theorem split_spec (W : Valuation τ sig (Elt Ideal)) (a0 : TRef sig ⟨S2, .i32⟩) (φ : fn_threefry_split.Bufs) (h : Eqs W (splitLine a0 φ).1) (r : Fin 2) :
    (get W φ.v14 (ix2 r 0), get W φ.v14 (ix2 r 1)) = tf (get W a0 (ix1 0)) (get W a0 (ix1 1)) (0#32, BitVec.ofNat 32 r.val) := by
  obtain ⟨k, h⟩ := h.keys
  obtain ⟨c, h⟩ := h.counter2
  obtain ⟨t, h⟩ := eqs_append W _ _ h
  have t := tf_spec W _ _ _ _ _ t (ix1 r)
  rw [(c r).1, (c r).2, k.1, k.2] at t
  rw [(h.table r).1, (h.table r).2, t]

/-- and the same under its other name. -/
def split0Line (a0 : TRef sig ⟨S2, .i32⟩) (φ : fn_threefry_split_0.Bufs) : Line (fn_threefry_split_0.body (F := Ideal) a0 φ) := by
  unfold fn_threefry_split_0.body
  repeat' first
    | with_reducible refine Line.tbinary _ _ _ _ ?_
    | with_reducible refine Line.tnullary _ _ ?_
    | with_reducible refine Line.tunary _ _ _ ?_
    | with_reducible refine Line.treshape _ _ _ _ ?_
    | with_reducible refine Line.app (tfLine _ _ _ _ _) ?_
    | with_reducible exact Line.nil

theorem split0_spec (W : Valuation τ sig (Elt Ideal)) (a0 : TRef sig ⟨S2, .i32⟩) (φ : fn_threefry_split_0.Bufs) (h : Eqs W (split0Line a0 φ).1) (r : Fin 2) :
    (get W φ.v14 (ix2 r 0), get W φ.v14 (ix2 r 1)) = tf (get W a0 (ix1 0)) (get W a0 (ix1 1)) (0#32, BitVec.ofNat 32 r.val) := by
  obtain ⟨k, h⟩ := h.keys
  obtain ⟨c, h⟩ := h.counter2
  obtain ⟨t, h⟩ := eqs_append W _ _ h
  have t := tf_spec W _ _ _ _ _ t (ix1 r)
  rw [(c r).1, (c r).2, k.1, k.2] at t
  rw [(h.table r).1, (h.table r).2, t]

/-- Uniform numbers: a matrix of the fading's shape, -/
def unifLine (a0 : TRef sig ⟨S2, .i32⟩) (a1 a2 : TRef sig ⟨S_, .f32⟩) (φ : fn_uniform.Bufs) : Line (fn_uniform.body (F := Ideal) a0 a1 a2 φ) := by
  unfold fn_uniform.body
  repeat' first
    | with_reducible refine Line.tbinary _ _ _ _ ?_
    | with_reducible refine Line.tnullary _ _ ?_
    | with_reducible refine Line.tunary _ _ _ ?_
    | with_reducible refine Line.treshape _ _ _ _ ?_
    | with_reducible refine Line.app (tfLine1 _ _ _ _ _) ?_
    | with_reducible exact Line.nil

theorem unif_spec (W : Valuation τ sig (Elt Ideal)) (a0 : TRef sig ⟨S2, .i32⟩) (a1 a2 : TRef sig ⟨S_, .f32⟩) (φ : fn_uniform.Bufs)
    (h : Eqs W (unifLine a0 a1 a2 φ).1) (r : Fin 4096) (k : Fin 4096) :
    get W φ.v32 (ix2 r k) = between (get W a1 o_) (get W a2 o_)
      (word (get W a0 (ix1 0)) (get W a0 (ix1 1)) (BitVec.ofNat 32 (4096 * r.val + k.val))) := by
  obtain ⟨e0, h⟩ := h.tunary
  obtain ⟨e1, h⟩ := h.tunary
  obtain ⟨key, h⟩ := h.keys
  obtain ⟨c, h⟩ := h.counter rfl (by decide) (by decide)
  obtain ⟨t, h⟩ := eqs_append W _ _ h
  have t := tf_spec1 W _ _ _ _ _ t (ix2 r k)
  rw [(c r k).1, (c r k).2, key.1, key.2] at t
  obtain ⟨u, -⟩ := h.uniform (get W a1 o_) (get W a2 o_) (fun j => by rw [e0, bc_scalar]) (fun j => by rw [e1, bc_scalar])
  rw [u, word, ← t]

/-- and one of the noise's. -/
def unif2Line (a0 : TRef sig ⟨S2, .i32⟩) (a1 a2 : TRef sig ⟨S_, .f32⟩) (φ : fn_uniform_2.Bufs) : Line (fn_uniform_2.body (F := Ideal) a0 a1 a2 φ) := by
  unfold fn_uniform_2.body
  repeat' first
    | with_reducible refine Line.tbinary _ _ _ _ ?_
    | with_reducible refine Line.tnullary _ _ ?_
    | with_reducible refine Line.tunary _ _ _ ?_
    | with_reducible refine Line.treshape _ _ _ _ ?_
    | with_reducible refine Line.app (tfLine3 _ _ _ _ _) ?_
    | with_reducible exact Line.nil

theorem unif2_spec (W : Valuation τ sig (Elt Ideal)) (a0 : TRef sig ⟨S2, .i32⟩) (a1 a2 : TRef sig ⟨S_, .f32⟩) (φ : fn_uniform_2.Bufs)
    (h : Eqs W (unif2Line a0 a1 a2 φ).1) (r : Fin 4096) (k : Fin 128) :
    get W φ.v32 (ix2 r k) = between (get W a1 o_) (get W a2 o_)
      (word (get W a0 (ix1 0)) (get W a0 (ix1 1)) (BitVec.ofNat 32 (128 * r.val + k.val))) := by
  obtain ⟨e0, h⟩ := h.tunary
  obtain ⟨e1, h⟩ := h.tunary
  obtain ⟨key, h⟩ := h.keys
  obtain ⟨c, h⟩ := h.counter rfl (by decide) (by decide)
  obtain ⟨t, h⟩ := eqs_append W _ _ h
  have t := tf_spec3 W _ _ _ _ _ t (ix2 r k)
  rw [(c r k).1, (c r k).2, key.1, key.2] at t
  obtain ⟨u, -⟩ := h.uniform (get W a1 o_) (get W a2 o_) (fun j => by rw [e0, bc_scalar]) (fun j => by rw [e1, bc_scalar])
  rw [u, word, ← t]

/-- A polynomial at each element of a matrix of the fading's shape, -/
def polyLine (a0 : TRef sig ⟨S8, .f32⟩) (a1 : TRef sig ⟨S4096x4096, .f32⟩) (φ : fn_polyval.Bufs) : Line (fn_polyval.body (F := Ideal) a0 a1 φ) := by
  unfold fn_polyval.body
  repeat' first
    | with_reducible refine Line.tbinary _ _ _ _ ?_
    | with_reducible refine Line.tnullary _ _ ?_
    | with_reducible refine Line.tunary _ _ _ ?_
    | with_reducible refine Line.treshape _ _ _ _ ?_
    | with_reducible exact Line.nil

theorem poly_spec (W : Valuation τ sig (Elt Ideal)) (a0 : TRef sig ⟨S8, .f32⟩) (a1 : TRef sig ⟨S4096x4096, .f32⟩) (φ : fn_polyval.Bufs)
    (h : Eqs W (polyLine a0 a1 φ).1) (i : S4096x4096.Idx) : get W φ.v37 i = horner (fun k => get W a0 (ix1 k)) (get W a1 i) :=
  h.poly i

/-- and of the noise's. -/
def poly4Line (a0 : TRef sig ⟨S8, .f32⟩) (a1 : TRef sig ⟨S4096x128, .f32⟩) (φ : fn_polyval_4.Bufs) : Line (fn_polyval_4.body (F := Ideal) a0 a1 φ) := by
  unfold fn_polyval_4.body
  repeat' first
    | with_reducible refine Line.tbinary _ _ _ _ ?_
    | with_reducible refine Line.tnullary _ _ ?_
    | with_reducible refine Line.tunary _ _ _ ?_
    | with_reducible refine Line.treshape _ _ _ _ ?_
    | with_reducible exact Line.nil

theorem poly4_spec (W : Valuation τ sig (Elt Ideal)) (a0 : TRef sig ⟨S8, .f32⟩) (a1 : TRef sig ⟨S4096x128, .f32⟩) (φ : fn_polyval_4.Bufs)
    (h : Eqs W (poly4Line a0 a1 φ).1) (i : S4096x128.Idx) : get W φ.v37 i = horner (fun k => get W a0 (ix1 k)) (get W a1 i) :=
  h.poly i

end Cert.ReferenceIdeal.Layer

end
-- ==== Proof.Ref.Main.lean ====
/-
  The reference as one straight line of operations, and what a run of it leaves: the arguments as they
  were, and in every written buffer the value of its operation.
-/
module

public import proofs.«01_k».proof.Proof.Ref.Functions

@[expose] public section

set_option maxHeartbeats 4000000
set_option maxRecDepth 20000

noncomputable section

namespace Cert.ReferenceIdeal.Layer

open Idealize.ShloMosaic Idealize.ShloMosaic.StableHlo Idealize.SL.Sem Cert.ReferenceIdeal Cert.Rand
open Facts₀ Facts

variable [hF : Facts]

section Lines

variable (d : Dev nD)

def part0Line : Line (Val := Elt Ideal) (main_part0 (F := Ideal) d) := by
  unfold main_part0
  repeat' first
    | with_reducible refine Line.binary _ _ _ _ _ _ _ ?_ | with_reducible refine Line.nullary _ _ _ ?_
    | with_reducible refine Line.unary _ _ _ _ _ ?_ | with_reducible refine Line.reshape _ _ _ _ _ _ ?_
    | with_reducible refine Line.app (splitLine _ _) ?_ | with_reducible refine Line.app (split0Line _ _) ?_
    | with_reducible refine Line.app (unifLine _ _ _ _) ?_ | with_reducible refine Line.app (unif2Line _ _ _ _) ?_
    | with_reducible refine Line.app (polyLine _ _ _) ?_ | with_reducible refine Line.app (poly4Line _ _ _) ?_
    | with_reducible refine Line.last ?_
    | with_reducible exact Line.nil

def part1Line : Line (Val := Elt Ideal) (main_part1 (F := Ideal) d) := by
  unfold main_part1
  repeat' first
    | with_reducible refine Line.binary _ _ _ _ _ _ _ ?_ | with_reducible refine Line.nullary _ _ _ ?_
    | with_reducible refine Line.unary _ _ _ _ _ ?_ | with_reducible refine Line.reshape _ _ _ _ _ _ ?_
    | with_reducible refine Line.app (splitLine _ _) ?_ | with_reducible refine Line.app (split0Line _ _) ?_
    | with_reducible refine Line.app (unifLine _ _ _ _) ?_ | with_reducible refine Line.app (unif2Line _ _ _ _) ?_
    | with_reducible refine Line.app (polyLine _ _ _) ?_ | with_reducible refine Line.app (poly4Line _ _ _) ?_
    | with_reducible refine Line.last ?_
    | with_reducible exact Line.nil

def part2Line : Line (Val := Elt Ideal) (main_part2 (F := Ideal) d) := by
  unfold main_part2
  repeat' first
    | with_reducible refine Line.binary _ _ _ _ _ _ _ ?_ | with_reducible refine Line.nullary _ _ _ ?_
    | with_reducible refine Line.unary _ _ _ _ _ ?_ | with_reducible refine Line.reshape _ _ _ _ _ _ ?_
    | with_reducible refine Line.app (splitLine _ _) ?_ | with_reducible refine Line.app (split0Line _ _) ?_
    | with_reducible refine Line.app (unifLine _ _ _ _) ?_ | with_reducible refine Line.app (unif2Line _ _ _ _) ?_
    | with_reducible refine Line.app (polyLine _ _ _) ?_ | with_reducible refine Line.app (poly4Line _ _ _) ?_
    | with_reducible refine Line.last ?_
    | with_reducible exact Line.nil

def part3Line : Line (Val := Elt Ideal) (main_part3 (F := Ideal) d) := by
  unfold main_part3
  repeat' first
    | with_reducible refine Line.binary _ _ _ _ _ _ _ ?_ | with_reducible refine Line.nullary _ _ _ ?_
    | with_reducible refine Line.unary _ _ _ _ _ ?_ | with_reducible refine Line.reshape _ _ _ _ _ _ ?_
    | with_reducible refine Line.app (splitLine _ _) ?_ | with_reducible refine Line.app (split0Line _ _) ?_
    | with_reducible refine Line.app (unifLine _ _ _ _) ?_ | with_reducible refine Line.app (unif2Line _ _ _ _) ?_
    | with_reducible refine Line.app (polyLine _ _ _) ?_ | with_reducible refine Line.app (poly4Line _ _ _) ?_
    | with_reducible refine Line.last ?_
    | with_reducible exact Line.nil

def mainLine : Line (Val := Elt Ideal) (main (F := Ideal) d) :=
  Line.app (part0Line d) (Line.app (part1Line d) (Line.app (part2Line d) (part3Line d)))

end Lines

theorem main_chk (d : Dev nD) : chk 4 (mainLine d).1 = true := by
  rfl

/-- What the program leaves in a device's buffers. -/
def final (m : (ℓ : Loc nD τ sig) → Buf (Elt Ideal) ℓ) (d : Dev nD) : Valuation τ sig (Elt Ideal) :=
  after ((mainLine d).1.map Step.op) (launchContents m d)

theorem final_eqs (m : (ℓ : Loc nD τ sig) → Buf (Elt Ideal) ℓ) (d : Dev nD) : Eqs (final m d) (mainLine d).1 :=
  eqs_after _ 4 _ (main_chk d)

/-- An argument, numbered below every value, is as it was. -/
theorem final_arg (m : (ℓ : Loc nD τ sig) → Buf (Elt Ideal) ℓ) (d : Dev nD) (r : Ref sig .tc) (hr : r.idx.val < 4) :
    final m d (Proc.devRef .tc r) = m ((d.tc : Thread nD τ).loc r) :=
  after_below _ 4 _ (main_chk d) r hr

/-- Every run ends, with the program's buffers at `final`. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = final m d (Proc.devRef .tc b) :=
  run_seq (by decide) (by decide) (defs (F := Ideal)) (main (F := Ideal)) (fun d => (mainLine d).1.map Step.op) (fun d => (mainLine d).2)
    (fun d => (mainLine d).bufs) m ρ (fun d => (mainLine d).fresh)

/-- The reference leaves its arguments and its semaphores as they were. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  refine (θ_run (defs (F := Ideal)) _ _).mono (fun r h => ⟨fun c => ⟨?_, ?_, ?_, ?_⟩, ?_⟩) (run m ρ)
  · exact (h c main_arg0).trans (final_arg m c main_arg0 (by decide))
  · exact (h c main_arg1).trans (final_arg m c main_arg1 (by decide))
  · exact (h c main_arg2).trans (final_arg m c main_arg2 (by decide))
  · exact (h c main_arg3).trans (final_arg m c main_arg3 (by decide))
  · funext s; exact nomatch s.2

end Cert.ReferenceIdeal.Layer

end
-- ==== Proof.Math.lean ====
/-
  One layer of the network, element by element over the extended reals, and the identities that take
  either program's spelling of it to this one.
-/
module

public import proofs.«01_k».proof.Proof.Draw
public import Idealize.ShloMosaic.Lib.IdealHost

@[expose] public section

noncomputable section

namespace Cert.Rand

open Idealize.ShloMosaic

/-- The roots of two and of one half. -/
def root2 : EReal := ((Real.sqrt 2 : ℝ) : EReal)
def rootHalf : EReal := ((Real.sqrt (1 / 2) : ℝ) : EReal)

theorem two_eq : Ideal.ofBits .f32 0x40000000#32 = ((2 : ℝ) : EReal) := by
  simp [Ideal.ofBits, Ideal.ieee, -EReal.coe_mul]; norm_num

theorem half_eq : Ideal.ofBits .f32 0x3F000000#32 = ((1 / 2 : ℝ) : EReal) := by
  simp [Ideal.ofBits, Ideal.ieee, -EReal.coe_mul]; norm_num

theorem low_eq : low = ((-(16777215 / 16777216) : ℝ) : EReal) := by
  unfold low
  simp [Ideal.ofBits, Ideal.ieee, -EReal.coe_mul, -EReal.coe_neg]; norm_num

theorem sqrt_two : Ideal.sqrt (Ideal.ofBits .f32 0x40000000#32) = root2 := by
  rw [two_eq, Ideal.sqrt_coe, if_neg (by norm_num)]; rfl

theorem sqrt_half : Ideal.sqrt (Ideal.ofBits .f32 0x3F000000#32) = rootHalf := by
  rw [half_eq, Ideal.sqrt_coe, if_neg (by norm_num)]; rfl

theorem root2_mul_rootHalf : root2 * rootHalf = 1 := by
  unfold root2 rootHalf
  rw [← EReal.coe_mul, ← Real.sqrt_mul (by norm_num)]
  norm_num

/-- A standard normal number scaled to variance one half is the inverse error function itself. -/
theorem scaled (d : EReal) : root2 * d * rootHalf = d := by
  rw [mul_comm root2 d, mul_assoc, root2_mul_rootHalf, mul_one]

/-- The kernel's spelling of the uniform number, from a mantissa `f` between 1 and 2. -/
theorem affine (f : EReal) :
    f * ((33554431 / 16777216 : ℝ) : EReal) - ((25165823 / 8388608 : ℝ) : EReal)
      = (f - Ideal.ofBits .f32 0x3F800000#32) * (Ideal.ofBits .f32 0x3F800000#32 - low) + low := by
  rw [Ideal.ofBits_one_f32, low_eq]
  have e1 : (1 : EReal) - ((-(16777215 / 16777216) : ℝ) : EReal) = ((33554431 / 16777216 : ℝ) : EReal) := by
    rw [← EReal.coe_one, ← EReal.coe_sub]; norm_num
  rw [e1]
  induction f with
  | bot => simp [EReal.bot_mul_coe_of_pos]
  | top =>
    rw [EReal.top_mul_coe_of_pos (by norm_num), EReal.top_sub_coe, ← EReal.coe_one, EReal.top_sub_coe,
      EReal.top_mul_coe_of_pos (by norm_num), EReal.top_add_coe]
  | coe r =>
    rw [← EReal.coe_one, ← EReal.coe_mul, ← EReal.coe_sub, ← EReal.coe_sub, ← EReal.coe_mul, ← EReal.coe_add]
    congr 1; ring

/-- The kernel's spelling of the logarithm. -/
theorem log_eq (u : EReal) : Ideal.log (Ideal.ofBits .f32 0x3F800000#32 - u * u) = Ideal.log1p (-(u * u)) := by
  rw [Ideal.ofBits_one_f32, sub_eq_add_neg]; rfl

/-- The first shift's keys, for the fading's two parts and for the noise, and the second's. -/
def kr0 : BitVec 32 × BitVec 32 := (0xE14166EC#32, 0x9EC84F81#32)
def ki0 : BitVec 32 × BitVec 32 := (0x61F15A13#32, 0x246FE96D#32)
def kn0 : BitVec 32 × BitVec 32 := (0xA1495F6E#32, 0x9D577F1C#32)
def kr1 : BitVec 32 × BitVec 32 := (0x04658493#32, 0x009F6A70#32)
def ki1 : BitVec 32 × BitVec 32 := (0x65D0DF45#32, 0xA542AECB#32)
def kn1 : BitVec 32 × BitVec 32 := (0x840A05C2#32, 0x088E666D#32)

/-- A normal number's inverse error function, at a key of two words. -/
def drawn (k : BitVec 32 × BitVec 32) (n : BitVec 32) : EReal := draw k.1 k.2 n

/-- The fading of the link numbered `n`. -/
def fading (kr ki : BitVec 32 × BitVec 32) (n : BitVec 32) : EReal :=
  Ideal.sqrt (drawn kr n * drawn kr n + drawn ki n * drawn ki n) * rootHalf

/-- One shift: the sum over the neighbours of what they send over their faded links. -/
def shifted (kr ki : BitVec 32 × BitVec 32) (adj : Fin 4096 → Fin 4096 → EReal) (x : Fin 4096 → Fin 128 → EReal) (r : Fin 4096) (f : Fin 128) : EReal :=
  ∑ k, adj r k * fading kr ki (BitVec.ofNat 32 (4096 * r.val + k.val)) * x k f

/-- The standard deviation of the receiver's noise: a tenth of the mean power, under the root. -/
def spread (y : Fin 4096 → Fin 128 → EReal) : EReal :=
  Ideal.sqrt (Ideal.div (Ideal.div (∑ r, ∑ f, y r f * y r f) (Ideal.ofBits .f32 0x49000000#32)) (Ideal.ofBits .f32 0x41200000#32))

/-- What is received: the shift and the noise. -/
def received (kn : BitVec 32 × BitVec 32) (y : Fin 4096 → Fin 128 → EReal) (r : Fin 4096) (f : Fin 128) : EReal :=
  y r f + root2 * drawn kn (BitVec.ofNat 32 (128 * r.val + f.val)) * spread y

/-- The signal after one hop. -/
def hop (kr ki kn : BitVec 32 × BitVec 32) (adj : Fin 4096 → Fin 4096 → EReal) (x : Fin 4096 → Fin 128 → EReal) : Fin 4096 → Fin 128 → EReal :=
  received kn (shifted kr ki adj x)

/-- A filter's tap. -/
def tap (x : Fin 4096 → Fin 128 → EReal) (w : Fin 128 → Fin 128 → EReal) (r : Fin 4096) (o : Fin 128) : EReal :=
  ∑ f, x r f * w o f

/-- The layer: two hops, each with its tap. -/
def layer (x : Fin 4096 → Fin 128 → EReal) (adj : Fin 4096 → Fin 4096 → EReal) (w0 w1 : Fin 128 → Fin 128 → EReal) (r : Fin 4096) (o : Fin 128) : EReal :=
  tap (hop kr0 ki0 kn0 adj x) w0 r o + tap (hop kr1 ki1 kn1 adj (hop kr0 ki0 kn0 adj x)) w1 r o

end Cert.Rand

end
-- ==== Proof.Ker.Spell.lean ====
/-
  The kernel's spelling of a normal number's inverse error function, from its word, and that it is the other one.
-/
module

public import proofs.«01_k».proof.Proof.Math
public import proofs.«01_k».proof.KernelIdeal
public import Idealize.ShloMosaic.PureOps.IdealRules

@[expose] public section

noncomputable section

namespace Cert.Rand

open Idealize.ShloMosaic

/-- The uniform number of a word as the kernel computes it: a product and a difference. -/
def kunif (w : BitVec 32) : EReal :=
  max low (Ideal.ofBits .f32 (IntOp.ori (IntOp.shrui .vector w 9#32) 1065353216#32) * ((33554431 / 16777216 : ℝ) : EReal) - ((25165823 / 8388608 : ℝ) : EReal))

theorem kunif_eq (w : BitVec 32) : kunif w = unif w := by
  unfold kunif unif between
  rw [affine]

/-- The argument of the inverse error function's polynomial, as the kernel computes it. -/
def karg (u : EReal) : EReal :=
  Ideal.sqrt (Ideal.ofBits .f32 0x00000000#32 - Ideal.log (Ideal.ofBits .f32 0x3F800000#32 - u * u))

/-- The kernel's order of the sums and products of Horner's rule. -/
def khorner (v : EReal) : EReal :=
  Ideal.ofBits .f32 0x3F5F02EA#32 + (Ideal.ofBits .f32 0x3DE82330#32 + (Ideal.ofBits .f32 0xBD31A4C2#32 + (Ideal.ofBits .f32 0x3E95A4B1#32
    + (Ideal.ofBits .f32 0xBE052989#32 + (Ideal.ofBits .f32 0x3CD1B351#32 + (Ideal.ofBits .f32 0xBB1D849A#32
      + Ideal.ofBits .f32 0x38B67607#32 * v) * v) * v) * v) * v) * v) * v

theorem horner_comm (a b c d e f g h v : EReal) :
    h + (g + (f + (e + (d + (c + (b + a * v) * v) * v) * v) * v) * v) * v = horner ![a, b, c, d, e, f, g, h] v := by
  rw [add_comm h, add_comm g, add_comm f, add_comm e, add_comm d, add_comm c, add_comm b]
  rfl

theorem khorner_eq (v : EReal) : khorner v = horner (fun k => Ideal.ofBits .f32 (coef k)) v :=
  horner_comm _ _ _ _ _ _ _ _ v

/-- The inverse error function as the kernel computes it. -/
def kerf (u : EReal) : EReal := khorner (karg u) * u

theorem kerf_eq (u : EReal) : kerf u = erfInv u := by
  unfold kerf erfInv karg
  rw [log_eq, khorner_eq, mul_comm, Ideal.ofBits_zero_f32, zero_sub]

/-- The generator's last pair of words, from the three key words. -/
def pairAt (k0 k1 k2 n : BitVec 32) : BitVec 32 × BitVec 32 :=
  inj k2 k0 5#32 (four (inj k1 k2 4#32 (four' (inj k0 k1 3#32 (four (inj k2 k0 2#32
    (four' (inj k1 k2 1#32 (four (k0, IntOp.addi n k1))))))))))

/-- The exclusive or of a pair. -/
def halves (p : BitVec 32 × BitVec 32) : BitVec 32 := IntOp.xori p.1 p.2

theorem word_eq (k0 k1 k2 : BitVec 32) (h : key2 k0 k1 = k2) (n : BitVec 32) : word k0 k1 n = halves (pairAt k0 k1 k2 n) := by
  have h0 : IntOp.addi 0#32 k0 = k0 := BitVec.zero_add k0
  unfold word tf run halves pairAt
  rw [h]
  dsimp only
  rw [h0]

/-- The named constants, as the kernel's text has them. -/
def nwidth : EReal := Named.named (F := Ideal) Cert.KernelIdeal.κ "uniform_width" (φ := .f32) 0x40000000#32
def nshift : EReal := Named.named (F := Ideal) Cert.KernelIdeal.κ "uniform_shift" (φ := .f32) 0x40400000#32
def nhalf : EReal := Named.named (F := Ideal) Cert.KernelIdeal.κ "sqrt_half" (φ := .f32) 0x3F3504F3#32
def ntwo : EReal := Named.named (F := Ideal) Cert.KernelIdeal.κ "sqrt_two" (φ := .f32) 0x3FB504F3#32

theorem nwidth_eq : nwidth = ((33554431 / 16777216 : ℝ) : EReal) := IdealRules.named_const.ideal_named_scalar _ _ _ _ rfl
theorem nshift_eq : nshift = ((25165823 / 8388608 : ℝ) : EReal) := IdealRules.named_const.ideal_named_scalar _ _ _ _ rfl
theorem nhalf_eq : nhalf = rootHalf := IdealRules.named_const.ideal_named_scalar _ _ _ _ rfl
theorem ntwo_eq : ntwo = root2 := IdealRules.named_const.ideal_named_scalar _ _ _ _ rfl

/-- The uniform number of a word over the named constants. -/
def nunif (w : BitVec 32) : EReal :=
  max low (Ideal.ofBits .f32 (IntOp.ori (IntOp.shrui .vector w 9#32) 1065353216#32) * nwidth - nshift)

theorem nunif_eq (w : BitVec 32) : nunif w = kunif w := by
  unfold nunif kunif
  rw [nwidth_eq, nshift_eq]

/-- The fading of two normal numbers over the named constant. -/
def nfad (a b : EReal) : EReal := Ideal.sqrt (a * a + b * b) * nhalf

theorem nfad_eq (a b : EReal) : nfad a b = Ideal.sqrt (a * a + b * b) * rootHalf := by
  unfold nfad
  rw [nhalf_eq]

/-- The kernel's number at counter `n` is the reference's. -/
theorem kerf_kunif (k : BitVec 32 × BitVec 32) (n : BitVec 32) : kerf (kunif (word k.1 k.2 n)) = drawn k n := by
  rw [kunif_eq, kerf_eq]
  rfl

end Cert.Rand

end
-- ==== Proof.Ker.Fading0.lean ====
/-
  Pallas call 0: the block of fadings it draws, element by element.
-/
module

public import proofs.«01_k».proof.Proof.Ker.Spell
public import proofs.«01_k».proof.Proof.Gen.KernelIdeal.Skeleton

@[expose] public section

noncomputable section

namespace Cert.KernelIdeal.Layer

open Cert.KernelIdeal.Gen Cert.Rand Idealize.ShloMosaic

/-! ## The real part's words, by the parts the kernel is printed in -/

theorem re0_1 (i : grid0.Coords) (j : S512x256.Idx) :
    (k0_pay12 i j, k0_pay13 i j) = four (kr0.1, IntOp.addi (k0_pay4 i j) kr0.2) := rfl

theorem re0_2 (v35 v41 : IVec S512x256 32) (j : S512x256.Idx) :
    (k0_pay24 v35 v41 k0_pay14 j, IntOp.xori (k0_pay24 v35 v41 k0_pay14 j) (k0_pay25 v35 v41 k0_pay14 j))
      = rnd 13#32 19#32 (inj 1683501751#32 kr0.1 2#32 (four' (inj kr0.2 1683501751#32 1#32 (v35 j, v41 j)))) := rfl

theorem re0_3 (v82 v87 : IVec S512x256 32) (j : S512x256.Idx) :
    (k0_pay37 v82 v87 j, IntOp.xori (k0_pay37 v82 v87 j) (IntOp.ori (k0_pay38 v82 v87 j) (IntOp.shrui .vector (k0_pay36 v82 v87 j) 16#32)))
      = rnd 16#32 16#32 (rnd 29#32 3#32 (rnd 17#32 15#32 (inj kr0.1 kr0.2 3#32
          (rnd 6#32 26#32 (rnd 26#32 6#32 (rnd 15#32 17#32 (v82 j, IntOp.xori (v82 j) (v87 j)))))))) := rfl

theorem re0_4 (v129 v130 v132 : IVec S512x256 32) (j : S512x256.Idx) :
    (k0_pay48 v129 v130 v132 16#32 j, k0_pay49 v129 v130 v132 16#32 j)
      = four (inj kr0.2 1683501751#32 4#32 (rnd 24#32 8#32
          (v130 j, IntOp.xori (v130 j) (IntOp.ori (v132 j) (IntOp.shrui .vector (v129 j) 16#32))))) := rfl

theorem re0_5 (v171 v177 v178 : IVec S512x256 32) (j : S512x256.Idx) :
    k0_pay51 (F := Ideal) v171 v177 v178 j
      = nunif (IntOp.xori (IntOp.addi (v171 j) (v178 j)) (IntOp.addi (IntOp.addi (v177 j) 3779159788#32) 5#32)) := by
  unfold k0_pay51
  generalize hw : xori (addi v171 v178) _ = w
  rw [show IntOp.xori (IntOp.addi (v171 j) (v178 j)) (IntOp.addi (IntOp.addi (v177 j) 3779159788#32) 5#32) = w j by rw [← hw]; rfl]
  rfl

theorem re0_7 (v171 v177 : IVec S512x256 32) (j : S512x256.Idx) :
    k0_pay51 (F := Ideal) v171 v177 k0_pay50 j = nunif (halves (inj 1683501751#32 kr0.1 5#32 (v171 j, v177 j))) :=
  (re0_5 v171 v177 k0_pay50 j).trans (congrArg nunif rfl)

/-! ## The imaginary part's -/

theorem im0_1 (v10 : IVec S512x256 32) (j : S512x256.Idx) :
    (k0_pay63 v10 j, IntOp.xori (k0_pay63 v10 j) (IntOp.ori (k0_pay64 v10 j) (IntOp.shrui .vector (k0_pay62 v10 j) 15#32)))
      = rnd 17#32 15#32 (inj ki0.2 1582278820#32 1#32 (four (ki0.1, IntOp.addi (v10 j) ki0.2))) := rfl

theorem im0_2 (v262 v263 v265 : IVec S512x256 32) (j : S512x256.Idx) :
    (k0_pay77 v262 v263 v265 k0_pay65 j, IntOp.xori (k0_pay77 v262 v263 v265 k0_pay65 j)
        (IntOp.ori (IntOp.shli .vector (k0_pay76 v262 v263 v265 k0_pay65 j) 26#32) (IntOp.shrui .vector (k0_pay76 v262 v263 v265 k0_pay65 j) 6#32)))
      = rnd 26#32 6#32 (rnd 15#32 17#32 (rnd 13#32 19#32 (inj 1582278820#32 ki0.1 2#32 (rnd 24#32 8#32 (rnd 16#32 16#32 (rnd 29#32 3#32
          (v263 j, IntOp.xori (v263 j) (IntOp.ori (v265 j) (IntOp.shrui .vector (v262 j) 15#32))))))))) := rfl

theorem im0_3 (v310 v311 : IVec S512x256 32) (j : S512x256.Idx) :
    (k0_pay88 v310 v311 k0_pay78 j, k0_pay89 v310 v311 k0_pay78 j)
      = four' (inj ki0.1 ki0.2 3#32 (rnd 6#32 26#32
          (v311 j, IntOp.xori (v311 j) (IntOp.ori (IntOp.shli .vector (v310 j) 26#32) (IntOp.shrui .vector (v310 j) 6#32))))) := rfl

theorem im0_4 (v352 v358 : IVec S512x256 32) (j : S512x256.Idx) :
    k0_pay90 v352 v358 j
      = IntOp.shrui .vector (halves (inj 1582278820#32 ki0.1 5#32 (four (inj ki0.2 1582278820#32 4#32 (v352 j, v358 j))))) 9#32 := rfl

/-! ## The numbers -/

theorem re0_6 (v171 v177 v178 : IVec S512x256 32) (j : S512x256.Idx) :
    k0_pay53 (k0_pay51 (F := Ideal) v171 v177 v178) (k0_pay52 (F := Ideal) v171 v177 v178) j
      = kerf (k0_pay51 (F := Ideal) v171 v177 v178 j) := by
  unfold k0_pay53 k0_pay52
  generalize k0_pay51 (F := Ideal) v171 v177 v178 = u
  rfl

theorem fad0_last (v225 : FVec Ideal S512x256 .f32) (v401 : IVec S512x256 32) (j : S512x256.Idx) :
    k0_pay92 (F := Ideal) v225 v401 k0_pay91 j
      = nfad (v225 j) (kerf (max low (Ideal.ofBits .f32 (IntOp.ori (v401 j) 1065353216#32) * nwidth - nshift))) := rfl

/-- The block of fadings, as the kernel's parts hand their values on. -/
def fad0 (i : grid0.Coords) : FVec Ideal S512x256 .f32 :=
  let v10 := k0_pay4 i
  let v35 := k0_pay12 i
  let v41 := k0_pay13 i
  let v82 := k0_pay24 v35 v41 k0_pay14
  let v87 := k0_pay25 v35 v41 k0_pay14
  let v129 := k0_pay36 v82 v87
  let v130 := k0_pay37 v82 v87
  let v132 := k0_pay38 v82 v87
  let v171 := k0_pay48 v129 v130 v132 16#32
  let v177 := k0_pay49 v129 v130 v132 16#32
  let v225 := k0_pay53 (k0_pay51 (F := Ideal) v171 v177 k0_pay50) (k0_pay52 (F := Ideal) v171 v177 k0_pay50)
  let v262 := k0_pay62 v10
  let v263 := k0_pay63 v10
  let v265 := k0_pay64 v10
  let v310 := k0_pay76 v262 v263 v265 k0_pay65
  let v311 := k0_pay77 v262 v263 v265 k0_pay65
  let v352 := k0_pay88 v310 v311 k0_pay78
  let v358 := k0_pay89 v310 v311 k0_pay78
  k0_pay92 (F := Ideal) v225 (k0_pay90 v352 v358) k0_pay91

theorem fad0_apply (i : grid0.Coords) (j : S512x256.Idx) : fad0 i j = fading kr0 ki0 (k0_pay4 i j) := by
  unfold fad0
  rw [fad0_last, re0_6, re0_7, im0_4, nfad_eq, nwidth_eq, nshift_eq, nunif_eq]
  rw [re0_4, re0_3, re0_2, re0_1, im0_3, im0_2, im0_1]
  unfold fading
  rw [← kerf_kunif kr0, ← kerf_kunif ki0]
  rw [word_eq kr0.1 kr0.2 1683501751#32 (by decide), word_eq ki0.1 ki0.2 1582278820#32 (by decide)]
  simp only [pairAt, four, four', kunif]

end Cert.KernelIdeal.Layer

end
-- ==== Proof.Ker.Sum0.lean ====
/-
  Pallas call 0: what its row blocks add up to, and the array it leaves: the shift over the fading.
-/
module

public import proofs.«01_k».proof.Proof.Ideal.Shift0Body
public import proofs.«01_k».proof.Proof.Ker.Fading0
public import Idealize.ShloMosaic.Lib.Pipeline.ValueKit
public import Idealize.ShloMosaic.Lib.Pointwise

@[expose] public section

set_option maxRecDepth 16384

noncomputable section

namespace Cert.KernelIdeal.Layer

open Cert.KernelIdeal.Gen Cert.Rand Idealize.ShloMosaic Idealize.ShloMosaic.TcCoe

/-! ## What a step stores -/

theorem sout0_A_eq (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : cond0_0 i) (hc1 : ¬cond0_1 i) (hc2 : ¬cond0_2 i)
    (x0 : Vec Ideal S512x256 .f32) (x1 : Vec Ideal S256x128 .f32) :
    sout0_A_0 c i arg2 harg2 arg3 harg3 arg4 harg4 arg5 harg5 hc0 hc1 hc2 x0 x1 = k0_pay2 (fad0 i) x0 x1 := by
  frame_out
  exact rfl

theorem sout0_B_eq (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : ¬cond0_0 i) (hc1 : cond0_1 i) (hc2 : ¬cond0_2 i)
    (x0 : Vec Ideal S512x256 .f32) (x1 : Vec Ideal S256x128 .f32) (s : Vec Ideal S512x128 .f32) :
    sout0_B_0 c i arg2 harg2 arg3 harg3 arg4 harg4 arg5 harg5 hc0 hc1 hc2 x0 x1 s = k0_pay3 (fad0 i) x0 x1 s := by
  frame_out
  exact rfl

theorem out0_C_eq (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : ¬cond0_0 i) (hc1 : cond0_1 i) (hc2 : cond0_2 i)
    (x0 : Vec Ideal S512x256 .f32) (x1 : Vec Ideal S256x128 .f32) (s : Vec Ideal S512x128 .f32) :
    out0_C_2 c i arg2 harg2 arg3 harg3 arg4 harg4 arg5 harg5 hc0 hc1 hc2 x0 x1 s = k0_pay3 (fad0 i) x0 x1 s := by
  frame_out
  exact rfl

theorem sout0_C_eq (c : Dev nD) (i : grid0.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : ¬cond0_0 i) (hc1 : cond0_1 i) (hc2 : cond0_2 i)
    (x0 : Vec Ideal S512x256 .f32) (x1 : Vec Ideal S256x128 .f32) (s : Vec Ideal S512x128 .f32) :
    sout0_C_0 c i arg2 harg2 arg3 harg3 arg4 harg4 arg5 harg5 hc0 hc1 hc2 x0 x1 s = k0_pay3 (fad0 i) x0 x1 s := by
  frame_out
  exact rfl

/-- A step's product, at an element. -/
theorem part0_apply (v x0 : Vec Ideal S512x256 .f32) (x1 : Vec Ideal S256x128 .f32) (a : Fin 512) (b : Fin 128) :
    k0_pay2 (F := Ideal) v x0 x1 (ix2 a b) = ∑ k : Fin 256, x0 (ix2 a k) * v (ix2 a k) * x1 (ix2 k b) := by
  pointwise [k0_pay2, k0_pay1]

/-- A later step adds its product to what the accumulator holds. -/
theorem step0_apply (v x0 : Vec Ideal S512x256 .f32) (x1 : Vec Ideal S256x128 .f32) (s : Vec Ideal S512x128 .f32) (j : S512x128.Idx) :
    k0_pay3 (F := Ideal) v x0 x1 s j = s j + k0_pay2 (F := Ideal) v x0 x1 j := by
  idx_vars j
  pointwise [k0_pay2, k0_pay3, k0_pay1]

/-- The counters of a block of links are their numbers in the whole matrix. -/
theorem count0_apply (i : grid0.Coords) (a : Fin 512) (b : Fin 256) :
    k0_pay4 i (ix2 a b) = BitVec.ofNat 32 (4096 * (512 * (i 0).val + a.val) + (256 * (i 1).val + b.val)) := by
  pointwise [k0_pay4]
  simp only [Scalar.addi, Scalar.muli, IntOp.addi, IntOp.muli, ← BitVec.ofNat_add, ← BitVec.ofNat_mul]
  congr 1
  omega

/-! ## The accumulator over a row block's steps -/

variable (V : (c : Dev nD) → (b : Ref sig .tc) → Buf (Elt Ideal) ((c : Thread nD τ).loc b))

/-- The product of grid point `n`. -/
def term0 (c : Dev nD) (n : ℕ) (j : S512x128.Idx) : EReal :=
  if h : n < cfg0.N then k0_pay2 (F := Ideal) (fad0 (grid0.coords ⟨n, h⟩)) (iblk0 V c 0 ⟨n, h⟩) (iblk0 V c 1 ⟨n, h⟩) j else 0

theorem term0_of (c : Dev nD) (t : Fin cfg0.N) (j : S512x128.Idx) :
    term0 V c t.val j = k0_pay2 (F := Ideal) (fad0 (grid0.coords t)) (iblk0 V c 0 t) (iblk0 V c 1 t) j := dif_pos t.isLt

theorem scratch0 (c : Dev nD) (t : Fin cfg0.N) (j : S512x128.Idx) :
    (outsAt0 V c t.val t.isLt).2 j = 0 + ∑ k ∈ Finset.range (t.val % 16 + 1), term0 V c (16 * (t.val / 16) + k) j :=
  Pipeline.eq_sum_of_reset_step_apply (fun n h => (outsAt0 V c n h).2) 16 (fun _ => (0 : EReal)) (term0 V c)
    (fun t h j => by
      rw [outsAt0_A V c t h (by omega) (by omega), term0_of]
      dsimp only
      rw [sout0_A_eq, zero_add])
    (fun t h j => by
      rw [term0_of]
      by_cases h2 : t.val % 16 = 15
      · rw [outsAt0_C V c t h (by omega) h2]
        dsimp only
        rw [sout0_C_eq, step0_apply]
      · rw [outsAt0_B V c t h (by omega) h2]
        dsimp only
        rw [sout0_B_eq, step0_apply]) t j

/-- The block written back is the sum of its sixteen products. -/
theorem block0 (c : Dev nD) (t : Fin cfg0.N) (h : t.val % 16 = 15) (j : S512x128.Idx) :
    (outsAt0 V c t.val t.isLt).1 j = ∑ k : Fin 16, term0 V c (16 * (t.val / 16) + k.val) j := by
  have e : (outsAt0 V c t.val t.isLt).1 = (outsAt0 V c t.val t.isLt).2 := by
    rw [outsAt0_C V c t (by omega) (by omega) h]
    dsimp only
    rw [out0_C_eq, sout0_C_eq]
  rw [e, scratch0, zero_add, h, Finset.sum_range]

/-! ## The blocks and the array -/

theorem coords0 : ∀ t : Fin cfg0.N, (grid0.coords t 0).val = t.val / 16 ∧ (grid0.coords t 1).val = t.val % 16 := by
  decide +kernel
theorem index0_0 : ∀ t : Fin cfg0.N, win0_0.index t = ![t.val / 16, t.val % 16] := by decide +kernel
theorem index0_1 : ∀ t : Fin cfg0.N, win0_1.index t = ![t.val % 16, 0] := by decide +kernel
theorem index0_2 : ∀ t : Fin cfg0.N, win0_2.index t = ![t.val / 16, 0] := by decide +kernel

theorem links0 (c : Dev nD) (t : Fin cfg0.N) (a : Fin 512) (k : Fin 256) (r l : Fin 4096)
    (hr : r.val = 512 * (t.val / 16) + a.val) (hl : l.val = 256 * (t.val % 16) + k.val) :
    iblk0 V c 0 t (ix2 a k) = V c main_arg1 (ix2 r l) := by
  unfold iblk0
  refine congrArg (V c main_arg1) ?_
  funext x; apply Fin.ext
  match x with
  | ⟨0, _⟩ => blk_simp [index0_0 t]; show _ = r.val; omega
  | ⟨1, _⟩ => blk_simp [index0_0 t]; show _ = l.val; omega

theorem feats0 (c : Dev nD) (t : Fin cfg0.N) (k : Fin 256) (b : Fin 128) (l : Fin 4096)
    (hl : l.val = 256 * (t.val % 16) + k.val) :
    iblk0 V c 1 t (ix2 k b) = V c main_v0 (ix2 l b) := by
  unfold iblk0
  refine congrArg (V c main_v0) ?_
  funext x; apply Fin.ext
  match x with
  | ⟨0, _⟩ => blk_simp [index0_1 t]; show _ = l.val; omega
  | ⟨1, _⟩ => blk_simp [index0_1 t]

/-- A row block's sixteen products are one sum over all the links of the row. -/
theorem row0 (c : Dev nD) (q : ℕ) (hq : q < 8) (a : Fin 512) (b : Fin 128) (r : Fin 4096) (hr : r.val = 512 * q + a.val) :
    ∑ k : Fin 16, term0 V c (16 * q + k.val) (ix2 a b)
      = shifted kr0 ki0 (fun r l => V c main_arg1 (ix2 r l)) (fun l f => V c main_v0 (ix2 l f)) r b := by
  unfold shifted
  rw [← Fin.sum_mul_add_fin 16 256 _ rfl]
  refine Finset.sum_congr rfl fun k _ => ?_
  have hN : 16 * q + k.val < cfg0.N := lt_of_lt_of_eq (by omega) (show 128 = cfg0.N from N_0.symm)
  obtain ⟨e0, e1⟩ := coords0 ⟨16 * q + k.val, hN⟩
  rw [show 16 * q + k.val = (⟨16 * q + k.val, hN⟩ : Fin cfg0.N).val from rfl, term0_of, part0_apply]
  dsimp only at e0 e1
  refine Finset.sum_congr rfl fun l _ => ?_
  rw [fad0_apply, count0_apply, e0, e1, links0 V c _ a l r ⟨k.val * 256 + l.val, by omega⟩ (by dsimp only; omega) (by dsimp only; omega),
    feats0 V c _ l b ⟨k.val * 256 + l.val, by omega⟩ (by dsimp only; omega)]
  rw [show 4096 * (512 * ((16 * q + k.val) / 16) + a.val) + (256 * ((16 * q + k.val) % 16) + l.val) = 4096 * r.val + (k.val * 256 + l.val) by omega]

/-- THE ARRAY pallas call 0 leaves: what comes over the faded links. -/
theorem array0 (c : Dev nD) (r : Fin 4096) (b : Fin 128) :
    (dat0 V c).arrAt 2 cfg0.N (ix2 r b)
      = shifted kr0 ki0 (fun r l => V c main_arg1 (ix2 r l)) (fun l f => V c main_v0 (ix2 l f)) r b := by
  have h : (dat0 V c).arrAt 2 cfg0.N = fun i => shifted kr0 ki0 (fun r l => V c main_arg1 (ix2 r l)) (fun l f => V c main_v0 (ix2 l f)) (i 0) (i 1) := by
    refine (dat0 V c).arrAt_eq_of_covers 2 _ (by decide +kernel) fun t hf y => ?_
    blk_simp
    rw [after0_2]
    have ht : t.val % 16 = 15 := (flush0_2 t).mp hf
    obtain ⟨a, f, rfl⟩ : ∃ (a : Fin 512) (f : Fin 128), y = ix2 a f := ⟨y 0, y 1, eq_ix2 y⟩
    have hN : t.val < 128 := lt_of_lt_of_eq t.isLt N_0
    rw [block0 V c t ht, row0 V c (t.val / 16) (by omega) a f ((win0_2.blk t).view.emb (ix2 a f) 0) (by blk_simp [index0_2 t]; omega)]
    refine congrArg (shifted _ _ _ _ _) (Fin.ext ?_)
    blk_simp [index0_2 t]
  exact congrFun h (ix2 r b)

end Cert.KernelIdeal.Layer

end
-- ==== Proof.Ker.Fading2.lean ====
/-
  Pallas call 2: the block of fadings it draws, element by element.
-/
module

public import proofs.«01_k».proof.Proof.Ker.Spell
public import proofs.«01_k».proof.Proof.Gen.KernelIdeal.Skeleton

@[expose] public section

noncomputable section

namespace Cert.KernelIdeal.Layer

open Cert.KernelIdeal.Gen Cert.Rand Idealize.ShloMosaic

/-! ## The real part's words, by the parts the kernel is printed in -/

theorem re2_1 (i : grid2.Coords) (j : S512x256.Idx) :
    (k2_pay12 i j, k2_pay13 i j) = four (kr1.1, IntOp.addi (k2_pay4 i j) kr1.2) := rfl

theorem re2_2 (v35 v41 : IVec S512x256 32) (j : S512x256.Idx) :
    (k2_pay24 v35 v41 k2_pay14 j, IntOp.xori (k2_pay24 v35 v41 k2_pay14 j) (k2_pay25 v35 v41 k2_pay14 j))
      = rnd 13#32 19#32 (inj 522974521#32 kr1.1 2#32 (four' (inj kr1.2 522974521#32 1#32 (v35 j, v41 j)))) := rfl

theorem re2_3 (v82 v87 : IVec S512x256 32) (j : S512x256.Idx) :
    (k2_pay37 v82 v87 j, IntOp.xori (k2_pay37 v82 v87 j) (IntOp.ori (k2_pay38 v82 v87 j) (IntOp.shrui .vector (k2_pay36 v82 v87 j) 16#32)))
      = rnd 16#32 16#32 (rnd 29#32 3#32 (rnd 17#32 15#32 (inj kr1.1 kr1.2 3#32
          (rnd 6#32 26#32 (rnd 26#32 6#32 (rnd 15#32 17#32 (v82 j, IntOp.xori (v82 j) (v87 j)))))))) := rfl

theorem re2_4 (v129 v130 v132 : IVec S512x256 32) (j : S512x256.Idx) :
    (k2_pay48 v129 v130 v132 16#32 j, k2_pay49 v129 v130 v132 16#32 j)
      = four (inj kr1.2 522974521#32 4#32 (rnd 24#32 8#32
          (v130 j, IntOp.xori (v130 j) (IntOp.ori (v132 j) (IntOp.shrui .vector (v129 j) 16#32))))) := rfl

theorem re2_5 (v171 v177 v178 : IVec S512x256 32) (j : S512x256.Idx) :
    k2_pay51 (F := Ideal) v171 v177 v178 j
      = nunif (IntOp.xori (IntOp.addi (v171 j) (v178 j)) (IntOp.addi (IntOp.addi (v177 j) 73761939#32) 5#32)) := by
  unfold k2_pay51
  generalize hw : xori (addi v171 v178) _ = w
  rw [show IntOp.xori (IntOp.addi (v171 j) (v178 j)) (IntOp.addi (IntOp.addi (v177 j) 73761939#32) 5#32) = w j by rw [← hw]; rfl]
  rfl

theorem re2_7 (v171 v177 : IVec S512x256 32) (j : S512x256.Idx) :
    k2_pay51 (F := Ideal) v171 v177 k2_pay50 j = nunif (halves (inj 522974521#32 kr1.1 5#32 (v171 j, v177 j))) :=
  (re2_5 v171 v177 k2_pay50 j).trans (congrArg nunif rfl)

/-! ## The imaginary part's -/

theorem im2_1 (v10 : IVec S512x256 32) (j : S512x256.Idx) :
    (k2_pay63 v10 j, IntOp.xori (k2_pay63 v10 j) (IntOp.ori (k2_pay64 v10 j) (IntOp.shrui .vector (k2_pay62 v10 j) 15#32)))
      = rnd 17#32 15#32 (inj ki1.2 3678628436#32 1#32 (four (ki1.1, IntOp.addi (v10 j) ki1.2))) := rfl

theorem im2_2 (v262 v263 v265 : IVec S512x256 32) (j : S512x256.Idx) :
    (k2_pay77 v262 v263 v265 k2_pay65 j, IntOp.xori (k2_pay77 v262 v263 v265 k2_pay65 j)
        (IntOp.ori (IntOp.shli .vector (k2_pay76 v262 v263 v265 k2_pay65 j) 26#32) (IntOp.shrui .vector (k2_pay76 v262 v263 v265 k2_pay65 j) 6#32)))
      = rnd 26#32 6#32 (rnd 15#32 17#32 (rnd 13#32 19#32 (inj 3678628436#32 ki1.1 2#32 (rnd 24#32 8#32 (rnd 16#32 16#32 (rnd 29#32 3#32
          (v263 j, IntOp.xori (v263 j) (IntOp.ori (v265 j) (IntOp.shrui .vector (v262 j) 15#32))))))))) := rfl

theorem im2_3 (v310 v311 : IVec S512x256 32) (j : S512x256.Idx) :
    (k2_pay88 v310 v311 k2_pay78 j, k2_pay89 v310 v311 k2_pay78 j)
      = four' (inj ki1.1 ki1.2 3#32 (rnd 6#32 26#32
          (v311 j, IntOp.xori (v311 j) (IntOp.ori (IntOp.shli .vector (v310 j) 26#32) (IntOp.shrui .vector (v310 j) 6#32))))) := rfl

theorem im2_4 (v352 v358 : IVec S512x256 32) (j : S512x256.Idx) :
    k2_pay90 v352 v358 j
      = IntOp.shrui .vector (halves (inj 3678628436#32 ki1.1 5#32 (four (inj ki1.2 3678628436#32 4#32 (v352 j, v358 j))))) 9#32 := rfl

/-! ## The numbers -/

theorem re2_6 (v171 v177 v178 : IVec S512x256 32) (j : S512x256.Idx) :
    k2_pay53 (k2_pay51 (F := Ideal) v171 v177 v178) (k2_pay52 (F := Ideal) v171 v177 v178) j
      = kerf (k2_pay51 (F := Ideal) v171 v177 v178 j) := by
  unfold k2_pay53 k2_pay52
  generalize k2_pay51 (F := Ideal) v171 v177 v178 = u
  rfl

theorem fad2_last (v225 : FVec Ideal S512x256 .f32) (v401 : IVec S512x256 32) (j : S512x256.Idx) :
    k2_pay92 (F := Ideal) v225 v401 k2_pay91 j
      = nfad (v225 j) (kerf (max low (Ideal.ofBits .f32 (IntOp.ori (v401 j) 1065353216#32) * nwidth - nshift))) := rfl

/-- The block of fadings, as the kernel's parts hand their values on. -/
def fad2 (i : grid2.Coords) : FVec Ideal S512x256 .f32 :=
  let v10 := k2_pay4 i
  let v35 := k2_pay12 i
  let v41 := k2_pay13 i
  let v82 := k2_pay24 v35 v41 k2_pay14
  let v87 := k2_pay25 v35 v41 k2_pay14
  let v129 := k2_pay36 v82 v87
  let v130 := k2_pay37 v82 v87
  let v132 := k2_pay38 v82 v87
  let v171 := k2_pay48 v129 v130 v132 16#32
  let v177 := k2_pay49 v129 v130 v132 16#32
  let v225 := k2_pay53 (k2_pay51 (F := Ideal) v171 v177 k2_pay50) (k2_pay52 (F := Ideal) v171 v177 k2_pay50)
  let v262 := k2_pay62 v10
  let v263 := k2_pay63 v10
  let v265 := k2_pay64 v10
  let v310 := k2_pay76 v262 v263 v265 k2_pay65
  let v311 := k2_pay77 v262 v263 v265 k2_pay65
  let v352 := k2_pay88 v310 v311 k2_pay78
  let v358 := k2_pay89 v310 v311 k2_pay78
  k2_pay92 (F := Ideal) v225 (k2_pay90 v352 v358) k2_pay91

theorem fad2_apply (i : grid2.Coords) (j : S512x256.Idx) : fad2 i j = fading kr1 ki1 (k2_pay4 i j) := by
  unfold fad2
  rw [fad2_last, re2_6, re2_7, im2_4, nfad_eq, nwidth_eq, nshift_eq, nunif_eq]
  rw [re2_4, re2_3, re2_2, re2_1, im2_3, im2_2, im2_1]
  unfold fading
  rw [← kerf_kunif kr1, ← kerf_kunif ki1]
  rw [word_eq kr1.1 kr1.2 522974521#32 (by decide), word_eq ki1.1 ki1.2 3678628436#32 (by decide)]
  simp only [pairAt, four, four', kunif]

end Cert.KernelIdeal.Layer

end
-- ==== Proof.Ker.Sum2.lean ====
/-
  Pallas call 2: what its row blocks add up to, and the array it leaves: the shift over the fading.
-/
module

public import proofs.«01_k».proof.Proof.Ideal.Shift2Body
public import proofs.«01_k».proof.Proof.Ker.Fading2
public import Idealize.ShloMosaic.Lib.Pipeline.ValueKit
public import Idealize.ShloMosaic.Lib.Pointwise

@[expose] public section

set_option maxRecDepth 16384

noncomputable section

namespace Cert.KernelIdeal.Layer

open Cert.KernelIdeal.Gen Cert.Rand Idealize.ShloMosaic Idealize.ShloMosaic.TcCoe

/-! ## What a step stores -/

theorem sout2_A_eq (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : cond2_0 i) (hc1 : ¬cond2_1 i) (hc2 : ¬cond2_2 i)
    (x0 : Vec Ideal S512x256 .f32) (x1 : Vec Ideal S256x128 .f32) :
    sout2_A_0 c i arg2 harg2 arg3 harg3 arg4 harg4 arg5 harg5 hc0 hc1 hc2 x0 x1 = k2_pay2 (fad2 i) x0 x1 := by
  frame_out
  exact rfl

theorem sout2_B_eq (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : ¬cond2_0 i) (hc1 : cond2_1 i) (hc2 : ¬cond2_2 i)
    (x0 : Vec Ideal S512x256 .f32) (x1 : Vec Ideal S256x128 .f32) (s : Vec Ideal S512x128 .f32) :
    sout2_B_0 c i arg2 harg2 arg3 harg3 arg4 harg4 arg5 harg5 hc0 hc1 hc2 x0 x1 s = k2_pay3 (fad2 i) x0 x1 s := by
  frame_out
  exact rfl

theorem out2_C_eq (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : ¬cond2_0 i) (hc1 : cond2_1 i) (hc2 : cond2_2 i)
    (x0 : Vec Ideal S512x256 .f32) (x1 : Vec Ideal S256x128 .f32) (s : Vec Ideal S512x128 .f32) :
    out2_C_2 c i arg2 harg2 arg3 harg3 arg4 harg4 arg5 harg5 hc0 hc1 hc2 x0 x1 s = k2_pay3 (fad2 i) x0 x1 s := by
  frame_out
  exact rfl

theorem sout2_C_eq (c : Dev nD) (i : grid2.Coords) (arg2 : Memref sig .tc .vmem S512x256 .f32) (harg2 : arg2.IsWhole) (arg3 : Memref sig .tc .vmem S256x128 .f32) (harg3 : arg3.IsWhole) (arg4 : Memref sig .tc .vmem S512x128 .f32) (harg4 : arg4.IsWhole)
    (arg5 : Memref sig .tc .vmem S512x128 .f32) (harg5 : arg5.IsWhole) (hc0 : ¬cond2_0 i) (hc1 : cond2_1 i) (hc2 : cond2_2 i)
    (x0 : Vec Ideal S512x256 .f32) (x1 : Vec Ideal S256x128 .f32) (s : Vec Ideal S512x128 .f32) :
    sout2_C_0 c i arg2 harg2 arg3 harg3 arg4 harg4 arg5 harg5 hc0 hc1 hc2 x0 x1 s = k2_pay3 (fad2 i) x0 x1 s := by
  frame_out
  exact rfl

/-- A step's product, at an element. -/
theorem part2_apply (v x0 : Vec Ideal S512x256 .f32) (x1 : Vec Ideal S256x128 .f32) (a : Fin 512) (b : Fin 128) :
    k2_pay2 (F := Ideal) v x0 x1 (ix2 a b) = ∑ k : Fin 256, x0 (ix2 a k) * v (ix2 a k) * x1 (ix2 k b) := by
  pointwise [k2_pay2, k2_pay1]

/-- A later step adds its product to what the accumulator holds. -/
theorem step2_apply (v x0 : Vec Ideal S512x256 .f32) (x1 : Vec Ideal S256x128 .f32) (s : Vec Ideal S512x128 .f32) (j : S512x128.Idx) :
    k2_pay3 (F := Ideal) v x0 x1 s j = s j + k2_pay2 (F := Ideal) v x0 x1 j := by
  idx_vars j
  pointwise [k2_pay2, k2_pay3, k2_pay1]

/-- The counters of a block of links are their numbers in the whole matrix. -/
theorem count2_apply (i : grid2.Coords) (a : Fin 512) (b : Fin 256) :
    k2_pay4 i (ix2 a b) = BitVec.ofNat 32 (4096 * (512 * (i 0).val + a.val) + (256 * (i 1).val + b.val)) := by
  pointwise [k2_pay4]
  simp only [Scalar.addi, Scalar.muli, IntOp.addi, IntOp.muli, ← BitVec.ofNat_add, ← BitVec.ofNat_mul]
  congr 1
  omega

/-! ## The accumulator over a row block's steps -/

variable (V : (c : Dev nD) → (b : Ref sig .tc) → Buf (Elt Ideal) ((c : Thread nD τ).loc b))

/-- The product of grid point `n`. -/
def term2 (c : Dev nD) (n : ℕ) (j : S512x128.Idx) : EReal :=
  if h : n < cfg2.N then k2_pay2 (F := Ideal) (fad2 (grid2.coords ⟨n, h⟩)) (iblk2 V c 0 ⟨n, h⟩) (iblk2 V c 1 ⟨n, h⟩) j else 0

theorem term2_of (c : Dev nD) (t : Fin cfg2.N) (j : S512x128.Idx) :
    term2 V c t.val j = k2_pay2 (F := Ideal) (fad2 (grid2.coords t)) (iblk2 V c 0 t) (iblk2 V c 1 t) j := dif_pos t.isLt

theorem scratch2 (c : Dev nD) (t : Fin cfg2.N) (j : S512x128.Idx) :
    (outsAt2 V c t.val t.isLt).2 j = 0 + ∑ k ∈ Finset.range (t.val % 16 + 1), term2 V c (16 * (t.val / 16) + k) j :=
  Pipeline.eq_sum_of_reset_step_apply (fun n h => (outsAt2 V c n h).2) 16 (fun _ => (0 : EReal)) (term2 V c)
    (fun t h j => by
      rw [outsAt2_A V c t h (by omega) (by omega), term2_of]
      dsimp only
      rw [sout2_A_eq, zero_add])
    (fun t h j => by
      rw [term2_of]
      by_cases h2 : t.val % 16 = 15
      · rw [outsAt2_C V c t h (by omega) h2]
        dsimp only
        rw [sout2_C_eq, step2_apply]
      · rw [outsAt2_B V c t h (by omega) h2]
        dsimp only
        rw [sout2_B_eq, step2_apply]) t j

/-- The block written back is the sum of its sixteen products. -/
theorem block2 (c : Dev nD) (t : Fin cfg2.N) (h : t.val % 16 = 15) (j : S512x128.Idx) :
    (outsAt2 V c t.val t.isLt).1 j = ∑ k : Fin 16, term2 V c (16 * (t.val / 16) + k.val) j := by
  have e : (outsAt2 V c t.val t.isLt).1 = (outsAt2 V c t.val t.isLt).2 := by
    rw [outsAt2_C V c t (by omega) (by omega) h]
    dsimp only
    rw [out2_C_eq, sout2_C_eq]
  rw [e, scratch2, zero_add, h, Finset.sum_range]

/-! ## The blocks and the array -/

theorem coords2 : ∀ t : Fin cfg2.N, (grid2.coords t 0).val = t.val / 16 ∧ (grid2.coords t 1).val = t.val % 16 := by
  decide +kernel
theorem index2_0 : ∀ t : Fin cfg2.N, win2_0.index t = ![t.val / 16, t.val % 16] := by decide +kernel
theorem index2_1 : ∀ t : Fin cfg2.N, win2_1.index t = ![t.val % 16, 0] := by decide +kernel
theorem index2_2 : ∀ t : Fin cfg2.N, win2_2.index t = ![t.val / 16, 0] := by decide +kernel

theorem links2 (c : Dev nD) (t : Fin cfg2.N) (a : Fin 512) (k : Fin 256) (r l : Fin 4096)
    (hr : r.val = 512 * (t.val / 16) + a.val) (hl : l.val = 256 * (t.val % 16) + k.val) :
    iblk2 V c 0 t (ix2 a k) = V c main_arg1 (ix2 r l) := by
  unfold iblk2
  refine congrArg (V c main_arg1) ?_
  funext x; apply Fin.ext
  match x with
  | ⟨0, _⟩ => blk_simp [index2_0 t]; show _ = r.val; omega
  | ⟨1, _⟩ => blk_simp [index2_0 t]; show _ = l.val; omega

theorem feats2 (c : Dev nD) (t : Fin cfg2.N) (k : Fin 256) (b : Fin 128) (l : Fin 4096)
    (hl : l.val = 256 * (t.val % 16) + k.val) :
    iblk2 V c 1 t (ix2 k b) = V c main_v3_0 (ix2 l b) := by
  unfold iblk2
  refine congrArg (V c main_v3_0) ?_
  funext x; apply Fin.ext
  match x with
  | ⟨0, _⟩ => blk_simp [index2_1 t]; show _ = l.val; omega
  | ⟨1, _⟩ => blk_simp [index2_1 t]

/-- A row block's sixteen products are one sum over all the links of the row. -/
theorem row2 (c : Dev nD) (q : ℕ) (hq : q < 8) (a : Fin 512) (b : Fin 128) (r : Fin 4096) (hr : r.val = 512 * q + a.val) :
    ∑ k : Fin 16, term2 V c (16 * q + k.val) (ix2 a b)
      = shifted kr1 ki1 (fun r l => V c main_arg1 (ix2 r l)) (fun l f => V c main_v3_0 (ix2 l f)) r b := by
  unfold shifted
  rw [← Fin.sum_mul_add_fin 16 256 _ rfl]
  refine Finset.sum_congr rfl fun k _ => ?_
  have hN : 16 * q + k.val < cfg2.N := lt_of_lt_of_eq (by omega) (show 128 = cfg2.N from N_2.symm)
  obtain ⟨e0, e1⟩ := coords2 ⟨16 * q + k.val, hN⟩
  rw [show 16 * q + k.val = (⟨16 * q + k.val, hN⟩ : Fin cfg2.N).val from rfl, term2_of, part2_apply]
  dsimp only at e0 e1
  refine Finset.sum_congr rfl fun l _ => ?_
  rw [fad2_apply, count2_apply, e0, e1, links2 V c _ a l r ⟨k.val * 256 + l.val, by omega⟩ (by dsimp only; omega) (by dsimp only; omega),
    feats2 V c _ l b ⟨k.val * 256 + l.val, by omega⟩ (by dsimp only; omega)]
  rw [show 4096 * (512 * ((16 * q + k.val) / 16) + a.val) + (256 * ((16 * q + k.val) % 16) + l.val) = 4096 * r.val + (k.val * 256 + l.val) by omega]

/-- THE ARRAY pallas call 2 leaves: what comes over the faded links. -/
theorem array2 (c : Dev nD) (r : Fin 4096) (b : Fin 128) :
    (dat2 V c).arrAt 2 cfg2.N (ix2 r b)
      = shifted kr1 ki1 (fun r l => V c main_arg1 (ix2 r l)) (fun l f => V c main_v3_0 (ix2 l f)) r b := by
  have h : (dat2 V c).arrAt 2 cfg2.N = fun i => shifted kr1 ki1 (fun r l => V c main_arg1 (ix2 r l)) (fun l f => V c main_v3_0 (ix2 l f)) (i 0) (i 1) := by
    refine (dat2 V c).arrAt_eq_of_covers 2 _ (by decide +kernel) fun t hf y => ?_
    blk_simp
    rw [after2_2]
    have ht : t.val % 16 = 15 := (flush2_2 t).mp hf
    obtain ⟨a, f, rfl⟩ : ∃ (a : Fin 512) (f : Fin 128), y = ix2 a f := ⟨y 0, y 1, eq_ix2 y⟩
    have hN : t.val < 128 := lt_of_lt_of_eq t.isLt N_2
    rw [block2 V c t ht, row2 V c (t.val / 16) (by omega) a f ((win2_2.blk t).view.emb (ix2 a f) 0) (by blk_simp [index2_2 t]; omega)]
    refine congrArg (shifted _ _ _ _ _) (Fin.ext ?_)
    blk_simp [index2_2 t]
  exact congrFun h (ix2 r b)

end Cert.KernelIdeal.Layer

end
-- ==== Proof.Ker.Vector.lean ====
/-
  The numbers of a matrix of words, as vector operations, and what each is at an element.
-/
module

public import proofs.«01_k».proof.Proof.Ker.Spell
public import proofs.«01_k».proof.Proof.Gen.KernelIdeal.Skeleton
public import Idealize.ShloMosaic.Lib.Pointwise

@[expose] public section

noncomputable section

namespace Cert.KernelIdeal.Layer

open Cert.KernelIdeal.Gen Cert.Rand Idealize.ShloMosaic

/-- The argument of the inverse error function's polynomial, on vectors. -/
def vkarg (u : FVec Ideal S4096x128 .f32) : FVec Ideal S4096x128 .f32 :=
  sqrt (subf (broadcast S4096x128 (Ideal.ofBits .f32 0x00000000#32)) (log (subf (broadcast S4096x128 (Ideal.ofBits .f32 0x3F800000#32)) (mulf u u))))

theorem vkarg_apply (u : FVec Ideal S4096x128 .f32) (j : S4096x128.Idx) : vkarg u j = karg (u j) := by
  pointwise [vkarg, karg]

/-- The inner steps of Horner's rule, on vectors. -/
def vinner (v : FVec Ideal S4096x128 .f32) : FVec Ideal S4096x128 .f32 :=
  mulf (addf (broadcast S4096x128 (Ideal.ofBits .f32 0xBD31A4C2#32)) (mulf (addf (broadcast S4096x128 (Ideal.ofBits .f32 0x3E95A4B1#32))
    (mulf (addf (broadcast S4096x128 (Ideal.ofBits .f32 0xBE052989#32)) (mulf (addf (broadcast S4096x128 (Ideal.ofBits .f32 0x3CD1B351#32))
      (mulf (addf (broadcast S4096x128 (Ideal.ofBits .f32 0xBB1D849A#32)) (mulf (broadcast S4096x128 (Ideal.ofBits .f32 0x38B67607#32)) v)) v)) v)) v)) v)) v

theorem vinner_apply (v : FVec Ideal S4096x128 .f32) (j : S4096x128.Idx) :
    Ideal.ofBits .f32 0x3F5F02EA#32 + (Ideal.ofBits .f32 0x3DE82330#32 + vinner v j) * v j = khorner (v j) := by
  pointwise [vinner, khorner]

/-- The uniform number of a word, on vectors. -/
def vnunif (w : IVec S4096x128 32) : FVec Ideal S4096x128 .f32 :=
  maximumf (broadcast S4096x128 low) (subf (mulf (bitcastToFloat .f32 (ori (shrui w (broadcast S4096x128 9#32)) (broadcast S4096x128 1065353216#32)))
    (broadcast S4096x128 nwidth)) (broadcast S4096x128 nshift))

theorem vnunif_apply (w : IVec S4096x128 32) (j : S4096x128.Idx) : vnunif w j = nunif (w j) := by
  pointwise [vnunif, nunif]

end Cert.KernelIdeal.Layer

end
-- ==== Proof.Ker.Noise1.lean ====
/-
  Pallas call 1: the noise it draws and adds, element by element.
-/
module

public import proofs.«01_k».proof.Proof.Ker.Vector

@[expose] public section

noncomputable section

namespace Cert.KernelIdeal.Layer

open Cert.KernelIdeal.Gen Cert.Rand Idealize.ShloMosaic

/-- The counters: an element's number in the matrix. -/
def cnt1 : IVec S4096x128 32 :=
  addi (muli (iota .tc S4096x128 32 [0] iota_S4096x128_d0_w32) (broadcast S4096x128 128#32)) (iota .tc S4096x128 32 [1] iota_S4096x128_d1_w32)

/-! ## The words, by the parts the kernel is printed in -/

theorem no1_1 (j : S4096x128.Idx) :
    (k1_pay12 j, IntOp.xori (k1_pay12 j) (IntOp.ori (k1_pay13 j) (k1_pay14 j))) = four (kn0.1, IntOp.addi (cnt1 j) kn0.2) := rfl

theorem no1_2 (v39 v41 v43 : IVec S4096x128 32) (j : S4096x128.Idx) :
    (k1_pay24 v39 v41 v43 j, IntOp.xori (k1_pay24 v39 v41 v43 j) (IntOp.ori (k1_pay25 v39 v41 v43 j) (IntOp.shrui .vector (k1_pay23 v39 v41 v43 j) 19#32)))
      = rnd 13#32 19#32 (inj 667892648#32 kn0.1 2#32 (four' (inj kn0.2 667892648#32 1#32 (v39 j, IntOp.xori (v39 j) (IntOp.ori (v41 j) (v43 j)))))) := rfl

theorem no1_3 (v85 v86 v88 : IVec S4096x128 32) (j : S4096x128.Idx) :
    (k1_pay37 v85 v86 v88 j, IntOp.xori (k1_pay37 v85 v86 v88 j)
        (IntOp.ori (IntOp.shli .vector (k1_pay36 v85 v86 v88 j) 16#32) (IntOp.shrui .vector (k1_pay36 v85 v86 v88 j) 16#32)))
      = rnd 16#32 16#32 (rnd 29#32 3#32 (rnd 17#32 15#32 (inj kn0.1 kn0.2 3#32 (rnd 6#32 26#32 (rnd 26#32 6#32 (rnd 15#32 17#32
          (v86 j, IntOp.xori (v86 j) (IntOp.ori (v88 j) (IntOp.shrui .vector (v85 j) 19#32))))))))) := rfl

theorem no1_4 (v133 v134 : IVec S4096x128 32) (j : S4096x128.Idx) :
    (k1_pay47 v133 v134 j, IntOp.xori (k1_pay47 v133 v134 j) (IntOp.ori (k1_pay48 v133 v134 j) (k1_pay49 v133 v134 j)))
      = four (inj kn0.2 667892648#32 4#32 (rnd 24#32 8#32
          (v134 j, IntOp.xori (v134 j) (IntOp.ori (IntOp.shli .vector (v133 j) 16#32) (IntOp.shrui .vector (v133 j) 16#32))))) := rfl

theorem no1_5 (v175 v177 v179 : IVec S4096x128 32) (j : S4096x128.Idx) :
    k1_pay50 (F := Ideal) v175 v177 v179 j
      = nunif (IntOp.xori (IntOp.addi (v175 j) 667892648#32) (IntOp.addi (IntOp.addi (IntOp.xori (v175 j) (IntOp.ori (v177 j) (v179 j))) 2705940334#32) 5#32)) := by
  have h : k1_pay50 (F := Ideal) v175 v177 v179 = vnunif (xori (addi v175 (broadcast S4096x128 667892648#32)) (addi (addi (xori v175 (ori v177 v179)) (broadcast S4096x128 2705940334#32)) (broadcast S4096x128 5#32))) := rfl
  rw [h, vnunif_apply]
  exact congrArg nunif rfl

theorem no1_6 (v175 v177 v179 : IVec S4096x128 32) (j : S4096x128.Idx) :
    k1_pay50 (F := Ideal) v175 v177 v179 j
      = nunif (halves (inj 667892648#32 kn0.1 5#32 (v175 j, IntOp.xori (v175 j) (IntOp.ori (v177 j) (v179 j))))) :=
  (no1_5 v175 v177 v179 j).trans (congrArg nunif rfl)

/-- The numbers, and the noise on what came. -/
theorem no1_7 (v1 : FVec Ideal S4096x128 .f32) (v9 : EReal) (v199 v206 v223 : FVec Ideal S4096x128 .f32) (j : S4096x128.Idx) :
    k1_pay1 v1 v9 v199 v206 v223 j
      = v1 j + (Ideal.ofBits .f32 0x3F5F02EA#32 + (Ideal.ofBits .f32 0x3DE82330#32 + v223 j) * v206 j) * v199 j * (ntwo * v9) := rfl

theorem no1_8 (v175 v177 v179 : IVec S4096x128 32) (j : S4096x128.Idx) :
    k1_pay51 (F := Ideal) v175 v177 v179 j = karg (k1_pay50 (F := Ideal) v175 v177 v179 j) := by
  have h : k1_pay51 (F := Ideal) v175 v177 v179 = vkarg (k1_pay50 (F := Ideal) v175 v177 v179) := rfl
  rw [h, vkarg_apply]

theorem no1_9 (v175 v177 v179 : IVec S4096x128 32) (j : S4096x128.Idx) :
    (Ideal.ofBits .f32 0x3F5F02EA#32 + (Ideal.ofBits .f32 0x3DE82330#32 + k1_pay52 (F := Ideal) v175 v177 v179 j) * k1_pay51 (F := Ideal) v175 v177 v179 j)
      = khorner (k1_pay51 (F := Ideal) v175 v177 v179 j) := by
  have h : k1_pay52 (F := Ideal) v175 v177 v179 = vinner (k1_pay51 (F := Ideal) v175 v177 v179) := rfl
  rw [h, vinner_apply]

/-- What the kernel receives, as its parts hand their values on. -/
def recv1 (v1 : FVec Ideal S4096x128 .f32) (v9 : EReal) : FVec Ideal S4096x128 .f32 :=
  let v85 := k1_pay23 k1_pay12 k1_pay13 k1_pay14
  let v86 := k1_pay24 k1_pay12 k1_pay13 k1_pay14
  let v88 := k1_pay25 k1_pay12 k1_pay13 k1_pay14
  let v133 := k1_pay36 v85 v86 v88
  let v134 := k1_pay37 v85 v86 v88
  let v175 := k1_pay47 v133 v134
  let v177 := k1_pay48 v133 v134
  let v179 := k1_pay49 v133 v134
  k1_pay1 v1 v9 (k1_pay50 (F := Ideal) v175 v177 v179) (k1_pay51 (F := Ideal) v175 v177 v179) (k1_pay52 (F := Ideal) v175 v177 v179)

theorem recv1_apply (v1 : FVec Ideal S4096x128 .f32) (v9 : EReal) (j : S4096x128.Idx) :
    recv1 v1 v9 j = v1 j + root2 * drawn kn0 (cnt1 j) * v9 := by
  unfold recv1
  rw [no1_7, no1_9, no1_8, ← kerf, no1_6, ntwo_eq, nunif_eq]
  rw [no1_4, no1_3, no1_2, no1_1]
  rw [mul_comm root2 (drawn kn0 (cnt1 j)), mul_assoc, ← kerf_kunif kn0, word_eq kn0.1 kn0.2 667892648#32 (by decide)]
  simp only [pairAt, four, four', mul_assoc]

end Cert.KernelIdeal.Layer

end
-- ==== Proof.Ker.Comb1.lean ====
/-
  Pallas call 1: what is received over the first shift, and its tap.
-/
module

public import proofs.«01_k».proof.Proof.Ideal.Combine1
public import proofs.«01_k».proof.Proof.Ker.Noise1
public import Idealize.ShloMosaic.Lib.Pipeline.ValueKit
public import Idealize.ShloMosaic.Lib.Pointwise

@[expose] public section

noncomputable section

namespace Cert.KernelIdeal.Layer

open Cert.KernelIdeal.Gen Cert.Rand
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## The body's values -/

theorem cnt1_ix2 (r : Fin 4096) (f : Fin 128) : cnt1 (ix2 r f) = BitVec.ofNat 32 (128 * r.val + f.val) := by
  pointwise [cnt1]
  simp only [IntOp.addi, IntOp.muli, ← BitVec.ofNat_add, ← BitVec.ofNat_mul]
  congr 1; omega

theorem same1 (v : Vec Ideal S4096x128 .f32) : k1_pay3 v = v := by
  funext j
  pointwise [k1_pay3]

theorem spread1 (v : Vec Ideal S4096x128 .f32) : k1_pay4 v = spread (fun r f => v (ix2 r f)) := by
  pointwise [k1_pay4, k1_pay3]
  rfl

/-- The tap's product is added to what the layer has so far. -/
theorem tapped1 (v1 : FVec Ideal S4096x128 .f32) (v9 : EReal) (v199 v206 v223 : FVec Ideal S4096x128 .f32)
    (w : Vec Ideal S128x128 .f32) (p : Vec Ideal S4096x128 .f32) (r : Fin 4096) (o : Fin 128) :
    k1_pay2 v1 v9 v199 v206 v223 w p (ix2 r o)
      = p (ix2 r o) + ∑ f : Fin 128, k1_pay1 v1 v9 v199 v206 v223 (ix2 r f) * w (ix2 o f) := by
  unfold k1_pay2
  pointwise

/-! ## The blocks: each window is its whole array -/

variable (V : (c : Dev nD) → (b : Ref sig .tc) → Buf (Elt Ideal) ((c : Thread nD τ).loc b))

theorem index1_0 : ∀ t : Fin cfg1.N, win1_0.index t = ![0, 0] := by decide +kernel
theorem index1_1 : ∀ t : Fin cfg1.N, win1_1.index t = ![0, 0] := by decide +kernel
theorem index1_2 : ∀ t : Fin cfg1.N, win1_2.index t = ![0, 0] := by decide +kernel
theorem index1_3 : ∀ t : Fin cfg1.N, win1_3.index t = ![0, 0] := by decide +kernel
theorem index1_4 : ∀ t : Fin cfg1.N, win1_4.index t = ![0, 0] := by decide +kernel

theorem whole1_0 (c : Dev nD) (t : Fin cfg1.N) : iblk1 V c 0 t = V c main_v1 := by
  funext j
  unfold iblk1
  refine congrArg (V c main_v1) ?_
  funext x; apply Fin.ext
  match x with
  | ⟨0, _⟩ => blk_simp [index1_0 t]
  | ⟨1, _⟩ => blk_simp [index1_0 t]
theorem whole1_1 (c : Dev nD) (t : Fin cfg1.N) : iblk1 V c 1 t = V c main_arg2 := by
  funext j
  unfold iblk1
  refine congrArg (V c main_arg2) ?_
  funext x; apply Fin.ext
  match x with
  | ⟨0, _⟩ => blk_simp [index1_1 t]
  | ⟨1, _⟩ => blk_simp [index1_1 t]
theorem whole1_2 (c : Dev nD) (t : Fin cfg1.N) : iblk1 V c 2 t = V c main_v2 := by
  funext j
  unfold iblk1
  refine congrArg (V c main_v2) ?_
  funext x; apply Fin.ext
  match x with
  | ⟨0, _⟩ => blk_simp [index1_2 t]
  | ⟨1, _⟩ => blk_simp [index1_2 t]

theorem zero1 : (![0, 0] : Fin 2 → Nat) = fun _ => 0 := funext fun a => by fin_cases a <;> rfl

theorem out1_3_eq (y : Vec Ideal S4096x128 .f32) (w : Vec Ideal S128x128 .f32) (p : Vec Ideal S4096x128 .f32) :
    out1_3 y w p = recv1 (k1_pay3 y) (k1_pay4 y) := by
  unfold out1_3
  rw [View.canon_unit_zero zero1, View.ld_unit_zero (S := S4096x128) zero1 _ y]
  unfold k1_pay53
  rw [View.ld_unit_zero (S := S4096x128) zero1 _ y]
  rfl

theorem out1_3_ix2 (y : Vec Ideal S4096x128 .f32) (w : Vec Ideal S128x128 .f32) (p : Vec Ideal S4096x128 .f32) (r : Fin 4096) (f : Fin 128) :
    out1_3 y w p (ix2 r f) = received kn0 (fun r f => y (ix2 r f)) r f := by
  rw [out1_3_eq, recv1_apply, cnt1_ix2, same1, spread1]
  rfl

theorem out1_4_ix2 (y : Vec Ideal S4096x128 .f32) (w : Vec Ideal S128x128 .f32) (p : Vec Ideal S4096x128 .f32) (r : Fin 4096) (o : Fin 128) :
    out1_4 y w p (ix2 r o) = p (ix2 r o) + tap (received kn0 (fun r f => y (ix2 r f))) (fun o f => w (ix2 o f)) r o := by
  have h : ∀ f : Fin 128, out1_3 y w p (ix2 r f) = _ := fun f => out1_3_ix2 y w p r f
  unfold out1_3 at h
  unfold out1_4 tap
  rw [View.canon_unit_zero zero1] at h ⊢
  rw [tapped1, View.ld_unit_zero (S := S4096x128) zero1 _ p, View.ld_unit_zero (S := S128x128) zero1 _ w]
  exact congrArg _ (Finset.sum_congr rfl fun f _ => congrArg (· * w (ix2 o f)) (h f))

/-! ## The arrays pallas call 1 leaves -/

theorem array1_3 (c : Dev nD) (r : Fin 4096) (f : Fin 128) :
    (dat1 V c).arrAt 3 cfg1.N (ix2 r f) = received kn0 (fun r f => V c main_v1 (ix2 r f)) r f := by
  have h : (dat1 V c).arrAt 3 cfg1.N = out1_3 (V c main_v1) (V c main_arg2) (V c main_v2) := by
    refine (dat1 V c).arrAt_eq_of_covers 3 _ (by decide +kernel) fun t hf y => ?_
    blk_simp
    rw [after1_3, whole1_0, whole1_1, whole1_2]
    refine congrArg _ ?_
    funext x; apply Fin.ext
    match x with
    | ⟨0, _⟩ => blk_simp [index1_3 t]
    | ⟨1, _⟩ => blk_simp [index1_3 t]
  rw [h, out1_3_ix2]

theorem array1_4 (c : Dev nD) (r : Fin 4096) (o : Fin 128) :
    (dat1 V c).arrAt 4 cfg1.N (ix2 r o)
      = @HAdd.hAdd EReal EReal EReal _ (V c main_v2 (ix2 r o)) (tap (received kn0 (fun r f => V c main_v1 (ix2 r f))) (fun o f => V c main_arg2 (ix2 o f)) r o) := by
  have h : (dat1 V c).arrAt 4 cfg1.N = out1_4 (V c main_v1) (V c main_arg2) (V c main_v2) := by
    refine (dat1 V c).arrAt_eq_of_covers 4 _ (by decide +kernel) fun t hf y => ?_
    blk_simp
    rw [after1_4, whole1_0, whole1_1, whole1_2]
    refine congrArg _ ?_
    funext x; apply Fin.ext
    match x with
    | ⟨0, _⟩ => blk_simp [index1_4 t]
    | ⟨1, _⟩ => blk_simp [index1_4 t]
  rw [h, out1_4_ix2]

end Cert.KernelIdeal.Layer

end
-- ==== Proof.Ker.Noise3.lean ====
/-
  Pallas call 3: the noise it draws and adds, element by element.
-/
module

public import proofs.«01_k».proof.Proof.Ker.Vector

@[expose] public section

noncomputable section

namespace Cert.KernelIdeal.Layer

open Cert.KernelIdeal.Gen Cert.Rand Idealize.ShloMosaic

/-- The counters: an element's number in the matrix. -/
def cnt3 : IVec S4096x128 32 :=
  addi (muli (iota .tc S4096x128 32 [0] iota_S4096x128_d0_w32) (broadcast S4096x128 128#32)) (iota .tc S4096x128 32 [1] iota_S4096x128_d1_w32)

/-! ## The words, by the parts the kernel is printed in -/

theorem no3_1 (j : S4096x128.Idx) :
    (k3_pay12 j, IntOp.xori (k3_pay12 j) (IntOp.ori (k3_pay13 j) (k3_pay14 j))) = four (kn1.1, IntOp.addi (cnt3 j) kn1.2) := rfl

theorem no3_2 (v39 v41 v43 : IVec S4096x128 32) (j : S4096x128.Idx) :
    (k3_pay24 v39 v41 v43 j, IntOp.xori (k3_pay24 v39 v41 v43 j) (IntOp.ori (k3_pay25 v39 v41 v43 j) (IntOp.shrui .vector (k3_pay23 v39 v41 v43 j) 19#32)))
      = rnd 13#32 19#32 (inj 2538961013#32 kn1.1 2#32 (four' (inj kn1.2 2538961013#32 1#32 (v39 j, IntOp.xori (v39 j) (IntOp.ori (v41 j) (v43 j)))))) := rfl

theorem no3_3 (v85 v86 v88 : IVec S4096x128 32) (j : S4096x128.Idx) :
    (k3_pay37 v85 v86 v88 j, IntOp.xori (k3_pay37 v85 v86 v88 j)
        (IntOp.ori (IntOp.shli .vector (k3_pay36 v85 v86 v88 j) 16#32) (IntOp.shrui .vector (k3_pay36 v85 v86 v88 j) 16#32)))
      = rnd 16#32 16#32 (rnd 29#32 3#32 (rnd 17#32 15#32 (inj kn1.1 kn1.2 3#32 (rnd 6#32 26#32 (rnd 26#32 6#32 (rnd 15#32 17#32
          (v86 j, IntOp.xori (v86 j) (IntOp.ori (v88 j) (IntOp.shrui .vector (v85 j) 19#32))))))))) := rfl

theorem no3_4 (v133 v134 : IVec S4096x128 32) (j : S4096x128.Idx) :
    (k3_pay47 v133 v134 j, IntOp.xori (k3_pay47 v133 v134 j) (IntOp.ori (k3_pay48 v133 v134 j) (k3_pay49 v133 v134 j)))
      = four (inj kn1.2 2538961013#32 4#32 (rnd 24#32 8#32
          (v134 j, IntOp.xori (v134 j) (IntOp.ori (IntOp.shli .vector (v133 j) 16#32) (IntOp.shrui .vector (v133 j) 16#32))))) := rfl

theorem no3_5 (v175 v177 v179 : IVec S4096x128 32) (j : S4096x128.Idx) :
    k3_pay50 (F := Ideal) v175 v177 v179 j
      = nunif (IntOp.xori (IntOp.addi (v175 j) 2538961013#32) (IntOp.addi (IntOp.addi (IntOp.xori (v175 j) (IntOp.ori (v177 j) (v179 j))) 2215249346#32) 5#32)) := by
  have h : k3_pay50 (F := Ideal) v175 v177 v179 = vnunif (xori (addi v175 (broadcast S4096x128 2538961013#32)) (addi (addi (xori v175 (ori v177 v179)) (broadcast S4096x128 2215249346#32)) (broadcast S4096x128 5#32))) := rfl
  rw [h, vnunif_apply]
  exact congrArg nunif rfl

theorem no3_6 (v175 v177 v179 : IVec S4096x128 32) (j : S4096x128.Idx) :
    k3_pay50 (F := Ideal) v175 v177 v179 j
      = nunif (halves (inj 2538961013#32 kn1.1 5#32 (v175 j, IntOp.xori (v175 j) (IntOp.ori (v177 j) (v179 j))))) :=
  (no3_5 v175 v177 v179 j).trans (congrArg nunif rfl)

/-- The numbers, and the noise on what came. -/
theorem no3_7 (v1 : FVec Ideal S4096x128 .f32) (v9 : EReal) (v199 v206 v223 : FVec Ideal S4096x128 .f32) (j : S4096x128.Idx) :
    k3_pay1 v1 v9 v199 v206 v223 j
      = v1 j + (Ideal.ofBits .f32 0x3F5F02EA#32 + (Ideal.ofBits .f32 0x3DE82330#32 + v223 j) * v206 j) * v199 j * (ntwo * v9) := rfl

theorem no3_8 (v175 v177 v179 : IVec S4096x128 32) (j : S4096x128.Idx) :
    k3_pay51 (F := Ideal) v175 v177 v179 j = karg (k3_pay50 (F := Ideal) v175 v177 v179 j) := by
  have h : k3_pay51 (F := Ideal) v175 v177 v179 = vkarg (k3_pay50 (F := Ideal) v175 v177 v179) := rfl
  rw [h, vkarg_apply]

theorem no3_9 (v175 v177 v179 : IVec S4096x128 32) (j : S4096x128.Idx) :
    (Ideal.ofBits .f32 0x3F5F02EA#32 + (Ideal.ofBits .f32 0x3DE82330#32 + k3_pay52 (F := Ideal) v175 v177 v179 j) * k3_pay51 (F := Ideal) v175 v177 v179 j)
      = khorner (k3_pay51 (F := Ideal) v175 v177 v179 j) := by
  have h : k3_pay52 (F := Ideal) v175 v177 v179 = vinner (k3_pay51 (F := Ideal) v175 v177 v179) := rfl
  rw [h, vinner_apply]

/-- What the kernel receives, as its parts hand their values on. -/
def recv3 (v1 : FVec Ideal S4096x128 .f32) (v9 : EReal) : FVec Ideal S4096x128 .f32 :=
  let v85 := k3_pay23 k3_pay12 k3_pay13 k3_pay14
  let v86 := k3_pay24 k3_pay12 k3_pay13 k3_pay14
  let v88 := k3_pay25 k3_pay12 k3_pay13 k3_pay14
  let v133 := k3_pay36 v85 v86 v88
  let v134 := k3_pay37 v85 v86 v88
  let v175 := k3_pay47 v133 v134
  let v177 := k3_pay48 v133 v134
  let v179 := k3_pay49 v133 v134
  k3_pay1 v1 v9 (k3_pay50 (F := Ideal) v175 v177 v179) (k3_pay51 (F := Ideal) v175 v177 v179) (k3_pay52 (F := Ideal) v175 v177 v179)

theorem recv3_apply (v1 : FVec Ideal S4096x128 .f32) (v9 : EReal) (j : S4096x128.Idx) :
    recv3 v1 v9 j = v1 j + root2 * drawn kn1 (cnt3 j) * v9 := by
  unfold recv3
  rw [no3_7, no3_9, no3_8, ← kerf, no3_6, ntwo_eq, nunif_eq]
  rw [no3_4, no3_3, no3_2, no3_1]
  rw [mul_comm root2 (drawn kn1 (cnt3 j)), mul_assoc, ← kerf_kunif kn1, word_eq kn1.1 kn1.2 2538961013#32 (by decide)]
  simp only [pairAt, four, four', mul_assoc]

end Cert.KernelIdeal.Layer

end
-- ==== Proof.Ker.Comb3.lean ====
/-
  Pallas call 3: what is received over the second shift, and its tap.
-/
module

public import proofs.«01_k».proof.Proof.Ideal.Combine3
public import proofs.«01_k».proof.Proof.Ker.Noise3
public import Idealize.ShloMosaic.Lib.Pipeline.ValueKit
public import Idealize.ShloMosaic.Lib.Pointwise

@[expose] public section

noncomputable section

namespace Cert.KernelIdeal.Layer

open Cert.KernelIdeal.Gen Cert.Rand
open Idealize.ShloMosaic Idealize.ShloMosaic.TcCoe Idealize.ShloMosaic.Tactic
open Idealize.SL Idealize.SL.RA Idealize.SL.BI Idealize.SL.Sem
open Idealize.ShloMosaic.Pipeline (Dat Cfg Window)

/-! ## The body's values -/

theorem cnt3_ix2 (r : Fin 4096) (f : Fin 128) : cnt3 (ix2 r f) = BitVec.ofNat 32 (128 * r.val + f.val) := by
  pointwise [cnt3]
  simp only [IntOp.addi, IntOp.muli, ← BitVec.ofNat_add, ← BitVec.ofNat_mul]
  congr 1; omega

theorem same3 (v : Vec Ideal S4096x128 .f32) : k3_pay3 v = v := by
  funext j
  pointwise [k3_pay3]

theorem spread3 (v : Vec Ideal S4096x128 .f32) : k3_pay4 v = spread (fun r f => v (ix2 r f)) := by
  pointwise [k3_pay4, k3_pay3]
  rfl

/-- The tap's product is added to what the layer has so far. -/
theorem tapped3 (v1 : FVec Ideal S4096x128 .f32) (v9 : EReal) (v199 v206 v223 : FVec Ideal S4096x128 .f32)
    (w : Vec Ideal S128x128 .f32) (p : Vec Ideal S4096x128 .f32) (r : Fin 4096) (o : Fin 128) :
    k3_pay2 v1 v9 v199 v206 v223 w p (ix2 r o)
      = p (ix2 r o) + ∑ f : Fin 128, k3_pay1 v1 v9 v199 v206 v223 (ix2 r f) * w (ix2 o f) := by
  unfold k3_pay2
  pointwise

/-! ## The blocks: each window is its whole array -/

variable (V : (c : Dev nD) → (b : Ref sig .tc) → Buf (Elt Ideal) ((c : Thread nD τ).loc b))

theorem index3_0 : ∀ t : Fin cfg3.N, win3_0.index t = ![0, 0] := by decide +kernel
theorem index3_1 : ∀ t : Fin cfg3.N, win3_1.index t = ![0, 0] := by decide +kernel
theorem index3_2 : ∀ t : Fin cfg3.N, win3_2.index t = ![0, 0] := by decide +kernel
theorem index3_3 : ∀ t : Fin cfg3.N, win3_3.index t = ![0, 0] := by decide +kernel
theorem index3_4 : ∀ t : Fin cfg3.N, win3_4.index t = ![0, 0] := by decide +kernel

theorem whole3_0 (c : Dev nD) (t : Fin cfg3.N) : iblk3 V c 0 t = V c main_v4 := by
  funext j
  unfold iblk3
  refine congrArg (V c main_v4) ?_
  funext x; apply Fin.ext
  match x with
  | ⟨0, _⟩ => blk_simp [index3_0 t]
  | ⟨1, _⟩ => blk_simp [index3_0 t]
theorem whole3_1 (c : Dev nD) (t : Fin cfg3.N) : iblk3 V c 1 t = V c main_arg3 := by
  funext j
  unfold iblk3
  refine congrArg (V c main_arg3) ?_
  funext x; apply Fin.ext
  match x with
  | ⟨0, _⟩ => blk_simp [index3_1 t]
  | ⟨1, _⟩ => blk_simp [index3_1 t]
theorem whole3_2 (c : Dev nD) (t : Fin cfg3.N) : iblk3 V c 2 t = V c main_v3_1 := by
  funext j
  unfold iblk3
  refine congrArg (V c main_v3_1) ?_
  funext x; apply Fin.ext
  match x with
  | ⟨0, _⟩ => blk_simp [index3_2 t]
  | ⟨1, _⟩ => blk_simp [index3_2 t]

theorem zero3 : (![0, 0] : Fin 2 → Nat) = fun _ => 0 := funext fun a => by fin_cases a <;> rfl

theorem out3_3_eq (y : Vec Ideal S4096x128 .f32) (w : Vec Ideal S128x128 .f32) (p : Vec Ideal S4096x128 .f32) :
    out3_3 y w p = recv3 (k3_pay3 y) (k3_pay4 y) := by
  unfold out3_3
  rw [View.canon_unit_zero zero3, View.ld_unit_zero (S := S4096x128) zero3 _ y]
  unfold k3_pay53
  rw [View.ld_unit_zero (S := S4096x128) zero3 _ y]
  rfl

theorem out3_3_ix2 (y : Vec Ideal S4096x128 .f32) (w : Vec Ideal S128x128 .f32) (p : Vec Ideal S4096x128 .f32) (r : Fin 4096) (f : Fin 128) :
    out3_3 y w p (ix2 r f) = received kn1 (fun r f => y (ix2 r f)) r f := by
  rw [out3_3_eq, recv3_apply, cnt3_ix2, same3, spread3]
  rfl

theorem out3_4_ix2 (y : Vec Ideal S4096x128 .f32) (w : Vec Ideal S128x128 .f32) (p : Vec Ideal S4096x128 .f32) (r : Fin 4096) (o : Fin 128) :
    out3_4 y w p (ix2 r o) = p (ix2 r o) + tap (received kn1 (fun r f => y (ix2 r f))) (fun o f => w (ix2 o f)) r o := by
  have h : ∀ f : Fin 128, out3_3 y w p (ix2 r f) = _ := fun f => out3_3_ix2 y w p r f
  unfold out3_3 at h
  unfold out3_4 tap
  rw [View.canon_unit_zero zero3] at h ⊢
  rw [tapped3, View.ld_unit_zero (S := S4096x128) zero3 _ p, View.ld_unit_zero (S := S128x128) zero3 _ w]
  exact congrArg _ (Finset.sum_congr rfl fun f _ => congrArg (· * w (ix2 o f)) (h f))

/-! ## The arrays pallas call 3 leaves -/

theorem array3_3 (c : Dev nD) (r : Fin 4096) (f : Fin 128) :
    (dat3 V c).arrAt 3 cfg3.N (ix2 r f) = received kn1 (fun r f => V c main_v4 (ix2 r f)) r f := by
  have h : (dat3 V c).arrAt 3 cfg3.N = out3_3 (V c main_v4) (V c main_arg3) (V c main_v3_1) := by
    refine (dat3 V c).arrAt_eq_of_covers 3 _ (by decide +kernel) fun t hf y => ?_
    blk_simp
    rw [after3_3, whole3_0, whole3_1, whole3_2]
    refine congrArg _ ?_
    funext x; apply Fin.ext
    match x with
    | ⟨0, _⟩ => blk_simp [index3_3 t]
    | ⟨1, _⟩ => blk_simp [index3_3 t]
  rw [h, out3_3_ix2]

theorem array3_4 (c : Dev nD) (r : Fin 4096) (o : Fin 128) :
    (dat3 V c).arrAt 4 cfg3.N (ix2 r o)
      = @HAdd.hAdd EReal EReal EReal _ (V c main_v3_1 (ix2 r o)) (tap (received kn1 (fun r f => V c main_v4 (ix2 r f))) (fun o f => V c main_arg3 (ix2 o f)) r o) := by
  have h : (dat3 V c).arrAt 4 cfg3.N = out3_4 (V c main_v4) (V c main_arg3) (V c main_v3_1) := by
    refine (dat3 V c).arrAt_eq_of_covers 4 _ (by decide +kernel) fun t hf y => ?_
    blk_simp
    rw [after3_4, whole3_0, whole3_1, whole3_2]
    refine congrArg _ ?_
    funext x; apply Fin.ext
    match x with
    | ⟨0, _⟩ => blk_simp [index3_4 t]
    | ⟨1, _⟩ => blk_simp [index3_4 t]
  rw [h, out3_4_ix2]

end Cert.KernelIdeal.Layer

end
-- ==== Proof.Ker.Layer.lean ====
/-
  What the kernel's run leaves in its result: the layer.
-/
module

public import proofs.«01_k».proof.Proof.Ideal.Bounds
public import proofs.«01_k».proof.Proof.Ker.Sum0
public import proofs.«01_k».proof.Proof.Ker.Sum2
public import proofs.«01_k».proof.Proof.Ker.Comb1
public import proofs.«01_k».proof.Proof.Ker.Comb3

@[expose] public section

noncomputable section

namespace Cert.KernelIdeal.Layer

open Cert.KernelIdeal.Gen Cert.Rand
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (ρ : Dev nD → PrngReg)

/-! ## The arguments, as functions of their indices -/

def argX (c : Dev nD) (r : Fin 4096) (f : Fin 128) : EReal := m ((c : Thread nD τ).loc main_arg0) (ix3 0 r f)
def argA (c : Dev nD) (r l : Fin 4096) : EReal := m ((c : Thread nD τ).loc main_arg1) (ix2 r l)
def argW0 (c : Dev nD) (o f : Fin 128) : EReal := m ((c : Thread nD τ).loc main_arg2) (ix2 o f)
def argW1 (c : Dev nD) (o f : Fin 128) : EReal := m ((c : Thread nD τ).loc main_arg3) (ix2 o f)

/-! ## The first hop -/

theorem flat_ix2 (x : Vec Ideal S1x4096x128 .f32) (r : Fin 4096) (f : Fin 128) :
    shapeCast S4096x128 x shapeCasts_S1x4096x128_S4096x128 (ix2 r f) = x (ix3 0 r f) := by
  pointwise

theorem unflat_ix3 (y : Vec Ideal S4096x128 .f32) (r : Fin 4096) (o : Fin 128) :
    broadcastInDim S1x4096x128 ![1, 2] bcast_S4096x128_S1x4096x128_1_2 y (ix3 0 r o) = y (ix2 r o) := by
  pointwise

theorem in_v0 (c : Dev nD) (r : Fin 4096) (f : Fin 128) : V1 m ρ c main_v0 (ix2 r f) = argX m c r f := by
  have h : V1 m ρ c main_v0 = shapeCast S4096x128 (m ((c : Thread nD τ).loc main_arg0)) shapeCasts_S1x4096x128_S4096x128 := by
    show StableHlo.after hostOps0 (W0 m ρ c) (Proc.devRef .tc main_v0) = _
    rfl
  rw [h, flat_ix2]
  rfl

theorem in0_arg1 (c : Dev nD) : V1 m ρ c main_arg1 = m ((c : Thread nD τ).loc main_arg1) := W1_args m ρ c main_arg1 (by decide)

theorem at_v1 (c : Dev nD) (r : Fin 4096) (f : Fin 128) :
    V2 m ρ c main_v1 (ix2 r f) = shifted kr0 ki0 (argA m c) (argX m c) r f := by
  have h : V2 m ρ c main_v1 = (dat0 (V1 m ρ) c).arrAt 2 cfg0.N := W2_arr m ρ c 2
  rw [h, array0, in0_arg1]
  exact congrArg (fun x => shifted kr0 ki0 (argA m c) x r f) (funext₂ (in_v0 m ρ c))

theorem in_v1 (c : Dev nD) (r : Fin 4096) (f : Fin 128) :
    V3 m ρ c main_v1 (ix2 r f) = shifted kr0 ki0 (argA m c) (argX m c) r f := by
  have h : V3 m ρ c main_v1 = V2 m ρ c main_v1 := W3_of m ρ c main_v1 (by decide)
  rw [h, at_v1]

theorem in_v2 (c : Dev nD) (r : Fin 4096) (o : Fin 128) : V3 m ρ c main_v2 (ix2 r o) = (0 : EReal) := by
  have h : V3 m ρ c main_v2 = broadcastInDim S4096x128 ![] bcast_S_S4096x128 (constant (F := Ideal) S_ .f32 0x00000000#32) := by
    show StableHlo.after hostOps1 (W2 m ρ c) (Proc.devRef .tc main_v2) = _
    rfl
  rw [h]
  pointwise

theorem in1_arg2 (c : Dev nD) : V3 m ρ c main_arg2 = m ((c : Thread nD τ).loc main_arg2) := W3_args m ρ c main_arg2 (by decide)

theorem at_v3_0 (c : Dev nD) (r : Fin 4096) (f : Fin 128) :
    V4 m ρ c main_v3_0 (ix2 r f) = hop kr0 ki0 kn0 (argA m c) (argX m c) r f := by
  have h : V4 m ρ c main_v3_0 = (dat1 (V3 m ρ) c).arrAt 3 cfg1.N := W4_arr m ρ c 3
  rw [h, array1_3]
  exact congrArg (fun y => received kn0 y r f) (funext₂ (in_v1 m ρ c))

theorem at_v3_1 (c : Dev nD) (r : Fin 4096) (o : Fin 128) :
    V4 m ρ c main_v3_1 (ix2 r o) = tap (hop kr0 ki0 kn0 (argA m c) (argX m c)) (argW0 m c) r o := by
  have h : V4 m ρ c main_v3_1 = (dat1 (V3 m ρ) c).arrAt 4 cfg1.N := W4_arr m ρ c 4
  rw [h, array1_4, in_v2, zero_add, in1_arg2]
  exact congrArg (fun y => tap (received kn0 y) (argW0 m c) r o) (funext₂ (in_v1 m ρ c))

/-! ## The second hop -/

theorem in2_arg1 (c : Dev nD) : V4 m ρ c main_arg1 = m ((c : Thread nD τ).loc main_arg1) := W4_args m ρ c main_arg1 (by decide)

theorem at_v4 (c : Dev nD) (r : Fin 4096) (f : Fin 128) :
    V5 m ρ c main_v4 (ix2 r f) = shifted kr1 ki1 (argA m c) (hop kr0 ki0 kn0 (argA m c) (argX m c)) r f := by
  have h : V5 m ρ c main_v4 = (dat2 (V4 m ρ) c).arrAt 2 cfg2.N := W5_arr m ρ c 2
  rw [h, array2, in2_arg1]
  exact congrArg (fun x => shifted kr1 ki1 (argA m c) x r f) (funext₂ (at_v3_0 m ρ c))

theorem in_v3_1 (c : Dev nD) : V5 m ρ c main_v3_1 = V4 m ρ c main_v3_1 := W5_of m ρ c main_v3_1 (by decide)

theorem in3_arg3 (c : Dev nD) : V5 m ρ c main_arg3 = m ((c : Thread nD τ).loc main_arg3) := W5_args m ρ c main_arg3 (by decide)

theorem at_v5_1 (c : Dev nD) (r : Fin 4096) (o : Fin 128) :
    V6 m ρ c main_v5_1 (ix2 r o) = layer (argX m c) (argA m c) (argW0 m c) (argW1 m c) r o := by
  have h : V6 m ρ c main_v5_1 = (dat3 (V5 m ρ) c).arrAt 4 cfg3.N := W6_arr m ρ c 4
  rw [h, array3_4, in_v3_1, at_v3_1, in3_arg3]
  exact congrArg (fun y => tap (hop kr0 ki0 kn0 (argA m c) (argX m c)) (argW0 m c) r o + tap (received kn1 y) (argW1 m c) r o) (funext₂ (at_v4 m ρ c))

/-! ## The result -/

/-- THE RESULT the run leaves is the layer of its arguments. -/
theorem result (c : Dev nD) (r : Fin 4096) (o : Fin 128) :
    W7 m ρ c (Proc.devRef .tc main_v6) (ix3 0 r o) = layer (argX m c) (argA m c) (argW0 m c) (argW1 m c) r o := by
  have h : W7 m ρ c (Proc.devRef .tc main_v6) = broadcastInDim S1x4096x128 ![1, 2] bcast_S4096x128_S1x4096x128_1_2 (V6 m ρ c main_v5_1) := by
    show StableHlo.after hostOps4 (W6 m ρ c) (Proc.devRef .tc main_v6) = _
    rfl
  rw [h, ← at_v5_1 m ρ]
  exact unflat_ix3 (V6 m ρ c main_v5_1) r o

end Cert.KernelIdeal.Layer

end
-- ==== Proof.Ref.Stretch.lean ====
/-
  Stretches of the reference's main program: rows of a key table, the normal number of a uniform one,
  the fading of the links, a shift, the noise's deviation, and a tap.
-/
module

public import proofs.«01_k».proof.Proof.Ref.Pieces
public import proofs.«01_k».proof.Proof.Math

@[expose] public section

set_option maxRecDepth 16384

noncomputable section

namespace Cert.ReferenceIdeal.Layer

open Idealize.ShloMosaic Idealize.ShloMosaic.StableHlo Idealize.SL.Sem Cert.ReferenceIdeal Cert.Rand
open Facts₀ Facts

variable {W : Valuation τ sig (Elt Ideal)} {l : List (Step τ sig (Elt Ideal))} {S : Shape}

variable [hF : Facts]

/-- Row 0 of a table of two keys. -/
theorem Eqs.row0 {t : TRef sig ⟨S2x2, .i32⟩} {v : TRef sig ⟨S1x2, .i32⟩} {k : TRef sig ⟨S2, .i32⟩}
    (h : Eqs W (.tunary t v (extractStridedSlice S1x2 ![0, 0] · slices_S2x2_S1x2_0_0) :: .treshape v k rfl shapeCasts_S1x2_S2 :: l)) :
    (∀ c : Fin 2, get W k (ix1 c) = get W t (ix2 0 c)) ∧ Eqs W l := by
  obtain ⟨e1, h⟩ := h.tunary
  obtain ⟨e2, h⟩ := h.treshape
  refine ⟨fun c => ?_, h⟩
  rw [e2, e1]
  show shapeCast S2 (extractStridedSlice S1x2 ![0, 0] (get W t) slices_S2x2_S1x2_0_0) shapeCasts_S1x2_S2 (ix1 c) = _
  pointwise

/-- Row 1. -/
theorem Eqs.row1 {t : TRef sig ⟨S2x2, .i32⟩} {v : TRef sig ⟨S1x2, .i32⟩} {k : TRef sig ⟨S2, .i32⟩}
    (h : Eqs W (.tunary t v (extractStridedSlice S1x2 ![1, 0] · slices_S2x2_S1x2_1_0) :: .treshape v k rfl shapeCasts_S1x2_S2 :: l)) :
    (∀ c : Fin 2, get W k (ix1 c) = get W t (ix2 1 c)) ∧ Eqs W l := by
  obtain ⟨e1, h⟩ := h.tunary
  obtain ⟨e2, h⟩ := h.treshape
  refine ⟨fun c => ?_, h⟩
  rw [e2, e1]
  show shapeCast S2 (extractStridedSlice S1x2 ![1, 0] (get W t) slices_S2x2_S1x2_1_0) shapeCasts_S1x2_S2 (ix1 c) = _
  pointwise

/-- The root of a constant. -/
theorem Eqs.root {c s : TRef sig ⟨S_, .f32⟩} {b : BitVec 32}
    (h : Eqs W (.tnullary c (constant (F := Ideal) S_ .f32 b) :: .tunary c s (Host.sqrt (F := Ideal) (s := S_) (φ := .f32)) :: l)) :
    (∀ i, get W s i = Ideal.sqrt (Ideal.ofBits .f32 b)) ∧ Eqs W l := by
  obtain ⟨e1, h⟩ := h.tnullary
  obtain ⟨e2, h⟩ := h.tunary
  exact ⟨fun i => by rw [e2, e1]; rfl, h⟩

/-- Two constants. -/
theorem Eqs.consts {c c' : TRef sig ⟨S_, .f32⟩} {b b' : BitVec 32}
    (h : Eqs W (.tnullary c (constant (F := Ideal) S_ .f32 b) :: .tnullary c' (constant (F := Ideal) S_ .f32 b') :: l)) :
    (get W c o_ = Ideal.ofBits .f32 b ∧ get W c' o_ = Ideal.ofBits .f32 b') ∧ Eqs W l := by
  obtain ⟨e1, h⟩ := h.tnullary
  obtain ⟨e2, h⟩ := h.tnullary
  exact ⟨⟨by rw [e1]; rfl, by rw [e2]; rfl⟩, h⟩

/-- The root of a uniform number's logarithm. -/
theorem Eqs.radius {u a b c d e : TRef sig ⟨S, .f32⟩}
    (h : Eqs W (.tbinary u u a (mulf (F := Ideal) (s := S) (φ := .f32)) :: .tunary a b (Host.negf (F := Ideal) (s := S) (φ := .f32)) ::
      .tunary b c (Host.log1p (F := Ideal) (s := S) (φ := .f32)) :: .tunary c d (Host.negf (F := Ideal) (s := S) (φ := .f32)) ::
      .tunary d e (Host.sqrt (F := Ideal) (s := S) (φ := .f32)) :: l)) :
    (∀ i, get W e i = Ideal.sqrt (-(Ideal.log1p (-((get W u i : EReal) * get W u i))))) ∧ Eqs W l := by
  obtain ⟨e1, h⟩ := h.tbinary
  obtain ⟨e2, h⟩ := h.tunary
  obtain ⟨e3, h⟩ := h.tunary
  obtain ⟨e4, h⟩ := h.tunary
  obtain ⟨e5, h⟩ := h.tunary
  exact ⟨fun i => by rw [e5, e4, e3, e2, e1]; rfl, h⟩

/-- A uniform number times its polynomial, times the root of two. -/
theorem times {u p m sb y : TRef sig ⟨S, .f32⟩} {s : TRef sig ⟨S_, .f32⟩} {d : S_.BroadcastsInDim S ![]}
    (e1 : get W m = mulf (F := Ideal) (s := S) (φ := .f32) (get W u) (get W p)) (e2 : get W sb = broadcastInDim S ![] d (get W s))
    (e3 : get W y = mulf (F := Ideal) (s := S) (φ := .f32) (get W sb) (get W m)) (hs : ∀ i, get W s i = root2)
    (w : S.Idx → BitVec 32) (hu : ∀ i, get W u i = between low (Ideal.ofBits .f32 0x3F800000#32) (w i)) {v : TRef sig ⟨S, .f32⟩}
    (hv : ∀ i, get W v i = Ideal.sqrt (-(Ideal.log1p (-((get W u i : EReal) * get W u i)))))
    (hp : ∀ i, get W p i = horner (fun k => Ideal.ofBits .f32 (coef k)) (get W v i)) (i : S.Idx) :
    get W y i = root2 * erfInv (unif (w i)) := by
  rw [e3]
  show (get W sb i : EReal) * get W m i = _
  have h1 : get W m i = erfInv (unif (w i)) := by
    rw [e1]
    show (get W u i : EReal) * get W p i = _
    rw [hp, hv, hu]; rfl
  have h2 : get W sb i = root2 := by rw [e2]; exact hs _
  rw [h1, h2]

theorem Eqs.times {u p m sb y : TRef sig ⟨S, .f32⟩} {s : TRef sig ⟨S_, .f32⟩} {d : S_.BroadcastsInDim S ![]}
    (h : Eqs W (.tbinary u p m (mulf (F := Ideal) (s := S) (φ := .f32)) :: .tunary s sb (broadcastInDim S ![] d) ::
      .tbinary sb m y (mulf (F := Ideal) (s := S) (φ := .f32)) :: l)) (hs : ∀ i, get W s i = root2)
    (w : S.Idx → BitVec 32) (hu : ∀ i, get W u i = between low (Ideal.ofBits .f32 0x3F800000#32) (w i)) {v : TRef sig ⟨S, .f32⟩}
    (hv : ∀ i, get W v i = Ideal.sqrt (-(Ideal.log1p (-((get W u i : EReal) * get W u i)))))
    (hp : ∀ i, get W p i = horner (fun k => Ideal.ofBits .f32 (coef k)) (get W v i)) :
    (∀ i, get W y i = root2 * erfInv (unif (w i))) ∧ Eqs W l := by
  obtain ⟨e1, h⟩ := h.tbinary
  obtain ⟨e2, h⟩ := h.tunary
  obtain ⟨e3, h⟩ := h.tbinary
  exact ⟨Layer.times e1 e2 e3 hs w hu hv hp, h⟩

/-- A normal number halved in variance is the inverse error function. -/
theorem Eqs.halve {y sb z : TRef sig ⟨S, .f32⟩} {c s : TRef sig ⟨S_, .f32⟩} {d : S_.BroadcastsInDim S ![]}
    (h : Eqs W (.tnullary c (constant (F := Ideal) S_ .f32 0x3F000000#32) :: .tunary c s (Host.sqrt (F := Ideal) (s := S_) (φ := .f32)) ::
      .tunary s sb (broadcastInDim S ![] d) :: .tbinary y sb z (mulf (F := Ideal) (s := S) (φ := .f32)) :: l)) (e : S.Idx → EReal)
    (hy : ∀ i, get W y i = root2 * e i) : (∀ i, get W z i = e i) ∧ Eqs W l := by
  obtain ⟨r, h⟩ := h.root
  obtain ⟨e1, h⟩ := h.tunary
  obtain ⟨e2, h⟩ := h.tbinary
  refine ⟨fun i => ?_, h⟩
  rw [e2]
  show (get W y i : EReal) * get W sb i = _
  have h2 : get W sb i = rootHalf := by rw [e1]; exact (r _).trans sqrt_half
  rw [h2, hy, scaled]

/-- The links faded. -/
theorem Eqs.fade {re im a b c d sb z adj t : TRef sig ⟨S, .f32⟩} {k s : TRef sig ⟨S_, .f32⟩} {dd : S_.BroadcastsInDim S ![]}
    (h : Eqs W (.tbinary re re a (mulf (F := Ideal) (s := S) (φ := .f32)) :: .tbinary im im b (mulf (F := Ideal) (s := S) (φ := .f32)) ::
      .tbinary a b c (addf (F := Ideal) (s := S) (φ := .f32)) :: .tunary c d (Host.sqrt (F := Ideal) (s := S) (φ := .f32)) ::
      .tnullary k (constant (F := Ideal) S_ .f32 0x3F000000#32) :: .tunary k s (Host.sqrt (F := Ideal) (s := S_) (φ := .f32)) ::
      .tunary s sb (broadcastInDim S ![] dd) :: .tbinary d sb z (mulf (F := Ideal) (s := S) (φ := .f32)) ::
      .tbinary adj z t (mulf (F := Ideal) (s := S) (φ := .f32)) :: l)) :
    (∀ i, get W t i = (get W adj i : EReal) * (Ideal.sqrt ((get W re i : EReal) * get W re i + (get W im i : EReal) * get W im i) * rootHalf))
      ∧ Eqs W l := by
  obtain ⟨e1, h⟩ := h.tbinary
  obtain ⟨e2, h⟩ := h.tbinary
  obtain ⟨e3, h⟩ := h.tbinary
  obtain ⟨e4, h⟩ := h.tunary
  obtain ⟨r, h⟩ := h.root
  obtain ⟨e5, h⟩ := h.tunary
  obtain ⟨e6, h⟩ := h.tbinary
  obtain ⟨e7, h⟩ := h.tbinary
  refine ⟨fun i => ?_, h⟩
  have h2 : get W sb i = rootHalf := by rw [e5]; exact (r _).trans sqrt_half
  rw [e7]
  show (get W adj i : EReal) * get W z i = _
  rw [e6]
  show (get W adj i : EReal) * ((get W d i : EReal) * get W sb i) = _
  rw [h2, e4, e3, e2, e1]; rfl

/-- A shift of the features over the faded links. -/
theorem Eqs.shift {x : TRef sig ⟨S1x4096x128, .f32⟩} {a b' : TRef sig ⟨S4096x1x128, .f32⟩} {b c : TRef sig ⟨S4096x128, .f32⟩}
    {s : TRef sig ⟨S4096x4096, .f32⟩} {y : TRef sig ⟨S1x4096x128, .f32⟩} {y2 : TRef sig ⟨S4096x128, .f32⟩}
    (h : Eqs W (.tunary x a (transpose S4096x1x128 [1, 0, 2] · transposes_S1x4096x128_S4096x1x128_1_0_2) :: .treshape a b rfl shapeCasts_S4096x1x128_S4096x128 ::
      .tbinary s b c (fun l r => Host.dotGeneral (F := Ideal) (φ₁ := .f32) (φ₂ := .f32) dot_S4096x4096_S4096x128_S4096x128_1_0_0_1_n_n none l r) ::
      .treshape c b' rfl shapeCasts_S4096x128_S4096x1x128 :: .tunary b' y (transpose S1x4096x128 [1, 0, 2] · transposes_S4096x1x128_S1x4096x128_1_0_2) ::
      .treshape y y2 rfl shapeCasts_S1x4096x128_S4096x128 :: l)) :
    ((∀ r f, get W y (ix3 0 r f) = ∑ k, (get W s (ix2 r k) : EReal) * get W x (ix3 0 k f)) ∧
      ∀ r f, get W y2 (ix2 r f) = get W y (ix3 0 r f)) ∧ Eqs W l := by
  obtain ⟨e1, h⟩ := h.tunary
  obtain ⟨e2, h⟩ := h.treshape
  obtain ⟨e3, h⟩ := h.tbinary
  obtain ⟨e4, h⟩ := h.treshape
  obtain ⟨e5, h⟩ := h.tunary
  obtain ⟨e6, h⟩ := h.treshape
  have f2 : get W b = shapeCast S4096x128 (transpose S4096x1x128 [1, 0, 2] (get W x) transposes_S1x4096x128_S4096x1x128_1_0_2) shapeCasts_S4096x1x128_S4096x128 := by
    rw [e2, e1]
  have f4 : get W b' = shapeCast S4096x1x128 (get W c) shapeCasts_S4096x128_S4096x1x128 := e4
  have f6 : get W y2 = shapeCast S4096x128 (get W y) shapeCasts_S1x4096x128_S4096x128 := e6
  refine ⟨⟨fun r f => ?_, fun r f => ?_⟩, h⟩
  · rw [e5, f4, e3, f2]
    generalize get W s = s
    generalize get W x = x
    pointwise
  · rw [f6]
    generalize get W y = y
    pointwise

/-- The deviation of the noise. -/
theorem Eqs.deviation {y a : TRef sig ⟨S4096x128, .f32⟩} {c0 c1 c2 s p q o : TRef sig ⟨S_, .f32⟩}
    (h : Eqs W (.tbinary y y a (mulf (F := Ideal) (s := S4096x128) (φ := .f32)) :: .tnullary c0 (constant (F := Ideal) S_ .f32 0x00000000#32) ::
      .tbinary a c0 s (fun x v => Host.reduceAdd (F := Ideal) (φ := .f32) x v reducesTo_S4096x128_S_d0_1 h_S_) ::
      .tnullary c1 (constant (F := Ideal) S_ .f32 0x49000000#32) :: .tbinary s c1 p (Host.divf (F := Ideal) (s := S_) (φ := .f32)) ::
      .tnullary c2 (constant (F := Ideal) S_ .f32 0x41200000#32) :: .tbinary p c2 q (Host.divf (F := Ideal) (s := S_) (φ := .f32)) ::
      .tunary q o (Host.sqrt (F := Ideal) (s := S_) (φ := .f32)) :: l)) :
    (∀ i, get W o i = spread fun r f => get W y (ix2 r f)) ∧ Eqs W l := by
  obtain ⟨e1, h⟩ := h.tbinary
  obtain ⟨e2, h⟩ := h.tnullary
  obtain ⟨e3, h⟩ := h.tbinary
  obtain ⟨e4, h⟩ := h.tnullary
  obtain ⟨e5, h⟩ := h.tbinary
  obtain ⟨e6, h⟩ := h.tnullary
  obtain ⟨e7, h⟩ := h.tbinary
  obtain ⟨e8, h⟩ := h.tunary
  refine ⟨fun i => ?_, h⟩
  have hs : get W s i = ∑ r : Fin 4096, ∑ f : Fin 128, (get W y (ix2 r f) : EReal) * get W y (ix2 r f) := by
    rw [e3, e2, e1]
    generalize get W y = y
    pointwise
  rw [e8, e7, e6, e5, e4]
  show Ideal.sqrt (Ideal.div (Ideal.div (get W s i) _) _) = _
  rw [hs]; rfl

/-- The noise added. -/
theorem Eqs.noisy {n t m : TRef sig ⟨S4096x128, .f32⟩} {s : TRef sig ⟨S_, .f32⟩} {y a o : TRef sig ⟨S1x4096x128, .f32⟩}
    (h : Eqs W (.tunary s t (broadcastInDim S4096x128 ![] bcast_S_S4096x128) :: .tbinary n t m (mulf (F := Ideal) (s := S4096x128) (φ := .f32)) ::
      .tunary m a (broadcastInDim S1x4096x128 ![1, 2] bcast_S4096x128_S1x4096x128_1_2) :: .tbinary y a o (addf (F := Ideal) (s := S1x4096x128) (φ := .f32)) :: l))
    (v : EReal) (hs : ∀ i, get W s i = v) :
    (∀ r f, get W o (ix3 0 r f) = (get W y (ix3 0 r f) : EReal) + (get W n (ix2 r f) : EReal) * v) ∧ Eqs W l := by
  obtain ⟨e1, h⟩ := h.tunary
  obtain ⟨e2, h⟩ := h.tbinary
  obtain ⟨e3, h⟩ := h.tunary
  obtain ⟨e4, h⟩ := h.tbinary
  refine ⟨fun r f => ?_, h⟩
  have hs' : get W s = fun _ => v := funext hs
  rw [e4, e3, e2, e1, hs']
  generalize get W y = y
  generalize get W n = n
  pointwise

/-- A tap. -/
theorem Eqs.tapped {x o : TRef sig ⟨S1x4096x128, .f32⟩} {w t : TRef sig ⟨S128x128, .f32⟩}
    (h : Eqs W (.tunary w t (transpose S128x128 [1, 0] · transposes_S128x128_S128x128_1_0) ::
      .tbinary x t o (fun l r => Host.dotGeneral (F := Ideal) (φ₁ := .f32) (φ₂ := .f32) dot_S1x4096x128_S128x128_S1x4096x128_2_0_01_1_n_n none l r) :: l)) :
    (∀ r c, get W o (ix3 0 r c) = ∑ f, (get W x (ix3 0 r f) : EReal) * get W w (ix2 c f)) ∧ Eqs W l := by
  obtain ⟨e1, h⟩ := h.tunary
  obtain ⟨e2, h⟩ := h.tbinary
  refine ⟨fun r c => ?_, h⟩
  rw [e2, e1]
  generalize get W x = x
  generalize get W w = w
  pointwise

end Cert.ReferenceIdeal.Layer

end
-- ==== Proof.Ref.Keys.lean ====
/-
  The reference's keys: the seed, the words each split makes of it, and the uniform numbers and the
  coefficient tables read at a key known by value.
-/
module

public import proofs.«01_k».proof.Proof.Ref.Functions
public import proofs.«01_k».proof.Proof.Ref.Stretch

@[expose] public section

set_option maxRecDepth 16384

noncomputable section

namespace Cert.ReferenceIdeal.Layer

open Idealize.ShloMosaic Idealize.ShloMosaic.StableHlo Idealize.SL.Sem Cert.ReferenceIdeal Cert.Rand
open Facts₀ Facts

variable {W : Valuation τ sig (Elt Ideal)} {l : List (Step τ sig (Elt Ideal))}

/-- The key numbered `r` of a split. -/
def sub (p : BitVec 32 × BitVec 32) (r : Fin 2) : BitVec 32 × BitVec 32 := tf p.1 p.2 (0#32, BitVec.ofNat 32 r.val)

/-- The seed's key. -/
def seed : BitVec 32 × BitVec 32 := (0#32, 1#32)

theorem kr0_eq : sub (sub (sub seed 0) 0) 0 = kr0 := by decide +kernel
theorem ki0_eq : sub (sub (sub seed 0) 0) 1 = ki0 := by decide +kernel
theorem kn0_eq : sub (sub seed 0) 1 = kn0 := by decide +kernel
theorem kr1_eq : sub (sub (sub seed 1) 0) 0 = kr1 := by decide +kernel
theorem ki1_eq : sub (sub (sub seed 1) 0) 1 = ki1 := by decide +kernel
theorem kn1_eq : sub (sub seed 1) 1 = kn1 := by decide +kernel

/-- The two words of a key's buffer. -/
def pair (W : Valuation τ sig (Elt Ideal)) (k : TRef sig ⟨S2, .i32⟩) : BitVec 32 × BitVec 32 := (get W k (ix1 0), get W k (ix1 1))

/-- A row of a table of keys. -/
def row (W : Valuation τ sig (Elt Ideal)) (t : TRef sig ⟨S2x2, .i32⟩) (r : Fin 2) : BitVec 32 × BitVec 32 := (get W t (ix2 r 0), get W t (ix2 r 1))

theorem pair_of_row {t : TRef sig ⟨S2x2, .i32⟩} {k : TRef sig ⟨S2, .i32⟩} {r : Fin 2} (h : ∀ c : Fin 2, get W k (ix1 c) = get W t (ix2 r c)) :
    pair W k = row W t r := Prod.ext (h 0) (h 1)

variable [hF : Facts]

/-- The seed as the reference makes it of the number one. -/
theorem Eqs.seed {c c5 c6 v0 v1 v3 v4 : TRef sig ⟨S_, .i32⟩} {v2 v5 : TRef sig ⟨S1, .i32⟩} {v6 : TRef sig ⟨S2, .i32⟩}
    (h : Eqs W (.tnullary c (constantI S_ 32 1#32) :: .tnullary c5 (constantI S_ 32 32#32) :: .tbinary c c5 v0 Host.shrui :: .tunary v0 v1 id ::
      .tunary v1 v2 (broadcastInDim S1 ![] bcast_S_S1) :: .tnullary c6 (constantI S_ 32 4294967295#32) :: .tbinary c c6 v3 andi :: .tunary v3 v4 id ::
      .tunary v4 v5 (broadcastInDim S1 ![] bcast_S_S1) :: .tbinary v2 v5 v6 (fun a b => concatenate S2 0 [⟨S1, a⟩, ⟨S1, b⟩] concatenates_S1_S1_S2_d0) :: l)) :
    pair W v6 = Layer.seed ∧ Eqs W l := by
  obtain ⟨e1, h⟩ := h.tnullary
  obtain ⟨e2, h⟩ := h.tnullary
  obtain ⟨e3, h⟩ := h.tbinary
  obtain ⟨e4, h⟩ := h.tunary
  obtain ⟨e5, h⟩ := h.tunary
  obtain ⟨e6, h⟩ := h.tnullary
  obtain ⟨e7, h⟩ := h.tbinary
  obtain ⟨e8, h⟩ := h.tunary
  obtain ⟨e9, h⟩ := h.tunary
  obtain ⟨e10, h⟩ := h.tbinary
  refine ⟨?_, h⟩
  have f2 : get W v2 = fun _ => 0#32 := by rw [e5, e4, e3, e2, e1]; rfl
  have f5 : get W v5 = fun _ => 1#32 := by rw [e9, e8, e7, e6, e1]; exact funext fun _ => (by decide : IntOp.andi 1#32 4294967295#32 = 1#32)
  refine Prod.ext ?_ ?_
  · show get W v6 (ix1 0) = 0#32
    rw [e10, f2, f5]; pointwise
  · show get W v6 (ix1 1) = 1#32
    rw [e10, f2, f5]; pointwise

/-- The split's keys. -/
theorem split_row (a0 : TRef sig ⟨S2, .i32⟩) (φ : fn_threefry_split.Bufs) (h : Eqs W (splitLine a0 φ).1) (p : BitVec 32 × BitVec 32) (hp : pair W a0 = p)
    (r : Fin 2) : row W φ.v14 r = sub p r := by subst hp; exact split_spec W a0 φ h r

theorem split0_row (a0 : TRef sig ⟨S2, .i32⟩) (φ : fn_threefry_split_0.Bufs) (h : Eqs W (split0Line a0 φ).1) (p : BitVec 32 × BitVec 32) (hp : pair W a0 = p)
    (r : Fin 2) : row W φ.v14 r = sub p r := by subst hp; exact split0_spec W a0 φ h r

/-- The word of an element of a matrix with `n` columns. -/
def words {m n : Nat} (k : BitVec 32 × BitVec 32) (i : (⟨2, ![m, n]⟩ : Shape).Idx) : BitVec 32 :=
  word k.1 k.2 (BitVec.ofNat 32 (n * (i 0).val + (i 1).val))

/-- The uniform numbers of a key. -/
theorem unif_all (a0 : TRef sig ⟨S2, .i32⟩) (a1 a2 : TRef sig ⟨S_, .f32⟩) (φ : fn_uniform.Bufs) (h : Eqs W (unifLine a0 a1 a2 φ).1)
    (k : BitVec 32 × BitVec 32) (hk : pair W a0 = k) (hc : get W a1 o_ = Ideal.ofBits .f32 0xBF7FFFFF#32 ∧ get W a2 o_ = Ideal.ofBits .f32 0x3F800000#32)
    (i : S4096x4096.Idx) : get W φ.v32 i = between low (Ideal.ofBits .f32 0x3F800000#32) (words k i) := by
  subst hk
  rw [show i = ix2 (i 0) (i 1) from eq_ix2 i]
  refine (unif_spec W a0 a1 a2 φ h (i 0) (i 1)).trans ?_
  rw [hc.1, hc.2]; rfl

theorem unif2_all (a0 : TRef sig ⟨S2, .i32⟩) (a1 a2 : TRef sig ⟨S_, .f32⟩) (φ : fn_uniform_2.Bufs) (h : Eqs W (unif2Line a0 a1 a2 φ).1)
    (k : BitVec 32 × BitVec 32) (hk : pair W a0 = k) (hc : get W a1 o_ = Ideal.ofBits .f32 0xBF7FFFFF#32 ∧ get W a2 o_ = Ideal.ofBits .f32 0x3F800000#32)
    (i : S4096x128.Idx) : get W φ.v32 i = between low (Ideal.ofBits .f32 0x3F800000#32) (words k i) := by
  subst hk
  rw [show i = ix2 (i 0) (i 1) from eq_ix2 i]
  refine (unif2_spec W a0 a1 a2 φ h (i 0) (i 1)).trans ?_
  rw [hc.1, hc.2]; rfl

/-- A coefficient table, from the literal one. -/
def IsCoef (W : Valuation τ sig (Elt Ideal)) (c : TRef sig ⟨S8, .f32⟩) : Prop := ∀ k : Fin 8, get W c (ix1 k) = Ideal.ofBits .f32 (coef k)

theorem Eqs.coef {c : TRef sig ⟨S8, .f32⟩} {lit : Fin 8 → BitVec 32}
    (h : Eqs W (.tnullary c (fun i => FloatOps.ofBits (F := Ideal) .f32 (lit (S8.rowMajor i))) :: l)) (hl : ∀ k : Fin 8, lit k = Rand.coef k) :
    IsCoef W c ∧ Eqs W l := by
  obtain ⟨e, h⟩ := h.tnullary
  refine ⟨fun k => ?_, h⟩
  rw [e]
  show Ideal.ofBits .f32 (lit (S8.rowMajor (ix1 k))) = _
  have hk : S8.rowMajor (ix1 k) = k := Fin.ext (rowMajor_val1 _)
  rw [hk]
  exact congrArg _ (hl k)

theorem poly_all (a0 : TRef sig ⟨S8, .f32⟩) (a1 : TRef sig ⟨S4096x4096, .f32⟩) (φ : fn_polyval.Bufs) (h : Eqs W (polyLine a0 a1 φ).1)
    (hc : IsCoef W a0) (i : S4096x4096.Idx) : get W φ.v37 i = horner (fun k => Ideal.ofBits .f32 (Rand.coef k)) (get W a1 i) := by
  rw [poly_spec W a0 a1 φ h i, funext hc]

theorem poly4_all (a0 : TRef sig ⟨S8, .f32⟩) (a1 : TRef sig ⟨S4096x128, .f32⟩) (φ : fn_polyval_4.Bufs) (h : Eqs W (poly4Line a0 a1 φ).1)
    (hc : IsCoef W a0) (i : S4096x128.Idx) : get W φ.v37 i = horner (fun k => Ideal.ofBits .f32 (Rand.coef k)) (get W a1 i) := by
  rw [poly4_spec W a0 a1 φ h i, funext hc]

end Cert.ReferenceIdeal.Layer

end
-- ==== Proof.Ref.Value.lean ====
/-
  What the reference's result holds: the layer of its arguments.
-/
module

public import proofs.«01_k».proof.Proof.Ref.Main
public import proofs.«01_k».proof.Proof.Ref.Keys

@[expose] public section

set_option maxHeartbeats 4000000
set_option maxRecDepth 20000

noncomputable section

namespace Cert.ReferenceIdeal.Layer

open Idealize.ShloMosaic Idealize.ShloMosaic.StableHlo Idealize.SL.Sem Cert.ReferenceIdeal Cert.Rand
open Facts₀ Facts

variable [hF : Facts] {W : Valuation τ sig (Elt Ideal)}

/-- A batch of one signal, as a matrix. -/
def sig2 (W : Valuation τ sig (Elt Ideal)) (x : TRef sig ⟨S1x4096x128, .f32⟩) (r : Fin 4096) (f : Fin 128) : EReal := get W x (ix3 0 r f)

/-- A matrix by its two coordinates. -/
def mat {m n : Nat} (W : Valuation τ sig (Elt Ideal)) (x : TRef sig ⟨⟨2, ![m, n]⟩, .f32⟩) (r : Fin m) (c : Fin n) : EReal := get W x (ix2 r c)

/-- The shift from its fading, in the stretches' terms. -/
theorem shifted_of {kr ki : BitVec 32 × BitVec 32} {x y : TRef sig ⟨S1x4096x128, .f32⟩} {re im s adj : TRef sig ⟨S4096x4096, .f32⟩}
    (hre : ∀ i, get W re i = erfInv (unif (words kr i))) (him : ∀ i, get W im i = erfInv (unif (words ki i)))
    (hs : ∀ i, get W s i = (get W adj i : EReal) *
      (Ideal.sqrt ((get W re i : EReal) * get W re i + (get W im i : EReal) * get W im i) * rootHalf))
    (hy : ∀ r f, get W y (ix3 0 r f) = ∑ k, (get W s (ix2 r k) : EReal) * get W x (ix3 0 k f)) :
    sig2 W y = shifted kr ki (mat W adj) (sig2 W x) := by
  funext r f
  refine (hy r f).trans (Finset.sum_congr rfl fun k _ => ?_)
  rw [hs, hre, him]; rfl

/-- What is received, in the stretches' terms. -/
theorem received_of {kn : BitVec 32 × BitVec 32} {y o : TRef sig ⟨S1x4096x128, .f32⟩} {y2 n : TRef sig ⟨S4096x128, .f32⟩} {s : TRef sig ⟨S_, .f32⟩}
    (hn : ∀ i, get W n i = root2 * erfInv (unif (words kn i))) (hy2 : ∀ r f, get W y2 (ix2 r f) = get W y (ix3 0 r f))
    (hs : ∀ i, get W s i = spread fun r f => get W y2 (ix2 r f))
    (ho : ∀ r f, get W o (ix3 0 r f) = (get W y (ix3 0 r f) : EReal) + (get W n (ix2 r f) : EReal) * get W s o_) :
    sig2 W o = received kn (sig2 W y) := by
  funext r f
  refine (ho r f).trans ?_
  rw [hn, hs]
  have e : (fun r f => (get W y2 (ix2 r f) : EReal)) = sig2 W y := funext fun r => funext fun f => hy2 r f
  exact congrArg (fun z => (get W y (ix3 0 r f) : EReal) + root2 * erfInv (unif (words kn (ix2 r f))) * spread z) e

/-- The first hop, its tap, and the second hop's keys and coefficients. -/
theorem hop0_spec (d : Dev nD) (h0 : Eqs W (part0Line d).1) (h1 : Eqs W (part1Line d).1) :
    (sig2 W (.of main_v81) = hop kr0 ki0 kn0 (mat (m := 4096) (n := 4096) W (.of main_arg1)) (sig2 W (.of main_arg0))
      ∧ ∀ r c, sig2 W (.of main_v83) r c = tap (sig2 W (.of main_v81)) (mat (m := 128) (n := 128) W (.of main_arg2)) r c)
    ∧ (IsCoef W (.of main_cst_2) ∧ IsCoef W (.of main_cst_3) ∧ IsCoef W (.of main_cst_4))
    ∧ pair W (.of main_v93) = kr1 ∧ pair W (.of main_v95) = ki1 ∧ pair W (.of main_v90) = kn1 := by
  obtain ⟨c0, h0⟩ := Eqs.coef (c := .of main_cst) (lit := lit0) h0 (by decide)
  obtain ⟨c1, h0⟩ := Eqs.coef (c := .of main_cst_0) (lit := lit1) h0 (by decide)
  obtain ⟨c2, h0⟩ := Eqs.coef (c := .of main_cst_1) (lit := lit2) h0 (by decide)
  obtain ⟨c3, h0⟩ := Eqs.coef (c := .of main_cst_2) (lit := lit3) h0 (by decide)
  obtain ⟨c4, h0⟩ := Eqs.coef (c := .of main_cst_3) (lit := lit4) h0 (by decide)
  obtain ⟨c5, h0⟩ := Eqs.coef (c := .of main_cst_4) (lit := lit5) h0 (by decide)
  -- the keys
  obtain ⟨k6, h0⟩ := Eqs.seed (c := .of main_c) (c5 := .of main_c_5) (v0 := .of main_v0) (v1 := .of main_v1) (v2 := .of main_v2)
    (c6 := .of main_c_6) (v3 := .of main_v3) (v4 := .of main_v4) (v5 := .of main_v5) (v6 := .of main_v6) h0
  obtain ⟨t, h0⟩ := eqs_append W _ _ h0
  have t7 : ∀ r, row W (.of main_v7) r = sub seed r := split_row _ _ t _ k6
  obtain ⟨k9, h0⟩ := Eqs.row0 (t := .of main_v7) (v := .of main_v8) (k := .of main_v9) h0
  obtain ⟨t, h0⟩ := eqs_append W _ _ h0
  have t10 : ∀ r, row W (.of main_v10) r = sub (sub seed 0) r := split0_row _ _ t _ ((pair_of_row k9).trans (t7 0))
  obtain ⟨k12, h0⟩ := Eqs.row0 (t := .of main_v10) (v := .of main_v11) (k := .of main_v12) h0
  obtain ⟨k14, h0⟩ := Eqs.row1 (t := .of main_v10) (v := .of main_v13) (k := .of main_v14) h0
  have p14 : pair W (.of main_v14) = kn0 := (pair_of_row k14).trans ((t10 1).trans kn0_eq)
  obtain ⟨t, h0⟩ := eqs_append W _ _ h0
  have t15 : ∀ r, row W (.of main_v15) r = sub (sub (sub seed 0) 0) r := split0_row _ _ t _ ((pair_of_row k12).trans (t10 0))
  obtain ⟨k17, h0⟩ := Eqs.row0 (t := .of main_v15) (v := .of main_v16) (k := .of main_v17) h0
  obtain ⟨k19, h0⟩ := Eqs.row1 (t := .of main_v15) (v := .of main_v18) (k := .of main_v19) h0
  have p17 : pair W (.of main_v17) = kr0 := (pair_of_row k17).trans ((t15 0).trans kr0_eq)
  have p19 : pair W (.of main_v19) = ki0 := (pair_of_row k19).trans ((t15 1).trans ki0_eq)
  -- the fading's real part
  obtain ⟨q, h0⟩ := Eqs.consts (c := .of main_cst_7) (c' := .of main_cst_8) h0
  obtain ⟨t, h0⟩ := eqs_append W _ _ h0
  have u20 := unif_all _ _ _ _ t _ p17 q
  obtain ⟨s21, h0⟩ := Eqs.root (c := .of main_cst_9) (s := .of main_v21) h0
  obtain ⟨v26, h0⟩ := Eqs.radius (u := .of main_v20) (a := .of main_v22) (b := .of main_v23) (c := .of main_v24) (d := .of main_v25) (e := .of main_v26) h0
  obtain ⟨t, h0⟩ := eqs_append W _ _ h0
  have p27 := poly_all _ _ _ t c0
  obtain ⟨y30, h0⟩ := Eqs.times (d := bcast_S_S4096x4096) (u := .of main_v20) (p := .of main_v27) (m := .of main_v28) (s := .of main_v21) (sb := .of main_v29) (y := .of main_v30)
    h0 (fun i => (s21 i).trans sqrt_two) _ u20 v26 p27
  obtain ⟨re, h0⟩ := Eqs.halve (d := bcast_S_S4096x4096) (c := .of main_cst_10) (s := .of main_v31) (sb := .of main_v32) (y := .of main_v30) (z := .of main_v33) h0 _ y30
  -- the imaginary part
  obtain ⟨q, h0⟩ := Eqs.consts (c := .of main_cst_11) (c' := .of main_cst_12) h0
  obtain ⟨t, h0⟩ := eqs_append W _ _ h0
  have u34 := unif_all _ _ _ _ t _ p19 q
  obtain ⟨s35, h0⟩ := Eqs.root (c := .of main_cst_13) (s := .of main_v35) h0
  obtain ⟨v40, h0⟩ := Eqs.radius (u := .of main_v34) (a := .of main_v36) (b := .of main_v37) (c := .of main_v38) (d := .of main_v39) (e := .of main_v40) h0
  obtain ⟨t, h0⟩ := eqs_append W _ _ h0
  have p41 := poly_all _ _ _ t c1
  obtain ⟨e42, h0⟩ := Eqs.tbinary (Val := Elt Ideal) (Ta := ⟨S4096x4096, .f32⟩) (Tb := ⟨S4096x4096, .f32⟩) (T := ⟨S4096x4096, .f32⟩) (a := .of main_v34) (b := .of main_v41) (y := .of main_v42) (f := mulf (F := Ideal) (s := S4096x4096) (φ := .f32)) h0
  obtain ⟨e43, h0⟩ := Eqs.tunary (Val := Elt Ideal) (Ta := ⟨S_, .f32⟩) (T := ⟨S4096x4096, .f32⟩) (x := .of main_v35) (y := .of main_v43) (f := broadcastInDim S4096x4096 ![] bcast_S_S4096x4096) h0
  obtain ⟨e44, h1⟩ := Eqs.tbinary (Val := Elt Ideal) (Ta := ⟨S4096x4096, .f32⟩) (Tb := ⟨S4096x4096, .f32⟩) (T := ⟨S4096x4096, .f32⟩) (a := .of main_v43) (b := .of main_v42) (y := .of main_v44) (f := mulf (F := Ideal) (s := S4096x4096) (φ := .f32)) h1
  have y44 := times e42 e43 e44 (fun i => (s35 i).trans sqrt_two) _ u34 v40 p41
  obtain ⟨im, h1⟩ := Eqs.halve (d := bcast_S_S4096x4096) (c := .of main_cst_14) (s := .of main_v45) (sb := .of main_v46) (y := .of main_v44) (z := .of main_v47) h1 _ y44
  -- the shift
  obtain ⟨s55, h1⟩ := Eqs.fade (dd := bcast_S_S4096x4096) (re := .of main_v33) (im := .of main_v47) (a := .of main_v48) (b := .of main_v49) (c := .of main_v50) (d := .of main_v51)
    (k := .of main_cst_15) (s := .of main_v52) (sb := .of main_v53) (z := .of main_v54) (adj := .of main_arg1) (t := .of main_v55) h1
  obtain ⟨⟨y60, y61⟩, h1⟩ := Eqs.shift (x := .of main_arg0) (a := .of main_v56) (b := .of main_v57) (s := .of main_v55) (c := .of main_v58)
    (b' := .of main_v59) (y := .of main_v60) (y2 := .of main_v61) h1
  -- the noise
  obtain ⟨d66, h1⟩ := Eqs.deviation (y := .of main_v61) (a := .of main_v62) (c0 := .of main_cst_16) (s := .of main_v63) (c1 := .of main_cst_17)
    (p := .of main_v64) (c2 := .of main_cst_18) (q := .of main_v65) (o := .of main_v66) h1
  obtain ⟨q, h1⟩ := Eqs.consts (c := .of main_cst_19) (c' := .of main_cst_20) h1
  obtain ⟨t, h1⟩ := eqs_append W _ _ h1
  have u67 := unif2_all _ _ _ _ t _ p14 q
  obtain ⟨s68, h1⟩ := Eqs.root (c := .of main_cst_21) (s := .of main_v68) h1
  obtain ⟨v73, h1⟩ := Eqs.radius (u := .of main_v67) (a := .of main_v69) (b := .of main_v70) (c := .of main_v71) (d := .of main_v72) (e := .of main_v73) h1
  obtain ⟨t, h1⟩ := eqs_append W _ _ h1
  have p74 := poly4_all _ _ _ t c2
  obtain ⟨y77, h1⟩ := Eqs.times (d := bcast_S_S4096x128) (u := .of main_v67) (p := .of main_v74) (m := .of main_v75) (s := .of main_v68) (sb := .of main_v76) (y := .of main_v77)
    h1 (fun i => (s68 i).trans sqrt_two) _ u67 v73 p74
  obtain ⟨x81, h1⟩ := Eqs.noisy (s := .of main_v66) (t := .of main_v78) (n := .of main_v77) (m := .of main_v79) (a := .of main_v80) (y := .of main_v60)
    (o := .of main_v81) h1 _ (fun i => (d66 i).trans (d66 o_).symm)
  -- the tap
  obtain ⟨o83, h1⟩ := Eqs.tapped (w := .of main_arg2) (t := .of main_v82) (x := .of main_v81) (o := .of main_v83) h1
  -- the second hop's keys
  obtain ⟨k85, h1⟩ := Eqs.row1 (t := .of main_v7) (v := .of main_v84) (k := .of main_v85) h1
  obtain ⟨t, h1⟩ := eqs_append W _ _ h1
  have t86 : ∀ r, row W (.of main_v86) r = sub (sub seed 1) r := split0_row _ _ t _ ((pair_of_row k85).trans (t7 1))
  obtain ⟨k88, h1⟩ := Eqs.row0 (t := .of main_v86) (v := .of main_v87) (k := .of main_v88) h1
  obtain ⟨k90, h1⟩ := Eqs.row1 (t := .of main_v86) (v := .of main_v89) (k := .of main_v90) h1
  obtain ⟨t, h1⟩ := eqs_append W _ _ h1
  have t91 : ∀ r, row W (.of main_v91) r = sub (sub (sub seed 1) 0) r := split0_row _ _ t _ ((pair_of_row k88).trans (t86 0))
  obtain ⟨k93, h1⟩ := Eqs.row0 (t := .of main_v91) (v := .of main_v92) (k := .of main_v93) h1
  obtain ⟨k95, h1⟩ := Eqs.row1 (t := .of main_v91) (v := .of main_v94) (k := .of main_v95) h1
  refine ⟨⟨?_, fun r c => o83 r c⟩, ⟨c3, c4, c5⟩, (pair_of_row k93).trans ((t91 0).trans kr1_eq), (pair_of_row k95).trans ((t91 1).trans ki1_eq),
    (pair_of_row k90).trans ((t86 1).trans kn1_eq)⟩
  have hy := shifted_of (kr := kr0) (ki := ki0) re im s55 y60
  exact (received_of y77 y61 d66 x81).trans (congrArg (received kn0) hy)

/-- The second hop and the result. -/
theorem hop1_spec (d : Dev nD) (h2 : Eqs W (part2Line d).1) (h3 : Eqs W (part3Line d).1)
    (c : IsCoef W (.of main_cst_2) ∧ IsCoef W (.of main_cst_3) ∧ IsCoef W (.of main_cst_4))
    (k : pair W (.of main_v93) = kr1 ∧ pair W (.of main_v95) = ki1 ∧ pair W (.of main_v90) = kn1) (r : Fin 4096) (o : Fin 128) :
    sig2 W (.of main_v160) r o = sig2 W (.of main_v83) r o
      + tap (hop kr1 ki1 kn1 (mat (m := 4096) (n := 4096) W (.of main_arg1)) (sig2 W (.of main_v81))) (mat (m := 128) (n := 128) W (.of main_arg3)) r o := by
  obtain ⟨c0, c1, c2⟩ := c
  obtain ⟨p93, p95, p90⟩ := k
  -- the fading's real part
  obtain ⟨q, h2⟩ := Eqs.consts (c := .of main_cst_22) (c' := .of main_cst_23) h2
  obtain ⟨t, h2⟩ := eqs_append W _ _ h2
  have u96 := unif_all _ _ _ _ t _ p93 q
  obtain ⟨s97, h2⟩ := Eqs.root (c := .of main_cst_24) (s := .of main_v97) h2
  obtain ⟨v102, h2⟩ := Eqs.radius (u := .of main_v96) (a := .of main_v98) (b := .of main_v99) (c := .of main_v100) (d := .of main_v101) (e := .of main_v102) h2
  obtain ⟨t, h2⟩ := eqs_append W _ _ h2
  have p103 := poly_all _ _ _ t c0
  obtain ⟨y106, h2⟩ := Eqs.times (d := bcast_S_S4096x4096) (u := .of main_v96) (p := .of main_v103) (m := .of main_v104) (s := .of main_v97) (sb := .of main_v105) (y := .of main_v106)
    h2 (fun i => (s97 i).trans sqrt_two) _ u96 v102 p103
  obtain ⟨re, h2⟩ := Eqs.halve (d := bcast_S_S4096x4096) (c := .of main_cst_25) (s := .of main_v107) (sb := .of main_v108) (y := .of main_v106) (z := .of main_v109) h2 _ y106
  -- the imaginary part
  obtain ⟨q, h2⟩ := Eqs.consts (c := .of main_cst_26) (c' := .of main_cst_27) h2
  obtain ⟨t, h2⟩ := eqs_append W _ _ h2
  have u110 := unif_all _ _ _ _ t _ p95 q
  obtain ⟨s111, h2⟩ := Eqs.root (c := .of main_cst_28) (s := .of main_v111) h2
  obtain ⟨v116, h2⟩ := Eqs.radius (u := .of main_v110) (a := .of main_v112) (b := .of main_v113) (c := .of main_v114) (d := .of main_v115) (e := .of main_v116) h2
  obtain ⟨t, h2⟩ := eqs_append W _ _ h2
  have p117 := poly_all _ _ _ t c1
  obtain ⟨y120, h2⟩ := Eqs.times (d := bcast_S_S4096x4096) (u := .of main_v110) (p := .of main_v117) (m := .of main_v118) (s := .of main_v111) (sb := .of main_v119) (y := .of main_v120)
    h2 (fun i => (s111 i).trans sqrt_two) _ u110 v116 p117
  obtain ⟨im, h2⟩ := Eqs.halve (d := bcast_S_S4096x4096) (c := .of main_cst_29) (s := .of main_v121) (sb := .of main_v122) (y := .of main_v120) (z := .of main_v123) h2 _ y120
  -- the shift
  obtain ⟨s131, h2⟩ := Eqs.fade (dd := bcast_S_S4096x4096) (re := .of main_v109) (im := .of main_v123) (a := .of main_v124) (b := .of main_v125) (c := .of main_v126) (d := .of main_v127)
    (k := .of main_cst_30) (s := .of main_v128) (sb := .of main_v129) (z := .of main_v130) (adj := .of main_arg1) (t := .of main_v131) h2
  obtain ⟨⟨y136, y137⟩, h2⟩ := Eqs.shift (x := .of main_v81) (a := .of main_v132) (b := .of main_v133) (s := .of main_v131) (c := .of main_v134)
    (b' := .of main_v135) (y := .of main_v136) (y2 := .of main_v137) h2
  -- the noise
  obtain ⟨d142, h2⟩ := Eqs.deviation (y := .of main_v137) (a := .of main_v138) (c0 := .of main_cst_31) (s := .of main_v139) (c1 := .of main_cst_32)
    (p := .of main_v140) (c2 := .of main_cst_33) (q := .of main_v141) (o := .of main_v142) h2
  obtain ⟨q, h2⟩ := Eqs.tnullary (Val := Elt Ideal) (T := ⟨S_, .f32⟩) (y := .of main_cst_34) (v := constant (F := Ideal) S_ .f32 0xBF7FFFFF#32) h2
  obtain ⟨q', h3⟩ := Eqs.tnullary (Val := Elt Ideal) (T := ⟨S_, .f32⟩) (y := .of main_cst_35) (v := constant (F := Ideal) S_ .f32 0x3F800000#32) h3
  obtain ⟨t, h3⟩ := eqs_append W _ _ h3
  have u143 := unif2_all _ _ _ _ t _ p90 ⟨congrFun q o_, congrFun q' o_⟩
  obtain ⟨s144, h3⟩ := Eqs.root (c := .of main_cst_36) (s := .of main_v144) h3
  obtain ⟨v149, h3⟩ := Eqs.radius (u := .of main_v143) (a := .of main_v145) (b := .of main_v146) (c := .of main_v147) (d := .of main_v148) (e := .of main_v149) h3
  obtain ⟨t, h3⟩ := eqs_append W _ _ h3
  have p150 := poly4_all _ _ _ t c2
  obtain ⟨y153, h3⟩ := Eqs.times (d := bcast_S_S4096x128) (u := .of main_v143) (p := .of main_v150) (m := .of main_v151) (s := .of main_v144) (sb := .of main_v152) (y := .of main_v153)
    h3 (fun i => (s144 i).trans sqrt_two) _ u143 v149 p150
  obtain ⟨x157, h3⟩ := Eqs.noisy (s := .of main_v142) (t := .of main_v154) (n := .of main_v153) (m := .of main_v155) (a := .of main_v156) (y := .of main_v136)
    (o := .of main_v157) h3 _ (fun i => (d142 i).trans (d142 o_).symm)
  -- the tap and the sum
  obtain ⟨o159, h3⟩ := Eqs.tapped (w := .of main_arg3) (t := .of main_v158) (x := .of main_v157) (o := .of main_v159) h3
  obtain ⟨e160, h3⟩ := Eqs.tbinary (Val := Elt Ideal) (Ta := ⟨S1x4096x128, .f32⟩) (Tb := ⟨S1x4096x128, .f32⟩) (T := ⟨S1x4096x128, .f32⟩) (a := .of main_v83) (b := .of main_v159) (y := .of main_v160) (f := addf (F := Ideal) (s := S1x4096x128) (φ := .f32)) h3
  have hy := shifted_of (kr := kr1) (ki := ki1) re im s131 y136
  have hx : sig2 W (.of main_v157) = hop kr1 ki1 kn1 (mat (m := 4096) (n := 4096) W (.of main_arg1)) (sig2 W (.of main_v81)) :=
    (received_of y153 y137 d142 x157).trans (congrArg (received kn1) hy)
  rw [← hx]
  refine (congrFun e160 (ix3 0 r o)).trans ?_
  exact congrArg (fun z : EReal => sig2 W (.of main_v83) r o + z) (o159 r o)

/-- The reference's result. -/
theorem result_spec (d : Dev nD) (h : Eqs W (mainLine d).1) (r : Fin 4096) (o : Fin 128) :
    sig2 W (.of main_v160) r o = layer (sig2 W (.of main_arg0)) (mat (m := 4096) (n := 4096) W (.of main_arg1))
      (mat (m := 128) (n := 128) W (.of main_arg2)) (mat (m := 128) (n := 128) W (.of main_arg3)) r o := by
  obtain ⟨h0, h⟩ := Eqs.app h
  obtain ⟨h1, h⟩ := Eqs.app h
  obtain ⟨h2, h3⟩ := Eqs.app h
  obtain ⟨⟨x, t⟩, c, k⟩ := hop0_spec d h0 h1
  rw [hop1_spec d h2 h3 c k, t, x]; rfl

end Cert.ReferenceIdeal.Layer

end
-- ==== Proof.Algebraic.lean ====
/-
  The kernel and the reference agree over the extended reals: both leave the layer of the arguments.
-/
module

public import proofs.«01_k».proof.Defs
public import proofs.«01_k».proof.Proof.Ideal.Run
public import proofs.«01_k».proof.Proof.Ker.Layer
public import proofs.«01_k».proof.Proof.Ref.Value

@[expose] public section

noncomputable section

namespace Cert.Layer

open Idealize.ShloMosaic Idealize.ShloMosaic.TcCoe Cert.Rand
open Idealize.SL Idealize.SL.RA Idealize.SL.BI Idealize.SL.Sem

/-- An index of the result is a node's and a feature's. -/
theorem idx_result {α : Type} (u v : Cert.KernelIdeal.S1x4096x128.Idx → α) (h : ∀ (r : Fin 4096) (o : Fin 128), u (ix3 0 r o) = v (ix3 0 r o)) : u = v := by
  funext j
  have e : j = ix3 0 (j 1) (j 2) := by
    rw [eq_ix3 j]; congr 1; exact Subsingleton.elim (α := Fin 1) _ _
  rw [e]; exact h (j 1) (j 2)

variable [hR : Cert.ReferenceIdeal.Facts]

/-- The reference's result by its indices, at any contents its equations hold of. -/
theorem reference_result (W : Valuation Cert.ReferenceIdeal.τ Cert.ReferenceIdeal.sig (Elt Ideal)) (d : Dev Cert.ReferenceIdeal.nD)
    (h : Cert.ReferenceIdeal.Layer.Eqs W (Cert.ReferenceIdeal.Layer.mainLine d).1) (r : Fin 4096) (o : Fin 128) :
    W (Proc.devRef .tc Cert.ReferenceIdeal.main_v160) (ix3 0 r o)
      = layer (fun r f => W (Proc.devRef .tc Cert.ReferenceIdeal.main_arg0) (ix3 0 r f)) (fun r l => W (Proc.devRef .tc Cert.ReferenceIdeal.main_arg1) (ix2 r l))
        (fun o f => W (Proc.devRef .tc Cert.ReferenceIdeal.main_arg2) (ix2 o f)) (fun o f => W (Proc.devRef .tc Cert.ReferenceIdeal.main_arg3) (ix2 o f)) r o :=
  Cert.ReferenceIdeal.Layer.result_spec d h r o

section Agree

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The reference's result is the kernel's, given the same arguments. -/
theorem agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Layer.final m' c (Proc.devRef .tc Cert.ReferenceIdeal.main_v160)
      = Cert.KernelIdeal.Layer.W7 m ρ c (Proc.devRef .tc Cert.KernelIdeal.main_v6) := by
  refine idx_result _ _ fun r o => ?_
  rw [Cert.KernelIdeal.Layer.result m ρ c r o]
  have a0 := (Cert.ReferenceIdeal.Layer.final_arg m' c Cert.ReferenceIdeal.main_arg0 (by decide)).trans h0
  have a1 := (Cert.ReferenceIdeal.Layer.final_arg m' c Cert.ReferenceIdeal.main_arg1 (by decide)).trans h1
  have a2 := (Cert.ReferenceIdeal.Layer.final_arg m' c Cert.ReferenceIdeal.main_arg2 (by decide)).trans h2
  have a3 := (Cert.ReferenceIdeal.Layer.final_arg m' c Cert.ReferenceIdeal.main_arg3 (by decide)).trans h3
  refine (reference_result _ c (Cert.ReferenceIdeal.Layer.final_eqs m' c) r o).trans ?_
  rw [a0, a1, a2, a3]
  rfl

end Agree

/-- THE CLAIM: from memories that agree on the arguments, the kernel and the reference end with one result, the kernel's, and
    leave their arguments as they were. -/
theorem algebraic : Cert.algebraic_KernelIdeal_ReferenceIdeal := by
  intro m ρ m' ρ' _ h
  refine ⟨fun c => Cert.KernelIdeal.Layer.W7 m ρ c (Proc.devRef .tc Cert.KernelIdeal.main_v6), ?_, ?_⟩
  · refine (θ_run (Cert.KernelIdeal.defs (F := Ideal)) _ _).mono (fun r e c => ?_) (Cert.KernelIdeal.Layer.ends m ρ)
    exact ⟨e.1 c _ (Cert.KernelIdeal.Layer.mem_uc Cert.KernelIdeal.main_v6 (by decide)),
      (e.1 c _ (Cert.KernelIdeal.Layer.mem_uc Cert.KernelIdeal.main_arg0 (by decide))).trans (Cert.KernelIdeal.Layer.W7_main_arg0 m ρ c),
      (e.1 c _ (Cert.KernelIdeal.Layer.mem_uc Cert.KernelIdeal.main_arg1 (by decide))).trans (Cert.KernelIdeal.Layer.W7_main_arg1 m ρ c),
      (e.1 c _ (Cert.KernelIdeal.Layer.mem_uc Cert.KernelIdeal.main_arg2 (by decide))).trans (Cert.KernelIdeal.Layer.W7_main_arg2 m ρ c),
      (e.1 c _ (Cert.KernelIdeal.Layer.mem_uc Cert.KernelIdeal.main_arg3 (by decide))).trans (Cert.KernelIdeal.Layer.W7_main_arg3 m ρ c)⟩
  · refine (θ_run (Cert.ReferenceIdeal.defs (F := Ideal)) _ _).mono (fun r e c => ?_) (Cert.ReferenceIdeal.Layer.run m' ρ')
    obtain ⟨h0, h1, h2, h3⟩ := h c
    exact ⟨(e c Cert.ReferenceIdeal.main_v160).trans (agree m ρ m' c h0 h1 h2 h3),
      (e c Cert.ReferenceIdeal.main_arg0).trans (Cert.ReferenceIdeal.Layer.final_arg m' c _ (by decide)),
      (e c Cert.ReferenceIdeal.main_arg1).trans (Cert.ReferenceIdeal.Layer.final_arg m' c _ (by decide)),
      (e c Cert.ReferenceIdeal.main_arg2).trans (Cert.ReferenceIdeal.Layer.final_arg m' c _ (by decide)),
      (e c Cert.ReferenceIdeal.main_arg3).trans (Cert.ReferenceIdeal.Layer.final_arg m' c _ (by decide))⟩

end Cert.Layer

end
-- ==== Proof.lean ====
/-
  The proof of `Cert.Claim`: both printings of the kernel and the reference end with their arguments
  unchanged and their semaphores at zero, each named constant rounds to the literal it stands for, and the two compute
  the same results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits.Run
public import proofs.«01_k».proof.Proof.Ideal.Run
public import proofs.«01_k».proof.Proof.Ref.Main
public import proofs.«01_k».proof.Proof.Algebraic
public import Idealize.ShloMosaic.Adequacy
public import Idealize.ShloMosaic.Init

@[expose] public section

noncomputable section

namespace Cert.Proof

open Idealize.ShloMosaic Idealize.SL.Sem

/-- Each named constant, rounded to the literal's format, is the literal. -/
theorem preserves : Cert.preserves_Kernel_KernelIdeal :=
  ⟨IdealRules.named_const.statement Cert.KernelIdeal.κ "uniform_width" .f32 0x40000000#32 ((33554431 / 16777216 : ℝ) : EReal) rfl,
    IdealRules.named_const.statement Cert.KernelIdeal.κ "uniform_shift" .f32 0x40400000#32 ((25165823 / 8388608 : ℝ) : EReal) rfl,
    IdealRules.named_const.statement Cert.KernelIdeal.κ "sqrt_half" .f32 0x3F3504F3#32 ((Real.sqrt (1 / 2) : ℝ) : EReal) rfl,
    IdealRules.named_const.statement Cert.KernelIdeal.κ "sqrt_two" .f32 0x3FB504F3#32 ((Real.sqrt 2 : ℝ) : EReal) rfl⟩

theorem claim : Cert.Claim :=
  ⟨Cert.Kernel.Gen.facts, Cert.KernelIdeal.Gen.facts, Cert.ReferenceIdeal.Gen.facts,
    fun m ρ _ => Cert.Kernel.Layer.frame m ρ, fun m ρ _ => Cert.KernelIdeal.Layer.frame m ρ,
    fun m ρ _ => Cert.ReferenceIdeal.Layer.frame m ρ, preserves, Cert.Layer.algebraic⟩

end Cert.Proof

end
